-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 [hPre_device13 : Cert.Pre_device13.Facts] (m : (ℓ : Loc Cert.Kernel13.nD Cert.Kernel13.τ Cert.Kernel13.sig) → Buf (Elt Bits) ℓ) : Prop :=
  ∀ c : Dev Cert.Kernel13.nD,
    (Cert.Pre_device13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5))) = (fun _ => 1#1)

def Pre_Kernel13Ideal [hPre_device13 : Cert.Pre_device13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_device13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_device13 [hPre_device13 : Cert.Pre_device13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_device13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 [hPre_device14 : Cert.Pre_device14.Facts] (m : (ℓ : Loc Cert.Kernel14.nD Cert.Kernel14.τ Cert.Kernel14.sig) → Buf (Elt Bits) ℓ) : Prop :=
  ∀ c : Dev Cert.Kernel14.nD,
    (Cert.Pre_device14.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5))) = (fun _ => 1#1)

def Pre_Kernel14Ideal [hPre_device14 : Cert.Pre_device14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_device14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_device14 [hPre_device14 : Cert.Pre_device14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_device14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 [hPre_device15 : Cert.Pre_device15.Facts] (m : (ℓ : Loc Cert.Kernel15.nD Cert.Kernel15.τ Cert.Kernel15.sig) → Buf (Elt Bits) ℓ) : Prop :=
  ∀ c : Dev Cert.Kernel15.nD,
    (Cert.Pre_device15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5))) = (fun _ => 1#1)

def Pre_Kernel15Ideal [hPre_device15 : Cert.Pre_device15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_device15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_device15 [hPre_device15 : Cert.Pre_device15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_device15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def Pre_Kernel16 [hPre_device16 : Cert.Pre_device16.Facts] (m : (ℓ : Loc Cert.Kernel16.nD Cert.Kernel16.τ Cert.Kernel16.sig) → Buf (Elt Bits) ℓ) : Prop :=
  ∀ c : Dev Cert.Kernel16.nD,
    (Cert.Pre_device16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5))) = (fun _ => 1#1)

def Pre_Kernel16Ideal [hPre_device16 : Cert.Pre_device16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_device16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_device16 [hPre_device16 : Cert.Pre_device16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_device16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))) = (fun _ => 1#1)

def Pre_Kernel17 [hPre_device17 : Cert.Pre_device17.Facts] (m : (ℓ : Loc Cert.Kernel17.nD Cert.Kernel17.τ Cert.Kernel17.sig) → Buf (Elt Bits) ℓ) : Prop :=
  ∀ c : Dev Cert.Kernel17.nD,
    (Cert.Pre_device17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4)) (m ((c.tc : Thread Cert.Kernel17.nD Cert.Kernel17.τ).loc Cert.Kernel17.main_arg5))) = (fun _ => 1#1)

def Pre_Kernel17Ideal [hPre_device17 : Cert.Pre_device17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_device17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_device17 [hPre_device17 : Cert.Pre_device17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_device17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))) = (fun _ => 1#1)

def Pre_Kernel18 [hPre_device18 : Cert.Pre_device18.Facts] (m : (ℓ : Loc Cert.Kernel18.nD Cert.Kernel18.τ Cert.Kernel18.sig) → Buf (Elt Bits) ℓ) : Prop :=
  ∀ c : Dev Cert.Kernel18.nD,
    (Cert.Pre_device18.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2)) (m ((c.tc : Thread Cert.Kernel18.nD Cert.Kernel18.τ).loc Cert.Kernel18.main_arg3)) (m ((c.tc : Thread Cert.Kernel18.nD Cert.Kernel18.τ).loc Cert.Kernel18.main_arg4)) (m ((c.tc : Thread Cert.Kernel18.nD Cert.Kernel18.τ).loc Cert.Kernel18.main_arg5))) = (fun _ => 1#1)

def Pre_Kernel18Ideal [hPre_device18 : Cert.Pre_device18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_device18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_device18 [hPre_device18 : Cert.Pre_device18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_device18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))) = (fun _ => 1#1)

def Pre_Kernel19 [hPre_device19 : Cert.Pre_device19.Facts] (m : (ℓ : Loc Cert.Kernel19.nD Cert.Kernel19.τ Cert.Kernel19.sig) → Buf (Elt Bits) ℓ) : Prop :=
  ∀ c : Dev Cert.Kernel19.nD,
    (Cert.Pre_device19.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2)) (m ((c.tc : Thread Cert.Kernel19.nD Cert.Kernel19.τ).loc Cert.Kernel19.main_arg3)) (m ((c.tc : Thread Cert.Kernel19.nD Cert.Kernel19.τ).loc Cert.Kernel19.main_arg4)) (m ((c.tc : Thread Cert.Kernel19.nD Cert.Kernel19.τ).loc Cert.Kernel19.main_arg5))) = (fun _ => 1#1)

def Pre_Kernel19Ideal [hPre_device19 : Cert.Pre_device19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_device19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_device19 [hPre_device19 : Cert.Pre_device19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_device19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] [hPre_device13 : Cert.Pre_device13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] [hPre_device13 : Cert.Pre_device13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_device13 [hReference13Ideal : Cert.Reference13Ideal.Facts] [hPre_device13 : Cert.Pre_device13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_device13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] [hPre_device14 : Cert.Pre_device14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] [hPre_device14 : Cert.Pre_device14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_device14 [hReference14Ideal : Cert.Reference14Ideal.Facts] [hPre_device14 : Cert.Pre_device14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_device14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] [hPre_device15 : Cert.Pre_device15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] [hPre_device15 : Cert.Pre_device15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_device15 [hReference15Ideal : Cert.Reference15Ideal.Facts] [hPre_device15 : Cert.Pre_device15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_device15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] [hPre_device16 : Cert.Pre_device16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] [hPre_device16 : Cert.Pre_device16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Reference16Ideal_pre_device16 [hReference16Ideal : Cert.Reference16Ideal.Facts] [hPre_device16 : Cert.Pre_device16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_device16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] [hPre_device17 : Cert.Pre_device17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] [hPre_device17 : Cert.Pre_device17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_device17 [hReference17Ideal : Cert.Reference17Ideal.Facts] [hPre_device17 : Cert.Pre_device17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_device17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] [hPre_device18 : Cert.Pre_device18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] [hPre_device18 : Cert.Pre_device18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_device18 [hReference18Ideal : Cert.Reference18Ideal.Facts] [hPre_device18 : Cert.Pre_device18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_device18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] [hPre_device19 : Cert.Pre_device19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] [hPre_device19 : Cert.Pre_device19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Reference19Ideal_pre_device19 [hReference19Ideal : Cert.Reference19Ideal.Facts] [hPre_device19 : Cert.Pre_device19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_device19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)) (v2 : (c : Dev Cert.KernelIdeal.nD) → Buf (Elt Ideal) ((c.tc : Thread Cert.KernelIdeal.nD Cert.KernelIdeal.τ).loc Cert.KernelIdeal.main_v107_2)) (v3 : (c : Dev Cert.KernelIdeal.nD) → Buf (Elt Ideal) ((c.tc : Thread Cert.KernelIdeal.nD Cert.KernelIdeal.τ).loc Cert.KernelIdeal.main_v107_3)) (v4 : (c : Dev Cert.KernelIdeal.nD) → Buf (Elt Ideal) ((c.tc : Thread Cert.KernelIdeal.nD Cert.KernelIdeal.τ).loc Cert.KernelIdeal.main_v107_4)) (v5 : (c : Dev Cert.KernelIdeal.nD) → Buf (Elt Ideal) ((c.tc : Thread Cert.KernelIdeal.nD Cert.KernelIdeal.τ).loc Cert.KernelIdeal.main_v107_5)) (v6 : (c : Dev Cert.KernelIdeal.nD) → Buf (Elt Ideal) ((c.tc : Thread Cert.KernelIdeal.nD Cert.KernelIdeal.τ).loc Cert.KernelIdeal.main_v107_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_1) = v1 c
          ∧ r.2.mem ((c.tc : Thread Cert.KernelIdeal.nD Cert.KernelIdeal.τ).loc Cert.KernelIdeal.main_v107_2) = v2 c
          ∧ r.2.mem ((c.tc : Thread Cert.KernelIdeal.nD Cert.KernelIdeal.τ).loc Cert.KernelIdeal.main_v107_3) = v3 c
          ∧ r.2.mem ((c.tc : Thread Cert.KernelIdeal.nD Cert.KernelIdeal.τ).loc Cert.KernelIdeal.main_v107_4) = v4 c
          ∧ r.2.mem ((c.tc : Thread Cert.KernelIdeal.nD Cert.KernelIdeal.τ).loc Cert.KernelIdeal.main_v107_5) = v5 c
          ∧ r.2.mem ((c.tc : Thread Cert.KernelIdeal.nD Cert.KernelIdeal.τ).loc Cert.KernelIdeal.main_v107_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_v162) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_v164) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg0) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] [hPre_device13 : Cert.Pre_device13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_v13) = v2 c
          ∧ r.2.mem ((c.tc : Thread Cert.Reference13Ideal.nD Cert.Reference13Ideal.τ).loc Cert.Reference13Ideal.main_v19) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] [hPre_device14 : Cert.Pre_device14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_v19) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] [hPre_device15 : Cert.Pre_device15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_v32) = v1 c
          ∧ r.2.mem ((c.tc : Thread Cert.Reference15Ideal.nD Cert.Reference15Ideal.τ).loc Cert.Reference15Ideal.main_v13) = v2 c
          ∧ r.2.mem ((c.tc : Thread Cert.Reference15Ideal.nD Cert.Reference15Ideal.τ).loc Cert.Reference15Ideal.main_v19) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] [hPre_device16 : Cert.Pre_device16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v13) = v2 c
          ∧ r.2.mem ((c.tc : Thread Cert.Reference16Ideal.nD Cert.Reference16Ideal.τ).loc Cert.Reference16Ideal.main_v19) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] [hPre_device17 : Cert.Pre_device17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_v32) = v1 c
          ∧ r.2.mem ((c.tc : Thread Cert.Reference17Ideal.nD Cert.Reference17Ideal.τ).loc Cert.Reference17Ideal.main_v13) = v2 c
          ∧ r.2.mem ((c.tc : Thread Cert.Reference17Ideal.nD Cert.Reference17Ideal.τ).loc Cert.Reference17Ideal.main_v19) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] [hPre_device18 : Cert.Pre_device18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v13) = v2 c
          ∧ r.2.mem ((c.tc : Thread Cert.Reference18Ideal.nD Cert.Reference18Ideal.τ).loc Cert.Reference18Ideal.main_v19) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] [hPre_device19 : Cert.Pre_device19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_v32) = v1 c
          ∧ r.2.mem ((c.tc : Thread Cert.Reference19Ideal.nD Cert.Reference19Ideal.τ).loc Cert.Reference19Ideal.main_v13) = v2 c
          ∧ r.2.mem ((c.tc : Thread Cert.Reference19Ideal.nD Cert.Reference19Ideal.τ).loc Cert.Reference19Ideal.main_v19) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_device13 : Cert.Pre_device13.Facts) (hPre_device14 : Cert.Pre_device14.Facts) (hPre_device15 : Cert.Pre_device15.Facts) (hPre_device16 : Cert.Pre_device16.Facts) (hPre_device17 : Cert.Pre_device17.Facts) (hPre_device18 : Cert.Pre_device18.Facts) (hPre_device19 : Cert.Pre_device19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13) (hPre_device13 := hPre_device13)
    ∧ quiescent_Kernel13Ideal (hKernel13Ideal := hKernel13Ideal) (hPre_device13 := hPre_device13)
    ∧ quiescent_Reference13Ideal (hReference13Ideal := hReference13Ideal)
    ∧ quiescent_Reference13Ideal_pre_device13 (hReference13Ideal := hReference13Ideal) (hPre_device13 := hPre_device13)
    ∧ quiescent_Kernel14 (hKernel14 := hKernel14) (hPre_device14 := hPre_device14)
    ∧ quiescent_Kernel14Ideal (hKernel14Ideal := hKernel14Ideal) (hPre_device14 := hPre_device14)
    ∧ quiescent_Reference14Ideal (hReference14Ideal := hReference14Ideal)
    ∧ quiescent_Reference14Ideal_pre_device14 (hReference14Ideal := hReference14Ideal) (hPre_device14 := hPre_device14)
    ∧ quiescent_Kernel15 (hKernel15 := hKernel15) (hPre_device15 := hPre_device15)
    ∧ quiescent_Kernel15Ideal (hKernel15Ideal := hKernel15Ideal) (hPre_device15 := hPre_device15)
    ∧ quiescent_Reference15Ideal (hReference15Ideal := hReference15Ideal)
    ∧ quiescent_Reference15Ideal_pre_device15 (hReference15Ideal := hReference15Ideal) (hPre_device15 := hPre_device15)
    ∧ quiescent_Kernel16 (hKernel16 := hKernel16) (hPre_device16 := hPre_device16)
    ∧ quiescent_Kernel16Ideal (hKernel16Ideal := hKernel16Ideal) (hPre_device16 := hPre_device16)
    ∧ quiescent_Reference16Ideal (hReference16Ideal := hReference16Ideal)
    ∧ quiescent_Reference16Ideal_pre_device16 (hReference16Ideal := hReference16Ideal) (hPre_device16 := hPre_device16)
    ∧ quiescent_Kernel17 (hKernel17 := hKernel17) (hPre_device17 := hPre_device17)
    ∧ quiescent_Kernel17Ideal (hKernel17Ideal := hKernel17Ideal) (hPre_device17 := hPre_device17)
    ∧ quiescent_Reference17Ideal (hReference17Ideal := hReference17Ideal)
    ∧ quiescent_Reference17Ideal_pre_device17 (hReference17Ideal := hReference17Ideal) (hPre_device17 := hPre_device17)
    ∧ quiescent_Kernel18 (hKernel18 := hKernel18) (hPre_device18 := hPre_device18)
    ∧ quiescent_Kernel18Ideal (hKernel18Ideal := hKernel18Ideal) (hPre_device18 := hPre_device18)
    ∧ quiescent_Reference18Ideal (hReference18Ideal := hReference18Ideal)
    ∧ quiescent_Reference18Ideal_pre_device18 (hReference18Ideal := hReference18Ideal) (hPre_device18 := hPre_device18)
    ∧ quiescent_Kernel19 (hKernel19 := hKernel19) (hPre_device19 := hPre_device19)
    ∧ quiescent_Kernel19Ideal (hKernel19Ideal := hKernel19Ideal) (hPre_device19 := hPre_device19)
    ∧ quiescent_Reference19Ideal (hReference19Ideal := hReference19Ideal)
    ∧ quiescent_Reference19Ideal_pre_device19 (hReference19Ideal := hReference19Ideal) (hPre_device19 := hPre_device19)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal) (hPre_device13 := hPre_device13)
    ∧ preserves_Kernel14_Kernel14Ideal
    ∧ algebraic_Kernel14Ideal_Reference14Ideal (hKernel14Ideal := hKernel14Ideal) (hReference14Ideal := hReference14Ideal) (hPre_device14 := hPre_device14)
    ∧ preserves_Kernel15_Kernel15Ideal
    ∧ algebraic_Kernel15Ideal_Reference15Ideal (hKernel15Ideal := hKernel15Ideal) (hReference15Ideal := hReference15Ideal) (hPre_device15 := hPre_device15)
    ∧ preserves_Kernel16_Kernel16Ideal
    ∧ algebraic_Kernel16Ideal_Reference16Ideal (hKernel16Ideal := hKernel16Ideal) (hReference16Ideal := hReference16Ideal) (hPre_device16 := hPre_device16)
    ∧ preserves_Kernel17_Kernel17Ideal
    ∧ algebraic_Kernel17Ideal_Reference17Ideal (hKernel17Ideal := hKernel17Ideal) (hReference17Ideal := hReference17Ideal) (hPre_device17 := hPre_device17)
    ∧ preserves_Kernel18_Kernel18Ideal
    ∧ algebraic_Kernel18Ideal_Reference18Ideal (hKernel18Ideal := hKernel18Ideal) (hReference18Ideal := hReference18Ideal) (hPre_device18 := hPre_device18)
    ∧ preserves_Kernel19_Kernel19Ideal
    ∧ algebraic_Kernel19Ideal_Reference19Ideal (hKernel19Ideal := hKernel19Ideal) (hReference19Ideal := hReference19Ideal) (hPre_device19 := hPre_device19)
-- ==== Pre_device13.lean ====
abbrev S1 : Shape := ⟨1, ![1]⟩
abbrev S8x2048x768 : Shape := ⟨3, ![8, 2048, 768]⟩
abbrev S2048x768 : Shape := ⟨2, ![2048, 768]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x2048x768 .bf16) (main_arg2 : FVec F S8x2048x768 .bf16) (main_arg3 : FVec F S2048x768 .f32) (main_arg4 : FVec F S2048x768 .f32) (main_arg5 : FVec F S2048x768 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_device14.lean ====
abbrev S1 : Shape := ⟨1, ![1]⟩
abbrev S8x2048x1024 : Shape := ⟨3, ![8, 2048, 1024]⟩
abbrev S2048x1024 : Shape := ⟨2, ![2048, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x2048x1024 .bf16) (main_arg2 : FVec F S8x2048x1024 .bf16) (main_arg3 : FVec F S2048x1024 .f32) (main_arg4 : FVec F S2048x1024 .f32) (main_arg5 : FVec F S2048x1024 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_device15.lean ====
abbrev S1 : Shape := ⟨1, ![1]⟩
abbrev S8x1024x2048 : Shape := ⟨3, ![8, 1024, 2048]⟩
abbrev S1024x2048 : Shape := ⟨2, ![1024, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x1024x2048 .bf16) (main_arg2 : FVec F S8x1024x2048 .bf16) (main_arg3 : FVec F S1024x2048 .f32) (main_arg4 : FVec F S1024x2048 .f32) (main_arg5 : FVec F S1024x2048 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_device16.lean ====
abbrev S1 : Shape := ⟨1, ![1]⟩
abbrev S8x256x2048 : Shape := ⟨3, ![8, 256, 2048]⟩
abbrev S256x2048 : Shape := ⟨2, ![256, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x256x2048 .bf16) (main_arg2 : FVec F S8x256x2048 .bf16) (main_arg3 : FVec F S256x2048 .f32) (main_arg4 : FVec F S256x2048 .f32) (main_arg5 : FVec F S256x2048 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_device17.lean ====
abbrev S1 : Shape := ⟨1, ![1]⟩
abbrev S8x1024x256 : Shape := ⟨3, ![8, 1024, 256]⟩
abbrev S1024x256 : Shape := ⟨2, ![1024, 256]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x1024x256 .bf16) (main_arg2 : FVec F S8x1024x256 .bf16) (main_arg3 : FVec F S1024x256 .f32) (main_arg4 : FVec F S1024x256 .f32) (main_arg5 : FVec F S1024x256 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_device18.lean ====
abbrev S1 : Shape := ⟨1, ![1]⟩
abbrev S8x512x256 : Shape := ⟨3, ![8, 512, 256]⟩
abbrev S512x256 : Shape := ⟨2, ![512, 256]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x512x256 .bf16) (main_arg2 : FVec F S8x512x256 .bf16) (main_arg3 : FVec F S512x256 .f32) (main_arg4 : FVec F S512x256 .f32) (main_arg5 : FVec F S512x256 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_device19.lean ====
abbrev S1 : Shape := ⟨1, ![1]⟩
abbrev S8x64x512 : Shape := ⟨3, ![8, 64, 512]⟩
abbrev S64x512 : Shape := ⟨2, ![64, 512]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x64x512 .bf16) (main_arg2 : FVec F S8x64x512 .bf16) (main_arg3 : FVec F S64x512 .f32) (main_arg4 : FVec F S64x512 .f32) (main_arg5 : FVec F S64x512 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_finite.lean ====
abbrev S4096x6144 : Shape := ⟨2, ![4096, 6144]⟩
abbrev S16 : Shape := ⟨1, ![16]⟩
abbrev S4x4x128x256 : Shape := ⟨4, ![4, 4, 128, 256]⟩
abbrev S4096x1024 : Shape := ⟨2, ![4096, 1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S16 : S_.BroadcastsInDim S16 (![] : Fin 0 → Fin S16.rank)
  reducesTo_S16_S_d0 : S16.ReducesTo [0] S_
  bcast_S_S4x4x128x256 : S_.BroadcastsInDim S4x4x128x256 (![] : Fin 0 → Fin S4x4x128x256.rank)
  reducesTo_S4x4x128x256_S_d0_1_2_3 : S4x4x128x256.ReducesTo [0, 1, 2, 3] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v14 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v14 main_v19
  main_v20

def fn {F : FTy → Type} [FloatOps F] (main_arg0 : FVec F S4096x6144 .bf16) (main_arg1 : FVec F S16 .f32) (main_arg2 : FVec F S4x4x128x256 .f32) (main_arg3 : FVec F S4096x1024 .bf16) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  let main_v10 : FVec F S4x4x128x256 .f32 := Host.absf main_arg2
  let main_cst_2 : FVec F S_ .f32 := constant S_ .f32 0x7F800000#32
  let main_v11 : FVec F S4x4x128x256 .f32 := broadcastInDim S4x4x128x256 ![] bcast_S_S4x4x128x256 main_cst_2
  let main_v12 : IVec S4x4x128x256 1 := cmpf .olt main_v10 main_v11
  let main_c_3 : IVec S_ 1 := constantI S_ 1 1#1
  let main_v13 : IVec S_ 1 := (fun x v => Host.reduce IntOp.andi x v reducesTo_S4x4x128x256_S_d0_1_2_3 h_S_) main_v12 main_c_3
  let main_v14 : IVec S_ 1 := andi main_v9 main_v13
  let main_v15 : FVec F S4096x1024 .f32 := (extf .f32 · bitsLt_bf16_f32) main_arg3
  let main_v16 : FVec F S4096x1024 .f32 := Host.absf main_v15
  let main_cst_4 : FVec F S_ .f32 := constant S_ .f32 0x7F800000#32
  fn_part1 (F := F) main_v14 main_v16 main_cst_4
-- ==== Kernel.lean ====
abbrev S4096x6144 : Shape := ⟨2, ![4096, 6144]⟩
abbrev S16 : Shape := ⟨1, ![16]⟩
abbrev S4x4x128x256 : Shape := ⟨4, ![4, 4, 128, 256]⟩
abbrev S4096x1024 : Shape := ⟨2, ![4096, 1024]⟩
abbrev S4096x256 : Shape := ⟨2, ![4096, 256]⟩
abbrev S4x4x1 : Shape := ⟨3, ![4, 4, 1]⟩
abbrev S4x4x128 : Shape := ⟨3, ![4, 4, 128]⟩
abbrev S_ : Shape := ⟨0, ![]⟩
abbrev S128x256 : Shape := ⟨2, ![128, 256]⟩
abbrev S4224x256 : Shape := ⟨2, ![4224, 256]⟩
abbrev S33x128x4x64 : Shape := ⟨4, ![33, 128, 4, 64]⟩
abbrev S32x128x4x64 : Shape := ⟨4, ![32, 128, 4, 64]⟩
abbrev S32x128x4x4x64 : Shape := ⟨5, ![32, 128, 4, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S1x4x4x128x256 : Shape := ⟨5, ![1, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S32x4x4x128 : Shape := ⟨4, ![32, 4, 4, 128]⟩
abbrev S1x4x4x128 : Shape := ⟨4, ![1, 4, 4, 128]⟩
abbrev S32x4x4x128x1 : Shape := ⟨5, ![32, 4, 4, 128, 1]⟩
abbrev S32x4x64x4x128 : Shape := ⟨5, ![32, 4, 64, 4, 128]⟩
abbrev S16x128 : Shape := ⟨2, ![16, 128]⟩
abbrev S2048 : Shape := ⟨1, ![2048]⟩
abbrev S2048x1 : Shape := ⟨2, ![2048, 1]⟩
abbrev S16x128x256 : Shape := ⟨3, ![16, 128, 256]⟩
abbrev S1x16x128x256 : Shape := ⟨4, ![1, 16, 128, 256]⟩
abbrev S2x16x128x256 : Shape := ⟨4, ![2, 16, 128, 256]⟩
abbrev S2x2048x256 : Shape := ⟨3, ![2, 2048, 256]⟩
abbrev S2048x256 : Shape := ⟨2, ![2048, 256]⟩
abbrev S256x1024 : Shape := ⟨2, ![256, 1024]⟩
abbrev S256x256 : Shape := ⟨2, ![256, 256]⟩
abbrev S128x64 : Shape := ⟨2, ![128, 64]⟩
abbrev S256x64 : Shape := ⟨2, ![256, 64]⟩
abbrev S128x1024 : Shape := ⟨2, ![128, 1024]⟩
abbrev S512x64 : Shape := ⟨2, ![512, 64]⟩
abbrev S512x256 : Shape := ⟨2, ![512, 256]⟩
abbrev S512 : Shape := ⟨1, ![512]⟩
abbrev S512x1 : Shape := ⟨2, ![512, 1]⟩
abbrev S1x2048x256 : Shape := ⟨3, ![1, 2048, 256]⟩

abbrev nBuf : Space → Nat
  | .hbm => 145
  | .vmem => 28
  | .smem => 0
  | _ => 0

abbrev hbmTy0_0 (i : Nat) : BufTy := match i % 128 with
  | 0 => ⟨S4096x6144, .bf16⟩
  | 1 => ⟨S16, .f32⟩
  | 2 => ⟨S4x4x128x256, .f32⟩
  | 3 => ⟨S4096x1024, .bf16⟩
  | 4 => ⟨S4096x6144, .f32⟩
  | 5 => ⟨S4096x1024, .f32⟩
  | 6 => ⟨S4096x256, .f32⟩
  | 7 => ⟨S4096x256, .f32⟩
  | 8 => ⟨S4x4x1, .f32⟩
  | 9 => ⟨S4x4x128, .f32⟩
  | 10 => ⟨S_, .f32⟩
  | 11 => ⟨S128x256, .f32⟩
  | 12 => ⟨S4224x256, .f32⟩
  | 13 => ⟨S33x128x4x64, .f32⟩
  | 14 => ⟨S32x128x4x64, .f32⟩
  | 15 => ⟨S32x128x4x64, .f32⟩
  | 16 => ⟨S_, .f32⟩
  | 17 => ⟨S128x256, .f32⟩
  | 18 => ⟨S4224x256, .f32⟩
  | 19 => ⟨S33x128x4x64, .f32⟩
  | 20 => ⟨S32x128x4x64, .f32⟩
  | 21 => ⟨S32x128x4x64, .f32⟩
  | 22 => ⟨S32x128x4x4x64, .f32⟩
  | 23 => ⟨S32x256x4x64, .f32⟩
  | 24 => ⟨S32x256x4x64, .f32⟩
  | 25 => ⟨S32x4x256x128x4, .f32⟩
  | 26 => ⟨S32x4x4x128x256, .f32⟩
  | 27 => ⟨S_, .f32⟩
  | 28 => ⟨S32x4x4x128x256, .f32⟩
  | 29 => ⟨S32x4x4x128x256, .f32⟩
  | 30 => ⟨S1x4x4x128x256, .f32⟩
  | 31 => ⟨S32x4x4x128x256, .f32⟩
  | 32 => ⟨S32x4x4x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S32, .i32⟩
  | 51 => ⟨S32x1x1, .i32⟩
  | 52 => ⟨S1x128x256, .i1⟩
  | 53 => ⟨S_, .i32⟩
  | 54 => ⟨S32x1x1, .i32⟩
  | 55 => ⟨S32x1x1, .i32⟩
  | 56 => ⟨S1x1x256, .i32⟩
  | 57 => ⟨S32x1x256, .i32⟩
  | 58 => ⟨S32x1x256, .i32⟩
  | 59 => ⟨S32x1x256, .i32⟩
  | 60 => ⟨S_, .i32⟩
  | 61 => ⟨S32x1x256, .i32⟩
  | 62 => ⟨S32x1x256, .i32⟩
  | 63 => ⟨S_, .i32⟩
  | 64 => ⟨S32x1x256, .i32⟩
  | 65 => ⟨S32x1x256, .i1⟩
  | 66 => ⟨S32x128x256, .i1⟩
  | 67 => ⟨S32x128x256, .i1⟩
  | 68 => ⟨S32x128x256, .i1⟩
  | 69 => ⟨S32x1x1x128x256, .i1⟩
  | 70 => ⟨S_, .f32⟩
  | 71 => ⟨S_, .f32⟩
  | 72 => ⟨S32x4x4x128x256, .i1⟩
  | 73 => ⟨S32x4x4x128x256, .f32⟩
  | 74 => ⟨S32x4x4x128x256, .f32⟩
  | 75 => ⟨S_, .f32⟩
  | 76 => ⟨S32x4x4x128, .f32⟩
  | 77 => ⟨S1x4x4x128, .f32⟩
  | 78 => ⟨S32x4x4x128, .f32⟩
  | 79 => ⟨S32x4x4x128, .f32⟩
  | 80 => ⟨S32x4x4x128x1, .f32⟩
  | 81 => ⟨S32x4x4x128x256, .f32⟩
  | 82 => ⟨S32x4x4x128x256, .f32⟩
  | 83 => ⟨S32x4x4x128x256, .f32⟩
  | 84 => ⟨S_, .f32⟩
  | 85 => ⟨S32x4x4x128, .f32⟩
  | 86 => ⟨S1x4x4x128, .f32⟩
  | 87 => ⟨S32x4x4x128, .f32⟩
  | 88 => ⟨S32x4x4x128, .f32⟩
  | 89 => ⟨S32x4x4x128, .f32⟩
  | 90 => ⟨S32x4x4x128, .f32⟩
  | 91 => ⟨S32x4x4x128x1, .f32⟩
  | 92 => ⟨S32x4x4x128x256, .f32⟩
  | 93 => ⟨S32x4x4x128x256, .f32⟩
  | 94 => ⟨S32x4x64x4x128, .f32⟩
  | 95 => ⟨S32x128x4x4x64, .f32⟩
  | 96 => ⟨S4096x1024, .f32⟩
  | 97 => ⟨S4096x1024, .bf16⟩
  | 98 => ⟨S16x128, .f32⟩
  | 99 => ⟨S2048, .f32⟩
  | 100 => ⟨S2048x1, .f32⟩
  | 101 => ⟨S256, .i32⟩
  | 102 => ⟨S1x256, .i32⟩
  | 103 => ⟨S128, .i32⟩
  | 104 => ⟨S128x1, .i32⟩
  | 105 => ⟨S_, .i32⟩
  | 106 => ⟨S128x1, .i32⟩
  | 107 => ⟨S128x1, .i32⟩
  | 108 => ⟨S128x256, .i32⟩
  | 109 => ⟨S128x256, .i32⟩
  | 110 => ⟨S128x256, .i32⟩
  | 111 => ⟨S_, .i32⟩
  | 112 => ⟨S128x256, .i32⟩
  | 113 => ⟨S128x256, .i1⟩
  | 114 => ⟨S_, .i32⟩
  | 115 => ⟨S128x256, .i32⟩
  | 116 => ⟨S128x256, .i1⟩
  | 117 => ⟨S128x256, .i1⟩
  | 118 => ⟨S_, .i32⟩
  | 119 => ⟨S1x256, .i32⟩
  | 120 => ⟨S1x256, .i1⟩
  | 121 => ⟨S128x256, .i1⟩
  | 122 => ⟨S128x256, .i1⟩
  | 123 => ⟨S16x128x256, .f32⟩
  | 124 => ⟨S_, .f32⟩
  | 125 => ⟨S_, .f32⟩
  | 126 => ⟨S16x128x256, .i1⟩
  | 127 => ⟨S16x128x256, .f32⟩
  | _ => ⟨S4096x6144, .bf16⟩

abbrev hbmTy0_1 (i : Nat) : BufTy := match i % 128 with
  | 0 => ⟨S16x128x256, .f32⟩
  | 1 => ⟨S_, .f32⟩
  | 2 => ⟨S_, .f32⟩
  | 3 => ⟨S16x128x256, .i1⟩
  | 4 => ⟨S16x128x256, .f32⟩
  | 5 => ⟨S16x128x256, .f32⟩
  | 6 => ⟨S1x16x128x256, .f32⟩
  | 7 => ⟨S1x16x128x256, .f32⟩
  | 8 => ⟨S2x16x128x256, .f32⟩
  | 9 => ⟨S2x2048x256, .f32⟩
  | 10 => ⟨S4096x1024, .bf16⟩
  | 11 => ⟨S4096x256, .f32⟩
  | 12 => ⟨S4096x256, .f32⟩
  | 13 => ⟨S4096x256, .f32⟩
  | 14 => ⟨S4096x256, .f32⟩
  | 15 => ⟨S2048x256, .f32⟩
  | 16 => ⟨S2048x1, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S128x256, .bf16⟩
  | .local _ .vmem, ⟨3, _⟩ => ⟨S128x256, .bf16⟩
  | .local _ .vmem, ⟨4, _⟩ => ⟨S256x256, .bf16⟩
  | .local _ .vmem, ⟨5, _⟩ => ⟨S256x256, .bf16⟩
  | .local _ .vmem, ⟨6, _⟩ => ⟨S128x256, .bf16⟩
  | .local _ .vmem, ⟨7, _⟩ => ⟨S128x256, .bf16⟩
  | .local _ .vmem, ⟨8, _⟩ => ⟨S256x256, .bf16⟩
  | .local _ .vmem, ⟨9, _⟩ => ⟨S256x256, .bf16⟩
  | .local _ .vmem, ⟨10, _⟩ => ⟨S2x2048x256, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S2048x1, .f32⟩
  | .local _ .vmem, ⟨16, _⟩ => ⟨S256x1024, .bf16⟩
  | .local _ .vmem, ⟨17, _⟩ => ⟨S256x1024, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S2048x256, .f32⟩
  | .local _ .vmem, ⟨27, _⟩ => ⟨S2048x1, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_c_10 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_c_11 : Ref sig .tc := ⟨.hbm, 111, rfl⟩
abbrev main_v91 : Ref sig .tc := ⟨.hbm, 112, rfl⟩
abbrev main_v92 : Ref sig .tc := ⟨.hbm, 113, rfl⟩
abbrev main_c_12 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_c_13 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v101 : Ref sig .tc := ⟨.hbm, 128, rfl⟩
abbrev main_cst_15 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107_0 : Ref sig .tc := ⟨.hbm, 138, rfl⟩
abbrev main_v107_1 : Ref sig .tc := ⟨.hbm, 139, rfl⟩
abbrev main_v107_2 : Ref sig .tc := ⟨.hbm, 140, rfl⟩
abbrev main_v107_3 : Ref sig .tc := ⟨.hbm, 141, rfl⟩
abbrev main_v107_4 : Ref sig .tc := ⟨.hbm, 142, rfl⟩
abbrev main_v107_5 : Ref sig .tc := ⟨.hbm, 143, rfl⟩
abbrev main_v107_6 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v3 : BitVec 32 := Scalar.minsi arg0 c1_i32
  let c0_i32_376 : BitVec 32 := 0#32
  let c0_i32_377 : BitVec 32 := 0#32
  ![v3.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2048x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x6144 : Shape := ⟨2, ![4096, 6144]⟩
abbrev S16 : Shape := ⟨1, ![16]⟩
abbrev S4x4x128x256 : Shape := ⟨4, ![4, 4, 128, 256]⟩
abbrev S4096x1024 : Shape := ⟨2, ![4096, 1024]⟩
abbrev S4096x256 : Shape := ⟨2, ![4096, 256]⟩
abbrev S_ : Shape := ⟨0, ![]⟩
abbrev S128x256 : Shape := ⟨2, ![128, 256]⟩
abbrev S4224x256 : Shape := ⟨2, ![4224, 256]⟩
abbrev S33x128x4x64 : Shape := ⟨4, ![33, 128, 4, 64]⟩
abbrev S32x128x4x64 : Shape := ⟨4, ![32, 128, 4, 64]⟩
abbrev S4x4x1 : Shape := ⟨3, ![4, 4, 1]⟩
abbrev S4x4x128 : Shape := ⟨3, ![4, 4, 128]⟩
abbrev S32x128x4x4x64 : Shape := ⟨5, ![32, 128, 4, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S1x4x4x128x256 : Shape := ⟨5, ![1, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S32x4x4x128 : Shape := ⟨4, ![32, 4, 4, 128]⟩
abbrev S32x4x4x128x1 : Shape := ⟨5, ![32, 4, 4, 128, 1]⟩
abbrev S1x4x4x128 : Shape := ⟨4, ![1, 4, 4, 128]⟩
abbrev S32x4x64x4x128 : Shape := ⟨5, ![32, 4, 64, 4, 128]⟩
abbrev S32x4x64x256 : Shape := ⟨4, ![32, 4, 64, 256]⟩
abbrev S32x4x128x4x64 : Shape := ⟨5, ![32, 4, 128, 4, 64]⟩
abbrev S32x4x256x64 : Shape := ⟨4, ![32, 4, 256, 64]⟩
abbrev S2048x256 : Shape := ⟨2, ![2048, 256]⟩
abbrev S2048x1 : Shape := ⟨2, ![2048, 1]⟩

abbrev nBuf : Space → Nat
  | .hbm => 207
  | .vmem => 0
  | .smem => 0
  | _ => 0

abbrev hbmTy0_0 (i : Nat) : BufTy := match i % 128 with
  | 0 => ⟨S4096x6144, .bf16⟩
  | 1 => ⟨S16, .f32⟩
  | 2 => ⟨S4x4x128x256, .f32⟩
  | 3 => ⟨S4096x1024, .bf16⟩
  | 4 => ⟨S4096x6144, .f32⟩
  | 5 => ⟨S4096x1024, .f32⟩
  | 6 => ⟨S4096x256, .f32⟩
  | 7 => ⟨S4096x256, .f32⟩
  | 8 => ⟨S_, .f32⟩
  | 9 => ⟨S128x256, .f32⟩
  | 10 => ⟨S4224x256, .f32⟩
  | 11 => ⟨S33x128x4x64, .f32⟩
  | 12 => ⟨S32x128x4x64, .f32⟩
  | 13 => ⟨S32x128x4x64, .f32⟩
  | 14 => ⟨S_, .f32⟩
  | 15 => ⟨S128x256, .f32⟩
  | 16 => ⟨S4224x256, .f32⟩
  | 17 => ⟨S33x128x4x64, .f32⟩
  | 18 => ⟨S32x128x4x64, .f32⟩
  | 19 => ⟨S32x128x4x64, .f32⟩
  | 20 => ⟨S4x4x1, .f32⟩
  | 21 => ⟨S4x4x128, .f32⟩
  | 22 => ⟨S32x128x4x4x64, .f32⟩
  | 23 => ⟨S32x256x4x64, .f32⟩
  | 24 => ⟨S32x256x4x64, .f32⟩
  | 25 => ⟨S32x4x256x128x4, .f32⟩
  | 26 => ⟨S32x4x4x128x256, .f32⟩
  | 27 => ⟨S_, .f32⟩
  | 28 => ⟨S32x4x4x128x256, .f32⟩
  | 29 => ⟨S32x4x4x128x256, .f32⟩
  | 30 => ⟨S1x4x4x128x256, .f32⟩
  | 31 => ⟨S32x4x4x128x256, .f32⟩
  | 32 => ⟨S32x4x4x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S32, .i32⟩
  | 51 => ⟨S32x1x1, .i32⟩
  | 52 => ⟨S1x128x256, .i1⟩
  | 53 => ⟨S_, .i32⟩
  | 54 => ⟨S32x1x1, .i32⟩
  | 55 => ⟨S32x1x1, .i32⟩
  | 56 => ⟨S1x1x256, .i32⟩
  | 57 => ⟨S32x1x256, .i32⟩
  | 58 => ⟨S32x1x256, .i32⟩
  | 59 => ⟨S32x1x256, .i32⟩
  | 60 => ⟨S_, .i32⟩
  | 61 => ⟨S32x1x256, .i32⟩
  | 62 => ⟨S32x1x256, .i32⟩
  | 63 => ⟨S_, .i32⟩
  | 64 => ⟨S32x1x256, .i32⟩
  | 65 => ⟨S32x1x256, .i1⟩
  | 66 => ⟨S32x128x256, .i1⟩
  | 67 => ⟨S32x128x256, .i1⟩
  | 68 => ⟨S32x128x256, .i1⟩
  | 69 => ⟨S32x1x1x128x256, .i1⟩
  | 70 => ⟨S_, .f32⟩
  | 71 => ⟨S_, .f32⟩
  | 72 => ⟨S32x4x4x128x256, .i1⟩
  | 73 => ⟨S32x4x4x128x256, .f32⟩
  | 74 => ⟨S32x4x4x128x256, .f32⟩
  | 75 => ⟨S_, .f32⟩
  | 76 => ⟨S32x4x4x128x256, .f32⟩
  | 77 => ⟨S_, .f32⟩
  | 78 => ⟨S32x4x4x128, .f32⟩
  | 79 => ⟨S32x4x4x128x1, .f32⟩
  | 80 => ⟨S32x4x4x128x256, .f32⟩
  | 81 => ⟨S32x4x4x128x256, .i1⟩
  | 82 => ⟨S32x4x4x128x256, .f32⟩
  | 83 => ⟨S_, .f32⟩
  | 84 => ⟨S32x4x4x128, .f32⟩
  | 85 => ⟨S1x4x4x128, .f32⟩
  | 86 => ⟨S32x4x4x128, .f32⟩
  | 87 => ⟨S32x4x4x128, .f32⟩
  | 88 => ⟨S32x4x4x128, .f32⟩
  | 89 => ⟨S32x4x4x128, .i1⟩
  | 90 => ⟨S32x4x4x128, .f32⟩
  | 91 => ⟨S32x4x4x128, .i1⟩
  | 92 => ⟨S_, .f32⟩
  | 93 => ⟨S32x4x4x128, .f32⟩
  | 94 => ⟨S_, .f32⟩
  | 95 => ⟨S32x4x4x128, .f32⟩
  | 96 => ⟨S_, .f32⟩
  | 97 => ⟨S32x4x4x128, .f32⟩
  | 98 => ⟨S32x4x4x128, .f32⟩
  | 99 => ⟨S32x4x4x128, .f32⟩
  | 100 => ⟨S32x4x4x128, .f32⟩
  | 101 => ⟨S32x4x4x128, .i1⟩
  | 102 => ⟨S32x4x4x128, .f32⟩
  | 103 => ⟨S32x4x4x128, .i1⟩
  | 104 => ⟨S_, .f32⟩
  | 105 => ⟨S32x4x4x128, .f32⟩
  | 106 => ⟨S_, .f32⟩
  | 107 => ⟨S32x4x4x128, .f32⟩
  | 108 => ⟨S_, .f32⟩
  | 109 => ⟨S32x4x4x128, .f32⟩
  | 110 => ⟨S32x4x4x128, .f32⟩
  | 111 => ⟨S32x4x4x128, .f32⟩
  | 112 => ⟨S32x4x4x128x1, .f32⟩
  | 113 => ⟨S32x4x4x128x256, .f32⟩
  | 114 => ⟨S32x4x4x128x256, .f32⟩
  | 115 => ⟨S32x4x4x128x256, .f32⟩
  | 116 => ⟨S_, .f32⟩
  | 117 => ⟨S32x4x4x128, .f32⟩
  | 118 => ⟨S1x4x4x128, .f32⟩
  | 119 => ⟨S32x4x4x128, .f32⟩
  | 120 => ⟨S32x4x4x128, .f32⟩
  | 121 => ⟨S32x4x4x128, .f32⟩
  | 122 => ⟨S32x4x4x128, .f32⟩
  | 123 => ⟨S32x4x4x128x1, .f32⟩
  | 124 => ⟨S32x4x4x128x256, .f32⟩
  | 125 => ⟨S32x4x4x128x256, .f32⟩
  | 126 => ⟨S32x4x4x128x1, .f32⟩
  | 127 => ⟨S_, .f32⟩
  | _ => ⟨S4096x6144, .bf16⟩

abbrev hbmTy0_1 (i : Nat) : BufTy := match i % 128 with
  | 0 => ⟨S32x4x4x128x1, .f32⟩
  | 1 => ⟨S32x4x4x128x1, .f32⟩
  | 2 => ⟨S32x4x64x4x128, .f32⟩
  | 3 => ⟨S32x128x4x4x64, .f32⟩
  | 4 => ⟨S4096x1024, .f32⟩
  | 5 => ⟨S4096x1024, .f32⟩
  | 6 => ⟨S32x128x4x4x64, .f32⟩
  | 7 => ⟨S32x4x64x4x128, .f32⟩
  | 8 => ⟨S32x4x4x128x256, .f32⟩
  | 9 => ⟨S32x4x64x256, .f32⟩
  | 10 => ⟨S32x256x4x64, .f32⟩
  | 11 => ⟨S32x4x4x128x256, .f32⟩
  | 12 => ⟨S32x4x4x128x256, .f32⟩
  | 13 => ⟨S32x4x4x128x256, .f32⟩
  | 14 => ⟨S_, .f32⟩
  | 15 => ⟨S32x4x4x128, .f32⟩
  | 16 => ⟨S32x4x4x128x1, .f32⟩
  | 17 => ⟨S32x4x4x128x1, .f32⟩
  | 18 => ⟨S32x4x4x128x256, .f32⟩
  | 19 => ⟨S32x4x4x128x256, .f32⟩
  | 20 => ⟨S_, .f32⟩
  | 21 => ⟨S32x4x4x128, .f32⟩
  | 22 => ⟨S32x4x4x128, .f32⟩
  | 23 => ⟨S_, .f32⟩
  | 24 => ⟨S4x4x128, .f32⟩
  | 25 => ⟨S1x4x4x128, .f32⟩
  | 26 => ⟨S32x4x4x128, .f32⟩
  | 27 => ⟨S_, .f32⟩
  | 28 => ⟨S4x4x128, .f32⟩
  | 29 => ⟨S32x4x4x128x256, .f32⟩
  | 30 => ⟨S32x4x4x128x256, .f32⟩
  | 31 => ⟨S32x4x4x128x256, .f32⟩
  | 32 => ⟨S32x4x4x128x256, .f32⟩
  | 33 => ⟨S_, .f32⟩
  | 34 => ⟨S32x4x4x128, .f32⟩
  | 35 => ⟨S32x4x4x128x1, .f32⟩
  | 36 => ⟨S_, .f32⟩
  | 37 => ⟨S32x4x4x128, .f32⟩
  | 38 => ⟨S32x4x4x128, .f32⟩
  | 39 => ⟨S32x4x4x128, .f32⟩
  | 40 => ⟨S_, .f32⟩
  | 41 => ⟨S4x4x128, .f32⟩
  | 42 => ⟨S1x4x4x128, .f32⟩
  | 43 => ⟨S32x4x4x128, .f32⟩
  | 44 => ⟨S_, .f32⟩
  | 45 => ⟨S4x4x128, .f32⟩
  | 46 => ⟨S4x4x128, .f32⟩
  | 47 => ⟨S32x4x4x128, .f32⟩
  | 48 => ⟨S32x4x4x128x256, .f32⟩
  | 49 => ⟨S32x4x4x128x256, .f32⟩
  | 50 => ⟨S32x4x4x128x256, .f32⟩
  | 51 => ⟨S_, .f32⟩
  | 52 => ⟨S32x4x4x128x256, .f32⟩
  | 53 => ⟨S32x4x4x128x256, .f32⟩
  | 54 => ⟨S_, .f32⟩
  | 55 => ⟨S4x4x128x256, .f32⟩
  | 56 => ⟨S1x4x4x128x256, .f32⟩
  | 57 => ⟨S_, .f32⟩
  | 58 => ⟨S4x4x128x256, .f32⟩
  | 59 => ⟨S_, .f32⟩
  | 60 => ⟨S32x4x4x128x256, .f32⟩
  | 61 => ⟨S32x4x4x128x256, .f32⟩
  | 62 => ⟨S32x4x256x128x4, .f32⟩
  | 63 => ⟨S32x4x128x4x64, .f32⟩
  | 64 => ⟨S32x128x4x4x64, .f32⟩
  | 65 => ⟨S32x4x256x64, .f32⟩
  | 66 => ⟨S32x256x4x64, .f32⟩
  | 67 => ⟨S32x128x4x64, .f32⟩
  | 68 => ⟨S32x128x4x64, .f32⟩
  | 69 => ⟨S32x128x4x64, .f32⟩
  | 70 => ⟨S32x128x4x64, .f32⟩
  | 71 => ⟨S4096x1024, .f32⟩
  | 72 => ⟨S4096x1024, .bf16⟩
  | 73 => ⟨S4096x256, .f32⟩
  | 74 => ⟨S4096x256, .f32⟩
  | 75 => ⟨S4096x256, .f32⟩
  | 76 => ⟨S4096x256, .f32⟩
  | 77 => ⟨S2048x256, .f32⟩
  | 78 => ⟨S2048x1, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call0_v0 : Ref sig .tc := ⟨.hbm, 71, rfl⟩
abbrev main_v57_1 : Ref sig .tc := ⟨.hbm, 72, rfl⟩
abbrev main_call0_v2 : Ref sig .tc := ⟨.hbm, 73, rfl⟩
abbrev main_v57_0 : Ref sig .tc := ⟨.hbm, 74, rfl⟩
abbrev main_call0_cst : Ref sig .tc := ⟨.hbm, 75, rfl⟩
abbrev main_v57_2 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_17 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_18 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_19 : Ref sig .tc := ⟨.hbm, 148, rfl⟩
abbrev main_v118 : Ref sig .tc := ⟨.hbm, 149, rfl⟩
abbrev main_v119 : Ref sig .tc := ⟨.hbm, 150, rfl⟩
abbrev main_cst_20 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_21 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_22 : Ref sig .tc := ⟨.hbm, 161, rfl⟩
abbrev main_v128 : Ref sig .tc := ⟨.hbm, 162, rfl⟩
abbrev main_v129 : Ref sig .tc := ⟨.hbm, 163, rfl⟩
abbrev main_cst_23 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_24 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_25 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_call1_cst : Ref sig .tc := ⟨.hbm, 179, rfl⟩
abbrev main_call1_v0 : Ref sig .tc := ⟨.hbm, 180, rfl⟩
abbrev main_v142 : Ref sig .tc := ⟨.hbm, 181, rfl⟩
abbrev main_cst_26 : Ref sig .tc := ⟨.hbm, 182, rfl⟩
abbrev main_v143 : Ref sig .tc := ⟨.hbm, 183, rfl⟩
abbrev main_v144 : Ref sig .tc := ⟨.hbm, 184, rfl⟩
abbrev main_cst_27 : Ref sig .tc := ⟨.hbm, 185, rfl⟩
abbrev main_v145 : Ref sig .tc := ⟨.hbm, 186, rfl⟩
abbrev main_cst_28 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩

abbrev nD : Nat := 1
abbrev τ : Topo := Topo.v7x

variable {F : FTy → Type} [FloatOps F]
-- ==== Kernel2.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .hbm, ⟨8, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x2048 : Shape := ⟨2, ![4096, 2048]⟩
abbrev S1024x2048 : Shape := ⟨2, ![1024, 2048]⟩
abbrev S2x2048x1024 : Shape := ⟨3, ![2, 2048, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x2048x1024, .bf16⟩
  | .local _ .vmem, ⟨3, _⟩ => ⟨S2x2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x8192, .f32⟩
  | .hbm, ⟨6, _⟩ => ⟨S4096x2048, .f32⟩
  | .hbm, ⟨7, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S8x2048x1024 : Shape := ⟨3, ![8, 2048, 1024]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S4096x6144 : Shape := ⟨2, ![4096, 6144]⟩
abbrev S8x2048x768 : Shape := ⟨3, ![8, 2048, 768]⟩
abbrev S2048x2048 : Shape := ⟨2, ![2048, 2048]⟩
abbrev S2048x768 : Shape := ⟨2, ![2048, 768]⟩
abbrev S1x2048x768 : Shape := ⟨3, ![1, 2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | .hbm, ⟨11, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x6144 : Shape := ⟨2, ![4096, 6144]⟩
abbrev S2048x6144 : Shape := ⟨2, ![2048, 6144]⟩
abbrev S2048x8x768 : Shape := ⟨3, ![2048, 8, 768]⟩
abbrev S8x2048x768 : Shape := ⟨3, ![8, 2048, 768]⟩
abbrev S4096x2048 : Shape := ⟨2, ![4096, 2048]⟩
abbrev S1024x1536 : Shape := ⟨2, ![1024, 1536]⟩
abbrev S2x2048x768 : Shape := ⟨3, ![2, 2048, 768]⟩
abbrev S1024x2048 : Shape := ⟨2, ![1024, 2048]⟩
abbrev S1024x768 : Shape := ⟨2, ![1024, 768]⟩
abbrev S1x2048x768 : Shape := ⟨3, ![1, 2048, 768]⟩
abbrev S2048x768 : Shape := ⟨2, ![2048, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .f32⟩
  | .hbm, ⟨2, _⟩ => ⟨S2048x8x768, .f32⟩
  | .hbm, ⟨3, _⟩ => ⟨S8x2048x768, .f32⟩
  | .hbm, ⟨4, _⟩ => ⟨S8x2048x768, .bf16⟩
  | .hbm, ⟨5, _⟩ => ⟨S4096x2048, .bf16⟩
  | .local _ .vmem, ⟨0, _⟩ => ⟨S1024x1536, .bf16⟩
  | .local _ .vmem, ⟨1, _⟩ => ⟨S1024x1536, .bf16⟩
  | .local _ .vmem, ⟨2, _⟩ => ⟨S2x2048x768, .bf16⟩
  | .local _ .vmem, ⟨3, _⟩ => ⟨S2x2048x768, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .f32⟩
  | .hbm, ⟨2, _⟩ => ⟨S_, .f32⟩
  | .hbm, ⟨3, _⟩ => ⟨S4096x2048, .f32⟩
  | .hbm, ⟨4, _⟩ => ⟨S4096x6144, .f32⟩
  | .hbm, ⟨5, _⟩ => ⟨S4096x6144, .f32⟩
  | .hbm, ⟨6, _⟩ => ⟨S4096x2048, .f32⟩
  | .hbm, ⟨7, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S4096x8192, .bf16⟩
  | .hbm, ⟨6, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S8192x2048, .bf16⟩
  | .hbm, ⟨3, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x8192, .f32⟩
  | .hbm, ⟨3, _⟩ => ⟨S4096x2048, .f32⟩
  | .hbm, ⟨4, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x2048 : Shape := ⟨2, ![4096, 2048]⟩
abbrev S2048x6144 : Shape := ⟨2, ![2048, 6144]⟩
abbrev S1x6144 : Shape := ⟨2, ![1, 6144]⟩
abbrev S2048x8x768 : Shape := ⟨3, ![2048, 8, 768]⟩
abbrev S8x2048x768 : Shape := ⟨3, ![8, 2048, 768]⟩
abbrev S4096x6144 : Shape := ⟨2, ![4096, 6144]⟩
abbrev S2048x2048 : Shape := ⟨2, ![2048, 2048]⟩
abbrev S1x2048x768 : Shape := ⟨3, ![1, 2048, 768]⟩
abbrev S1x768 : Shape := ⟨2, ![1, 768]⟩
abbrev S2048x768 : Shape := ⟨2, ![2048, 768]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S1x6144, .f32⟩
  | .hbm, ⟨3, _⟩ => ⟨S2048x8x768, .f32⟩
  | .hbm, ⟨4, _⟩ => ⟨S8x2048x768, .f32⟩
  | .hbm, ⟨5, _⟩ => ⟨S8x2048x768, .bf16⟩
  | .hbm, ⟨6, _⟩ => ⟨S4096x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x768, .f32⟩
  | .local _ .vmem, ⟨5, _⟩ => ⟨S1x768, .f32⟩
  | .local _ .vmem, ⟨6, _⟩ => ⟨S2048x768, .bf16⟩
  | .local _ .vmem, ⟨7, _⟩ => ⟨S2048x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S2048x6144 : Shape := ⟨2, ![2048, 6144]⟩
abbrev S1x6144 : Shape := ⟨2, ![1, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S1x6144, .f32⟩
  | .hbm, ⟨3, _⟩ => ⟨S4096x2048, .f32⟩
  | .hbm, ⟨4, _⟩ => ⟨S4096x6144, .f32⟩
  | .hbm, ⟨5, _⟩ => ⟨S4096x6144, .f32⟩
  | .hbm, ⟨6, _⟩ => ⟨S4096x6144, .f32⟩
  | .hbm, ⟨7, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8x88x2048 : Shape := ⟨3, ![8, 88, 2048]⟩
abbrev S88x2048 : Shape := ⟨2, ![88, 2048]⟩
abbrev S1x88x2048 : Shape := ⟨3, ![1, 88, 2048]⟩
abbrev S1x8x2048 : Shape := ⟨3, ![1, 8, 2048]⟩
abbrev S8x2048 : Shape := ⟨2, ![8, 2048]⟩

abbrev nBuf : Space → Nat
  | .hbm => 8
  | .vmem => 15
  | .smem => 0
  | _ => 0

abbrev bufTy : (tb : Table) → Fin (tcTables nBuf tb) → BufTy
  | .hbm, ⟨0, _⟩ => ⟨S8x88x2048, .f32⟩
  | .hbm, ⟨1, _⟩ => ⟨S88x2048, .f32⟩
  | .hbm, ⟨2, _⟩ => ⟨S88x2048, .f32⟩
  | .hbm, ⟨3, _⟩ => ⟨S88x2048, .f32⟩
  | .hbm, ⟨4, _⟩ => ⟨S88x2048, .f32⟩
  | .hbm, ⟨5, _⟩ => ⟨S88x2048, .f32⟩
  | .hbm, ⟨6, _⟩ => ⟨S88x2048, .f32⟩
  | .hbm, ⟨7, _⟩ => ⟨S88x2048, .f32⟩
  | .local _ .vmem, ⟨0, _⟩ => ⟨S1x88x2048, .f32⟩
  | .local _ .vmem, ⟨1, _⟩ => ⟨S1x88x2048, .f32⟩
  | .local _ .vmem, ⟨2, _⟩ => ⟨S1x88x2048, .f32⟩
  | .local _ .vmem, ⟨3, _⟩ => ⟨S1x88x2048, .f32⟩
  | .local _ .vmem, ⟨4, _⟩ => ⟨S1x88x2048, .f32⟩
  | .local _ .vmem, ⟨5, _⟩ => ⟨S1x88x2048, .f32⟩
  | .local _ .vmem, ⟨6, _⟩ => ⟨S1x88x2048, .f32⟩
  | .local _ .vmem, ⟨7, _⟩ => ⟨S1x88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | _, _ => ⟨S8x88x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c11_i32 : BitVec 32 := 11#32
  let v0 : BitVec 32 := Scalar.addi c0_i32 c11_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32 : BitVec 32 := 8#32
  let v1 : BitVec 32 := Scalar.muli arg16 c8_i32
  v1
def k0_off1 (k0_t1 : Fin k0_t1_loop.trips) : Fin 3 → Nat :=
  let c0 : Index := 0#32
  let c0_i32 : BitVec 32 := 0#32
  let c1_i32 : BitVec 32 := 1#32
  let arg16 : BitVec 32 := Scf.iv c0_i32 c1_i32 k0_t1
  let c8_i32 : BitVec 32 := 8#32
  let v1 : BitVec 32 := Scalar.muli arg16 c8_i32
  let v2 : BitVec 32 := v1
  let v3 : Index := Scalar.indexCast v2
  let c0_1 : Index := 0#32
  ![0, v3.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c8_i32 : BitVec 32 := 8#32
  let v1 : BitVec 32 := Scalar.muli arg16 c8_i32
  let v2 : BitVec 32 := v1
  let v27 : Index := Scalar.indexCast v2
  let c0_16 : Index := 0#32
  ![v27.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x88x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x88x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x88x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x88x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x88x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x88x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x88x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x88x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S88x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S88x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S88x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S88x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S88x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S88x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S88x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference11Ideal.lean ====
abbrev S8x88x2048 : Shape := ⟨3, ![8, 88, 2048]⟩
abbrev S88x2048 : Shape := ⟨2, ![88, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x88x2048, .f32⟩
  | .hbm, ⟨1, _⟩ => ⟨S88x2048, .f32⟩
  | .hbm, ⟨2, _⟩ => ⟨S88x2048, .f32⟩
  | .hbm, ⟨3, _⟩ => ⟨S88x2048, .f32⟩
  | .hbm, ⟨4, _⟩ => ⟨S_, .f32⟩
  | .hbm, ⟨5, _⟩ => ⟨S88x2048, .f32⟩
  | .hbm, ⟨6, _⟩ => ⟨S_, .f32⟩
  | .hbm, ⟨7, _⟩ => ⟨S88x2048, .f32⟩
  | .hbm, ⟨8, _⟩ => ⟨S88x2048, .f32⟩
  | .hbm, ⟨9, _⟩ => ⟨S_, .f32⟩
  | .hbm, ⟨10, _⟩ => ⟨S88x2048, .f32⟩
  | .hbm, ⟨11, _⟩ => ⟨S88x2048, .f32⟩
  | .hbm, ⟨12, _⟩ => ⟨S88x2048, .f32⟩
  | .hbm, ⟨13, _⟩ => ⟨S_, .f32⟩
  | .hbm, ⟨14, _⟩ => ⟨S88x2048, .f32⟩
  | .hbm, ⟨15, _⟩ => ⟨S88x2048, .f32⟩
  | .hbm, ⟨16, _⟩ => ⟨S88x2048, .f32⟩
  | .hbm, ⟨17, _⟩ => ⟨S_, .f32⟩
  | .hbm, ⟨18, _⟩ => ⟨S88x2048, .f32⟩
  | .hbm, ⟨19, _⟩ => ⟨S88x2048, .f32⟩
  | .hbm, ⟨20, _⟩ => ⟨S88x2048, .f32⟩
  | .hbm, ⟨21, _⟩ => ⟨S_, .f32⟩
  | .hbm, ⟨22, _⟩ => ⟨S88x2048, .f32⟩
  | .hbm, ⟨23, _⟩ => ⟨S88x2048, .f32⟩
  | .hbm, ⟨24, _⟩ => ⟨S_, .f32⟩
  | .hbm, ⟨25, _⟩ => ⟨S88x2048, .f32⟩
  | .hbm, ⟨26, _⟩ => ⟨S88x2048, .f32⟩
  | .hbm, ⟨27, _⟩ => ⟨S88x2048, .f32⟩
  | .hbm, ⟨28, _⟩ => ⟨S_, .f32⟩
  | .hbm, ⟨29, _⟩ => ⟨S88x2048, .f32⟩
  | .hbm, ⟨30, _⟩ => ⟨S88x2048, .f32⟩
  | .hbm, ⟨31, _⟩ => ⟨S88x2048, .f32⟩
  | .hbm, ⟨32, _⟩ => ⟨S_, .f32⟩
  | .hbm, ⟨33, _⟩ => ⟨S88x2048, .f32⟩
  | .hbm, ⟨34, _⟩ => ⟨S88x2048, .f32⟩
  | .hbm, ⟨35, _⟩ => ⟨S88x2048, .f32⟩
  | .hbm, ⟨36, _⟩ => ⟨S_, .f32⟩
  | .hbm, ⟨37, _⟩ => ⟨S88x2048, .f32⟩
  | .hbm, ⟨38, _⟩ => ⟨S88x2048, .f32⟩
  | _, _ => ⟨S8x88x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S2048x1536 : Shape := ⟨2, ![2048, 1536]⟩
abbrev S128x1536 : Shape := ⟨2, ![128, 1536]⟩
abbrev S16x1536 : Shape := ⟨2, ![16, 1536]⟩
abbrev S8x1536 : Shape := ⟨2, ![8, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32 : BitVec 32 := 16#32
  let v1 : BitVec 32 := Scalar.muli arg9 c16_i32
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v1 : BitVec 32 := Scalar.muli arg9 c16_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1 : Shape := ⟨1, ![1]⟩
abbrev S8x2048x768 : Shape := ⟨3, ![8, 2048, 768]⟩
abbrev S2048x768 : Shape := ⟨2, ![2048, 768]⟩
abbrev S1x256x768 : Shape := ⟨3, ![1, 256, 768]⟩
abbrev S256x768 : Shape := ⟨2, ![256, 768]⟩
abbrev S1x16x768 : Shape := ⟨3, ![1, 16, 768]⟩
abbrev S16x768 : Shape := ⟨2, ![16, 768]⟩
abbrev S8x768 : Shape := ⟨2, ![8, 768]⟩

abbrev nBuf : Space → Nat
  | .hbm => 9
  | .vmem => 30
  | .smem => 1
  | _ => 0

abbrev bufTy : (tb : Table) → Fin (tcTables nBuf tb) → BufTy
  | .hbm, ⟨0, _⟩ => ⟨S8x2048x768, .bf16⟩
  | .hbm, ⟨1, _⟩ => ⟨S8x2048x768, .bf16⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S1x256x768, .bf16⟩
  | .local _ .vmem, ⟨1, _⟩ => ⟨S1x256x768, .bf16⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x256x768, .bf16⟩
  | .local _ .vmem, ⟨7, _⟩ => ⟨S1x256x768, .bf16⟩
  | .local _ .vmem, ⟨8, _⟩ => ⟨S1x256x768, .bf16⟩
  | .local _ .vmem, ⟨9, _⟩ => ⟨S1x256x768, .bf16⟩
  | .local _ .vmem, ⟨10, _⟩ => ⟨S1x256x768, .bf16⟩
  | .local _ .vmem, ⟨11, _⟩ => ⟨S1x256x768, .bf16⟩
  | .local _ .vmem, ⟨12, _⟩ => ⟨S1x256x768, .bf16⟩
  | .local _ .vmem, ⟨13, _⟩ => ⟨S1x256x768, .bf16⟩
  | .local _ .vmem, ⟨14, _⟩ => ⟨S1x256x768, .bf16⟩
  | .local _ .vmem, ⟨15, _⟩ => ⟨S1x256x768, .bf16⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .vmem, ⟨22, _⟩ => ⟨S256x768, .f32⟩
  | .local _ .vmem, ⟨23, _⟩ => ⟨S256x768, .f32⟩
  | .local _ .vmem, ⟨24, _⟩ => ⟨S256x768, .f32⟩
  | .local _ .vmem, ⟨25, _⟩ => ⟨S256x768, .f32⟩
  | .local _ .vmem, ⟨26, _⟩ => ⟨S256x768, .f32⟩
  | .local _ .vmem, ⟨27, _⟩ => ⟨S256x768, .f32⟩
  | .local _ .vmem, ⟨28, _⟩ => ⟨S256x768, .f32⟩
  | .local _ .vmem, ⟨29, _⟩ => ⟨S256x768, .f32⟩
  | .local _ .smem, ⟨0, _⟩ => ⟨S1, .i32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c16_i32_1 : BitVec 32 := 16#32
  let v1 : BitVec 32 := Scalar.muli arg17 c16_i32_1
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c16_i32_1 : BitVec 32 := 16#32
  let v1 : BitVec 32 := Scalar.muli arg17 c16_i32_1
  let v2 : BitVec 32 := v1
  let v3 : Index := Scalar.indexCast v2
  let c0_2 : Index := 0#32
  ![0, v3.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c16_i32_1 : BitVec 32 := 16#32
  let v1 : BitVec 32 := Scalar.muli arg17 c16_i32_1
  let v2 : BitVec 32 := v1
  let v35 : Index := Scalar.indexCast v2
  let c0_17 : Index := 0#32
  ![v35.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .sle v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 1 := Scalar.cmpi .sle v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 1 := Scalar.cmpi .sle v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 1 := Scalar.cmpi .sle v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference13Ideal.lean ====
abbrev S1 : Shape := ⟨1, ![1]⟩
abbrev S8x2048x768 : Shape := ⟨3, ![8, 2048, 768]⟩
abbrev S2048x768 : Shape := ⟨2, ![2048, 768]⟩
abbrev S8 : Shape := ⟨1, ![8]⟩
abbrev S_ : Shape := ⟨0, ![]⟩
abbrev S8x1x1 : Shape := ⟨3, ![8, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x2048x768, .bf16⟩
  | .hbm, ⟨2, _⟩ => ⟨S8x2048x768, .bf16⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x2048x768, .f32⟩
  | .hbm, ⟨12, _⟩ => ⟨S8x2048x768, .f32⟩
  | .hbm, ⟨13, _⟩ => ⟨S8x2048x768, .i1⟩
  | .hbm, ⟨14, _⟩ => ⟨S8x2048x768, .f32⟩
  | .hbm, ⟨15, _⟩ => ⟨S_, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S2048x768, .f32⟩
  | .hbm, ⟨39, _⟩ => ⟨S_, .f32⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S_, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S_, .f32⟩
  | .hbm, ⟨48, _⟩ => ⟨S2048x768, .f32⟩
  | .hbm, ⟨49, _⟩ => ⟨S2048x768, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel14.lean ====
abbrev S1 : Shape := ⟨1, ![1]⟩
abbrev S8x2048x1024 : Shape := ⟨3, ![8, 2048, 1024]⟩
abbrev S2048x1024 : Shape := ⟨2, ![2048, 1024]⟩
abbrev S1x256x1024 : Shape := ⟨3, ![1, 256, 1024]⟩
abbrev S256x1024 : Shape := ⟨2, ![256, 1024]⟩
abbrev S1x16x1024 : Shape := ⟨3, ![1, 16, 1024]⟩
abbrev S16x1024 : Shape := ⟨2, ![16, 1024]⟩
abbrev S8x1024 : Shape := ⟨2, ![8, 1024]⟩

abbrev nBuf : Space → Nat
  | .hbm => 9
  | .vmem => 30
  | .smem => 1
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .smem, ⟨0, _⟩ => ⟨S1, .i32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c16_i32_1 : BitVec 32 := 16#32
  let v1 : BitVec 32 := Scalar.muli arg17 c16_i32_1
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c16_i32_1 : BitVec 32 := 16#32
  let v1 : BitVec 32 := Scalar.muli arg17 c16_i32_1
  let v2 : BitVec 32 := v1
  let v3 : Index := Scalar.indexCast v2
  let c0_2 : Index := 0#32
  ![0, v3.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c16_i32_1 : BitVec 32 := 16#32
  let v1 : BitVec 32 := Scalar.muli arg17 c16_i32_1
  let v2 : BitVec 32 := v1
  let v35 : Index := Scalar.indexCast v2
  let c0_17 : Index := 0#32
  ![v35.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .sle v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 1 := Scalar.cmpi .sle v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 1 := Scalar.cmpi .sle v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 1 := Scalar.cmpi .sle v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference14Ideal.lean ====
abbrev S1 : Shape := ⟨1, ![1]⟩
abbrev S8x2048x1024 : Shape := ⟨3, ![8, 2048, 1024]⟩
abbrev S2048x1024 : Shape := ⟨2, ![2048, 1024]⟩
abbrev S8 : Shape := ⟨1, ![8]⟩
abbrev S_ : Shape := ⟨0, ![]⟩
abbrev S8x1x1 : Shape := ⟨3, ![8, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x2048x1024, .bf16⟩
  | .hbm, ⟨2, _⟩ => ⟨S8x2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x2048x1024, .f32⟩
  | .hbm, ⟨12, _⟩ => ⟨S8x2048x1024, .f32⟩
  | .hbm, ⟨13, _⟩ => ⟨S8x2048x1024, .i1⟩
  | .hbm, ⟨14, _⟩ => ⟨S8x2048x1024, .f32⟩
  | .hbm, ⟨15, _⟩ => ⟨S_, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel15.lean ====
abbrev S1 : Shape := ⟨1, ![1]⟩
abbrev S8x1024x2048 : Shape := ⟨3, ![8, 1024, 2048]⟩
abbrev S1024x2048 : Shape := ⟨2, ![1024, 2048]⟩
abbrev S1x128x2048 : Shape := ⟨3, ![1, 128, 2048]⟩
abbrev S128x2048 : Shape := ⟨2, ![128, 2048]⟩
abbrev S1x16x2048 : Shape := ⟨3, ![1, 16, 2048]⟩
abbrev S16x2048 : Shape := ⟨2, ![16, 2048]⟩
abbrev S8x2048 : Shape := ⟨2, ![8, 2048]⟩

abbrev nBuf : Space → Nat
  | .hbm => 9
  | .vmem => 30
  | .smem => 1
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .smem, ⟨0, _⟩ => ⟨S1, .i32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v3 : Index := Scalar.indexCast v2
  let c0_1 : Index := 0#32
  ![0, v3.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v35 : Index := Scalar.indexCast v2
  let c0_16 : Index := 0#32
  ![v35.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .sle v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 1 := Scalar.cmpi .sle v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 1 := Scalar.cmpi .sle v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 1 := Scalar.cmpi .sle v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference15Ideal.lean ====
abbrev S1 : Shape := ⟨1, ![1]⟩
abbrev S8x1024x2048 : Shape := ⟨3, ![8, 1024, 2048]⟩
abbrev S1024x2048 : Shape := ⟨2, ![1024, 2048]⟩
abbrev S8 : Shape := ⟨1, ![8]⟩
abbrev S_ : Shape := ⟨0, ![]⟩
abbrev S8x1x1 : Shape := ⟨3, ![8, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x2048, .bf16⟩
  | .hbm, ⟨2, _⟩ => ⟨S8x1024x2048, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x1024x2048, .f32⟩
  | .hbm, ⟨12, _⟩ => ⟨S8x1024x2048, .f32⟩
  | .hbm, ⟨13, _⟩ => ⟨S8x1024x2048, .i1⟩
  | .hbm, ⟨14, _⟩ => ⟨S8x1024x2048, .f32⟩
  | .hbm, ⟨15, _⟩ => ⟨S_, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S_, .f32⟩
  | .hbm, ⟨48, _⟩ => ⟨S1024x2048, .f32⟩
  | .hbm, ⟨49, _⟩ => ⟨S1024x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel16.lean ====
abbrev S1 : Shape := ⟨1, ![1]⟩
abbrev S8x256x2048 : Shape := ⟨3, ![8, 256, 2048]⟩
abbrev S256x2048 : Shape := ⟨2, ![256, 2048]⟩
abbrev S1x128x2048 : Shape := ⟨3, ![1, 128, 2048]⟩
abbrev S128x2048 : Shape := ⟨2, ![128, 2048]⟩
abbrev S1x16x2048 : Shape := ⟨3, ![1, 16, 2048]⟩
abbrev S16x2048 : Shape := ⟨2, ![16, 2048]⟩
abbrev S8x2048 : Shape := ⟨2, ![8, 2048]⟩

abbrev nBuf : Space → Nat
  | .hbm => 9
  | .vmem => 30
  | .smem => 1
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v3 : Index := Scalar.indexCast v2
  let c0_1 : Index := 0#32
  ![0, v3.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v35 : Index := Scalar.indexCast v2
  let c0_16 : Index := 0#32
  ![v35.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .sle v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 1 := Scalar.cmpi .sle v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 1 := Scalar.cmpi .sle v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 1 := Scalar.cmpi .sle v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference16Ideal.lean ====
abbrev S1 : Shape := ⟨1, ![1]⟩
abbrev S8x256x2048 : Shape := ⟨3, ![8, 256, 2048]⟩
abbrev S256x2048 : Shape := ⟨2, ![256, 2048]⟩
abbrev S8 : Shape := ⟨1, ![8]⟩
abbrev S_ : Shape := ⟨0, ![]⟩
abbrev S8x1x1 : Shape := ⟨3, ![8, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x256x2048, .bf16⟩
  | .hbm, ⟨2, _⟩ => ⟨S8x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x256x2048, .f32⟩
  | .hbm, ⟨12, _⟩ => ⟨S8x256x2048, .f32⟩
  | .hbm, ⟨13, _⟩ => ⟨S8x256x2048, .i1⟩
  | .hbm, ⟨14, _⟩ => ⟨S8x256x2048, .f32⟩
  | .hbm, ⟨15, _⟩ => ⟨S_, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel17.lean ====
abbrev S1 : Shape := ⟨1, ![1]⟩
abbrev S8x1024x256 : Shape := ⟨3, ![8, 1024, 256]⟩
abbrev S1024x256 : Shape := ⟨2, ![1024, 256]⟩
abbrev S1x1024x256 : Shape := ⟨3, ![1, 1024, 256]⟩
abbrev S1x16x256 : Shape := ⟨3, ![1, 16, 256]⟩
abbrev S16x256 : Shape := ⟨2, ![16, 256]⟩
abbrev S8x256 : Shape := ⟨2, ![8, 256]⟩

abbrev nBuf : Space → Nat
  | .hbm => 9
  | .vmem => 15
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v3 : Index := Scalar.indexCast v2
  let c0_1 : Index := 0#32
  ![0, v3.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v35 : Index := Scalar.indexCast v2
  let c0_16 : Index := 0#32
  ![v35.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .sle v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 1 := Scalar.cmpi .sle v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 1 := Scalar.cmpi .sle v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 1 := Scalar.cmpi .sle v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1024x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1024x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1024x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference17Ideal.lean ====
abbrev S1 : Shape := ⟨1, ![1]⟩
abbrev S8x1024x256 : Shape := ⟨3, ![8, 1024, 256]⟩
abbrev S1024x256 : Shape := ⟨2, ![1024, 256]⟩
abbrev S8 : Shape := ⟨1, ![8]⟩
abbrev S_ : Shape := ⟨0, ![]⟩
abbrev S8x1x1 : Shape := ⟨3, ![8, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x256, .bf16⟩
  | .hbm, ⟨2, _⟩ => ⟨S8x1024x256, .bf16⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x1024x256, .f32⟩
  | .hbm, ⟨12, _⟩ => ⟨S8x1024x256, .f32⟩
  | .hbm, ⟨13, _⟩ => ⟨S8x1024x256, .i1⟩
  | .hbm, ⟨14, _⟩ => ⟨S8x1024x256, .f32⟩
  | .hbm, ⟨15, _⟩ => ⟨S_, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel18.lean ====
abbrev S1 : Shape := ⟨1, ![1]⟩
abbrev S8x512x256 : Shape := ⟨3, ![8, 512, 256]⟩
abbrev S512x256 : Shape := ⟨2, ![512, 256]⟩
abbrev S1x512x256 : Shape := ⟨3, ![1, 512, 256]⟩
abbrev S1x16x256 : Shape := ⟨3, ![1, 16, 256]⟩
abbrev S16x256 : Shape := ⟨2, ![16, 256]⟩
abbrev S8x256 : Shape := ⟨2, ![8, 256]⟩

abbrev nBuf : Space → Nat
  | .hbm => 9
  | .vmem => 15
  | .smem => 1
  | _ => 0

abbrev bufTy : (tb : Table) → Fin (tcTables nBuf tb) → BufTy
  | .hbm, ⟨0, _⟩ => ⟨S8x512x256, .bf16⟩
  | .hbm, ⟨1, _⟩ => ⟨S8x512x256, .bf16⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .smem, ⟨0, _⟩ => ⟨S1, .i32⟩
  | _, _ => ⟨S8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v3 : Index := Scalar.indexCast v2
  let c0_1 : Index := 0#32
  ![0, v3.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v35 : Index := Scalar.indexCast v2
  let c0_16 : Index := 0#32
  ![v35.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .sle v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 1 := Scalar.cmpi .sle v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 1 := Scalar.cmpi .sle v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 1 := Scalar.cmpi .sle v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference18Ideal.lean ====
abbrev S1 : Shape := ⟨1, ![1]⟩
abbrev S8x512x256 : Shape := ⟨3, ![8, 512, 256]⟩
abbrev S512x256 : Shape := ⟨2, ![512, 256]⟩
abbrev S8 : Shape := ⟨1, ![8]⟩
abbrev S_ : Shape := ⟨0, ![]⟩
abbrev S8x1x1 : Shape := ⟨3, ![8, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x512x256, .bf16⟩
  | .hbm, ⟨2, _⟩ => ⟨S8x512x256, .bf16⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x512x256, .f32⟩
  | .hbm, ⟨12, _⟩ => ⟨S8x512x256, .f32⟩
  | .hbm, ⟨13, _⟩ => ⟨S8x512x256, .i1⟩
  | .hbm, ⟨14, _⟩ => ⟨S8x512x256, .f32⟩
  | .hbm, ⟨15, _⟩ => ⟨S_, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S_, .f32⟩
  | .hbm, ⟨40, _⟩ => ⟨S512x256, .f32⟩
  | .hbm, ⟨41, _⟩ => ⟨S512x256, .f32⟩
  | .hbm, ⟨42, _⟩ => ⟨S512x256, .f32⟩
  | .hbm, ⟨43, _⟩ => ⟨S_, .f32⟩
  | .hbm, ⟨44, _⟩ => ⟨S512x256, .f32⟩
  | .hbm, ⟨45, _⟩ => ⟨S512x256, .f32⟩
  | .hbm, ⟨46, _⟩ => ⟨S512x256, .f32⟩
  | .hbm, ⟨47, _⟩ => ⟨S_, .f32⟩
  | .hbm, ⟨48, _⟩ => ⟨S512x256, .f32⟩
  | .hbm, ⟨49, _⟩ => ⟨S512x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel19.lean ====
abbrev S1 : Shape := ⟨1, ![1]⟩
abbrev S8x64x512 : Shape := ⟨3, ![8, 64, 512]⟩
abbrev S64x512 : Shape := ⟨2, ![64, 512]⟩
abbrev S1x64x512 : Shape := ⟨3, ![1, 64, 512]⟩
abbrev S1x16x512 : Shape := ⟨3, ![1, 16, 512]⟩
abbrev S16x512 : Shape := ⟨2, ![16, 512]⟩
abbrev S8x512 : Shape := ⟨2, ![8, 512]⟩

abbrev nBuf : Space → Nat
  | .hbm => 9
  | .vmem => 15
  | .smem => 1
  | _ => 0

abbrev bufTy : (tb : Table) → Fin (tcTables nBuf tb) → BufTy
  | .hbm, ⟨0, _⟩ => ⟨S8x64x512, .bf16⟩
  | .hbm, ⟨1, _⟩ => ⟨S8x64x512, .bf16⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S64x512, .f32⟩
  | .local _ .vmem, ⟨0, _⟩ => ⟨S1x64x512, .bf16⟩
  | .local _ .vmem, ⟨1, _⟩ => ⟨S1x64x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x64x512, .bf16⟩
  | .local _ .vmem, ⟨5, _⟩ => ⟨S1x64x512, .bf16⟩
  | .local _ .vmem, ⟨6, _⟩ => ⟨S1x64x512, .bf16⟩
  | .local _ .vmem, ⟨7, _⟩ => ⟨S1x64x512, .bf16⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .smem, ⟨0, _⟩ => ⟨S1, .i32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v3 : Index := Scalar.indexCast v2
  let c0_1 : Index := 0#32
  ![0, v3.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c16_i32 : BitVec 32 := 16#32
  let v1 : BitVec 32 := Scalar.muli arg17 c16_i32
  let v2 : BitVec 32 := v1
  let v35 : Index := Scalar.indexCast v2
  let c0_16 : Index := 0#32
  ![v35.toNat, 0]
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .sle v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .sle v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .sle v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .sle v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 1 := Scalar.cmpi .sle v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 1 := Scalar.cmpi .sle v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 1 := Scalar.cmpi .sle v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S64x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S64x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference19Ideal.lean ====
abbrev S1 : Shape := ⟨1, ![1]⟩
abbrev S8x64x512 : Shape := ⟨3, ![8, 64, 512]⟩
abbrev S64x512 : Shape := ⟨2, ![64, 512]⟩
abbrev S8 : Shape := ⟨1, ![8]⟩
abbrev S_ : Shape := ⟨0, ![]⟩
abbrev S8x1x1 : Shape := ⟨3, ![8, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x64x512, .bf16⟩
  | .hbm, ⟨2, _⟩ => ⟨S8x64x512, .bf16⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S8x64x512, .f32⟩
  | .hbm, ⟨12, _⟩ => ⟨S8x64x512, .f32⟩
  | .hbm, ⟨13, _⟩ => ⟨S8x64x512, .i1⟩
  | .hbm, ⟨14, _⟩ => ⟨S8x64x512, .f32⟩
  | .hbm, ⟨15, _⟩ => ⟨S_, .f32⟩
  | .hbm, ⟨16, _⟩ => ⟨S64x512, .f32⟩
  | .hbm, ⟨17, _⟩ => ⟨S_, .f32⟩
  | .hbm, ⟨18, _⟩ => ⟨S64x512, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S64x512, .f32⟩
  | .hbm, ⟨39, _⟩ => ⟨S_, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S_, .f32⟩
  | .hbm, ⟨44, _⟩ => ⟨S64x512, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Row.lean ====
/-
  One row of the attention, over the extended reals.  A row has 256 keys.  A key that may be seen has a real score and a
  key that may not has the score minus infinity.  The sink is one more real score without a value.  This module gives the
  maximum, the exponentials, the probabilities and the gradient of the scores as real numbers.
-/
module

public import Idealize.ShloMosaic.PureOps.Ideal
public import Idealize.ShloMosaic.PureOps.Ideal.Laws
public import Mathlib.Analysis.SpecialFunctions.Exp

@[expose] public section

noncomputable section

namespace Cert.Attn

open Idealize.ShloMosaic
open scoped BigOperators

/-- A finite sum of reals, read as an extended real, is the sum of the terms read so. -/
theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

/-! ### The row over the reals -/

section Reals

variable (σ : Fin 256 → ℝ) (v : Fin 256 → Prop) [DecidablePred v] (s : ℝ)

/-- The score of a key: its real score where it may be seen, else minus infinity. -/
def score (j : Fin 256) : EReal := if v j then (σ j : EReal) else ⊥

/-- The largest score of the row, the sink's among them. -/
def top (S : Fin 256 → EReal) (z : EReal) : EReal := max ((Finset.univ : Finset (Fin 256)).fold max ⊥ S) z

theorem fold_max_attained (S : Fin 256 → EReal) : ∃ j, (Finset.univ : Finset (Fin 256)).fold max ⊥ S = S j := by
  have h : ∀ t : Finset (Fin 256), t.fold max ⊥ S = ⊥ ∨ ∃ j ∈ t, t.fold max ⊥ S = S j := by
    intro t
    induction t using Finset.induction with
    | empty => exact Or.inl rfl
    | insert a t ha ih =>
      rw [Finset.fold_insert ha]
      rcases ih with h | ⟨j, hj, h⟩
      · right; refine ⟨a, Finset.mem_insert_self _ _, ?_⟩; rw [h]; simp
      · right
        rcases le_total (S a) (S j) with hl | hl
        · exact ⟨j, Finset.mem_insert_of_mem hj, by rw [h, max_eq_right hl]⟩
        · exact ⟨a, Finset.mem_insert_self _ _, by rw [h, max_eq_left hl]⟩
  rcases h Finset.univ with hb | ⟨j, -, hj⟩
  · refine ⟨0, ?_⟩
    rw [hb]
    have : S 0 ≤ (Finset.univ : Finset (Fin 256)).fold max ⊥ S := by
      rw [Finset.le_fold_max]; exact Or.inr ⟨0, Finset.mem_univ _, le_rfl⟩
    rw [hb] at this
    exact (le_bot_iff.mp this).symm
  · exact ⟨j, hj⟩

theorem top_real : ∃ M : ℝ, top (score σ v) (s : EReal) = (M : EReal) := by
  obtain ⟨j, hj⟩ := fold_max_attained (score σ v)
  unfold top
  rw [hj]
  unfold score
  split
  · exact ⟨max (σ j) s, (EReal.coe_strictMono.monotone.map_max).symm⟩
  · exact ⟨s, by simp⟩

/-- The largest score of the row as a real number. -/
def topR : ℝ := Classical.choose (top_real σ v s)

theorem top_eq : top (score σ v) (s : EReal) = (topR σ v s : EReal) := Classical.choose_spec (top_real σ v s)

/-- The exponential of a key. -/
def eR (j : Fin 256) : ℝ := if v j then Real.exp (σ j - topR σ v s) else 0

/-- The exponential of the sink. -/
def zR : ℝ := Real.exp (s - topR σ v s)

/-- The sum of the row's exponentials. -/
def dR : ℝ := ∑ j, eR σ v s j + zR σ v s

theorem eR_nonneg (j : Fin 256) : 0 ≤ eR σ v s j := by
  unfold eR; split
  · exact (Real.exp_pos _).le
  · exact le_rfl

theorem dR_pos : 0 < dR σ v s :=
  add_pos_of_nonneg_of_pos (Finset.sum_nonneg fun j _ => eR_nonneg σ v s j) (Real.exp_pos _)

/-- The probability of a key. -/
def pR (j : Fin 256) : ℝ := eR σ v s j / dR σ v s

theorem pR_masked {j : Fin 256} (h : ¬ v j) : pR σ v s j = 0 := by
  unfold pR eR; rw [if_neg h, zero_div]

theorem exp_score (j : Fin 256) : Ideal.exp (score σ v j - top (score σ v) (s : EReal)) = (eR σ v s j : EReal) := by
  rw [top_eq]
  unfold score eR
  split
  · rw [← EReal.coe_sub]; rfl
  · rw [show ((⊥ : EReal) - (topR σ v s : EReal)) = ⊥ from EReal.bot_sub _]; rfl

theorem exp_sink : Ideal.exp ((s : EReal) - top (score σ v) (s : EReal)) = (zR σ v s : EReal) := by
  rw [top_eq, ← EReal.coe_sub]; rfl

theorem den_eq : (∑ j, (eR σ v s j : EReal)) + (zR σ v s : EReal) = (dR σ v s : EReal) := by
  rw [← coe_sum, ← EReal.coe_add]; rfl

/-- A product of the gradient with the values, key by key, is given; the gradient of the scores. -/
def dsR (ct : Fin 256 → ℝ) (j : Fin 256) : ℝ := pR σ v s j * (ct j - ∑ k, pR σ v s k * ct k)

/-- The gradient of the sink. -/
def dzR (ct : Fin 256 → ℝ) : ℝ := -(zR σ v s * (1 / dR σ v s) * ∑ k, pR σ v s k * ct k)

theorem dsR_masked (ct : Fin 256 → ℝ) {j : Fin 256} (h : ¬ v j) : dsR σ v s ct j = 0 := by
  unfold dsR; rw [pR_masked σ v s h, zero_mul]

end Reals

/-! ### Division by a positive real -/

theorem div_coe_pos {y : ℝ} (h : 0 < y) (x : ℝ) : Ideal.div (x : EReal) (y : EReal) = ((x / y : ℝ) : EReal) := by
  rw [Ideal.div_coe h.ne', ← EReal.coe_mul]; congr 1; ring

/-! ### The gradient as automatic differentiation writes it -/

section Auto

variable (σ : Fin 256 → ℝ) (v : Fin 256 → Prop) [DecidablePred v] (s : ℝ) (ct : Fin 256 → ℝ)

/-- The derivative with respect to the sum of the exponentials. -/
def cR : ℝ := -∑ j, ct j * (1 / (dR σ v s * dR σ v s)) * eR σ v s j

theorem cR_eq : cR σ v s ct = -(∑ k, pR σ v s k * ct k) / dR σ v s := by
  have h := (dR_pos σ v s).ne'
  unfold cR pR
  rw [neg_div, Finset.sum_div]
  congr 1
  refine Finset.sum_congr rfl fun j _ => ?_
  field_simp

theorem auto_ds (j : Fin 256) : (ct j / dR σ v s + cR σ v s ct) * eR σ v s j = dsR σ v s ct j := by
  have h := (dR_pos σ v s).ne'
  rw [cR_eq]; unfold dsR
  generalize (∑ k, pR σ v s k * ct k) = a
  unfold pR
  field_simp
  ring

theorem auto_dz : cR σ v s ct * zR σ v s = dzR σ v s ct := by
  have h := (dR_pos σ v s).ne'
  rw [cR_eq]; unfold dzR
  field_simp

/-- The gradient that reaches the maximum is zero. -/
theorem auto_max : -(cR σ v s ct * zR σ v s) + ∑ j, -((ct j / dR σ v s + cR σ v s ct) * eR σ v s j) = 0 := by
  have h := (dR_pos σ v s).ne'
  have e1 : (∑ j, -((ct j / dR σ v s + cR σ v s ct) * eR σ v s j)) = -((∑ k, pR σ v s k * ct k) + cR σ v s ct * ∑ j, eR σ v s j) := by
    rw [Finset.sum_neg_distrib, Finset.mul_sum, ← Finset.sum_add_distrib]
    congr 1
    refine Finset.sum_congr rfl fun j _ => ?_
    unfold pR; ring
  have e2 : (∑ j, eR σ v s j) = dR σ v s - zR σ v s := by unfold dR; ring
  rw [e1, e2, cR_eq]
  field_simp
  ring

end Auto

/-! ### The gradient as the kernel computes it -/

section Kernel

variable (σ : Fin 256 → ℝ) (v : Fin 256 → Prop) [DecidablePred v] (s : ℝ)

theorem kernel_p (j : Fin 256) (E D : EReal) (hE : E = (eR σ v s j : EReal)) (hD : D = (dR σ v s : EReal)) :
    E * Ideal.div 1 D = (pR σ v s j : EReal) := by
  rw [hE, hD, ← EReal.coe_one, div_coe_pos (dR_pos σ v s), ← EReal.coe_mul]
  unfold pR; congr 1; ring

/-- The rows' sum of products with the output is the mean of the products with the values. -/
theorem delta_eq (y : Fin 64 → ℝ) (V : Fin 256 → Fin 64 → ℝ) :
    ∑ d, y d * (∑ j, V j d * pR σ v s j) = ∑ j, pR σ v s j * ∑ d, y d * V j d := by
  simp only [Finset.mul_sum]
  rw [Finset.sum_comm]
  refine Finset.sum_congr rfl fun j _ => Finset.sum_congr rfl fun d _ => ?_
  ring

/-- Where a key may not be seen its value does not matter. -/
theorem mean_congr (ct ct' : Fin 256 → ℝ) (h : ∀ j, v j → ct j = ct' j) :
    (∑ j, pR σ v s j * ct j) = ∑ j, pR σ v s j * ct' j := by
  refine Finset.sum_congr rfl fun j _ => ?_
  by_cases hv : v j
  · rw [h j hv]
  · rw [pR_masked σ v s hv, zero_mul, zero_mul]

theorem dsR_congr (ct ct' : Fin 256 → ℝ) (h : ∀ j, v j → ct j = ct' j) (j : Fin 256) :
    pR σ v s j * (ct j - ∑ k, pR σ v s k * ct' k) = dsR σ v s ct' j := by
  unfold dsR
  by_cases hv : v j
  · rw [h j hv]
  · rw [pR_masked σ v s hv, zero_mul, zero_mul]

end Kernel

end Cert.Attn

end
-- ==== Proof.Data.lean ====
/-
  The real arrays of the step and the attention over them.  Row `n` of blocks has 128 queries and 256 keys: the block before
  and the block itself.  Key `j` of block `n` is position `128 n + j - 128`; block 0 has no keys before it.
-/
module

public import proofs.«01_k».proof.Proof.Row

@[expose] public section

noncomputable section

namespace Cert.Attn

open Idealize.ShloMosaic
open scoped BigOperators

/-- The four arguments as real arrays: the projection, the sinks, the bias, the gradient of the output. -/
structure Data where
  X : ℕ → ℕ → ℝ
  z : ℕ → ℝ
  B : ℕ → ℕ → ℕ → ℕ → ℝ
  Y : ℕ → ℕ → ℝ

variable (D : Data)

/-- The query of head `4 h + g` at row `r` of block `n`. -/
def qX (n r h g d : ℕ) : ℝ := D.X (128 * n + r) ((4 * h + g) * 64 + d)

/-- The key (`o = 1024`) or the value (`o = 1280`) number `j` of block `n`; zero before the first block. -/
def kvX (o n j h d : ℕ) : ℝ := if 128 * n + j < 128 then 0 else D.X (128 * n + j - 128) (o + (64 * h + d))

/-- The gradient of the output of head `4 h + g` at row `r` of block `n`. -/
def yX (n r h g d : ℕ) : ℝ := D.Y (128 * n + r) ((4 * h + g) * 64 + d)

/-- The keys a query sees: the 128 before it and itself, from the first position on. -/
def seen (n r : ℕ) (j : Fin 256) : Prop := (r < j.val ∧ j.val ≤ r + 128) ∧ 128 ≤ 128 * n + j.val

instance (n r : ℕ) : DecidablePred (seen n r) := fun j => by unfold seen; infer_instance

/-- The scores of a row. -/
def scX (n r h g : ℕ) (j : Fin 256) : ℝ :=
  (∑ d : Fin 64, kvX D 1024 n j.val h d.val * qX D n r h g d.val) * (1 / 8) + D.B h g r j.val

/-- The products of the output's gradient with the values. -/
def ctX (n r h g : ℕ) (j : Fin 256) : ℝ := ∑ d : Fin 64, yX D n r h g d.val * kvX D 1280 n j.val h d.val

/-- The probabilities. -/
def pX (n r h g : ℕ) (j : Fin 256) : ℝ := pR (scX D n r h g) (seen n r) (D.z (4 * h + g)) j

/-- The gradient of the scores. -/
def dsX (n r h g : ℕ) (j : Fin 256) : ℝ := dsR (scX D n r h g) (seen n r) (D.z (4 * h + g)) (ctX D n r h g) j

/-- The gradient of the sink, row by row. -/
def dzX (n r h g : ℕ) : ℝ := dzR (scX D n r h g) (seen n r) (D.z (4 * h + g)) (ctX D n r h g)

/-- The attention's output. -/
def oX (n r h g d : ℕ) : ℝ := ∑ j : Fin 256, kvX D 1280 n j.val h d * pX D n r h g j

/-- The gradient of the queries. -/
def dqX (n r h g d : ℕ) : ℝ := ∑ j : Fin 256, dsX D n r h g j * (1 / 8) * kvX D 1024 n j.val h d

/-- The gradient of key `j` of block `n`. -/
def dkX (n h : ℕ) (j : Fin 256) (d : ℕ) : ℝ := ∑ r : Fin 128, ∑ g : Fin 4, dsX D n r.val h g.val j * (1 / 8) * qX D n r.val h g.val d

/-- The gradient of value `j` of block `n`. -/
def dvX (n h : ℕ) (j : Fin 256) (d : ℕ) : ℝ := ∑ r : Fin 128, ∑ g : Fin 4, yX D n r.val h g.val d * pX D n r.val h g.val j

/-- The gradient of the bias. -/
def dbX (h g r : ℕ) (j : Fin 256) : ℝ := ∑ n : Fin 32, dsX D n.val r h g j

/-- The gradient of the sinks, row by row. -/
def dsinkX (h g r : ℕ) : ℝ := ∑ n : Fin 32, dzX D n.val r h g

end Cert.Attn

end
-- ==== Proof.Ref1.lean ====
/-
  The reference's scores: the mask, the queries, the keys and the values at their indices.
-/
module

public import proofs.«01_k».proof.Proof.Data
public import proofs.«01_k».proof.Proof.Gen.ReferenceIdeal.Read
public import Idealize.ShloMosaic.Lib.Affine

@[expose] public section

set_option maxRecDepth 16384

noncomputable section

namespace Cert.Attn

open Idealize.ShloMosaic
open scoped BigOperators

theorem toInt_of {x : BitVec 32} {e : Int} (h : Affine.IsInt x e) : x.toInt = e := by
  unfold Affine.IsInt at h; exact h

/-- A word of a small natural number. -/
theorem int_ofNat (n : ℕ) (h : n < 2 ^ 20) : Affine.IsInt (BitVec.ofNat 32 n) (n : Int) := Affine.ofNat n ⟨rfl, by omega⟩

/-- The two comparisons of the band on words. -/
theorem band_word {r j : ℕ} (hr : r < 128) (hj : j < 256) :
    IntOp.andi (IntOp.cmpi .sge (IntOp.subi (IntOp.addi (BitVec.ofNat 32 r) 128#32) (BitVec.ofNat 32 j)) 0#32)
      (IntOp.cmpi .slt (IntOp.subi (IntOp.addi (BitVec.ofNat 32 r) 128#32) (BitVec.ofNat 32 j)) 128#32) = 1#1
      ↔ r < j ∧ j ≤ r + 128 := by
  have e : (IntOp.subi (IntOp.addi (BitVec.ofNat 32 r) 128#32) (BitVec.ofNat 32 j)).toInt = (r : Int) + 128 - j :=
    toInt_of (Affine.subi (Affine.addi (int_ofNat r (by omega)) (int_ofNat 128 (by omega)) ⟨rfl, by omega, by omega⟩)
      (int_ofNat j (by omega)) ⟨rfl, by omega, by omega⟩)
  rw [IntOp.andi_eq_one, IntOp.cmpi_sge, IntOp.cmpi_slt, e, show (0#32 : BitVec 32).toInt = 0 from rfl,
    show (128#32 : BitVec 32).toInt = 128 from rfl]
  omega

/-- The comparison that leaves out what lies before the first block. -/
theorem first_word {n j : ℕ} (hn : n < 32) (hj : j < 256) :
    IntOp.cmpi .sge (IntOp.subi (IntOp.addi (IntOp.muli (BitVec.ofNat 32 n) 128#32) (BitVec.ofNat 32 j)) 128#32) 0#32 = 1#1
      ↔ 128 ≤ 128 * n + j := by
  have e : (IntOp.subi (IntOp.addi (IntOp.muli (BitVec.ofNat 32 n) 128#32) (BitVec.ofNat 32 j)) 128#32).toInt
      = (n : Int) * 128 + j - 128 :=
    toInt_of (Affine.subi (Affine.addi (Affine.muli (int_ofNat n (by omega)) (int_ofNat 128 (by omega)) ⟨rfl, by omega, by omega⟩)
      (int_ofNat j (by omega)) ⟨rfl, by omega, by omega⟩) (int_ofNat 128 (by omega)) ⟨rfl, by omega, by omega⟩)
  rw [IntOp.cmpi_sge, e, show (0#32 : BitVec 32).toInt = 0 from rfl]
  omega

theorem X_congr (D : Data) {a a' b b' : ℕ} (ha : a = a') (hb : b = b') : ((D.X a b : ℝ) : EReal) = (D.X a' b' : ℝ) := by rw [ha, hb]
theorem Y_congr (D : Data) {a a' b b' : ℕ} (ha : a = a') (hb : b = b') : ((D.Y a b : ℝ) : EReal) = (D.Y a' b' : ℝ) := by rw [ha, hb]

/-- The word of minus infinity. -/
theorem bits_bot : Ideal.ofBits .f32 0xFF800000#32 = (⊥ : EReal) := by simp [Ideal.ofBits, Ideal.ieee]

/-- The word of one eighth. -/
theorem bits_eighth : Ideal.ofBits .f32 0x3E000000#32 = ((1 / 8 : ℝ) : EReal) := by
  simp [Ideal.ofBits, Ideal.ieee]
  rw [← EReal.coe_mul]; norm_num

/-- The word of one. -/
theorem bits_one : Ideal.ofBits .f32 0x3F800000#32 = (1 : EReal) := by
  simp [Ideal.ofBits, Ideal.ieee]
  rw [← EReal.coe_mul]; norm_num

end Cert.Attn

namespace Cert.Attn.Ref

open Idealize.ShloMosaic Cert.ReferenceIdeal Cert.ReferenceIdeal.Read
open scoped BigOperators

/-- The key of an index. -/
def key (i : S32x4x4x128x256.Idx) : Fin 256 := ⟨(i 4).val, by exact (i 4).isLt⟩

theorem mask_iff (i : S32x4x4x128x256.Idx) :
    val_main_v57_1 (F := Ideal) i = 1#1 ↔ seen (i 0).val (i 3).val (key i) := by
  rw [val_main_v57_1_apply, val_main_v56_apply, val_main_v55_apply, IntOp.andi_eq_one, val_main_v53_apply, val_main_v42_apply,
    val_main_v39_apply, val_main_v36_apply, val_main_v38_apply, val_main_v34_apply, val_main_v32_apply, val_main_v31_apply,
    val_main_v27_apply, val_main_v26_apply, val_main_v33_apply, val_main_v29_apply, val_main_v28_apply, val_main_v30_apply,
    val_main_v35_apply, val_main_v37_apply, val_main_v54_apply, val_main_v52_apply, val_main_v50_apply, val_main_v48_apply,
    val_main_v46_apply, val_main_v44_apply, val_main_v41_apply, val_main_v40_apply, val_main_v43_apply, val_main_v47_apply,
    val_main_v45_apply, val_main_v29_apply, val_main_v28_apply, val_main_v49_apply, val_main_v51_apply]
  exact and_congr (band_word (i 3).isLt (i 4).isLt) (first_word (i 0).isLt (i 4).isLt)

section

variable (D : Data) (x0 : (⟨S4096x6144, .bf16⟩ : BufTy).Contents (Elt Ideal)) (x1 : (⟨S16, .f32⟩ : BufTy).Contents (Elt Ideal))
  (x2 : (⟨S4x4x128x256, .f32⟩ : BufTy).Contents (Elt Ideal)) (x3 : (⟨S4096x1024, .bf16⟩ : BufTy).Contents (Elt Ideal))
  (h0 : ∀ i, x0 i = (D.X (i 0).val (i 1).val : EReal)) (h1 : ∀ i, x1 i = (D.z (i 0).val : EReal))
  (h2 : ∀ i, x2 i = (D.B (i 0).val (i 1).val (i 2).val (i 3).val : EReal)) (h3 : ∀ i, x3 i = (D.Y (i 0).val (i 1).val : EReal))

include h0 in
theorem v16_eq (i : S32x128x4x4x64.Idx) :
    val_main_v16 (F := Ideal) x0 i = (qX D (i 0).val (i 1).val (i 2).val (i 3).val (i 4).val : EReal) := by
  rw [val_main_v16_apply, val_main_v1_apply, val_main_v0_apply]
  have b0 : (i 0).val < 32 := (i 0).isLt; have b1 : (i 1).val < 128 := (i 1).isLt; have b2 : (i 2).val < 4 := (i 2).isLt
  have b3 : (i 3).val < 4 := (i 3).isLt; have b4 : (i 4).val < 64 := (i 4).isLt
  refine (h0 _).trans (X_congr D ?_ ?_) <;> dsimp only <;> omega

include h3 in
theorem v106_eq (i : S32x4x64x4x128.Idx) :
    val_main_v106 (F := Ideal) x3 i = (yX D (i 0).val (i 4).val (i 1).val (i 3).val (i 2).val : EReal) := by
  rw [val_main_v106_apply, val_main_v105_apply, val_main_v104_apply]
  have b0 : (i 0).val < 32 := (i 0).isLt; have b1 : (i 1).val < 4 := (i 1).isLt; have b2 : (i 2).val < 64 := (i 2).isLt
  have b3 : (i 3).val < 4 := (i 3).isLt; have b4 : (i 4).val < 128 := (i 4).isLt
  refine (h3 _).trans (Y_congr D ?_ ?_) <;> dsimp only <;> omega

/-- The array of keys (`o = 1024`) or of values (`o = 1280`) with a block of zeros before it. -/
def padded (o a b : ℕ) : ℝ := if a < 128 then 0 else D.X (a - 128) (o + b)

include h0 in
theorem v5_eq (i : S4224x256.Idx) : val_main_v5 (F := Ideal) x0 i = (padded D 1024 (i 0).val (i 1).val : EReal) := by
  unfold val_main_v5 padded
  have b0 : (i 0).val < 4224 := (i 0).isLt
  by_cases h : (i 0).val < 128
  · rw [if_pos h, concatenate_pair_apply_left (s₁ := S128x256) (s₂ := S4096x256) (t := S4224x256) 0 _ _ _ i rfl
      (fun a => match a with | ⟨0, _⟩ => ⟨(i 0).val, h⟩ | ⟨1, _⟩ => ⟨(i 1).val, (i 1).isLt⟩)
      (fun b => by match b with | ⟨0, _⟩ => rfl | ⟨1, _⟩ => rfl), val_main_v4_apply, val_main_cst_apply]
    exact Ideal.ofBits_zero_f32
  · rw [if_neg h, concatenate_pair_apply_right (s₁ := S128x256) (s₂ := S4096x256) (t := S4224x256) 0 _ _ _ i rfl rfl
      (fun a => match a with | ⟨0, _⟩ => ⟨(i 0).val - 128, by show (i 0).val - 128 < 4096; omega⟩ | ⟨1, _⟩ => ⟨(i 1).val, (i 1).isLt⟩)
      (fun b hb => by match b with | ⟨0, _⟩ => exact absurd rfl hb | ⟨1, _⟩ => rfl)
      (by show (i 0).val - 128 + 128 = (i 0).val; omega), val_main_v2_apply, val_main_v0_apply]
    exact h0 _

include h0 in
theorem v10_eq (i : S4224x256.Idx) : val_main_v10 (F := Ideal) x0 i = (padded D 1280 (i 0).val (i 1).val : EReal) := by
  unfold val_main_v10 padded
  have b0 : (i 0).val < 4224 := (i 0).isLt
  by_cases h : (i 0).val < 128
  · rw [if_pos h, concatenate_pair_apply_left (s₁ := S128x256) (s₂ := S4096x256) (t := S4224x256) 0 _ _ _ i rfl
      (fun a => match a with | ⟨0, _⟩ => ⟨(i 0).val, h⟩ | ⟨1, _⟩ => ⟨(i 1).val, (i 1).isLt⟩)
      (fun b => by match b with | ⟨0, _⟩ => rfl | ⟨1, _⟩ => rfl), val_main_v9_apply, val_main_cst_0_apply]
    exact Ideal.ofBits_zero_f32
  · rw [if_neg h, concatenate_pair_apply_right (s₁ := S128x256) (s₂ := S4096x256) (t := S4224x256) 0 _ _ _ i rfl rfl
      (fun a => match a with | ⟨0, _⟩ => ⟨(i 0).val - 128, by show (i 0).val - 128 < 4096; omega⟩ | ⟨1, _⟩ => ⟨(i 1).val, (i 1).isLt⟩)
      (fun b hb => by match b with | ⟨0, _⟩ => exact absurd rfl hb | ⟨1, _⟩ => rfl)
      (by show (i 0).val - 128 + 128 = (i 0).val; omega), val_main_v3_apply, val_main_v0_apply]
    exact h0 _

theorem padded_eq {o a b n j h d : ℕ} (ha : a = 128 * n + j) (hb : b = 64 * h + d) :
    ((padded D o a b : ℝ) : EReal) = (kvX D o n j h d : ℝ) := by
  subst ha; subst hb; rfl

/-- The place of row `j` of the block that an index of the window names. -/
def place (i : S32x256x4x64.Idx) (j : ℕ) (h : j < 128) : S32x128x4x64.Idx := fun a => match a with
  | ⟨0, _⟩ => ⟨(i 0).val, (i 0).isLt⟩
  | ⟨1, _⟩ => ⟨j, h⟩
  | ⟨2, _⟩ => ⟨(i 2).val, (i 2).isLt⟩
  | ⟨3, _⟩ => ⟨(i 3).val, (i 3).isLt⟩

/-- The window of block `n` is the block before it and the block itself. -/
theorem window {α : Type} (y₁ y₂ : S32x128x4x64.Idx → α) (hc : Shape.Concatenates [S32x128x4x64, S32x128x4x64] S32x256x4x64 1)
    (i : S32x256x4x64.Idx) (a : α)
    (h₁ : ∀ k : S32x128x4x64.Idx, (k 0).val = (i 0).val → (k 1).val = (i 1).val → (k 2).val = (i 2).val → (k 3).val = (i 3).val → y₁ k = a)
    (h₂ : ∀ k : S32x128x4x64.Idx, (k 0).val = (i 0).val → (k 1).val + 128 = (i 1).val → (k 2).val = (i 2).val → (k 3).val = (i 3).val → y₂ k = a) :
    concatenate S32x256x4x64 1 [⟨S32x128x4x64, y₁⟩, ⟨S32x128x4x64, y₂⟩] hc i = a := by
  have b1 : (i 1).val < 256 := (i 1).isLt
  by_cases h : (i 1).val < 128
  · rw [concatenate_pair_apply_left (s₁ := S32x128x4x64) (s₂ := S32x128x4x64) (t := S32x256x4x64) 1 _ _ _ i rfl
      (place i (i 1).val h)
      (fun b => by match b with | ⟨0, _⟩ => rfl | ⟨1, _⟩ => rfl | ⟨2, _⟩ => rfl | ⟨3, _⟩ => rfl)]
    exact h₁ _ rfl rfl rfl rfl
  · rw [concatenate_pair_apply_right (s₁ := S32x128x4x64) (s₂ := S32x128x4x64) (t := S32x256x4x64) 1 _ _ _ i rfl rfl
      (place i ((i 1).val - 128) (by omega))
      (fun b hb => by match b with | ⟨0, _⟩ => rfl | ⟨1, _⟩ => exact absurd rfl hb | ⟨2, _⟩ => rfl | ⟨3, _⟩ => rfl)
      (by show (i 1).val - 128 + 128 = (i 1).val; omega)]
    exact h₂ _ rfl (by show (i 1).val - 128 + 128 = (i 1).val; omega) rfl rfl

include h0 in
theorem v17_eq (i : S32x256x4x64.Idx) :
    val_main_v17 (F := Ideal) x0 i = (kvX D 1024 (i 0).val (i 1).val (i 2).val (i 3).val : EReal) := by
  unfold val_main_v17
  have b3 : (i 3).val < 64 := (i 3).isLt
  refine window _ _ _ i _ (fun k e0 e1 e2 e3 => ?_) (fun k e0 e1 e2 e3 => ?_)
  · rw [val_main_v7_apply, val_main_v6_apply]
    have c1 : (k 1).val < 128 := (k 1).isLt; have c2 : (k 2).val < 4 := (k 2).isLt; have c3 : (k 3).val < 64 := (k 3).isLt
    refine (v5_eq D x0 h0 _).trans (padded_eq D ?_ ?_) <;> dsimp only <;> omega
  · rw [val_main_v8_apply, val_main_v6_apply]
    have c1 : (k 1).val < 128 := (k 1).isLt; have c2 : (k 2).val < 4 := (k 2).isLt; have c3 : (k 3).val < 64 := (k 3).isLt
    refine (v5_eq D x0 h0 _).trans (padded_eq D ?_ ?_) <;> dsimp only <;> omega

include h0 in
theorem v18_eq (i : S32x256x4x64.Idx) :
    val_main_v18 (F := Ideal) x0 i = (kvX D 1280 (i 0).val (i 1).val (i 2).val (i 3).val : EReal) := by
  unfold val_main_v18
  have b3 : (i 3).val < 64 := (i 3).isLt
  refine window _ _ _ i _ (fun k e0 e1 e2 e3 => ?_) (fun k e0 e1 e2 e3 => ?_)
  · rw [val_main_v12_apply, val_main_v11_apply]
    have c1 : (k 1).val < 128 := (k 1).isLt; have c2 : (k 2).val < 4 := (k 2).isLt; have c3 : (k 3).val < 64 := (k 3).isLt
    refine (v10_eq D x0 h0 _).trans (padded_eq D ?_ ?_) <;> dsimp only <;> omega
  · rw [val_main_v13_apply, val_main_v11_apply]
    have c1 : (k 1).val < 128 := (k 1).isLt; have c2 : (k 2).val < 4 := (k 2).isLt; have c3 : (k 3).val < 64 := (k 3).isLt
    refine (v10_eq D x0 h0 _).trans (padded_eq D ?_ ?_) <;> dsimp only <;> omega

include h0 h2 in
/-- The scores before the mask. -/
theorem v25_eq (i : S32x4x4x128x256.Idx) :
    val_main_v25 (F := Ideal) x0 x2 i = (scX D (i 0).val (i 3).val (i 1).val (i 2).val (key i) : EReal) := by
  rw [val_main_v25_apply, val_main_v22_apply, val_main_v20_apply, val_main_v19_apply, val_main_v21_apply, val_main_cst_1_apply,
    val_main_v24_apply, val_main_v23_apply, h2]
  simp only [v16_eq D x0 h0, v17_eq D x0 h0]
  unfold scX
  rw [EReal.coe_add, EReal.coe_mul, coe_sum, ← bits_eighth]
  simp only [EReal.coe_mul]
  rfl

include h0 h2 in
/-- The scores. -/
theorem v57_eq (i : S32x4x4x128x256.Idx) :
    val_main_v57_0 (F := Ideal) x0 x2 i
      = score (scX D (i 0).val (i 3).val (i 1).val (i 2).val) (seen (i 0).val (i 3).val) (key i) := by
  rw [val_main_v57_0_apply, v25_eq D x0 x2 h0 h2]
  unfold Scalar.select score
  by_cases h : seen (i 0).val (i 3).val (key i)
  · rw [if_pos (show val_main_v57_1 (F := Ideal) i = 1 from (mask_iff i).mpr h), if_pos h]
  · rw [if_neg (show ¬ val_main_v57_1 (F := Ideal) i = 1 from fun hh => h ((mask_iff i).mp hh)), if_neg h, val_main_call0_v2_apply, val_main_call0_v0_apply, val_main_cst_7_apply]
    exact bits_bot

end

end Cert.Attn.Ref

end
-- ==== Proof.Kern1.lean ====
/-
  One work item of the kernel: one block of 128 queries against its 256 keys, for one head of keys and its four heads of
  queries.  The item's values are written with the kernel's own operations; at the ideal instance they are read at an index.
-/
module

public import proofs.«01_k».proof.Proof.Data
public import proofs.«01_k».proof.Proof.Ref1
public import proofs.«01_k».proof.Proof.Gen.KernelIdeal.Value
public import Idealize.ShloMosaic.Lib.Pointwise

@[expose] public section

set_option maxRecDepth 16384

noncomputable section

namespace Cert.Attn

open Idealize.ShloMosaic Cert.KernelIdeal Cert.KernelIdeal.Gen
open scoped BigOperators

/-- What an item reads: the two halves of the keys and of the values, the four heads' queries, output gradients and outputs,
    the bias and the sinks. -/
structure Item (F : FTy → Type) [FloatOps F] where
  ka : Vec F S128x64 .bf16
  kb : Vec F S128x64 .bf16
  va : Vec F S128x64 .bf16
  vb : Vec F S128x64 .bf16
  q : Fin 4 → Vec F S128x64 .bf16
  y : Fin 4 → Vec F S128x64 .bf16
  o : Fin 4 → Vec F S128x64 .bf16
  bias : Vec F S512x256 .f32
  sk : Vec F S512x1 .f32

namespace Item

variable {F : FTy → Type} [FloatOps F] (I : Item F)

/-- The keys. -/
def kk : FVec F S256x64 .bf16 := k0_pay4 I.ka I.kb
/-- The queries. -/
def qq : FVec F S512x64 .bf16 := k0_pay5 (I.q 0) (I.q 1) (I.q 2) (I.q 3)
/-- The scores before the bias. -/
def sc : FVec F S512x256 .f32 := k0_pay56 (k0_pay6 I.ka I.kb (I.q 0) (I.q 1) (I.q 2) (I.q 3))
/-- The output gradients. -/
def yy : FVec F S512x64 .bf16 := k0_pay28 (I.y 0) (I.y 1) (I.y 2) (I.y 3)
/-- The row sums of the output times its gradient. -/
def delta : FVec F S512x1 .f32 := k0_pay29 (I.y 0) (I.y 1) (I.y 2) (I.y 3) (I.o 0) (I.o 1) (I.o 2) (I.o 3)
/-- The products of the output gradients with the values. -/
def dp : FVec F S512x256 .f32 := k0_pay30 I.yy I.va I.vb
/-- The probabilities. -/
def p : FVec F S512x256 .bf16 := k0_pay67 I.sc I.bias I.sk
/-- The gradient of the scores. -/
def ds : FVec F S512x256 .f32 := k0_pay64 I.delta I.dp I.sc I.bias I.sk
/-- The gradient of the scores, rounded. -/
def dsr : FVec F S512x256 .bf16 := k0_pay68 I.delta I.dp I.sc I.bias I.sk

end Item

variable (D : Data)

/-- The keys or values as the kernel takes them: for the first block, the rows before it are those of the block itself. -/
def kkX (o n j h d : ℕ) : ℝ := if 128 * n + j < 128 then D.X j (o + (64 * h + d)) else D.X (128 * n + j - 128) (o + (64 * h + d))

theorem kkX_seen {n r : ℕ} {j : Fin 256} (h : seen n r j) (o h' d : ℕ) : kkX D o n j.val h' d = kvX D o n j.val h' d := by
  have := h.2
  unfold kkX kvX
  rw [if_neg (by omega), if_neg (by omega)]

/-- The item reads block `n`'s rows for key head `h`. -/
structure Reads (n h : ℕ) (I : Item Ideal) : Prop where
  ka : ∀ i, I.ka i = (kkX D 1024 n (i 0).val h (i 1).val : EReal)
  kb : ∀ i, I.kb i = (kkX D 1024 n (128 + (i 0).val) h (i 1).val : EReal)
  va : ∀ i, I.va i = (kkX D 1280 n (i 0).val h (i 1).val : EReal)
  vb : ∀ i, I.vb i = (kkX D 1280 n (128 + (i 0).val) h (i 1).val : EReal)
  q : ∀ g i, I.q g i = (qX D n (i 0).val h g.val (i 1).val : EReal)
  y : ∀ g i, I.y g i = (yX D n (i 0).val h g.val (i 1).val : EReal)
  o : ∀ g i, I.o g i = (oX D n (i 0).val h g.val (i 1).val : EReal)
  bias : ∀ i, I.bias i = if seen n ((i 0).val % 128) ⟨(i 1).val, (i 1).isLt⟩ then
    (D.B h ((i 0).val / 128) ((i 0).val % 128) (i 1).val : EReal) else ⊥
  sk : ∀ i, I.sk i = (D.z (4 * h + (i 0).val / 128) : EReal)

/-! ### The operations of an item, read at an index -/

/-- Four blocks of rows one below the other. -/
theorem four_rows {α : Type} (f : Fin 4 → S128x64.Idx → α) (u : ℕ → ℕ → ℕ → α)
    (hf : ∀ g i, f g i = u (i 0).val g.val (i 1).val) (ρ : Fin 512) (d : Fin 64) :
    (if h : ρ.val < 128 then f 0 (ix2 ⟨ρ.val, h⟩ d) else
      if h : ρ.val - 128 < 128 then f 1 (ix2 ⟨ρ.val - 128, h⟩ d) else
      if h : ρ.val - 128 - 128 < 128 then f 2 (ix2 ⟨ρ.val - 128 - 128, h⟩ d) else
      f 3 (ix2 ⟨ρ.val - 128 - 128 - 128, by have := ρ.isLt; omega⟩ d)) = u (ρ.val % 128) (ρ.val / 128) d.val := by
  have hr := ρ.isLt
  have key : ∀ (g : Fin 4) (r : Fin 128), r.val = ρ.val % 128 → g.val = ρ.val / 128 →
      f g (ix2 r d) = u (ρ.val % 128) (ρ.val / 128) d.val := by
    intro g r e1 e2
    rw [hf, ← e1, ← e2]; rfl
  split
  · exact key 0 _ (by show ρ.val = _; omega) (by show 0 = _; omega)
  · split
    · exact key 1 _ (by show ρ.val - 128 = _; omega) (by show 1 = _; omega)
    · split
      · exact key 2 _ (by show ρ.val - 128 - 128 = _; omega) (by show 2 = _; omega)
      · exact key 3 _ (by show ρ.val - 128 - 128 - 128 = _; omega) (by show 3 = _; omega)

/-- Two blocks of rows one below the other. -/
theorem two_rows {α : Type} (a b : S128x64.Idx → α) (u : ℕ → ℕ → α) (ha : ∀ i, a i = u (i 0).val (i 1).val)
    (hb : ∀ i, b i = u (128 + (i 0).val) (i 1).val) (j : Fin 256) (d : Fin 64) :
    (if h : j.val < 128 then a (ix2 ⟨j.val, h⟩ d) else b (ix2 ⟨j.val - 128, by have := j.isLt; omega⟩ d)) = u j.val d.val := by
  split
  · rw [ha]; rfl
  · rw [hb]
    show u (128 + (j.val - 128)) d.val = _
    rw [show 128 + (j.val - 128) = j.val by omega]

section Row

variable (σ : Fin 256 → ℝ) (v : Fin 256 → Prop) [DecidablePred v] (s : ℝ) (a1 : FVec Ideal S512x256 .f32)
  (b : Vec Ideal S512x256 .f32) (sk : Vec Ideal S512x1 .f32) (ρ : Fin 512)
  (hL : ∀ x, a1 (ix2 ρ x) + b (ix2 ρ x) = score σ v x) (hs : sk (ix2 ρ 0) = (s : EReal))

include hL hs in
/-- The probabilities of a row. -/
theorem row_p (j : Fin 256) : k0_pay63 a1 b sk (ix2 ρ j) = (pR σ v s j : EReal) := by
  pointwise [k0_pay63, k0_pay62, k0_pay61, k0_pay60, k0_pay59, k0_pay58, k0_pay57]
  simp only [hL, hs, bits_bot]
  change Ideal.exp (score σ v j - top (score σ v) s) * Ideal.div 1
    ((∑ x, Ideal.exp (score σ v x - top (score σ v) s)) + Ideal.exp (s - top (score σ v) s)) = _
  simp only [exp_score, exp_sink]
  exact kernel_p σ v s j _ _ rfl (den_eq σ v s)

include hL hs in
/-- What a row adds to the gradient of the sinks. -/
theorem row_z (δ a : FVec Ideal S512x1 .f32) (ct : Fin 256 → ℝ) (hδ : δ (ix2 ρ 0) = ((∑ k, pR σ v s k * ct k : ℝ) : EReal)) :
    k0_pay66 δ a1 b sk a (ix2 ρ 0) = a (ix2 ρ 0) + (dzR σ v s ct : EReal) := by
  pointwise [k0_pay66, k0_pay63, k0_pay62, k0_pay61, k0_pay60, k0_pay59, k0_pay58, k0_pay57]
  simp only [hL, hs, hδ, bits_bot]
  change _ + (0 - Ideal.exp (s - top (score σ v) s) * Ideal.div 1
    ((∑ x, Ideal.exp (score σ v x - top (score σ v) s)) + Ideal.exp (s - top (score σ v) s)) * _) = _
  simp only [exp_score, exp_sink]
  rw [den_eq, ← EReal.coe_one, div_coe_pos (dR_pos σ v s), ← EReal.coe_mul, ← EReal.coe_mul, ← EReal.coe_zero, ← EReal.coe_sub]
  congr 2
  unfold dzR
  ring

end Row

/-- The gradient of the scores. -/
theorem pay64_at (δ : FVec Ideal S512x1 .f32) (dp a1 : FVec Ideal S512x256 .f32) (b : Vec Ideal S512x256 .f32) (sk : Vec Ideal S512x1 .f32)
    (ρ : Fin 512) (j : Fin 256) :
    k0_pay64 δ dp a1 b sk (ix2 ρ j) = k0_pay63 a1 b sk (ix2 ρ j) * (dp (ix2 ρ j) - δ (ix2 ρ 0)) := by
  pointwise [k0_pay64]

section

variable {D} {n h : ℕ} {I : Item Ideal} (R : Reads D n h I)

include R in
theorem kk_eq (j : Fin 256) (d : Fin 64) : I.kk (ix2 j d) = (kkX D 1024 n j.val h d.val : EReal) := by
  unfold Item.kk
  pointwise [k0_pay4]
  exact two_rows I.ka I.kb (fun j d => (kkX D 1024 n j h d : EReal)) R.ka R.kb j d

include R in
theorem qq_eq (ρ : Fin 512) (d : Fin 64) : I.qq (ix2 ρ d) = (qX D n (ρ.val % 128) h (ρ.val / 128) d.val : EReal) := by
  unfold Item.qq
  pointwise [k0_pay5]
  exact four_rows I.q (fun r g d => (qX D n r h g d : EReal)) R.q ρ d

include R in
theorem yy_eq (ρ : Fin 512) (d : Fin 64) : I.yy (ix2 ρ d) = (yX D n (ρ.val % 128) h (ρ.val / 128) d.val : EReal) := by
  unfold Item.yy
  pointwise [k0_pay28]
  exact four_rows I.y (fun r g d => (yX D n r h g d : EReal)) R.y ρ d

include R in
theorem sc_eq (ρ : Fin 512) (j : Fin 256) : I.sc (ix2 ρ j)
    = (((∑ d : Fin 64, qX D n (ρ.val % 128) h (ρ.val / 128) d.val * kkX D 1024 n j.val h d.val) * (1 / 8) : ℝ) : EReal) := by
  have e1 := qq_eq R
  have e2 := kk_eq R
  unfold Item.sc k0_pay6
  unfold Item.qq at e1
  unfold Item.kk at e2
  generalize k0_pay5 (I.q 0) (I.q 1) (I.q 2) (I.q 3) = y1 at e1
  generalize k0_pay4 I.ka I.kb = y2 at e2
  pointwise [k0_pay56]
  simp only [e1, e2]
  rw [EReal.coe_mul, coe_sum, ← bits_eighth]
  rfl

include R in
/-- A row's scores with the bias. -/
theorem score_eq (ρ : Fin 512) (j : Fin 256) : I.sc (ix2 ρ j) + I.bias (ix2 ρ j)
    = score (scX D n (ρ.val % 128) h (ρ.val / 128)) (seen n (ρ.val % 128)) j := by
  rw [sc_eq R, R.bias]
  unfold score
  change (_ + if seen n (ρ.val % 128) j then (D.B h (ρ.val / 128) (ρ.val % 128) j.val : EReal) else ⊥) = _
  split
  · rename_i hv
    rw [← EReal.coe_add]
    congr 1
    unfold scX
    congr 2
    refine Finset.sum_congr rfl fun d _ => ?_
    rw [kkX_seen D hv, mul_comm]
  · exact EReal.add_bot _

include R in
theorem sk_eq (ρ : Fin 512) : I.sk (ix2 ρ 0) = (D.z (4 * h + ρ.val / 128) : EReal) := R.sk _

include R in
theorem delta_eqX (ρ : Fin 512) : I.delta (ix2 ρ 0)
    = ((∑ k, pX D n (ρ.val % 128) h (ρ.val / 128) k * ctX D n (ρ.val % 128) h (ρ.val / 128) k : ℝ) : EReal) := by
  have e1 := yy_eq R
  have e2 := four_rows I.o (fun r g d => (oX D n r h g d : EReal)) R.o
  unfold Item.delta
  unfold Item.yy at e1
  pointwise [k0_pay29]
  refine (Finset.sum_congr rfl fun x _ => congrArg₂ (· * ·) (e1 ρ x) (e2 ρ x)).trans ?_
  unfold pX ctX
  rw [← delta_eq, coe_sum]
  refine Finset.sum_congr rfl fun d _ => ?_
  rw [EReal.coe_mul]
  rfl

include R in
theorem dp_eq (ρ : Fin 512) (j : Fin 256) : I.dp (ix2 ρ j)
    = ((∑ d : Fin 64, yX D n (ρ.val % 128) h (ρ.val / 128) d.val * kkX D 1280 n j.val h d.val : ℝ) : EReal) := by
  have e1 := yy_eq R
  have e2 := two_rows I.va I.vb (fun j d => (kkX D 1280 n j h d : EReal)) R.va R.vb
  unfold Item.dp
  generalize I.yy = y1 at e1
  pointwise [k0_pay30]
  refine (Finset.sum_congr rfl fun x _ => congrArg₂ (· * ·) (e1 ρ x) (e2 j x)).trans ?_
  rw [coe_sum]
  refine Finset.sum_congr rfl fun d _ => ?_
  rw [EReal.coe_mul]

include R in
/-- The probabilities. -/
theorem p_eq (ρ : Fin 512) (j : Fin 256) : I.p (ix2 ρ j) = (pX D n (ρ.val % 128) h (ρ.val / 128) j : EReal) :=
  row_p _ _ _ I.sc I.bias I.sk ρ (score_eq R ρ) (sk_eq R ρ) j

include R in
/-- The gradient of the scores. -/
theorem ds_eq (ρ : Fin 512) (j : Fin 256) : I.ds (ix2 ρ j) = (dsX D n (ρ.val % 128) h (ρ.val / 128) j : EReal) := by
  unfold Item.ds
  rw [pay64_at, row_p _ _ _ I.sc I.bias I.sk ρ (score_eq R ρ) (sk_eq R ρ) j, dp_eq R, delta_eqX R, ← EReal.coe_sub, ← EReal.coe_mul]
  congr 1
  refine dsR_congr _ _ _ (fun j => ∑ d : Fin 64, yX D n (ρ.val % 128) h (ρ.val / 128) d.val * kkX D 1280 n j.val h d.val) _ (fun j hv => ?_) j
  refine Finset.sum_congr rfl fun d _ => ?_
  rw [kkX_seen D hv]

include R in
theorem dsr_eq (ρ : Fin 512) (j : Fin 256) : I.dsr (ix2 ρ j) = (dsX D n (ρ.val % 128) h (ρ.val / 128) j : EReal) := ds_eq R ρ j

include R in
/-- What the item adds to the gradient of the sinks. -/
theorem dz_eq (a : Vec Ideal S512x1 .f32) (ρ : Fin 512) : k0_pay66 I.delta I.sc I.bias I.sk a (ix2 ρ 0)
    = a (ix2 ρ 0) + (dzX D n (ρ.val % 128) h (ρ.val / 128) : EReal) :=
  row_z _ _ _ I.sc I.bias I.sk ρ (score_eq R ρ) (sk_eq R ρ) I.delta a _ (delta_eqX R ρ)

include R in
/-- What the item adds to the gradient of the bias. -/
theorem db_eq (a : Vec Ideal S512x256 .f32) (ρ : Fin 512) (j : Fin 256) : k0_pay65 I.delta I.dp I.sc I.bias I.sk a (ix2 ρ j)
    = a (ix2 ρ j) + (dsX D n (ρ.val % 128) h (ρ.val / 128) j : EReal) := by
  have e := ds_eq R ρ j
  unfold Item.ds at e
  pointwise [k0_pay65]
  rw [e]

/-- The gradient of a query: where a key may not be seen, the score's gradient is zero. -/
theorem dq_sum (n r h g d : ℕ) : (∑ j : Fin 256, dsX D n r h g j * kkX D 1024 n j.val h d) * (1 / 8) = dqX D n r h g d := by
  unfold dqX
  rw [Finset.sum_mul]
  refine Finset.sum_congr rfl fun j _ => ?_
  by_cases hv : seen n r j
  · rw [kkX_seen D hv]; ring
  · unfold dsX; rw [dsR_masked _ _ _ _ hv]; ring

include R in
theorem dq_eq (ρ : Fin 512) (d : Fin 64) : k0_pay160 I.kk I.dsr (ix2 ρ d) = (dqX D n (ρ.val % 128) h (ρ.val / 128) d.val : EReal) := by
  have e1 := dsr_eq R
  have e2 := kk_eq R
  generalize I.dsr = y1 at e1
  generalize I.kk = y2 at e2
  pointwise [k0_pay160]
  simp only [e1, e2]
  rw [← dq_sum, EReal.coe_mul, coe_sum, ← bits_eighth]
  rfl

/-- A sum over an item's rows, head by head. -/
theorem rows_sum (f : ℕ → ℕ → ℝ) : (∑ ρ : Fin 512, f (ρ.val % 128) (ρ.val / 128)) = ∑ r : Fin 128, ∑ g : Fin 4, f r.val g.val := by
  rw [Finset.sum_comm, ← Finset.sum_product']
  refine (Fintype.sum_equiv (finProdFinEquiv (m := 4) (n := 128)) _ _ fun x => ?_).symm
  obtain ⟨g, r⟩ := x
  have e : (finProdFinEquiv (m := 4) (n := 128) (g, r)).val = r.val + 128 * g.val := rfl
  have := r.isLt
  show f r.val g.val = f ((finProdFinEquiv (m := 4) (n := 128) (g, r)).val % 128) ((finProdFinEquiv (m := 4) (n := 128) (g, r)).val / 128)
  rw [e, show (r.val + 128 * g.val) % 128 = r.val by omega, show (r.val + 128 * g.val) / 128 = g.val by omega]

include R in
theorem dk_eq (j : Fin 256) (d : Fin 64) : k0_pay161 I.qq I.dsr (ix2 j d) = (dkX D n h j d.val : EReal) := by
  have e1 := dsr_eq R
  have e2 := qq_eq R
  generalize I.dsr = y1 at e1
  generalize I.qq = y2 at e2
  pointwise [k0_pay161]
  simp only [e1, e2]
  have e : dkX D n h j d.val = (∑ ρ : Fin 512, dsX D n (ρ.val % 128) h (ρ.val / 128) j * qX D n (ρ.val % 128) h (ρ.val / 128) d.val) * (1 / 8) := by
    rw [rows_sum (fun r g => dsX D n r h g j * qX D n r h g d.val)]
    unfold dkX
    simp only [Finset.sum_mul]
    refine Finset.sum_congr rfl fun r _ => Finset.sum_congr rfl fun g _ => ?_
    ring
  rw [e, EReal.coe_mul, coe_sum, ← bits_eighth]
  rfl

include R in
theorem dv_eq (j : Fin 256) (d : Fin 64) : k0_pay162 I.yy I.p (ix2 j d) = (dvX D n h j d.val : EReal) := by
  have e1 := p_eq R
  have e2 := yy_eq R
  generalize I.p = y1 at e1
  generalize I.yy = y2 at e2
  pointwise [k0_pay162]
  simp only [e1, e2]
  have e : dvX D n h j d.val = ∑ ρ : Fin 512, pX D n (ρ.val % 128) h (ρ.val / 128) j * yX D n (ρ.val % 128) h (ρ.val / 128) d.val := by
    rw [rows_sum (fun r g => pX D n r h g j * yX D n r h g d.val)]
    unfold dvX
    refine Finset.sum_congr rfl fun r _ => Finset.sum_congr rfl fun g _ => ?_
    ring
  rw [e, coe_sum]
  rfl

end

end Cert.Attn

end
-- ==== Proof.Pieces.lean ====
/-
  What one grid step of the kernel stores: for each of its two blocks of queries and each head of keys, one item
  (`Proof/Kern1.lean`).  The stores of each output, newest first, are those of the items.
-/
module

public import proofs.«01_k».proof.Proof.Kern1

@[expose] public section

set_option maxRecDepth 16384

noncomputable section

namespace Cert.Attn

open Idealize.ShloMosaic Idealize.ShloMosaic.TcCoe Idealize.ShloMosaic.Tactic Cert.KernelIdeal Cert.KernelIdeal.Gen

variable {F : FTy → Type} [FloatOps F]

/-! ### Rectangles -/

theorem in_kv (h : Fin 4) : ∀ a, ![0, 64 * h.val] a + S128x64.size a ≤ S128x256.size a :=
  Fin.forall_fin_two.mpr ⟨(by decide : 0 + 128 ≤ 128), by show 64 * h.val + 64 ≤ 256; omega⟩

theorem in_kvo (t : Fin 2) (h : Fin 4) : ∀ a, ![128 * t.val, 64 * h.val] a + S128x64.size a ≤ S256x256.size a :=
  Fin.forall_fin_two.mpr ⟨by show 128 * t.val + 128 ≤ 256; omega, by show 64 * h.val + 64 ≤ 256; omega⟩

theorem in_half (t : Fin 2) : ∀ a, ![128 * t.val, 0] a + S128x256.size a ≤ S256x256.size a :=
  Fin.forall_fin_two.mpr ⟨by show 128 * t.val + 128 ≤ 256; omega, (by decide : 0 + 256 ≤ 256)⟩

theorem in_rows (t : Fin 2) : ∀ a, ![128 * t.val, 0] a + S128x1024.size a ≤ S256x1024.size a :=
  Fin.forall_fin_two.mpr ⟨by show 128 * t.val + 128 ≤ 256; omega, (by decide : 0 + 1024 ≤ 1024)⟩

theorem in_head (h g : Fin 4) : ∀ a, ![0, 256 * h.val + 64 * g.val] a + S128x64.size a ≤ S128x1024.size a :=
  Fin.forall_fin_two.mpr ⟨(by decide : 0 + 128 ≤ 128), by show 256 * h.val + 64 * g.val + 64 ≤ 1024; omega⟩

theorem in_out (t : Fin 2) (h g : Fin 4) : ∀ a, ![128 * t.val, 256 * h.val + 64 * g.val] a + S128x64.size a ≤ S256x1024.size a :=
  Fin.forall_fin_two.mpr ⟨by show 128 * t.val + 128 ≤ 256; omega, by show 256 * h.val + 64 * g.val + 64 ≤ 1024; omega⟩

theorem in_bias (h : Fin 4) : ∀ a, ![512 * h.val, 0] a + S512x256.size a ≤ S2048x256.size a :=
  Fin.forall_fin_two.mpr ⟨by show 512 * h.val + 512 ≤ 2048; omega, (by decide : 0 + 256 ≤ 256)⟩

theorem in_sink (h : Fin 4) : ∀ a, ![512 * h.val, 0] a + S512x1.size a ≤ S2048x1.size a :=
  Fin.forall_fin_two.mpr ⟨by show 512 * h.val + 512 ≤ 2048; omega, (by decide : 0 + 1 ≤ 1)⟩

theorem in_slice (g : Fin 4) : S512x64.Slices ![128 * g.val, 0] S128x64 := by
  fin_cases g <;> decide

/-! ### The items of a step -/

section Step

variable (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

/-- The item of the step's first block: its first keys come from the block before. -/
def item0 (h : Fin 4) : Item F where
  ka := View.readAt (Elt F) arg2.view (Rect.unit (s := S128x256) ![0, 64 * h.val] S128x64.size (in_kv h)).toLoadRect (harg2.unread x1)
  kb := View.readAt (Elt F) arg3.view ((Rect.unit (s := S256x256) ![128 * (0 : Fin 2).val, 0] S128x256.size (in_half 0)).withinL (Rect.unit (s := S128x256) ![0, 64 * h.val] S128x64.size (in_kv h)).toLoadRect fun _ => rfl) (harg3.unread x2)
  va := View.readAt (Elt F) arg4.view (Rect.unit (s := S128x256) ![0, 64 * h.val] S128x64.size (in_kv h)).toLoadRect (harg4.unread x3)
  vb := View.readAt (Elt F) arg5.view ((Rect.unit (s := S256x256) ![128 * (0 : Fin 2).val, 0] S128x256.size (in_half 0)).withinL (Rect.unit (s := S128x256) ![0, 64 * h.val] S128x64.size (in_kv h)).toLoadRect fun _ => rfl) (harg5.unread x4)
  q g := View.readAt (Elt F) arg1.view ((Rect.unit (s := S256x1024) ![128 * (0 : Fin 2).val, 0] S128x1024.size (in_rows 0)).withinL (Rect.unit (s := S128x1024) ![0, 256 * h.val + 64 * g.val] S128x64.size (in_head h g)).toLoadRect fun _ => rfl) (harg1.unread x0)
  y g := View.readAt (Elt F) arg8.view (Rect.unit (s := S256x1024) ![128 * (0 : Fin 2).val, 256 * h.val + 64 * g.val] S128x64.size (in_out 0 h g)).toLoadRect (harg8.unread x7)
  o g := View.readAt (Elt F) arg7.view (Rect.unit (s := S256x1024) ![128 * (0 : Fin 2).val, 256 * h.val + 64 * g.val] S128x64.size (in_out 0 h g)).toLoadRect (harg7.unread x6)
  bias := View.readAt (Elt F) ((arg6.slice (Rect.unit (s := S2x2048x256) (k0_off1 i) S1x2048x256.size (k0_off1_inb i)) fun _ => rfl).squeeze S2048x256 squeezes_S1x2048x256_S2048x256).view (Rect.unit (s := S2048x256) ![512 * h.val, 0] S512x256.size (in_bias h)).toLoadRect (harg6.unread x5)
  sk := View.readAt (Elt F) arg9.view (Rect.unit (s := S2048x1) ![512 * h.val, 0] S512x1.size (in_sink h)).toLoadRect (harg9.unread x8)

/-- The item of the step's second block: its first keys come from the first block. -/
def item1 (h : Fin 4) : Item F where
  ka := View.readAt (Elt F) arg3.view ((Rect.unit (s := S256x256) ![128 * (0 : Fin 2).val, 0] S128x256.size (in_half 0)).withinL (Rect.unit (s := S128x256) ![0, 64 * h.val] S128x64.size (in_kv h)).toLoadRect fun _ => rfl) (harg3.unread x2)
  kb := View.readAt (Elt F) arg3.view ((Rect.unit (s := S256x256) ![128 * (1 : Fin 2).val, 0] S128x256.size (in_half 1)).withinL (Rect.unit (s := S128x256) ![0, 64 * h.val] S128x64.size (in_kv h)).toLoadRect fun _ => rfl) (harg3.unread x2)
  va := View.readAt (Elt F) arg5.view ((Rect.unit (s := S256x256) ![128 * (0 : Fin 2).val, 0] S128x256.size (in_half 0)).withinL (Rect.unit (s := S128x256) ![0, 64 * h.val] S128x64.size (in_kv h)).toLoadRect fun _ => rfl) (harg5.unread x4)
  vb := View.readAt (Elt F) arg5.view ((Rect.unit (s := S256x256) ![128 * (1 : Fin 2).val, 0] S128x256.size (in_half 1)).withinL (Rect.unit (s := S128x256) ![0, 64 * h.val] S128x64.size (in_kv h)).toLoadRect fun _ => rfl) (harg5.unread x4)
  q g := View.readAt (Elt F) arg1.view ((Rect.unit (s := S256x1024) ![128 * (1 : Fin 2).val, 0] S128x1024.size (in_rows 1)).withinL (Rect.unit (s := S128x1024) ![0, 256 * h.val + 64 * g.val] S128x64.size (in_head h g)).toLoadRect fun _ => rfl) (harg1.unread x0)
  y g := View.readAt (Elt F) arg8.view (Rect.unit (s := S256x1024) ![128 * (1 : Fin 2).val, 256 * h.val + 64 * g.val] S128x64.size (in_out 1 h g)).toLoadRect (harg8.unread x7)
  o g := View.readAt (Elt F) arg7.view (Rect.unit (s := S256x1024) ![128 * (1 : Fin 2).val, 256 * h.val + 64 * g.val] S128x64.size (in_out 1 h g)).toLoadRect (harg7.unread x6)
  bias := View.readAt (Elt F) ((arg6.slice (Rect.unit (s := S2x2048x256) ![1, 0, 0] S1x2048x256.size inb_S2x2048x256_S1x2048x256_1_0_0) fun _ => rfl).squeeze S2048x256 squeezes_S1x2048x256_S2048x256).view (Rect.unit (s := S2048x256) ![512 * h.val, 0] S512x256.size (in_bias h)).toLoadRect (harg6.unread x5)
  sk := View.readAt (Elt F) arg9.view (Rect.unit (s := S2048x1) ![512 * h.val, 0] S512x1.size (in_sink h)).toLoadRect (harg9.unread x8)

end Step

/-! ### What the items store -/

section Pieces

variable (I : Fin 2 → Fin 4 → Item F)

/-- The gradient of the queries of one head. -/
def qPiece (t : Fin 2) (h g : Fin 4) : View.Piece (Elt F) S256x1024 .bf16 :=
  ⟨Rect.unit (s := S256x1024) ![128 * t.val, 256 * h.val + 64 * g.val] S128x64.size (in_out t h g),
    truncf .bf16 (extractStridedSlice S128x64 ![128 * g.val, 0] (k0_pay160 (I t h).kk (I t h).dsr) (in_slice g)) bitsLt_bf16_f32⟩

/-- The gradient of one head of keys or values: the rows from `o` on of the item's. -/
def kvPiece (w : Item F → FVec F S256x64 .f32) (o : ℕ) (ho : S256x64.Slices ![o, 0] S128x64) (t : Fin 2) (h : Fin 4) : View.Piece (Elt F) S256x256 .f32 :=
  ⟨Rect.unit (s := S256x256) ![128 * t.val, 64 * h.val] S128x64.size (in_kvo t h), extractStridedSlice S128x64 ![o, 0] (w (I t h)) ho⟩

/-- The stores of the queries' gradient, newest first. -/
def qPieces : List (View.Piece (Elt F) S256x1024 .bf16) :=
  [qPiece I 1 3 3, qPiece I 1 3 2, qPiece I 1 3 1, qPiece I 1 3 0, qPiece I 1 2 3, qPiece I 1 2 2, qPiece I 1 2 1, qPiece I 1 2 0,
   qPiece I 1 1 3, qPiece I 1 1 2, qPiece I 1 1 1, qPiece I 1 1 0, qPiece I 1 0 3, qPiece I 1 0 2, qPiece I 1 0 1, qPiece I 1 0 0,
   qPiece I 0 3 3, qPiece I 0 3 2, qPiece I 0 3 1, qPiece I 0 3 0, qPiece I 0 2 3, qPiece I 0 2 2, qPiece I 0 2 1, qPiece I 0 2 0,
   qPiece I 0 1 3, qPiece I 0 1 2, qPiece I 0 1 1, qPiece I 0 1 0, qPiece I 0 0 3, qPiece I 0 0 2, qPiece I 0 0 1, qPiece I 0 0 0]

/-- The stores of the keys' or values' gradient, newest first. -/
def kvPieces (w : Item F → FVec F S256x64 .f32) (o : ℕ) (ho : S256x64.Slices ![o, 0] S128x64) : List (View.Piece (Elt F) S256x256 .f32) :=
  [kvPiece I w o ho 1 3, kvPiece I w o ho 1 2, kvPiece I w o ho 1 1, kvPiece I w o ho 1 0,
   kvPiece I w o ho 0 3, kvPiece I w o ho 0 2, kvPiece I w o ho 0 1, kvPiece I w o ho 0 0]

end Pieces

section Acc

variable (I : Fin 2 → Fin 4 → Item F) (arg15 : Memref sig .tc .vmem S2048x256 .f32) (arg16 : Memref sig .tc .vmem S2048x1 .f32)

/-- One item added to the running gradient of the bias, over the rows as the earlier stores left them. -/
def dbStep (t : Fin 2) (h : Fin 4) (L : List (View.Piece (Elt F) S2048x256 .f32)) : List (View.Piece (Elt F) S2048x256 .f32) :=
  ⟨Rect.unit (s := S2048x256) ![512 * h.val, 0] S512x256.size (in_bias h), k0_pay65 (I t h).delta (I t h).dp (I t h).sc (I t h).bias (I t h).sk
    (arg15.view.readCov L (Rect.unit (s := S2048x256) ![512 * h.val, 0] S512x256.size (in_bias h)).toLoadRect)⟩ :: L

/-- One item added to the running gradient of the sinks, over the rows as the earlier stores left them. -/
def dzStep (t : Fin 2) (h : Fin 4) (L : List (View.Piece (Elt F) S2048x1 .f32)) : List (View.Piece (Elt F) S2048x1 .f32) :=
  ⟨Rect.unit (s := S2048x1) ![512 * h.val, 0] S512x1.size (in_sink h), k0_pay66 (I t h).delta (I t h).sc (I t h).bias (I t h).sk
    (arg16.view.readCov L (Rect.unit (s := S2048x1) ![512 * h.val, 0] S512x1.size (in_sink h)).toLoadRect)⟩ :: L

/-- The second block's items, added one by one. -/
def dbSecond (L : List (View.Piece (Elt F) S2048x256 .f32)) : List (View.Piece (Elt F) S2048x256 .f32) :=
  dbStep I arg15 1 3 (dbStep I arg15 1 2 (dbStep I arg15 1 1 (dbStep I arg15 1 0 L)))

/-- The second block's items, added one by one. -/
def dzSecond (L : List (View.Piece (Elt F) S2048x1 .f32)) : List (View.Piece (Elt F) S2048x1 .f32) :=
  dzStep I arg16 1 3 (dzStep I arg16 1 2 (dzStep I arg16 1 1 (dzStep I arg16 1 0 L)))

/-- The first step starts the running gradient of the bias at zero. -/
def dbPiecesA : List (View.Piece (Elt F) S2048x256 .f32) :=
  dbSecond I arg15 (dbStep I arg15 0 3 (dbStep I arg15 0 2 (dbStep I arg15 0 1 (dbStep I arg15 0 0
    [⟨Rect.unit (s := S2048x256) ![0, 0] S2048x256.size inb_S2048x256_S2048x256_0_0, k0_pay2⟩]))))

/-- The first step starts the running gradient of the sinks at zero. -/
def dzPiecesA : List (View.Piece (Elt F) S2048x1 .f32) :=
  dzSecond I arg16 (dzStep I arg16 0 3 (dzStep I arg16 0 2 (dzStep I arg16 0 1 (dzStep I arg16 0 0
    [⟨Rect.unit (s := S2048x1) ![0, 0] S2048x1.size inb_S2048x1_S2048x1_0_0, k0_pay3⟩]))))

variable (harg15 : arg15.IsWhole) (harg16 : arg16.IsWhole) (xo14 : Vec F S2048x256 .f32) (xo15 : Vec F S2048x1 .f32)

/-- One item added to the gradient of the bias that the step before left. -/
def dbFirst (h : Fin 4) : View.Piece (Elt F) S2048x256 .f32 :=
  ⟨Rect.unit (s := S2048x256) ![512 * h.val, 0] S512x256.size (in_bias h), k0_pay65 (I 0 h).delta (I 0 h).dp (I 0 h).sc (I 0 h).bias (I 0 h).sk
    (View.readAt (Elt F) arg15.view (Rect.unit (s := S2048x256) ![512 * h.val, 0] S512x256.size (in_bias h)).toLoadRect (harg15.unread xo14))⟩

/-- One item added to the gradient of the sinks that the step before left. -/
def dzFirst (h : Fin 4) : View.Piece (Elt F) S2048x1 .f32 :=
  ⟨Rect.unit (s := S2048x1) ![512 * h.val, 0] S512x1.size (in_sink h), k0_pay66 (I 0 h).delta (I 0 h).sc (I 0 h).bias (I 0 h).sk
    (View.readAt (Elt F) arg16.view (Rect.unit (s := S2048x1) ![512 * h.val, 0] S512x1.size (in_sink h)).toLoadRect (harg16.unread xo15))⟩

/-- A later step goes on from what the step before left. -/
def dbPiecesB : List (View.Piece (Elt F) S2048x256 .f32) :=
  dbSecond I arg15 [dbFirst I arg15 harg15 xo14 3, dbFirst I arg15 harg15 xo14 2, dbFirst I arg15 harg15 xo14 1, dbFirst I arg15 harg15 xo14 0]

/-- A later step goes on from what the step before left. -/
def dzPiecesB : List (View.Piece (Elt F) S2048x1 .f32) :=
  dzSecond I arg16 [dzFirst I arg16 harg16 xo15 3, dzFirst I arg16 harg16 xo15 2, dzFirst I arg16 harg16 xo15 1, dzFirst I arg16 harg16 xo15 0]

end Acc

section Run

variable (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

/-- The items of a step. -/
def items (t : Fin 2) (h : Fin 4) : Item F :=
  match t with
  | 0 => item0 i arg1 harg1 arg2 harg2 arg3 harg3 arg4 harg4 arg5 harg5 arg6 harg6 arg7 harg7 arg8 harg8 arg9 harg9 x0 x1 x2 x3 x4 x5 x6 x7 x8 h
  | 1 => item1 arg1 harg1 arg3 harg3 arg5 harg5 arg6 harg6 arg7 harg7 arg8 harg8 arg9 harg9 x0 x2 x4 x5 x6 x7 x8 h

end Run

end Cert.Attn

end
-- ==== Proof.Loads.lean ====
/-
  What an item's loads hold, from the contents of the grid step's blocks.
-/
module

public import proofs.«01_k».proof.Proof.Pieces
public import Idealize.ShloMosaic.Lib.WholeRead
public import Idealize.ShloMosaic.Lib.Pointwise

@[expose] public section

set_option maxRecDepth 16384

noncomputable section

namespace Cert.Attn

open Idealize.ShloMosaic Idealize.ShloMosaic.TcCoe Idealize.ShloMosaic.Tactic Cert.KernelIdeal Cert.KernelIdeal.Gen

/-- The blocks of grid step `pid`: rows `256 pid` on of each array; the mask of the first block of queries at place `k`. -/
structure Blocks (D : Data) (pid : ℕ) (k : Fin 2) (x0 : Vec Ideal S256x1024 .bf16) (x1 : Vec Ideal S128x256 .bf16) (x2 : Vec Ideal S256x256 .bf16)
    (x3 : Vec Ideal S128x256 .bf16) (x4 : Vec Ideal S256x256 .bf16) (x5 : Vec Ideal S2x2048x256 .f32) (x6 : Vec Ideal S256x1024 .bf16)
    (x7 : Vec Ideal S256x1024 .bf16) (x8 : Vec Ideal S2048x1 .f32) : Prop where
  q : ∀ (a : Fin 256) (b : Fin 1024), x0 (ix2 a b) = (D.X (256 * pid + a.val) b.val : EReal)
  ka : ∀ (a : Fin 128) (b : Fin 256), x1 (ix2 a b) = (D.X (128 * (2 * pid - 1) + a.val) (1024 + b.val) : EReal)
  kb : ∀ (a b : Fin 256), x2 (ix2 a b) = (D.X (256 * pid + a.val) (1024 + b.val) : EReal)
  va : ∀ (a : Fin 128) (b : Fin 256), x3 (ix2 a b) = (D.X (128 * (2 * pid - 1) + a.val) (1280 + b.val) : EReal)
  vb : ∀ (a b : Fin 256), x4 (ix2 a b) = (D.X (256 * pid + a.val) (1280 + b.val) : EReal)
  b0 : ∀ (a : Fin 2048) (b : Fin 256), x5 (ix3 k a b) = if seen (2 * pid) (a.val % 128) b then
    (D.B (a.val / 512) (a.val / 128 % 4) (a.val % 128) b.val : EReal) else ⊥
  b1 : ∀ (a : Fin 2048) (b : Fin 256), x5 (ix3 1 a b) = if seen (2 * pid + 1) (a.val % 128) b then
    (D.B (a.val / 512) (a.val / 128 % 4) (a.val % 128) b.val : EReal) else ⊥
  o : ∀ (a : Fin 256) (b : Fin 1024), x6 (ix2 a b)
    = (oX D (2 * pid + a.val / 128) (a.val % 128) (b.val / 256) (b.val / 64 % 4) (b.val % 64) : EReal)
  y : ∀ (a : Fin 256) (b : Fin 1024), x7 (ix2 a b) = (D.Y (256 * pid + a.val) b.val : EReal)
  z : ∀ a : Fin 2048, x8 (ix2 a 0) = (D.z (a.val / 128) : EReal)

theorem kk_first (D : Data) (o pid a h d : ℕ) (ha : a < 128) :
    kkX D o (2 * pid) a h d = D.X (128 * (2 * pid - 1) + a) (o + (64 * h + d)) := by
  unfold kkX
  split
  · rw [show 128 * (2 * pid - 1) + a = a by omega]
  · rw [show 128 * (2 * pid) + a - 128 = 128 * (2 * pid - 1) + a by omega]

/-- A load of a rectangle of a matrix, at an index. -/
theorem load2 {A B : ℕ} {e : EltTy} {m : Memref sig .tc .vmem ⟨2, ![A, B]⟩ e} (hm : m.IsWhole) (x : Vec Ideal ⟨2, ![A, B]⟩ e)
    (lr : LoadRect ⟨2, ![A, B]⟩) (j : lr.shape.Idx) (a b : ℕ) (hA : a < A) (hB : b < B)
    (ha : (lr.idx j 0).val = a) (hb : (lr.idx j 1).val = b) :
    View.readAt (Elt Ideal) m.view lr (hm.unread x) j = x (ix2 ⟨a, hA⟩ ⟨b, hB⟩) := by
  refine (hm.readAt_unread x lr j).trans (congrArg x (funext fun c => ?_))
  fin_cases c
  · exact Fin.ext ha
  · exact Fin.ext hb

theorem cast_table : S1x2048x256.ShapeCasts S2048x256 := by decide

theorem cast_eq (y : S1x2048x256.Idx → EReal) (a : Fin 2048) (b : Fin 256) (j : S2048x256.Idx) (hj : j = ix2 a b) :
    shapeCast S2048x256 y cast_table j = y (ix3 0 a b) := by
  subst hj
  pointwise

/-- A load of rows of one of the two tables, at an index. -/
theorem load3 {m : Memref sig .tc .vmem S2x2048x256 .f32} (hm : m.IsWhole) (x : Vec Ideal S2x2048x256 .f32) (off : Fin 3 → ℕ)
    (inb : ∀ a, off a + S1x2048x256.size a ≤ S2x2048x256.size a) (k : Fin 2) (hk : off = ![k.val, 0, 0]) (h : Fin 4) (a : Fin 512) (b : Fin 256) :
    View.readAt (Elt Ideal) ((m.slice (Rect.unit (s := S2x2048x256) off S1x2048x256.size inb) fun _ => rfl).squeeze S2048x256 squeezes_S1x2048x256_S2048x256).view
      (Rect.unit (s := S2048x256) ![512 * h.val, 0] S512x256.size (in_bias h)).toLoadRect (hm.unread x) (ix2 a b)
    = x (ix3 k ⟨512 * h.val + a.val, by omega⟩ b) := by
  subst hk
  refine (congrFun (Memref.read_squeeze_slice m _ _ squeezes_S1x2048x256_S2048x256 cast_table (hm.unread x)) _).trans ?_
  refine (cast_eq _ ⟨512 * h.val + a.val, by omega⟩ b _ (funext fun c => ?_)).trans ?_
  · fin_cases c
    · exact Fin.ext (by show 512 * h.val + 1 * a.val = 512 * h.val + a.val; omega)
    · exact Fin.ext (by show 0 + 1 * b.val = b.val; omega)
  refine (hm.readAt_unread x _ _).trans (congrArg x (funext fun c => ?_))
  fin_cases c
  · exact Fin.ext (by show k.val + 1 * 0 = k.val; omega)
  · exact Fin.ext (by show 0 + 1 * (512 * h.val + a.val) = 512 * h.val + a.val; omega)
  · exact Fin.ext (by show 0 + 1 * b.val = b.val; omega)

variable (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (x0 : Vec Ideal S256x1024 .bf16) (x1 : Vec Ideal S128x256 .bf16) (x2 : Vec Ideal S256x256 .bf16) (x3 : Vec Ideal S128x256 .bf16) (x4 : Vec Ideal S256x256 .bf16) (x5 : Vec Ideal S2x2048x256 .f32) (x6 : Vec Ideal S256x1024 .bf16) (x7 : Vec Ideal S256x1024 .bf16) (x8 : Vec Ideal S2048x1 .f32)

variable {D : Data} {pid : ℕ} {k : Fin 2}

theorem item0_reads (R : Blocks D pid k x0 x1 x2 x3 x4 x5 x6 x7 x8) (hk : k0_off1 i = ![k.val, 0, 0]) (h : Fin 4) :
    Reads D (2 * pid) h.val (item0 i arg1 harg1 arg2 harg2 arg3 harg3 arg4 harg4 arg5 harg5 arg6 harg6 arg7 harg7 arg8 harg8 arg9 harg9 x0 x1 x2 x3 x4 x5 x6 x7 x8 h) where
  ka j := by
    idx_vars j
    unfold item0
    refine (load2 harg2 x1 _ _ (j0.val) (64 * h.val + j1.val) (by omega) (by omega) ?_ ?_).trans ?_
    · show 0 + 1 * j0.val = _; omega
    · show 64 * h.val + 1 * j1.val = _; omega
    rw [R.ka]
    exact congrArg _ (kk_first D _ pid j0.val h.val j1.val j0.isLt).symm
  kb j := by
    idx_vars j
    unfold item0
    refine (load2 harg3 x2 _ _ (128 * 0 + j0.val) (64 * h.val + j1.val) (by omega) (by omega) ?_ ?_).trans ?_
    · show (128 * 0 + 0) + 1 * j0.val = _; omega
    · show (0 + 64 * h.val) + 1 * j1.val = _; omega
    rw [R.kb]
    unfold kkX
    rw [if_neg (by omega)]
    exact congrArg _ (congrArg₂ D.X (by dsimp only; omega) (by dsimp only; try omega))
  va j := by
    idx_vars j
    unfold item0
    refine (load2 harg4 x3 _ _ (j0.val) (64 * h.val + j1.val) (by omega) (by omega) ?_ ?_).trans ?_
    · show 0 + 1 * j0.val = _; omega
    · show 64 * h.val + 1 * j1.val = _; omega
    rw [R.va]
    exact congrArg _ (kk_first D _ pid j0.val h.val j1.val j0.isLt).symm
  vb j := by
    idx_vars j
    unfold item0
    refine (load2 harg5 x4 _ _ (128 * 0 + j0.val) (64 * h.val + j1.val) (by omega) (by omega) ?_ ?_).trans ?_
    · show (128 * 0 + 0) + 1 * j0.val = _; omega
    · show (0 + 64 * h.val) + 1 * j1.val = _; omega
    rw [R.vb]
    unfold kkX
    rw [if_neg (by omega)]
    exact congrArg _ (congrArg₂ D.X (by dsimp only; omega) (by dsimp only; try omega))
  q g j := by
    idx_vars j
    unfold item0
    refine (load2 harg1 x0 _ _ (128 * 0 + j0.val) (256 * h.val + 64 * g.val + j1.val) (by omega) (by omega) ?_ ?_).trans ?_
    · show (128 * 0 + 0) + 1 * j0.val = _; omega
    · show (0 + (256 * h.val + 64 * g.val)) + 1 * j1.val = _; omega
    rw [R.q]
    unfold qX
    exact congrArg _ (congrArg₂ D.X (by dsimp only; omega) (by dsimp only; omega))
  y g j := by
    idx_vars j
    unfold item0
    refine (load2 harg8 x7 _ _ (128 * 0 + j0.val) (256 * h.val + 64 * g.val + j1.val) (by omega) (by omega) ?_ ?_).trans ?_
    · show (128 * 0) + 1 * j0.val = _; omega
    · show (256 * h.val + 64 * g.val) + 1 * j1.val = _; omega
    rw [R.y]
    unfold yX
    exact congrArg _ (congrArg₂ D.Y (by dsimp only; omega) (by dsimp only; omega))
  o g j := by
    idx_vars j
    unfold item0
    refine (load2 harg7 x6 _ _ (128 * 0 + j0.val) (256 * h.val + 64 * g.val + j1.val) (by omega) (by omega) ?_ ?_).trans ?_
    · show (128 * 0) + 1 * j0.val = _; omega
    · show (256 * h.val + 64 * g.val) + 1 * j1.val = _; omega
    rw [R.o]
    dsimp only
    rw [show 2 * pid + (128 * 0 + j0.val) / 128 = 2 * pid by omega, show (128 * 0 + j0.val) % 128 = j0.val by omega,
      show (256 * h.val + 64 * g.val + j1.val) / 256 = h.val by omega, show (256 * h.val + 64 * g.val + j1.val) / 64 % 4 = g.val by omega,
      show (256 * h.val + 64 * g.val + j1.val) % 64 = j1.val by omega]
  bias j := by
    idx_vars j
    unfold item0
    refine (load3 harg6 x5 _ _ k hk h j0 j1).trans ?_
    rw [R.b0]
    dsimp only
    rw [show (512 * h.val + j0.val) % 128 = j0.val % 128 by omega, show (512 * h.val + j0.val) / 512 = h.val by omega,
      show (512 * h.val + j0.val) / 128 % 4 = j0.val / 128 by omega]
    rfl
  sk j := by
    idx_vars j
    unfold item0
    refine (load2 harg9 x8 _ _ (512 * h.val + j0.val) 0 (by omega) (by omega) ?_ ?_).trans ?_
    · show 512 * h.val + 1 * j0.val = _; omega
    · show 0 + 1 * j1.val = _; omega
    refine (R.z _).trans ?_
    dsimp only
    rw [show (512 * h.val + j0.val) / 128 = 4 * h.val + j0.val / 128 by omega]

theorem item1_reads (R : Blocks D pid k x0 x1 x2 x3 x4 x5 x6 x7 x8) (h : Fin 4) :
    Reads D (2 * pid + 1) h.val (item1 arg1 harg1 arg3 harg3 arg5 harg5 arg6 harg6 arg7 harg7 arg8 harg8 arg9 harg9 x0 x2 x4 x5 x6 x7 x8 h) where
  ka j := by
    idx_vars j
    unfold item1
    refine (load2 harg3 x2 _ _ (128 * 0 + j0.val) (64 * h.val + j1.val) (by omega) (by omega) ?_ ?_).trans ?_
    · show (128 * 0 + 0) + 1 * j0.val = _; omega
    · show (0 + 64 * h.val) + 1 * j1.val = _; omega
    rw [R.kb]
    unfold kkX
    rw [if_neg (by omega)]
    exact congrArg _ (congrArg₂ D.X (by dsimp only; omega) (by dsimp only; try omega))
  kb j := by
    idx_vars j
    unfold item1
    refine (load2 harg3 x2 _ _ (128 * 1 + j0.val) (64 * h.val + j1.val) (by omega) (by omega) ?_ ?_).trans ?_
    · show (128 * 1 + 0) + 1 * j0.val = _; omega
    · show (0 + 64 * h.val) + 1 * j1.val = _; omega
    rw [R.kb]
    unfold kkX
    rw [if_neg (by omega)]
    exact congrArg _ (congrArg₂ D.X (by dsimp only; omega) (by dsimp only; try omega))
  va j := by
    idx_vars j
    unfold item1
    refine (load2 harg5 x4 _ _ (128 * 0 + j0.val) (64 * h.val + j1.val) (by omega) (by omega) ?_ ?_).trans ?_
    · show (128 * 0 + 0) + 1 * j0.val = _; omega
    · show (0 + 64 * h.val) + 1 * j1.val = _; omega
    rw [R.vb]
    unfold kkX
    rw [if_neg (by omega)]
    exact congrArg _ (congrArg₂ D.X (by dsimp only; omega) (by dsimp only; try omega))
  vb j := by
    idx_vars j
    unfold item1
    refine (load2 harg5 x4 _ _ (128 * 1 + j0.val) (64 * h.val + j1.val) (by omega) (by omega) ?_ ?_).trans ?_
    · show (128 * 1 + 0) + 1 * j0.val = _; omega
    · show (0 + 64 * h.val) + 1 * j1.val = _; omega
    rw [R.vb]
    unfold kkX
    rw [if_neg (by omega)]
    exact congrArg _ (congrArg₂ D.X (by dsimp only; omega) (by dsimp only; try omega))
  q g j := by
    idx_vars j
    unfold item1
    refine (load2 harg1 x0 _ _ (128 * 1 + j0.val) (256 * h.val + 64 * g.val + j1.val) (by omega) (by omega) ?_ ?_).trans ?_
    · show (128 * 1 + 0) + 1 * j0.val = _; omega
    · show (0 + (256 * h.val + 64 * g.val)) + 1 * j1.val = _; omega
    rw [R.q]
    unfold qX
    exact congrArg _ (congrArg₂ D.X (by dsimp only; omega) (by dsimp only; omega))
  y g j := by
    idx_vars j
    unfold item1
    refine (load2 harg8 x7 _ _ (128 * 1 + j0.val) (256 * h.val + 64 * g.val + j1.val) (by omega) (by omega) ?_ ?_).trans ?_
    · show (128 * 1) + 1 * j0.val = _; omega
    · show (256 * h.val + 64 * g.val) + 1 * j1.val = _; omega
    rw [R.y]
    unfold yX
    exact congrArg _ (congrArg₂ D.Y (by dsimp only; omega) (by dsimp only; omega))
  o g j := by
    idx_vars j
    unfold item1
    refine (load2 harg7 x6 _ _ (128 * 1 + j0.val) (256 * h.val + 64 * g.val + j1.val) (by omega) (by omega) ?_ ?_).trans ?_
    · show (128 * 1) + 1 * j0.val = _; omega
    · show (256 * h.val + 64 * g.val) + 1 * j1.val = _; omega
    rw [R.o]
    dsimp only
    rw [show 2 * pid + (128 * 1 + j0.val) / 128 = 2 * pid + 1 by omega, show (128 * 1 + j0.val) % 128 = j0.val by omega,
      show (256 * h.val + 64 * g.val + j1.val) / 256 = h.val by omega, show (256 * h.val + 64 * g.val + j1.val) / 64 % 4 = g.val by omega,
      show (256 * h.val + 64 * g.val + j1.val) % 64 = j1.val by omega]
  bias j := by
    idx_vars j
    unfold item1
    refine (load3 harg6 x5 _ _ 1 rfl h j0 j1).trans ?_
    rw [R.b1]
    dsimp only
    rw [show (512 * h.val + j0.val) % 128 = j0.val % 128 by omega, show (512 * h.val + j0.val) / 512 = h.val by omega,
      show (512 * h.val + j0.val) / 128 % 4 = j0.val / 128 by omega]
    rfl
  sk j := by
    idx_vars j
    unfold item1
    refine (load2 harg9 x8 _ _ (512 * h.val + j0.val) 0 (by omega) (by omega) ?_ ?_).trans ?_
    · show 512 * h.val + 1 * j0.val = _; omega
    · show 0 + 1 * j1.val = _; omega
    refine (R.z _).trans ?_
    dsimp only
    rw [show (512 * h.val + j0.val) / 128 = 4 * h.val + j0.val / 128 by omega]

/-- Each item of a step reads its block of queries. -/
theorem items_reads (R : Blocks D pid k x0 x1 x2 x3 x4 x5 x6 x7 x8) (hk : k0_off1 i = ![k.val, 0, 0]) (t : Fin 2) (h : Fin 4) :
    Reads D (2 * pid + t.val) h.val (items i arg1 harg1 arg2 harg2 arg3 harg3 arg4 harg4 arg5 harg5 arg6 harg6 arg7 harg7 arg8 harg8 arg9 harg9 x0 x1 x2 x3 x4 x5 x6 x7 x8 t h) := by
  fin_cases t
  · exact item0_reads i arg1 harg1 arg2 harg2 arg3 harg3 arg4 harg4 arg5 harg5 arg6 harg6 arg7 harg7 arg8 harg8 arg9 harg9 x0 x1 x2 x3 x4 x5 x6 x7 x8 R hk h
  · exact item1_reads arg1 harg1 arg3 harg3 arg5 harg5 arg6 harg6 arg7 harg7 arg8 harg8 arg9 harg9 x0 x1 x2 x3 x4 x5 x6 x7 x8 R h

end Cert.Attn

end
-- ==== Proof.Blk.lean ====
/-
  The blocks of a grid step, from the arrays the kernel's call finds.
-/
module

public import proofs.«01_k».proof.Proof.Loads
public import proofs.«01_k».proof.Proof.Gen.KernelIdeal.Frame
public import Idealize.ShloMosaic.Lib.Pipeline.ValueKit

@[expose] public section

set_option maxRecDepth 16384

noncomputable section

namespace Cert.Attn

open Idealize.ShloMosaic Idealize.ShloMosaic.TcCoe Idealize.ShloMosaic.Tactic Cert.KernelIdeal Cert.KernelIdeal.Gen

/-- Where each window stands at grid step `t`. -/
theorem places : ∀ t : Fin grid0.N, win0_0.index t = ![t.val, 0] ∧ win0_1.index t = ![2 * t.val - 1, 4] ∧ win0_2.index t = ![t.val, 4]
    ∧ win0_3.index t = ![2 * t.val - 1, 5] ∧ win0_4.index t = ![t.val, 5] ∧ win0_5.index t = ![0, 0, 0] ∧ win0_6.index t = ![t.val, 0]
    ∧ win0_7.index t = ![t.val, 0] ∧ win0_8.index t = ![0, 0] ∧ k0_off1 (grid0.coords t) = ![min t.val 1, 0, 0] := by
  decide +kernel

/-- The arrays the kernel's call finds: the arguments, the forward pass's output, the masked bias, the sinks. -/
structure Entry (D : Data) (m : (ℓ : Loc nD τ sig) → Buf (Elt Ideal) ℓ) (c : Dev nD) : Prop where
  X : ∀ (a : Fin 4096) (b : Fin 6144), (m ((c : Thread nD τ).loc main_arg0) (ix2 a b) : EReal) = (D.X a.val b.val : EReal)
  Y : ∀ (a : Fin 4096) (b : Fin 1024), (m ((c : Thread nD τ).loc main_arg3) (ix2 a b) : EReal) = (D.Y a.val b.val : EReal)
  o : ∀ (a : Fin 4096) (b : Fin 1024), (V m c main_v78 (ix2 a b) : EReal)
    = (oX D (a.val / 128) (a.val % 128) (b.val / 256) (b.val / 64 % 4) (b.val % 64) : EReal)
  bias : ∀ (n : Fin 2) (a : Fin 2048) (b : Fin 256), (V m c main_v106 (ix3 n a b) : EReal) = if seen n.val (a.val % 128) b then
    (D.B (a.val / 512) (a.val / 128 % 4) (a.val % 128) b.val : EReal) else ⊥
  z : ∀ a : Fin 2048, (V m c main_v81 (ix2 a 0) : EReal) = (D.z (a.val / 128) : EReal)

variable {D : Data} {m : (ℓ : Loc nD τ sig) → Buf (Elt Ideal) ℓ} {c : Dev nD}

set_option maxHeartbeats 2000000 in
theorem blocks_of (E : Entry D m c) (t : Fin cfg0.N) :
    Blocks D t.val ⟨min t.val 1, by omega⟩ (iblk m c 0 t) (iblk m c 1 t) (iblk m c 2 t) (iblk m c 3 t) (iblk m c 4 t) (iblk m c 5 t)
      (iblk m c 6 t) (iblk m c 7 t) (iblk m c 8 t) := by
  obtain ⟨e0, e1, e2, e3, e4, e5, e6, e7, e8, _⟩ := places t
  have ht : t.val < 16 := N_0 ▸ t.isLt
  constructor
  · intro a b
    refine Eq.trans ?_ ((congrFun (V_main_arg0 m c) _).trans (E.X ⟨256 * t.val + a.val, by omega⟩ ⟨b.val, by omega⟩))
    blk_ext [iblk, e0]
  · intro a b
    refine Eq.trans ?_ ((congrFun (V_main_arg0 m c) _).trans (E.X ⟨128 * (2 * t.val - 1) + a.val, by omega⟩ ⟨1024 + b.val, by omega⟩))
    blk_ext [iblk, e1]
  · intro a b
    refine Eq.trans ?_ ((congrFun (V_main_arg0 m c) _).trans (E.X ⟨256 * t.val + a.val, by omega⟩ ⟨1024 + b.val, by omega⟩))
    blk_ext [iblk, e2]
  · intro a b
    refine Eq.trans ?_ ((congrFun (V_main_arg0 m c) _).trans (E.X ⟨128 * (2 * t.val - 1) + a.val, by omega⟩ ⟨1280 + b.val, by omega⟩))
    blk_ext [iblk, e3]
  · intro a b
    refine Eq.trans ?_ ((congrFun (V_main_arg0 m c) _).trans (E.X ⟨256 * t.val + a.val, by omega⟩ ⟨1280 + b.val, by omega⟩))
    blk_ext [iblk, e4]
  · intro a b
    refine Eq.trans ?_ ((E.bias ⟨min t.val 1, by omega⟩ a b).trans ?_)
    · blk_ext [iblk, e5]
    · refine if_congr ?_ rfl rfl
      unfold seen
      dsimp only
      omega
  · intro a b
    refine Eq.trans ?_ ((E.bias 1 a b).trans ?_)
    · blk_ext [iblk, e5]
    · refine if_congr ?_ rfl rfl
      unfold seen
      show (_ ∧ 128 ≤ 128 * 1 + b.val) ↔ _
      omega
  · intro a b
    refine Eq.trans ?_ ((E.o ⟨256 * t.val + a.val, by omega⟩ ⟨b.val, by omega⟩).trans ?_)
    · blk_ext [iblk, e6]
    · dsimp only
      rw [show (256 * t.val + a.val) / 128 = 2 * t.val + a.val / 128 by omega, show (256 * t.val + a.val) % 128 = a.val % 128 by omega]
  · intro a b
    refine Eq.trans ?_ ((congrFun (V_main_arg3 m c) _).trans (E.Y ⟨256 * t.val + a.val, by omega⟩ ⟨b.val, by omega⟩))
    blk_ext [iblk, e7]
  · intro a
    refine Eq.trans ?_ (E.z a)
    blk_ext [iblk, e8]

end Cert.Attn

end
-- ==== Proof.Ref2.lean ====
/-
  The reference's softmax, read at an index: the maximum, the exponentials, the probabilities, the output and the products of
  the output's gradient with the values.
-/
module

public import proofs.«01_k».proof.Proof.Ref1

@[expose] public section

set_option maxRecDepth 16384

noncomputable section

namespace Cert.Attn.Ref

open Idealize.ShloMosaic Cert.ReferenceIdeal Cert.ReferenceIdeal.Read
open scoped BigOperators

section

variable (D : Data) (x0 : (⟨S4096x6144, .bf16⟩ : BufTy).Contents (Elt Ideal)) (x1 : (⟨S16, .f32⟩ : BufTy).Contents (Elt Ideal))
  (x2 : (⟨S4x4x128x256, .f32⟩ : BufTy).Contents (Elt Ideal)) (x3 : (⟨S4096x1024, .bf16⟩ : BufTy).Contents (Elt Ideal))
  (h0 : ∀ i, x0 i = (D.X (i 0).val (i 1).val : EReal)) (h1 : ∀ i, x1 i = (D.z (i 0).val : EReal))
  (h2 : ∀ i, x2 i = (D.B (i 0).val (i 1).val (i 2).val (i 3).val : EReal)) (h3 : ∀ i, x3 i = (D.Y (i 0).val (i 1).val : EReal))

/-- The word of zero, as the first element of a rank-zero constant. -/
theorem zero_word : FloatOps.ofBits (F := Ideal) .f32 0x00000000#32 = (0 : EReal) := Ideal.ofBits_zero_f32

include h1 in
theorem v15_eq (i : S4x4x128.Idx) : val_main_v15 (F := Ideal) x1 i = (D.z (4 * (i 0).val + (i 1).val) : EReal) := by
  rw [val_main_v15_apply, val_main_v14_apply]
  refine (h1 _).trans (congrArg (fun k : ℕ => ((D.z k : ℝ) : EReal)) ?_)
  show ((i 0).val * 4 + (i 1).val) * 1 + 0 = _
  omega

include h1 in
theorem v64_eq (i : S1x4x4x128.Idx) : val_main_v64 (F := Ideal) x1 i = (D.z (4 * (i 1).val + (i 2).val) : EReal) := by
  rw [val_main_v64_apply]; exact v15_eq D x1 h1 _

/-- The score of a key of a row. -/
abbrev rowS (n r h g : ℕ) : Fin 256 → EReal := score (scX D n r h g) (seen n r)

include h0 h2 in
/-- The largest score, without the sink. -/
theorem v58_eq (i : S32x4x4x128.Idx) : val_main_v58 (F := Ideal) x0 x2 i
    = (Finset.univ : Finset (Fin 256)).fold max ⊥ (rowS D (i 0).val (i 3).val (i 1).val (i 2).val) := by
  unfold val_main_v58
  have hr : S32x4x4x128x256.Reduces [4] S32x4x4x128 := by decide
  refine (Host.reduce_eq_fold_single (α := Ideal .f32) FloatOps.maximumf (val_main_v57_0 (F := Ideal) x0 x2) (val_main_cst_8 (F := Ideal))
    Gen.reducesTo_S32x4x4x128x256_S32x4x4x128_d4 hr Gen.h_S_ i).trans ?_
  refine (congrArg (fun b : EReal => Finset.fold max b _ (Finset.univ : Finset (Fin 256))) (bits_bot : _ = (⊥ : EReal))).trans ?_
  refine congrArg (Finset.fold max (⊥ : EReal) · (Finset.univ : Finset (Fin 256))) (funext fun k => ?_)
  exact (v57_eq D x0 x2 h0 h2 _).trans rfl

include h0 h1 h2 in
theorem v66_eq (i : S32x4x4x128.Idx) : val_main_v66 (F := Ideal) x0 x1 x2 i
    = top (rowS D (i 0).val (i 3).val (i 1).val (i 2).val) (D.z (4 * (i 1).val + (i 2).val) : EReal) := by
  rw [val_main_v66_apply, v58_eq D x0 x2 h0 h2, val_main_v65_apply, v64_eq D x1 h1]
  rfl

/-- The exponential of a key, the sink's, their sum. -/
abbrev eX (n r h g : ℕ) (j : Fin 256) : ℝ := eR (scX D n r h g) (seen n r) (D.z (4 * h + g)) j
abbrev zX (n r h g : ℕ) : ℝ := zR (scX D n r h g) (seen n r) (D.z (4 * h + g))
abbrev denX (n r h g : ℕ) : ℝ := dR (scX D n r h g) (seen n r) (D.z (4 * h + g))

include h0 h1 h2 in
theorem v88_eq (i : S32x4x4x128x256.Idx) : val_main_v88 (F := Ideal) x0 x1 x2 i
    = (eX D (i 0).val (i 3).val (i 1).val (i 2).val (key i) : EReal) := by
  rw [val_main_v88_apply, val_main_v87_apply, v57_eq D x0 x2 h0 h2, val_main_v86_apply, val_main_v85_apply, v66_eq D x0 x1 x2 h0 h1 h2]
  exact exp_score (scX D (i 0).val (i 3).val (i 1).val (i 2).val) (seen (i 0).val (i 3).val) (D.z (4 * (i 1).val + (i 2).val)) (key i)

include h0 h1 h2 in
theorem v93_eq (i : S32x4x4x128.Idx) : val_main_v93 (F := Ideal) x0 x1 x2 i
    = (zX D (i 0).val (i 3).val (i 1).val (i 2).val : EReal) := by
  rw [val_main_v93_apply, val_main_v92_apply, val_main_v91_apply, val_main_v90_apply, v15_eq D x1 h1, v66_eq D x0 x1 x2 h0 h1 h2]
  exact exp_sink (scX D (i 0).val (i 3).val (i 1).val (i 2).val) (seen (i 0).val (i 3).val) (D.z (4 * (i 1).val + (i 2).val))

include h0 h1 h2 in
theorem v94_eq (i : S32x4x4x128.Idx) : val_main_v94 (F := Ideal) x0 x1 x2 i
    = (denX D (i 0).val (i 3).val (i 1).val (i 2).val : EReal) := by
  rw [val_main_v94_apply, v93_eq D x0 x1 x2 h0 h1 h2, val_main_v89_apply]
  refine Eq.trans ?_ (den_eq (scX D (i 0).val (i 3).val (i 1).val (i 2).val) (seen (i 0).val (i 3).val) (D.z (4 * (i 1).val + (i 2).val)))
  refine congrArg (· + _) ?_
  refine (congrArg (· + _) zero_word).trans ((zero_add _).trans (Finset.sum_congr rfl fun k _ => ?_))
  exact v88_eq D x0 x1 x2 h0 h1 h2 _

include h0 h1 h2 in
theorem v95_eq (i : S32x4x4x128x1.Idx) : val_main_v95 (F := Ideal) x0 x1 x2 i
    = (denX D (i 0).val (i 3).val (i 1).val (i 2).val : EReal) := by
  rw [val_main_v95_apply]; exact v94_eq D x0 x1 x2 h0 h1 h2 _

include h0 h1 h2 in
theorem v97_eq (i : S32x4x4x128x256.Idx) : val_main_v97 (F := Ideal) x0 x1 x2 i
    = (pX D (i 0).val (i 3).val (i 1).val (i 2).val (key i) : EReal) := by
  rw [val_main_v97_apply, v88_eq D x0 x1 x2 h0 h1 h2, val_main_v96_apply, v95_eq D x0 x1 x2 h0 h1 h2]
  exact div_coe_pos (dR_pos _ _ _) _

include h0 h1 h2 in
/-- The output, in the layout of the rows. -/
theorem v103_eq (i : S4096x1024.Idx) : val_main_v103 (F := Ideal) x0 x1 x2 i
    = (oX D ((i 0).val / 128) ((i 0).val % 128) ((i 1).val / 256) ((i 1).val / 64 % 4) ((i 1).val % 64) : EReal) := by
  rw [val_main_v103_apply, val_main_v102_apply, val_main_v101_apply]
  have b0 : (i 0).val < 4096 := (i 0).isLt; have b1 : (i 1).val < 1024 := (i 1).isLt
  have e0 : ((i 0).val * 1024 + (i 1).val) / 131072 = (i 0).val / 128 := by omega
  have e1 : ((i 0).val * 1024 + (i 1).val) / 1024 % 128 = (i 0).val % 128 := by omega
  have e2 : ((i 0).val * 1024 + (i 1).val) / 256 % 4 = (i 1).val / 256 := by omega
  have e3 : ((i 0).val * 1024 + (i 1).val) / 64 % 4 = (i 1).val / 64 % 4 := by omega
  have e4 : ((i 0).val * 1024 + (i 1).val) % 64 = (i 1).val % 64 := by omega
  unfold oX
  rw [coe_sum, ← e0, ← e1, ← e2, ← e3, ← e4]
  refine Finset.sum_congr rfl fun k _ => ?_
  rw [v18_eq D x0 h0, v97_eq D x0 x1 x2 h0 h1 h2, EReal.coe_mul]
  rfl

include h0 h3 in
theorem v107_eq (i : S32x4x4x128x256.Idx) : val_main_v107 (F := Ideal) x0 x3 i
    = (ctX D (i 0).val (i 3).val (i 1).val (i 2).val (key i) : EReal) := by
  rw [val_main_v107_apply]
  unfold ctX
  rw [coe_sum]
  refine Finset.sum_congr rfl fun k _ => ?_
  rw [v106_eq D x3 h3, v18_eq D x0 h0, EReal.coe_mul]
  rfl

end

end Cert.Attn.Ref

end
-- ==== Proof.Entry.lean ====
/-
  The arrays that the kernel's call finds, from the arguments.
-/
module

public import proofs.«01_k».proof.Proof.Blk
public import proofs.«01_k».proof.Proof.Ref2
public import Idealize.ShloMosaic.Lib.StableHlo.ReadAt

@[expose] public section

set_option maxRecDepth 16384

noncomputable section

namespace Cert.Attn

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

set_option maxHeartbeats 4000000 in
/-- The attention is computed by the operations of the reference. -/
theorem entry_o : @Eq (FVec Ideal S4096x1024 .bf16) (V m c main_v78)
    (truncf .bf16 (Cert.ReferenceIdeal.Read.val_main_v103 (F := Ideal) (m ((c : Thread nD τ).loc main_arg0))
    (m ((c : Thread nD τ).loc main_arg1)) (m ((c : Thread nD τ).loc main_arg2)) : FVec Ideal S4096x1024 .f32) bitsLt_bf16_f32) := by
  unfold V
  simp only [List.flatten_cons, List.flatten_nil, List.append_nil, StableHlo.after_append]
  after_reads_simp
  simp -implicitDefEqProofs only [StableHlo.TRef.toBuf, StableHlo.TRef.ofBuf, cast_cast, cast_eq]
  rfl

set_option maxHeartbeats 4000000 in
/-- The column of sinks. -/
theorem entry_z (a : Fin 2048) : (V m c main_v81 (ix2 a 0) : EReal) = m ((c : Thread nD τ).loc main_arg1) (ix1 ⟨a.val / 128, by omega⟩) := by
  unfold V
  simp only [List.flatten_cons, List.flatten_nil, List.append_nil, StableHlo.after_append]
  after_reads_at

/-- A choice between a number and minus infinity. -/
theorem select_bot {p : Prop} [Decidable p] {w : BitVec 1} (hw : w = 1#1 ↔ p) {x y z : EReal} (hx : x = y) (hz : z = ⊥) :
    Scalar.select w x z = if p then y else ⊥ := by
  show (if w = 1#1 then x else z) = if p then y else ⊥
  by_cases h : p
  · rw [if_pos h, if_pos (hw.mpr h), hx]
  · rw [if_neg h, if_neg (fun e => h (hw.mp e)), hz]

/-- The comparison of a key with the end of the first block. -/
theorem key_word {j : ℕ} (hj : j < 256) : IntOp.cmpi .sge (BitVec.ofNat 32 j) 128#32 = 1#1 ↔ 128 ≤ j := by
  rw [IntOp.cmpi_sge, toInt_of (int_ofNat j (by omega)), show (128#32 : BitVec 32).toInt = 128 from rfl]
  omega

set_option maxHeartbeats 4000000 in
/-- The two masked biases: the first for the first program, the second for the others. -/
theorem entry_bias (B : ℕ → ℕ → ℕ → ℕ → ℝ)
    (h2 : ∀ i, (m ((c : Thread nD τ).loc main_arg2) i : EReal) = (B (i 0).val (i 1).val (i 2).val (i 3).val : EReal))
    (n : Fin 2) (a : Fin 2048) (b : Fin 256) :
    (V m c main_v106 (ix3 n a b) : EReal)
      = if seen n.val (a.val % 128) b then (B (a.val / 512) (a.val / 128 % 4) (a.val % 128) b.val : EReal) else ⊥ := by
  have hb := b.isLt
  have hB : (B (a.val / 128 / 4) (a.val / 128 % 4) (a.val % 128) b.val : EReal)
      = B (a.val / 512) (a.val / 128 % 4) (a.val % 128) b.val := by
    rw [show a.val / 128 / 4 = a.val / 512 by omega]
  unfold V
  simp only [List.flatten_cons, List.flatten_nil, List.append_nil, StableHlo.after_append]
  after_reads_at
  unfold StableHlo.upto
  simp only [List.take_succ_cons, List.take_zero]
  split
  · rename_i hn
    after_reads_at
    refine select_bot ?_ ((h2 _).trans hB) bits_bot
    rw [IntOp.andi_eq_one, band_word (by omega) hb, key_word hb, show n.val = 0 by omega]
    unfold seen
    omega
  · rename_i hn
    after_reads_at
    refine select_bot ?_ ((h2 _).trans hB) bits_bot
    rw [band_word (by omega) hb, show n.val = 1 by omega]
    unfold seen
    omega

/-- The call's arrays, where the arguments are the data's numbers. -/
theorem entry_of (D : Data)
    (h0 : ∀ i, (m ((c : Thread nD τ).loc main_arg0) i : EReal) = (D.X (i 0).val (i 1).val : EReal))
    (h1 : ∀ i, (m ((c : Thread nD τ).loc main_arg1) i : EReal) = (D.z (i 0).val : EReal))
    (h2 : ∀ i, (m ((c : Thread nD τ).loc main_arg2) i : EReal) = (D.B (i 0).val (i 1).val (i 2).val (i 3).val : EReal))
    (h3 : ∀ i, (m ((c : Thread nD τ).loc main_arg3) i : EReal) = (D.Y (i 0).val (i 1).val : EReal)) : Entry D m c where
  X a b := h0 _
  Y a b := h3 _
  o a b := by
    rw [entry_o]
    exact Ref.v103_eq D _ _ _ h0 h1 h2 (ix2 a b)
  bias n a b := entry_bias m c D.B h2 n a b
  z a := (entry_z m c a).trans (h1 _)

end Cert.Attn

end
-- ==== Proof.Step.lean ====
/-
  What one grid step leaves in each output block, over the reals.
-/
module

public import proofs.«01_k».proof.Proof.Pieces
public import Idealize.ShloMosaic.Lib.Pointwise
public import Idealize.ShloMosaic.Lib.WholeRead

@[expose] public section

set_option maxRecDepth 16384

noncomputable section

namespace Cert.Attn

open Idealize.ShloMosaic Idealize.ShloMosaic.TcCoe Idealize.ShloMosaic.Tactic Cert.KernelIdeal Cert.KernelIdeal.Gen

variable {D : Data} {pid : ℕ} {I : Fin 2 → Fin 4 → Item Ideal} (R : ∀ t h, Reads D (2 * pid + t.val) h.val (I t h))

/-- Where a rectangle of a matrix places an index. -/
theorem emb2 {A B a b : ℕ} (o p : ℕ) (inb : ∀ c, ![o, p] c + (⟨2, ![a, b]⟩ : Shape).size c ≤ (⟨2, ![A, B]⟩ : Shape).size c) (x : Fin a) (y : Fin b) :
    (Rect.unit (s := ⟨2, ![A, B]⟩) ![o, p] (⟨2, ![a, b]⟩ : Shape).size inb).emb (ix2 x y)
      = ix2 ⟨o + x.val, by have := inb 0; exact Nat.lt_of_lt_of_le (Nat.add_lt_add_left x.isLt o) this⟩
          ⟨p + y.val, by have := inb 1; exact Nat.lt_of_lt_of_le (Nat.add_lt_add_left y.isLt p) this⟩ := by
  funext c
  fin_cases c
  · exact Fin.ext (by show o + 1 * x.val = o + x.val; omega)
  · exact Fin.ext (by show p + 1 * y.val = p + y.val; omega)

theorem mem2 {A B a b : ℕ} (o p : ℕ) (inb : ∀ c, ![o, p] c + (⟨2, ![a, b]⟩ : Shape).size c ≤ (⟨2, ![A, B]⟩ : Shape).size c) (x : Fin A) (y : Fin B) :
    ix2 x y ∈ (Rect.unit (s := ⟨2, ![A, B]⟩) ![o, p] (⟨2, ![a, b]⟩ : Shape).size inb).set
      ↔ (o ≤ x.val ∧ x.val < o + a) ∧ (p ≤ y.val ∧ y.val < p + b) :=
  Rect.mem_set_unit.trans Fin.forall_fin_two

/-! ### The gradient of the queries -/

theorem mem_qPieces (t : Fin 2) (h g : Fin 4) : qPiece I t h g ∈ qPieces I := by
  fin_cases t <;> fin_cases h <;> fin_cases g <;> simp [qPieces]

theorem of_mem_qPieces {p : View.Piece (Elt Ideal) S256x1024 .bf16} (hp : p ∈ qPieces I) : ∃ t h g, p = qPiece I t h g := by
  simp only [qPieces, List.mem_cons, List.not_mem_nil, or_false] at hp
  rcases hp with e | e | e | e | e | e | e | e | e | e | e | e | e | e | e | e | e | e | e | e | e | e | e | e | e | e | e | e | e | e | e | e <;>
    exact ⟨_, _, _, e⟩

/-- The queries' gradient at a position of the step's block. -/
def qOut (D : Data) (pid : ℕ) (y : S256x1024.Idx) : EReal :=
  (dqX D (2 * pid + (y 0).val / 128) ((y 0).val % 128) ((y 1).val / 256) ((y 1).val / 64 % 4) ((y 1).val % 64) : EReal)

include R in
theorem qPiece_eq (t : Fin 2) (h g : Fin 4) (x : Fin 128) (y : Fin 64) :
    (qPiece I t h g).2 (ix2 x y) = (dqX D (2 * pid + t.val) x.val h.val g.val y.val : EReal) := by
  have e := dq_eq (R t h)
  unfold qPiece
  dsimp only
  generalize k0_pay160 (I t h).kk (I t h).dsr = w at e
  have e' := e ⟨128 * g.val + x.val, by omega⟩ y
  dsimp only at e'
  rw [show (128 * g.val + x.val) % 128 = x.val by omega, show (128 * g.val + x.val) / 128 = g.val by omega] at e'
  refine Eq.trans ?_ e'
  pointwise
  try rfl

include R in
theorem canon_q (y : S256x1024.Idx) : View.canon (Val := Elt Ideal) (qPieces I) y = qOut D pid y := by
  refine View.canon_apply_of_pieces (Val := Elt Ideal) (e := .bf16) (qOut D pid) _ (fun p hp x => ?_) y ?_
  · obtain ⟨t, h, g, rfl⟩ := of_mem_qPieces hp
    obtain ⟨a, b, rfl⟩ : ∃ (a : Fin 128) (b : Fin 64), x = ix2 a b := ⟨x 0, x 1, eq_ix2 x⟩
    refine (qPiece_eq R t h g a b).trans ?_
    refine Eq.trans ?_ (congrArg (qOut D pid) (emb2 (128 * t.val) (256 * h.val + 64 * g.val) (in_out t h g) a b)).symm
    show _ = (dqX D (2 * pid + (128 * t.val + a.val) / 128) ((128 * t.val + a.val) % 128) ((256 * h.val + 64 * g.val + b.val) / 256)
      ((256 * h.val + 64 * g.val + b.val) / 64 % 4) ((256 * h.val + 64 * g.val + b.val) % 64) : EReal)
    rw [show (128 * t.val + a.val) / 128 = t.val by omega, show (128 * t.val + a.val) % 128 = a.val by omega,
      show (256 * h.val + 64 * g.val + b.val) / 256 = h.val by omega, show (256 * h.val + 64 * g.val + b.val) / 64 % 4 = g.val by omega,
      show (256 * h.val + 64 * g.val + b.val) % 64 = b.val by omega]
  · obtain ⟨a, b, rfl⟩ : ∃ (a : Fin 256) (b : Fin 1024), y = ix2 a b := ⟨y 0, y 1, eq_ix2 y⟩
    refine ⟨_, mem_qPieces ⟨a.val / 128, by omega⟩ ⟨b.val / 256, by omega⟩ ⟨b.val / 64 % 4, by omega⟩, ?_⟩
    refine (mem2 _ _ (in_out _ _ _) a b).mpr ?_
    dsimp only
    omega

/-! ### The gradients of the keys and of the values -/

/-- The half of the gradient of the keys or values that starts at row `o`, at a position of the step's block. -/
def kvOut (pid : ℕ) (o : ℕ) (hb : o + 128 ≤ 256) (f : ℕ → ℕ → Fin 256 → ℕ → ℝ) (y : S256x256.Idx) : EReal :=
  (f (2 * pid + (y 0).val / 128) ((y 1).val / 64) ⟨o + (y 0).val % 128, by omega⟩ ((y 1).val % 64) : EReal)

section KV

variable (w : Item Ideal → FVec Ideal S256x64 .f32) (o : ℕ) (ho : S256x64.Slices ![o, 0] S128x64)

theorem mem_kvPieces (t : Fin 2) (h : Fin 4) : kvPiece I w o ho t h ∈ kvPieces I w o ho := by
  fin_cases t <;> fin_cases h <;> simp [kvPieces]

theorem of_mem_kvPieces {p : View.Piece (Elt Ideal) S256x256 .f32} (hp : p ∈ kvPieces I w o ho) : ∃ t h, p = kvPiece I w o ho t h := by
  simp only [kvPieces, List.mem_cons, List.not_mem_nil, or_false] at hp
  rcases hp with e | e | e | e | e | e | e | e <;> exact ⟨_, _, e⟩

variable (f : ℕ → ℕ → Fin 256 → ℕ → ℝ) (hw : ∀ t h (j : Fin 256) (d : Fin 64), w (I t h) (ix2 j d) = (f (2 * pid + t.val) h.val j d.val : EReal)) (hb : o + 128 ≤ 256)

include hw in
theorem kvPiece_eq (t : Fin 2) (h : Fin 4) (x : Fin 128) (y : Fin 64) :
    (kvPiece I w o ho t h).2 (ix2 x y) = (f (2 * pid + t.val) h.val ⟨o + x.val, by omega⟩ y.val : EReal) := by
  unfold kvPiece
  dsimp only
  have e := hw t h ⟨o + x.val, by omega⟩ y
  generalize w (I t h) = w' at e
  refine Eq.trans ?_ e
  pointwise
  try rfl

include hw in
theorem canon_kv (y : S256x256.Idx) : View.canon (Val := Elt Ideal) (kvPieces I w o ho) y = kvOut pid o hb f y := by
  refine View.canon_apply_of_pieces (Val := Elt Ideal) (e := .f32) (kvOut pid o hb f) _ (fun p hp x => ?_) y ?_
  · obtain ⟨t, h, rfl⟩ := of_mem_kvPieces w o ho hp
    obtain ⟨a, b, rfl⟩ : ∃ (a : Fin 128) (b : Fin 64), x = ix2 a b := ⟨x 0, x 1, eq_ix2 x⟩
    refine (kvPiece_eq w o ho f hw hb t h a b).trans ?_
    refine Eq.trans ?_ (congrArg (kvOut pid o hb f) (emb2 (128 * t.val) (64 * h.val) (in_kvo t h) a b)).symm
    show _ = (f (2 * pid + (128 * t.val + a.val) / 128) ((64 * h.val + b.val) / 64) ⟨o + (128 * t.val + a.val) % 128, _⟩ ((64 * h.val + b.val) % 64) : EReal)
    simp only [show (128 * t.val + a.val) / 128 = t.val by omega, show (128 * t.val + a.val) % 128 = a.val by omega,
      show (64 * h.val + b.val) / 64 = h.val by omega, show (64 * h.val + b.val) % 64 = b.val by omega]
  · obtain ⟨a, b, rfl⟩ : ∃ (a : Fin 256) (b : Fin 256), y = ix2 a b := ⟨y 0, y 1, eq_ix2 y⟩
    refine ⟨_, mem_kvPieces w o ho ⟨a.val / 128, by omega⟩ ⟨b.val / 64, by omega⟩, ?_⟩
    refine (mem2 _ _ (in_kvo _ _) a b).mpr ?_
    dsimp only
    omega

end KV

/-! ### The running gradients of the bias and of the sinks -/

/-- What block `n` adds to the gradient of the bias. -/
def dbOf (D : Data) (n : ℕ) (a : Fin 2048) (b : Fin 256) : ℝ := dsX D n (a.val % 128) (a.val / 512) (a.val / 128 % 4) b

/-- What block `n` adds to the gradient of the sinks. -/
def dzOf (D : Data) (n : ℕ) (a : Fin 2048) : ℝ := dzX D n (a.val % 128) (a.val / 512) (a.val / 128 % 4)

theorem sum_steps (a : Fin 2048) (x : EReal) (y : ℝ) :
    (if a.val / 512 = 3 then (if a.val / 512 = 2 then (if a.val / 512 = 1 then (if a.val / 512 = 0 then x + y else x) + y else
      (if a.val / 512 = 0 then x + y else x)) + y else (if a.val / 512 = 1 then (if a.val / 512 = 0 then x + y else x) + y else
      (if a.val / 512 = 0 then x + y else x))) + y else
     (if a.val / 512 = 2 then (if a.val / 512 = 1 then (if a.val / 512 = 0 then x + y else x) + y else
      (if a.val / 512 = 0 then x + y else x)) + y else (if a.val / 512 = 1 then (if a.val / 512 = 0 then x + y else x) + y else
      (if a.val / 512 = 0 then x + y else x)))) = x + (y : EReal) := by
  have : a.val / 512 = 0 ∨ a.val / 512 = 1 ∨ a.val / 512 = 2 ∨ a.val / 512 = 3 := by omega
  rcases this with e | e | e | e <;> simp [e]

section Acc

variable (arg15 : Memref sig .tc .vmem S2048x256 .f32) (arg16 : Memref sig .tc .vmem S2048x1 .f32)

include R in
theorem dbStep_eq (t : Fin 2) (h : Fin 4) (L : List (View.Piece (Elt Ideal) S2048x256 .f32)) (a : Fin 2048) (b : Fin 256) :
    (View.canon (Val := Elt Ideal) (dbStep I arg15 t h L) (ix2 a b) : EReal)
      = if a.val / 512 = h.val then (View.canon (Val := Elt Ideal) L (ix2 a b) : EReal) + (dbOf D (2 * pid + t.val) a b : EReal)
        else View.canon (Val := Elt Ideal) L (ix2 a b) := by
  unfold dbStep
  rw [View.readCov_eq_canon']
  by_cases hm : a.val / 512 = h.val
  · rw [if_pos hm]
    have ea : ix2 a b = (Rect.unit (s := S2048x256) ![512 * h.val, 0] S512x256.size (in_bias h)).emb (ix2 (⟨a.val - 512 * h.val, by omega⟩ : Fin 512) b) := by
      refine Eq.trans ?_ (emb2 (512 * h.val) 0 (in_bias h) _ b).symm
      congr 1 <;> exact Fin.ext (by dsimp only; omega)
    have e := db_eq (R t h) (fun j => View.canon (Val := Elt Ideal) L ((Rect.unit (s := S2048x256) ![512 * h.val, 0] S512x256.size (in_bias h)).toLoadRect.idx j))
      (⟨a.val - 512 * h.val, by omega⟩ : Fin 512) b
    have e1 := View.canon_cons_emb (Val := Elt Ideal) (Rect.unit (s := S2048x256) ![512 * h.val, 0] S512x256.size (in_bias h))
      (k0_pay65 (I t h).delta (I t h).dp (I t h).sc (I t h).bias (I t h).sk
        (fun j => View.canon (Val := Elt Ideal) L ((Rect.unit (s := S2048x256) ![512 * h.val, 0] S512x256.size (in_bias h)).toLoadRect.idx j))) L
      (ix2 (⟨a.val - 512 * h.val, by omega⟩ : Fin 512) b)
    rw [← ea] at e1
    refine e1.trans (e.trans ?_)
    refine congrArg₂ (fun p q : EReal => p + q) (congrArg (View.canon (Val := Elt Ideal) L) ea.symm) (congrArg Real.toEReal ?_)
    unfold dbOf
    dsimp only
    rw [show (a.val - 512 * h.val) % 128 = a.val % 128 by omega, show (a.val - 512 * h.val) / 128 = a.val / 128 % 4 by omega, hm]
  · rw [if_neg hm]
    refine View.canon_cons_of_not_mem (Val := Elt Ideal) _ _ fun hx => hm ?_
    have := (mem2 (512 * h.val) 0 (in_bias h) a b).mp hx
    omega

include R in
theorem dzStep_eq (t : Fin 2) (h : Fin 4) (L : List (View.Piece (Elt Ideal) S2048x1 .f32)) (a : Fin 2048) (b : Fin 1) :
    (View.canon (Val := Elt Ideal) (dzStep I arg16 t h L) (ix2 a b) : EReal)
      = if a.val / 512 = h.val then (View.canon (Val := Elt Ideal) L (ix2 a b) : EReal) + (dzOf D (2 * pid + t.val) a : EReal)
        else View.canon (Val := Elt Ideal) L (ix2 a b) := by
  unfold dzStep
  rw [View.readCov_eq_canon']
  obtain rfl : b = 0 := Subsingleton.elim _ _
  by_cases hm : a.val / 512 = h.val
  · rw [if_pos hm]
    have ea : ix2 a 0 = (Rect.unit (s := S2048x1) ![512 * h.val, 0] S512x1.size (in_sink h)).emb (ix2 (⟨a.val - 512 * h.val, by omega⟩ : Fin 512) (0 : Fin 1)) := by
      refine Eq.trans ?_ (emb2 (512 * h.val) 0 (in_sink h) _ (0 : Fin 1)).symm
      congr 1 <;> exact Fin.ext (by dsimp only; omega)
    have e := dz_eq (R t h) (fun j => View.canon (Val := Elt Ideal) L ((Rect.unit (s := S2048x1) ![512 * h.val, 0] S512x1.size (in_sink h)).toLoadRect.idx j))
      (⟨a.val - 512 * h.val, by omega⟩ : Fin 512)
    have e1 := View.canon_cons_emb (Val := Elt Ideal) (Rect.unit (s := S2048x1) ![512 * h.val, 0] S512x1.size (in_sink h))
      (k0_pay66 (I t h).delta (I t h).sc (I t h).bias (I t h).sk
        (fun j => View.canon (Val := Elt Ideal) L ((Rect.unit (s := S2048x1) ![512 * h.val, 0] S512x1.size (in_sink h)).toLoadRect.idx j))) L
      (ix2 (⟨a.val - 512 * h.val, by omega⟩ : Fin 512) (0 : Fin 1))
    rw [← ea] at e1
    refine e1.trans (e.trans ?_)
    refine congrArg₂ (fun p q : EReal => p + q) (congrArg (View.canon (Val := Elt Ideal) L) ea.symm) (congrArg Real.toEReal ?_)
    unfold dzOf
    dsimp only
    rw [show (a.val - 512 * h.val) % 128 = a.val % 128 by omega, show (a.val - 512 * h.val) / 128 = a.val / 128 % 4 by omega, hm]
  · rw [if_neg hm]
    refine View.canon_cons_of_not_mem (Val := Elt Ideal) _ _ fun hx => hm ?_
    have := (mem2 (512 * h.val) 0 (in_sink h) a 0).mp hx
    omega

include R in
theorem dbSecond_eq (L : List (View.Piece (Elt Ideal) S2048x256 .f32)) (a : Fin 2048) (b : Fin 256) :
    (View.canon (Val := Elt Ideal) (dbSecond I arg15 L) (ix2 a b) : EReal) = (View.canon (Val := Elt Ideal) L (ix2 a b) : EReal) + (dbOf D (2 * pid + 1) a b : EReal) := by
  unfold dbSecond
  rw [dbStep_eq R, dbStep_eq R, dbStep_eq R, dbStep_eq R]
  exact sum_steps a _ _

include R in
theorem dzSecond_eq (L : List (View.Piece (Elt Ideal) S2048x1 .f32)) (a : Fin 2048) (b : Fin 1) :
    (View.canon (Val := Elt Ideal) (dzSecond I arg16 L) (ix2 a b) : EReal) = (View.canon (Val := Elt Ideal) L (ix2 a b) : EReal) + (dzOf D (2 * pid + 1) a : EReal) := by
  unfold dzSecond
  rw [dzStep_eq R, dzStep_eq R, dzStep_eq R, dzStep_eq R]
  exact sum_steps a _ _

theorem bits_zero : Ideal.ofBits .f32 0x00000000#32 = (0 : EReal) := by simp [Ideal.ofBits, Ideal.ieee]

include R in
theorem canon_dbA (a : Fin 2048) (b : Fin 256) :
    (View.canon (Val := Elt Ideal) (dbPiecesA I arg15) (ix2 a b) : EReal) = (dbOf D (2 * pid) a b : EReal) + (dbOf D (2 * pid + 1) a b : EReal) := by
  unfold dbPiecesA
  rw [dbSecond_eq R, dbStep_eq R, dbStep_eq R, dbStep_eq R, dbStep_eq R]
  refine congrArg (· + _) ((sum_steps a _ _).trans ?_)
  rw [View.canon_unit_zero (by funext c; fin_cases c <;> rfl)]
  refine Eq.trans (congrArg (· + _) bits_zero) (zero_add _)

include R in
theorem canon_dzA (a : Fin 2048) (b : Fin 1) :
    (View.canon (Val := Elt Ideal) (dzPiecesA I arg16) (ix2 a b) : EReal) = (dzOf D (2 * pid) a : EReal) + (dzOf D (2 * pid + 1) a : EReal) := by
  unfold dzPiecesA
  rw [dzSecond_eq R, dzStep_eq R, dzStep_eq R, dzStep_eq R, dzStep_eq R]
  refine congrArg (· + _) ((sum_steps a _ _).trans ?_)
  rw [View.canon_unit_zero (by funext c; fin_cases c <;> rfl)]
  refine Eq.trans (congrArg (· + _) bits_zero) (zero_add _)

variable (harg15 : arg15.IsWhole) (harg16 : arg16.IsWhole) (xo14 : Vec Ideal S2048x256 .f32) (xo15 : Vec Ideal S2048x1 .f32)

include R in
theorem canon_dbB (a : Fin 2048) (b : Fin 256) :
    (View.canon (Val := Elt Ideal) (dbPiecesB I arg15 harg15 xo14) (ix2 a b) : EReal) = ((xo14 (ix2 a b) : EReal) + (dbOf D (2 * pid) a b : EReal)) + (dbOf D (2 * pid + 1) a b : EReal) := by
  unfold dbPiecesB
  rw [dbSecond_eq R]
  refine congrArg (· + _) ?_
  have key : ∀ h : Fin 4, ∀ x : Shape.Idx S512x256, (dbFirst I arg15 harg15 xo14 h).2 x = (fun y => (xo14 y : EReal) + (dbOf D (2 * pid) (y 0) (y 1) : EReal)) ((dbFirst I arg15 harg15 xo14 h).1.emb x) := fun h x => by
    obtain ⟨a, b, rfl⟩ : ∃ (a : Fin 512) (b : Fin 256), x = ix2 a b := ⟨x 0, x 1, eq_ix2 x⟩
    refine (db_eq (R 0 h) _ a b).trans ?_
    refine Eq.trans ?_ (congrArg (fun y => (xo14 y : EReal) + (dbOf D (2 * pid) (y 0) (y 1) : EReal)) (emb2 (512 * h.val) 0 (in_bias h) a b)).symm
    refine congrArg₂ (fun p q : EReal => p + q) ((harg15.readAt_unread xo14 _ _).trans (congrArg xo14 (emb2 (512 * h.val) 0 (in_bias h) a b))) (congrArg Real.toEReal ?_)
    show _ = dbOf D (2 * pid) ⟨512 * h.val + a.val, _⟩ ⟨0 + b.val, _⟩
    unfold dbOf
    simp only [show (512 * h.val + a.val) % 128 = a.val % 128 by omega, show (512 * h.val + a.val) / 128 % 4 = a.val / 128 by omega,
      show (512 * h.val + a.val) / 512 = h.val by omega, Nat.zero_add]
    rfl
  refine View.canon_apply_of_pieces (Val := Elt Ideal) (e := .f32) (fun y => (xo14 y : EReal) + (dbOf D (2 * pid) (y 0) (y 1) : EReal)) _ (fun p hp => ?_) (ix2 a b) ?_
  · simp only [List.mem_cons, List.not_mem_nil, or_false] at hp
    rcases hp with rfl | rfl | rfl | rfl
    · exact key 3
    · exact key 2
    · exact key 1
    · exact key 0
  · have hm : ∀ h : Fin 4, dbFirst I arg15 harg15 xo14 h ∈ [dbFirst I arg15 harg15 xo14 3, dbFirst I arg15 harg15 xo14 2, dbFirst I arg15 harg15 xo14 1, dbFirst I arg15 harg15 xo14 0] := by
      intro h; fin_cases h <;> simp
    refine ⟨_, hm ⟨a.val / 512, by omega⟩, (mem2 _ _ (in_bias _) a b).mpr ?_⟩
    dsimp only
    omega

include R in
theorem canon_dzB (a : Fin 2048) (b : Fin 1) :
    (View.canon (Val := Elt Ideal) (dzPiecesB I arg16 harg16 xo15) (ix2 a b) : EReal) = ((xo15 (ix2 a b) : EReal) + (dzOf D (2 * pid) a : EReal)) + (dzOf D (2 * pid + 1) a : EReal) := by
  unfold dzPiecesB
  rw [dzSecond_eq R]
  refine congrArg (· + _) ?_
  have key : ∀ h : Fin 4, ∀ x : Shape.Idx S512x1, (dzFirst I arg16 harg16 xo15 h).2 x = (fun y => (xo15 y : EReal) + (dzOf D (2 * pid) (y 0) : EReal)) ((dzFirst I arg16 harg16 xo15 h).1.emb x) := fun h x => by
    obtain ⟨a, b, rfl⟩ : ∃ (a : Fin 512) (b : Fin 1), x = ix2 a b := ⟨x 0, x 1, eq_ix2 x⟩
    obtain rfl : b = 0 := Subsingleton.elim _ _
    refine (dz_eq (R 0 h) _ a).trans ?_
    refine Eq.trans ?_ (congrArg (fun y => (xo15 y : EReal) + (dzOf D (2 * pid) (y 0) : EReal)) (emb2 (512 * h.val) 0 (in_sink h) a (0 : Fin 1))).symm
    refine congrArg₂ (fun p q : EReal => p + q) ((harg16.readAt_unread xo15 _ _).trans (congrArg xo15 (emb2 (512 * h.val) 0 (in_sink h) a (0 : Fin 1)))) (congrArg Real.toEReal ?_)
    show _ = dzOf D (2 * pid) ⟨512 * h.val + a.val, _⟩
    unfold dzOf
    simp only [show (512 * h.val + a.val) % 128 = a.val % 128 by omega, show (512 * h.val + a.val) / 128 % 4 = a.val / 128 by omega,
      show (512 * h.val + a.val) / 512 = h.val by omega, Nat.zero_add]
    rfl
  refine View.canon_apply_of_pieces (Val := Elt Ideal) (e := .f32) (fun y => (xo15 y : EReal) + (dzOf D (2 * pid) (y 0) : EReal)) _ (fun p hp => ?_) (ix2 a b) ?_
  · simp only [List.mem_cons, List.not_mem_nil, or_false] at hp
    rcases hp with rfl | rfl | rfl | rfl
    · exact key 3
    · exact key 2
    · exact key 1
    · exact key 0
  · have hm : ∀ h : Fin 4, dzFirst I arg16 harg16 xo15 h ∈ [dzFirst I arg16 harg16 xo15 3, dzFirst I arg16 harg16 xo15 2, dzFirst I arg16 harg16 xo15 1, dzFirst I arg16 harg16 xo15 0] := by
      intro h; fin_cases h <;> simp
    refine ⟨_, hm ⟨a.val / 512, by omega⟩, (mem2 _ _ (in_sink _) a b).mpr ?_⟩
    dsimp only
    omega

end Acc

end Cert.Attn

end
-- ==== Proof.RunAQ.lean ====
/-
  The first step stores the items' gradients of the queries.
-/
module

public import proofs.«01_k».proof.Proof.Pieces

@[expose] public section

set_option maxRecDepth 16384

noncomputable section

namespace Cert.Attn

open Idealize.ShloMosaic Idealize.ShloMosaic.TcCoe Idealize.ShloMosaic.Tactic Cert.KernelIdeal Cert.KernelIdeal.Gen

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runA_q (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1 =
      qPieces (items i arg1 harg1 arg2 harg2 arg3 harg3 arg4 harg4 arg5 harg5 arg6 harg6 arg7 harg7 arg8 harg8 arg9 harg9 x0 x1 x2 x3 x4 x5 x6 x7 x8) := by
  rfl

end Run

end Cert.Attn

end
-- ==== Proof.RunAK.lean ====
/-
  The first step stores the items' gradients of the keys.
-/
module

public import proofs.«01_k».proof.Proof.Pieces

@[expose] public section

set_option maxRecDepth 16384

noncomputable section

namespace Cert.Attn

open Idealize.ShloMosaic Idealize.ShloMosaic.TcCoe Idealize.ShloMosaic.Tactic Cert.KernelIdeal Cert.KernelIdeal.Gen

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runA_kc (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1 =
      kvPieces (items i arg1 harg1 arg2 harg2 arg3 harg3 arg4 harg4 arg5 harg5 arg6 harg6 arg7 harg7 arg8 harg8 arg9 harg9 x0 x1 x2 x3 x4 x5 x6 x7 x8) (fun J => k0_pay161 J.qq J.dsr) 128 slices_S256x64_o128_0_S128x64 := by
  rfl

set_option maxHeartbeats 4000000 in
theorem runA_kp (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1 =
      kvPieces (items i arg1 harg1 arg2 harg2 arg3 harg3 arg4 harg4 arg5 harg5 arg6 harg6 arg7 harg7 arg8 harg8 arg9 harg9 x0 x1 x2 x3 x4 x5 x6 x7 x8) (fun J => k0_pay161 J.qq J.dsr) 0 slices_S256x64_o0_0_S128x64 := by
  rfl

end Run

end Cert.Attn

end
-- ==== Proof.RunAV.lean ====
/-
  The first step stores the items' gradients of the values.
-/
module

public import proofs.«01_k».proof.Proof.Pieces

@[expose] public section

set_option maxRecDepth 16384

noncomputable section

namespace Cert.Attn

open Idealize.ShloMosaic Idealize.ShloMosaic.TcCoe Idealize.ShloMosaic.Tactic Cert.KernelIdeal Cert.KernelIdeal.Gen

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runA_vc (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1 =
      kvPieces (items i arg1 harg1 arg2 harg2 arg3 harg3 arg4 harg4 arg5 harg5 arg6 harg6 arg7 harg7 arg8 harg8 arg9 harg9 x0 x1 x2 x3 x4 x5 x6 x7 x8) (fun J => k0_pay162 J.yy J.p) 128 slices_S256x64_o128_0_S128x64 := by
  rfl

set_option maxHeartbeats 4000000 in
theorem runA_vp (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1 =
      kvPieces (items i arg1 harg1 arg2 harg2 arg3 harg3 arg4 harg4 arg5 harg5 arg6 harg6 arg7 harg7 arg8 harg8 arg9 harg9 x0 x1 x2 x3 x4 x5 x6 x7 x8) (fun J => k0_pay162 J.yy J.p) 0 slices_S256x64_o0_0_S128x64 := by
  rfl

end Run

end Cert.Attn

end
-- ==== Proof.RunBQ.lean ====
/-
  A later step stores the items' gradients of the queries.
-/
module

public import proofs.«01_k».proof.Proof.Pieces

@[expose] public section

set_option maxRecDepth 16384

noncomputable section

namespace Cert.Attn

open Idealize.ShloMosaic Idealize.ShloMosaic.TcCoe Idealize.ShloMosaic.Tactic Cert.KernelIdeal Cert.KernelIdeal.Gen

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runB_q (hc0 : ¬cond0_0 i) (xo14 : Vec F S2048x256 .f32) (xo15 : Vec F S2048x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xo15).1 =
      qPieces (items i arg1 harg1 arg2 harg2 arg3 harg3 arg4 harg4 arg5 harg5 arg6 harg6 arg7 harg7 arg8 harg8 arg9 harg9 x0 x1 x2 x3 x4 x5 x6 x7 x8) := by
  rfl

end Run

end Cert.Attn

end
-- ==== Proof.RunBK.lean ====
/-
  A later step stores the items' gradients of the keys.
-/
module

public import proofs.«01_k».proof.Proof.Pieces

@[expose] public section

set_option maxRecDepth 16384

noncomputable section

namespace Cert.Attn

open Idealize.ShloMosaic Idealize.ShloMosaic.TcCoe Idealize.ShloMosaic.Tactic Cert.KernelIdeal Cert.KernelIdeal.Gen

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runB_kc (hc0 : ¬cond0_0 i) (xo14 : Vec F S2048x256 .f32) (xo15 : Vec F S2048x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xo15).2.1 =
      kvPieces (items i arg1 harg1 arg2 harg2 arg3 harg3 arg4 harg4 arg5 harg5 arg6 harg6 arg7 harg7 arg8 harg8 arg9 harg9 x0 x1 x2 x3 x4 x5 x6 x7 x8) (fun J => k0_pay161 J.qq J.dsr) 128 slices_S256x64_o128_0_S128x64 := by
  rfl

set_option maxHeartbeats 4000000 in
theorem runB_kp (hc0 : ¬cond0_0 i) (xo14 : Vec F S2048x256 .f32) (xo15 : Vec F S2048x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xo15).2.2.1 =
      kvPieces (items i arg1 harg1 arg2 harg2 arg3 harg3 arg4 harg4 arg5 harg5 arg6 harg6 arg7 harg7 arg8 harg8 arg9 harg9 x0 x1 x2 x3 x4 x5 x6 x7 x8) (fun J => k0_pay161 J.qq J.dsr) 0 slices_S256x64_o0_0_S128x64 := by
  rfl

end Run

end Cert.Attn

end
-- ==== Proof.RunBV.lean ====
/-
  A later step stores the items' gradients of the values.
-/
module

public import proofs.«01_k».proof.Proof.Pieces

@[expose] public section

set_option maxRecDepth 16384

noncomputable section

namespace Cert.Attn

open Idealize.ShloMosaic Idealize.ShloMosaic.TcCoe Idealize.ShloMosaic.Tactic Cert.KernelIdeal Cert.KernelIdeal.Gen

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runB_vc (hc0 : ¬cond0_0 i) (xo14 : Vec F S2048x256 .f32) (xo15 : Vec F S2048x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xo15).2.2.2.1 =
      kvPieces (items i arg1 harg1 arg2 harg2 arg3 harg3 arg4 harg4 arg5 harg5 arg6 harg6 arg7 harg7 arg8 harg8 arg9 harg9 x0 x1 x2 x3 x4 x5 x6 x7 x8) (fun J => k0_pay162 J.yy J.p) 128 slices_S256x64_o128_0_S128x64 := by
  rfl

set_option maxHeartbeats 4000000 in
theorem runB_vp (hc0 : ¬cond0_0 i) (xo14 : Vec F S2048x256 .f32) (xo15 : Vec F S2048x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xo15).2.2.2.2.1 =
      kvPieces (items i arg1 harg1 arg2 harg2 arg3 harg3 arg4 harg4 arg5 harg5 arg6 harg6 arg7 harg7 arg8 harg8 arg9 harg9 x0 x1 x2 x3 x4 x5 x6 x7 x8) (fun J => k0_pay162 J.yy J.p) 0 slices_S256x64_o0_0_S128x64 := by
  rfl

end Run

end Cert.Attn

end
-- ==== Proof.Out.lean ====
/-
  The gradients of the queries, the keys and the values that each point of the grid leaves.
-/
module

public import proofs.«01_k».proof.Proof.Loads
public import proofs.«01_k».proof.Proof.Step
public import proofs.«01_k».proof.Proof.Blk
public import proofs.«01_k».proof.Proof.RunAQ
public import proofs.«01_k».proof.Proof.RunAK
public import proofs.«01_k».proof.Proof.RunAV
public import proofs.«01_k».proof.Proof.RunBQ
public import proofs.«01_k».proof.Proof.RunBK
public import proofs.«01_k».proof.Proof.RunBV

@[expose] public section

set_option maxRecDepth 16384

noncomputable section

namespace Cert.Attn

open Idealize.ShloMosaic Idealize.ShloMosaic.TcCoe Idealize.ShloMosaic.Tactic Cert.KernelIdeal Cert.KernelIdeal.Gen
open scoped BigOperators

variable {D : Data} {m : (ℓ : Loc nD τ sig) → Buf (Elt Ideal) ℓ} {c : Dev nD}

/-- The items of a point are those of its two blocks. -/
theorem reads_at (E : Entry D m c) (t : Fin cfg0.N) (u : Fin 2) (h : Fin 4) :
    Reads D (2 * t.val + u.val) h.val (items (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (iblk m c 8 t) u h) := by
  obtain ⟨-, -, -, -, -, -, -, -, -, e⟩ := places t
  exact items_reads _ _ _ _ _ _ _ _ _ _ _ _ _ _ _ _ _ _ _ _ _ _ _ _ _ _ _ _ (blocks_of E t) e u h

/-- The gradients of the queries. -/
theorem out_q (E : Entry D m c) (t : Fin cfg0.N) (y : S256x1024.Idx) : ((outsAt0 m c t.val t.isLt).1 y : EReal) = qOut D t.val y := by
  by_cases h0 : t.val % 16 = 0
  · rw [outsAt0_A m c t h0]
    dsimp only
    unfold out0_A_9
    rw [View.read_writes_junk_eq_canon, runA_q]
    exact canon_q (reads_at E t) y
  · rw [outsAt0_B m c t h0]
    dsimp only
    unfold out0_B_9
    rw [View.read_writes_junk_eq_canon, runB_q]
    exact canon_q (reads_at E t) y

/-- The gradients of the keys of the blocks themselves. -/
theorem out_kc (E : Entry D m c) (t : Fin cfg0.N) (y : S256x256.Idx) : ((outsAt0 m c t.val t.isLt).2.1 y : EReal) = kvOut t.val 128 (by omega) (dkX D) y := by
  by_cases h0 : t.val % 16 = 0
  · rw [outsAt0_A m c t h0]
    dsimp only
    unfold out0_A_10
    rw [View.read_writes_junk_eq_canon, runA_kc]
    exact canon_kv _ 128 _ (dkX D) (fun u h => dk_eq (reads_at E t u h)) (by omega) y
  · rw [outsAt0_B m c t h0]
    dsimp only
    unfold out0_B_10
    rw [View.read_writes_junk_eq_canon, runB_kc]
    exact canon_kv _ 128 _ (dkX D) (fun u h => dk_eq (reads_at E t u h)) (by omega) y

/-- The gradients of the keys of the blocks before. -/
theorem out_kp (E : Entry D m c) (t : Fin cfg0.N) (y : S256x256.Idx) : ((outsAt0 m c t.val t.isLt).2.2.1 y : EReal) = kvOut t.val 0 (by omega) (dkX D) y := by
  by_cases h0 : t.val % 16 = 0
  · rw [outsAt0_A m c t h0]
    dsimp only
    unfold out0_A_11
    rw [View.read_writes_junk_eq_canon, runA_kp]
    exact canon_kv _ 0 _ (dkX D) (fun u h => dk_eq (reads_at E t u h)) (by omega) y
  · rw [outsAt0_B m c t h0]
    dsimp only
    unfold out0_B_11
    rw [View.read_writes_junk_eq_canon, runB_kp]
    exact canon_kv _ 0 _ (dkX D) (fun u h => dk_eq (reads_at E t u h)) (by omega) y

/-- The gradients of the values of the blocks themselves. -/
theorem out_vc (E : Entry D m c) (t : Fin cfg0.N) (y : S256x256.Idx) : ((outsAt0 m c t.val t.isLt).2.2.2.1 y : EReal) = kvOut t.val 128 (by omega) (dvX D) y := by
  by_cases h0 : t.val % 16 = 0
  · rw [outsAt0_A m c t h0]
    dsimp only
    unfold out0_A_12
    rw [View.read_writes_junk_eq_canon, runA_vc]
    exact canon_kv _ 128 _ (dvX D) (fun u h => dv_eq (reads_at E t u h)) (by omega) y
  · rw [outsAt0_B m c t h0]
    dsimp only
    unfold out0_B_12
    rw [View.read_writes_junk_eq_canon, runB_vc]
    exact canon_kv _ 128 _ (dvX D) (fun u h => dv_eq (reads_at E t u h)) (by omega) y

/-- The gradients of the values of the blocks before. -/
theorem out_vp (E : Entry D m c) (t : Fin cfg0.N) (y : S256x256.Idx) : ((outsAt0 m c t.val t.isLt).2.2.2.2.1 y : EReal) = kvOut t.val 0 (by omega) (dvX D) y := by
  by_cases h0 : t.val % 16 = 0
  · rw [outsAt0_A m c t h0]
    dsimp only
    unfold out0_A_13
    rw [View.read_writes_junk_eq_canon, runA_vp]
    exact canon_kv _ 0 _ (dvX D) (fun u h => dv_eq (reads_at E t u h)) (by omega) y
  · rw [outsAt0_B m c t h0]
    dsimp only
    unfold out0_B_13
    rw [View.read_writes_junk_eq_canon, runB_vp]
    exact canon_kv _ 0 _ (dvX D) (fun u h => dv_eq (reads_at E t u h)) (by omega) y

end Cert.Attn

end
-- ==== Proof.Arr.lean ====
/-
  The arrays the kernel leaves.
-/
module

public import proofs.«01_k».proof.Proof.Out

@[expose] public section

set_option maxRecDepth 16384

noncomputable section

namespace Cert.Attn

open Idealize.ShloMosaic Idealize.ShloMosaic.TcCoe Idealize.ShloMosaic.Tactic Cert.KernelIdeal Cert.KernelIdeal.Gen
open scoped BigOperators

variable {D : Data} {m : (ℓ : Loc nD τ sig) → Buf (Elt Ideal) ℓ} {c : Dev nD}

/-- Where each output window stands at grid step `t`. -/
theorem places_out : ∀ t : Fin grid0.N, win0_9.index t = ![t.val, 0] ∧ win0_10.index t = ![t.val, 0] ∧ win0_11.index t = ![t.val, 0]
    ∧ win0_12.index t = ![t.val, 0] ∧ win0_13.index t = ![t.val, 0] := by
  decide +kernel

/-- The gradient of the queries. -/
def qAll (D : Data) (i : S4096x1024.Idx) : EReal :=
  (dqX D ((i 0).val / 128) ((i 0).val % 128) ((i 1).val / 256) ((i 1).val / 64 % 4) ((i 1).val % 64) : EReal)

theorem qOut_all (t : ℕ) (y : S256x1024.Idx) (i : S4096x1024.Idx) (h0 : (i 0).val = t * 256 + (y 0).val) (h1 : (i 1).val = 0 * 1024 + (y 1).val) :
    qOut D t y = qAll D i := by
  unfold qOut qAll
  rw [h1, h0, show (t * 256 + (y 0).val) / 128 = 2 * t + (y 0).val / 128 by omega, show (t * 256 + (y 0).val) % 128 = (y 0).val % 128 by omega,
    zero_mul, zero_add]

/-- The gradient of the keys or of the values. -/
def kvAll (o : ℕ) (hb : o + 128 ≤ 256) (f : ℕ → ℕ → Fin 256 → ℕ → ℝ) (i : S4096x256.Idx) : EReal :=
  (f ((i 0).val / 128) ((i 1).val / 64) ⟨o + (i 0).val % 128, by omega⟩ ((i 1).val % 64) : EReal)

theorem kvOut_all (t o : ℕ) (hb : o + 128 ≤ 256) (f : ℕ → ℕ → Fin 256 → ℕ → ℝ) (y : S256x256.Idx) (i : S4096x256.Idx)
    (h0 : (i 0).val = t * 256 + (y 0).val) (h1 : (i 1).val = 0 * 256 + (y 1).val) :
    kvOut t o hb f y = kvAll o hb f i := by
  unfold kvOut kvAll
  have e1 : (i 0).val / 128 = 2 * t + (y 0).val / 128 := by omega
  have e2 : (i 0).val % 128 = (y 0).val % 128 := by omega
  have e3 : (i 1).val = (y 1).val := by omega
  simp only [e1, e2, e3]

theorem arr_q (E : Entry D m c) : (dats m 0 c).arrAt 9 cfg0.N = qAll D := by
  refine (dats m 0 c).arrAt_eq_of_covers 9 (qAll D) (by decide +kernel) fun t hf y => ?_
  obtain ⟨e, -⟩ := places_out t
  blk_simp
  rw [after0_9]
  refine (out_q E t _).trans (qOut_all _ _ _ ?_ ?_) <;> blk_simp [e]

theorem arr_kc (E : Entry D m c) : (dats m 0 c).arrAt 10 cfg0.N = kvAll 128 (by omega) (dkX D) := by
  refine (dats m 0 c).arrAt_eq_of_covers 10 (kvAll 128 (by omega) (dkX D)) (by decide +kernel) fun t hf y => ?_
  obtain ⟨-, e, -⟩ := places_out t
  blk_simp
  rw [after0_10]
  refine (out_kc E t _).trans (kvOut_all _ _ _ _ _ _ ?_ ?_) <;> blk_simp [e]

theorem arr_kp (E : Entry D m c) : (dats m 0 c).arrAt 11 cfg0.N = kvAll 0 (by omega) (dkX D) := by
  refine (dats m 0 c).arrAt_eq_of_covers 11 (kvAll 0 (by omega) (dkX D)) (by decide +kernel) fun t hf y => ?_
  obtain ⟨-, -, e, -⟩ := places_out t
  blk_simp
  rw [after0_11]
  refine (out_kp E t _).trans (kvOut_all _ _ _ _ _ _ ?_ ?_) <;> blk_simp [e]

theorem arr_vc (E : Entry D m c) : (dats m 0 c).arrAt 12 cfg0.N = kvAll 128 (by omega) (dvX D) := by
  refine (dats m 0 c).arrAt_eq_of_covers 12 (kvAll 128 (by omega) (dvX D)) (by decide +kernel) fun t hf y => ?_
  obtain ⟨-, -, -, e, -⟩ := places_out t
  blk_simp
  rw [after0_12]
  refine (out_vc E t _).trans (kvOut_all _ _ _ _ _ _ ?_ ?_) <;> blk_simp [e]

theorem arr_vp (E : Entry D m c) : (dats m 0 c).arrAt 13 cfg0.N = kvAll 0 (by omega) (dvX D) := by
  refine (dats m 0 c).arrAt_eq_of_covers 13 (kvAll 0 (by omega) (dvX D)) (by decide +kernel) fun t hf y => ?_
  obtain ⟨-, -, -, -, e⟩ := places_out t
  blk_simp
  rw [after0_13]
  refine (out_vp E t _).trans (kvOut_all _ _ _ _ _ _ ?_ ?_) <;> blk_simp [e]

end Cert.Attn

end
-- ==== Proof.RunAS.lean ====
/-
  The first step adds the items to the gradients of the bias and of the sinks.
-/
module

public import proofs.«01_k».proof.Proof.Pieces

@[expose] public section

set_option maxRecDepth 16384

noncomputable section

namespace Cert.Attn

open Idealize.ShloMosaic Idealize.ShloMosaic.TcCoe Idealize.ShloMosaic.Tactic Cert.KernelIdeal Cert.KernelIdeal.Gen

/-- A list that begins with a store made from the list behind it. -/
theorem step_congr {α : Type} {P : List α → α} {x : α} {L L' : List α} (hL : L = L') (hx : x = P L) : x :: L = P L' :: L' := by
  rw [← hL, hx]

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runA_db (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1 =
      dbPiecesA (items i arg1 harg1 arg2 harg2 arg3 harg3 arg4 harg4 arg5 harg5 arg6 harg6 arg7 harg7 arg8 harg8 arg9 harg9 x0 x1 x2 x3 x4 x5 x6 x7 x8) arg15 := by
  refine step_congr (P := fun L => (dbStep _ arg15 1 3 L).head (List.cons_ne_nil _ _)) ?_ ?_
  rotate_left
  · rfl
  refine step_congr (P := fun L => (dbStep _ arg15 1 2 L).head (List.cons_ne_nil _ _)) ?_ ?_
  rotate_left
  · rfl
  refine step_congr (P := fun L => (dbStep _ arg15 1 1 L).head (List.cons_ne_nil _ _)) ?_ ?_
  rotate_left
  · rfl
  refine step_congr (P := fun L => (dbStep _ arg15 1 0 L).head (List.cons_ne_nil _ _)) ?_ ?_
  rotate_left
  · rfl
  refine step_congr (P := fun L => (dbStep _ arg15 0 3 L).head (List.cons_ne_nil _ _)) ?_ ?_
  rotate_left
  · rfl
  refine step_congr (P := fun L => (dbStep _ arg15 0 2 L).head (List.cons_ne_nil _ _)) ?_ ?_
  rotate_left
  · rfl
  refine step_congr (P := fun L => (dbStep _ arg15 0 1 L).head (List.cons_ne_nil _ _)) ?_ ?_
  rotate_left
  · rfl
  refine step_congr (P := fun L => (dbStep _ arg15 0 0 L).head (List.cons_ne_nil _ _)) ?_ ?_
  rotate_left
  · rfl
  rfl

set_option maxHeartbeats 4000000 in
theorem runA_dz (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.2.1 =
      dzPiecesA (items i arg1 harg1 arg2 harg2 arg3 harg3 arg4 harg4 arg5 harg5 arg6 harg6 arg7 harg7 arg8 harg8 arg9 harg9 x0 x1 x2 x3 x4 x5 x6 x7 x8) arg16 := by
  refine step_congr (P := fun L => (dzStep _ arg16 1 3 L).head (List.cons_ne_nil _ _)) ?_ ?_
  rotate_left
  · rfl
  refine step_congr (P := fun L => (dzStep _ arg16 1 2 L).head (List.cons_ne_nil _ _)) ?_ ?_
  rotate_left
  · rfl
  refine step_congr (P := fun L => (dzStep _ arg16 1 1 L).head (List.cons_ne_nil _ _)) ?_ ?_
  rotate_left
  · rfl
  refine step_congr (P := fun L => (dzStep _ arg16 1 0 L).head (List.cons_ne_nil _ _)) ?_ ?_
  rotate_left
  · rfl
  refine step_congr (P := fun L => (dzStep _ arg16 0 3 L).head (List.cons_ne_nil _ _)) ?_ ?_
  rotate_left
  · rfl
  refine step_congr (P := fun L => (dzStep _ arg16 0 2 L).head (List.cons_ne_nil _ _)) ?_ ?_
  rotate_left
  · rfl
  refine step_congr (P := fun L => (dzStep _ arg16 0 1 L).head (List.cons_ne_nil _ _)) ?_ ?_
  rotate_left
  · rfl
  refine step_congr (P := fun L => (dzStep _ arg16 0 0 L).head (List.cons_ne_nil _ _)) ?_ ?_
  rotate_left
  · rfl
  rfl

end Run

end Cert.Attn

end
-- ==== Proof.RunBS.lean ====
/-
  A later step adds the items to the gradients of the bias and of the sinks.
-/
module

public import proofs.«01_k».proof.Proof.RunAS

@[expose] public section

set_option maxRecDepth 16384

noncomputable section

namespace Cert.Attn

open Idealize.ShloMosaic Idealize.ShloMosaic.TcCoe Idealize.ShloMosaic.Tactic Cert.KernelIdeal Cert.KernelIdeal.Gen

section Run

variable {F : FTy → Type} [FloatOps F] (c : Dev nD) (i : grid0.Coords)
  (arg1 : Memref sig .tc .vmem S256x1024 .bf16) (harg1 : arg1.IsWhole) (arg2 : Memref sig .tc .vmem S128x256 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole)
  (arg6 : Memref sig .tc .vmem S2x2048x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S2048x1 .f32) (harg9 : arg9.IsWhole)
  (arg10 : Memref sig .tc .vmem S256x1024 .bf16) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
  (arg14 : Memref sig .tc .vmem S256x256 .f32) (harg14 : arg14.IsWhole) (arg15 : Memref sig .tc .vmem S2048x256 .f32) (harg15 : arg15.IsWhole) (arg16 : Memref sig .tc .vmem S2048x1 .f32) (harg16 : arg16.IsWhole)
  (x0 : Vec F S256x1024 .bf16) (x1 : Vec F S128x256 .bf16) (x2 : Vec F S256x256 .bf16) (x3 : Vec F S128x256 .bf16) (x4 : Vec F S256x256 .bf16) (x5 : Vec F S2x2048x256 .f32) (x6 : Vec F S256x1024 .bf16) (x7 : Vec F S256x1024 .bf16) (x8 : Vec F S2048x1 .f32)

set_option maxHeartbeats 4000000 in
theorem runB_db (hc0 : ¬cond0_0 i) (xo14 : Vec F S2048x256 .f32) (xo15 : Vec F S2048x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xo15).2.2.2.2.2.1 =
      dbPiecesB (items i arg1 harg1 arg2 harg2 arg3 harg3 arg4 harg4 arg5 harg5 arg6 harg6 arg7 harg7 arg8 harg8 arg9 harg9 x0 x1 x2 x3 x4 x5 x6 x7 x8) arg15 harg15 xo14 := by
  refine step_congr (P := fun L => (dbStep _ arg15 1 3 L).head (List.cons_ne_nil _ _)) ?_ ?_
  rotate_left
  · rfl
  refine step_congr (P := fun L => (dbStep _ arg15 1 2 L).head (List.cons_ne_nil _ _)) ?_ ?_
  rotate_left
  · rfl
  refine step_congr (P := fun L => (dbStep _ arg15 1 1 L).head (List.cons_ne_nil _ _)) ?_ ?_
  rotate_left
  · rfl
  refine step_congr (P := fun L => (dbStep _ arg15 1 0 L).head (List.cons_ne_nil _ _)) ?_ ?_
  rotate_left
  · rfl
  rfl

set_option maxHeartbeats 4000000 in
theorem runB_dz (hc0 : ¬cond0_0 i) (xo14 : Vec F S2048x256 .f32) (xo15 : Vec F S2048x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xo15).2.2.2.2.2.2.1 =
      dzPiecesB (items i arg1 harg1 arg2 harg2 arg3 harg3 arg4 harg4 arg5 harg5 arg6 harg6 arg7 harg7 arg8 harg8 arg9 harg9 x0 x1 x2 x3 x4 x5 x6 x7 x8) arg16 harg16 xo15 := by
  refine step_congr (P := fun L => (dzStep _ arg16 1 3 L).head (List.cons_ne_nil _ _)) ?_ ?_
  rotate_left
  · rfl
  refine step_congr (P := fun L => (dzStep _ arg16 1 2 L).head (List.cons_ne_nil _ _)) ?_ ?_
  rotate_left
  · rfl
  refine step_congr (P := fun L => (dzStep _ arg16 1 1 L).head (List.cons_ne_nil _ _)) ?_ ?_
  rotate_left
  · rfl
  refine step_congr (P := fun L => (dzStep _ arg16 1 0 L).head (List.cons_ne_nil _ _)) ?_ ?_
  rotate_left
  · rfl
  rfl

end Run

end Cert.Attn

end
-- ==== Proof.OutS.lean ====
/-
  The running gradients of the bias and of the sinks that each point of the grid leaves.
-/
module

public import proofs.«01_k».proof.Proof.Out
public import proofs.«01_k».proof.Proof.RunAS
public import proofs.«01_k».proof.Proof.RunBS

@[expose] public section

set_option maxRecDepth 16384

noncomputable section

namespace Cert.Attn

open Idealize.ShloMosaic Idealize.ShloMosaic.TcCoe Idealize.ShloMosaic.Tactic Cert.KernelIdeal Cert.KernelIdeal.Gen
open scoped BigOperators

variable {D : Data} {m : (ℓ : Loc nD τ sig) → Buf (Elt Ideal) ℓ} {c : Dev nD}

/-- The sum over the blocks so far of the gradients of the bias. -/
theorem out_db (E : Entry D m c) (a : Fin 2048) (b : Fin 256) : ∀ (n : ℕ) (hn : n < cfg0.N),
    ((outsAt0 m c n hn).2.2.2.2.2.1 (ix2 a b) : EReal) = ((∑ k ∈ Finset.range (2 * n + 2), dbOf D k a b : ℝ) : EReal)
  | 0, hn => by
    have h0 : (⟨0, hn⟩ : Fin cfg0.N).val % 16 = 0 := rfl
    rw [show outsAt0 m c 0 hn = _ from outsAt0_A m c ⟨0, hn⟩ h0]
    dsimp only
    unfold out0_A_14
    rw [View.read_writes_junk_eq_canon, runA_db, Finset.sum_range_succ, Finset.sum_range_succ, Finset.sum_range_zero, zero_add, EReal.coe_add]
    exact canon_dbA (reads_at E ⟨0, hn⟩) _ a b
  | n + 1, hn => by
    have hN : n + 1 < 16 := N_0 ▸ hn
    have h0 : ¬(⟨n + 1, hn⟩ : Fin cfg0.N).val % 16 = 0 := by show ¬(n + 1) % 16 = 0; omega
    have ih := out_db E a b n (Nat.lt_of_succ_lt hn)
    rw [show outsAt0 m c (n + 1) hn = _ from outsAt0_B m c ⟨n + 1, hn⟩ h0]
    dsimp only
    unfold out0_B_14
    rw [View.read_writes_junk_eq_canon, runB_db, show 2 * (n + 1) + 2 = 2 * n + 2 + 1 + 1 by omega, Finset.sum_range_succ, Finset.sum_range_succ, EReal.coe_add, EReal.coe_add, ← ih]
    exact canon_dbB (reads_at E ⟨n + 1, hn⟩) _ _ _ a b

/-- The sum over the blocks so far of the gradients of the sinks. -/
theorem out_dz (E : Entry D m c) (a : Fin 2048) (b : Fin 1) : ∀ (n : ℕ) (hn : n < cfg0.N),
    ((outsAt0 m c n hn).2.2.2.2.2.2 (ix2 a b) : EReal) = ((∑ k ∈ Finset.range (2 * n + 2), dzOf D k a : ℝ) : EReal)
  | 0, hn => by
    have h0 : (⟨0, hn⟩ : Fin cfg0.N).val % 16 = 0 := rfl
    rw [show outsAt0 m c 0 hn = _ from outsAt0_A m c ⟨0, hn⟩ h0]
    dsimp only
    unfold out0_A_15
    rw [View.read_writes_junk_eq_canon, runA_dz, Finset.sum_range_succ, Finset.sum_range_succ, Finset.sum_range_zero, zero_add, EReal.coe_add]
    exact canon_dzA (reads_at E ⟨0, hn⟩) _ a b
  | n + 1, hn => by
    have hN : n + 1 < 16 := N_0 ▸ hn
    have h0 : ¬(⟨n + 1, hn⟩ : Fin cfg0.N).val % 16 = 0 := by show ¬(n + 1) % 16 = 0; omega
    have ih := out_dz E a b n (Nat.lt_of_succ_lt hn)
    rw [show outsAt0 m c (n + 1) hn = _ from outsAt0_B m c ⟨n + 1, hn⟩ h0]
    dsimp only
    unfold out0_B_15
    rw [View.read_writes_junk_eq_canon, runB_dz, show 2 * (n + 1) + 2 = 2 * n + 2 + 1 + 1 by omega, Finset.sum_range_succ, Finset.sum_range_succ, EReal.coe_add, EReal.coe_add, ← ih]
    exact canon_dzB (reads_at E ⟨n + 1, hn⟩) _ _ _ a b

end Cert.Attn

end
-- ==== Proof.ArrS.lean ====
/-
  The gradients of the bias and of the sinks that the kernel leaves.
-/
module

public import proofs.«01_k».proof.Proof.OutS

@[expose] public section

set_option maxRecDepth 16384

noncomputable section

namespace Cert.Attn

open Idealize.ShloMosaic Idealize.ShloMosaic.TcCoe Idealize.ShloMosaic.Tactic Cert.KernelIdeal Cert.KernelIdeal.Gen
open scoped BigOperators

variable {D : Data} {m : (ℓ : Loc nD τ sig) → Buf (Elt Ideal) ℓ} {c : Dev nD}

/-- The gradient of the bias. -/
def dbAll (D : Data) (i : S2048x256.Idx) : EReal :=
  (dbX D ((i 0).val / 512) ((i 0).val / 128 % 4) ((i 0).val % 128) ⟨(i 1).val, (i 1).isLt⟩ : EReal)

/-- The gradient of the sinks. -/
def dzAll (D : Data) (i : S2048x1.Idx) : EReal :=
  (dsinkX D ((i 0).val / 512) ((i 0).val / 128 % 4) ((i 0).val % 128) : EReal)

theorem arr_db (E : Entry D m c) : (dats m 0 c).arrAt 14 cfg0.N = dbAll D := by
  refine (dats m 0 c).arrAt_eq_of_after_last 14 t0_15 (by decide +kernel) (dbAll D) fun j => ?_
  blk_simp
  rw [after0_14]
  obtain ⟨a, b, rfl⟩ : ∃ (a : Fin 2048) (b : Fin 256), j = ix2 a b := ⟨j 0, j 1, eq_ix2 j⟩
  refine (out_db E a b 15 _).trans ?_
  exact congrArg _ (Finset.sum_range fun k => dbOf D k a b)

theorem arr_dz (E : Entry D m c) : (dats m 0 c).arrAt 15 cfg0.N = dzAll D := by
  refine (dats m 0 c).arrAt_eq_of_after_last 15 t0_15 (by decide +kernel) (dzAll D) fun j => ?_
  blk_simp
  rw [after0_15]
  obtain ⟨a, b, rfl⟩ : ∃ (a : Fin 2048) (b : Fin 1), j = ix2 a b := ⟨j 0, j 1, eq_ix2 j⟩
  refine (out_dz E a b 15 _).trans ?_
  exact congrArg _ (Finset.sum_range fun k => dzOf D k a)

end Cert.Attn

end
-- ==== Proof.Ref3.lean ====
/-
  The reference's gradients of the scores and of the sink, read at an index.
-/
module

public import proofs.«01_k».proof.Proof.Ref2

@[expose] public section

set_option maxRecDepth 16384

noncomputable section

namespace Cert.Attn.Ref

open Idealize.ShloMosaic Cert.ReferenceIdeal Cert.ReferenceIdeal.Read
open scoped BigOperators

section

variable (D : Data) (x0 : (⟨S4096x6144, .bf16⟩ : BufTy).Contents (Elt Ideal)) (x1 : (⟨S16, .f32⟩ : BufTy).Contents (Elt Ideal))
  (x2 : (⟨S4x4x128x256, .f32⟩ : BufTy).Contents (Elt Ideal)) (x3 : (⟨S4096x1024, .bf16⟩ : BufTy).Contents (Elt Ideal))
  (h0 : ∀ i, x0 i = (D.X (i 0).val (i 1).val : EReal)) (h1 : ∀ i, x1 i = (D.z (i 0).val : EReal))
  (h2 : ∀ i, x2 i = (D.B (i 0).val (i 1).val (i 2).val (i 3).val : EReal)) (h3 : ∀ i, x3 i = (D.Y (i 0).val (i 1).val : EReal))

/-- A sum begun at the word of zero, of reals. -/
theorem sum_zero {n : ℕ} (f : Fin n → EReal) (a : EReal) (ha : a = 0) (r : Fin n → ℝ) (h : ∀ k, f k = (r k : EReal)) :
    a + ∑ k, f k = ((∑ k, r k : ℝ) : EReal) := by
  rw [ha, zero_add, coe_sum]; exact Finset.sum_congr rfl fun k _ => h k

/-- A sum of one term begun at the word of zero. -/
theorem sum_one (f : Fin 1 → EReal) (a : EReal) (ha : a = 0) : a + ∑ k, f k = f 0 := by
  rw [ha, zero_add, Fin.sum_univ_one]

/-- The derivative with respect to the sum of the exponentials. -/
abbrev cX (n r h g : ℕ) : ℝ := cR (scX D n r h g) (seen n r) (D.z (4 * h + g)) (ctX D n r h g)

include h0 h1 h2 in
theorem v100_eq (i : S32x4x4x128x1.Idx) : val_main_v100 (F := Ideal) x0 x1 x2 i
    = ((1 / (denX D (i 0).val (i 3).val (i 1).val (i 2).val * denX D (i 0).val (i 3).val (i 1).val (i 2).val) : ℝ) : EReal) := by
  rw [val_main_v100_apply, val_main_v99_apply, val_main_cst_17_apply, val_main_v98_apply, v95_eq D x0 x1 x2 h0 h1 h2]
  have hp : 0 < denX D (i 0).val (i 3).val (i 1).val (i 2).val := dR_pos _ _ _
  refine Eq.trans ?_ (div_coe_pos (mul_pos hp hp) 1)
  rw [EReal.coe_mul]
  exact congrArg (fun b : EReal => Ideal.div b _) bits_one

include h0 h1 h2 h3 in
theorem v112_eq (i : S32x4x4x128x256.Idx) : val_main_v112 (F := Ideal) x0 x1 x2 x3 i
    = ((ctX D (i 0).val (i 3).val (i 1).val (i 2).val (key i)
        * (1 / (denX D (i 0).val (i 3).val (i 1).val (i 2).val * denX D (i 0).val (i 3).val (i 1).val (i 2).val))
        * eX D (i 0).val (i 3).val (i 1).val (i 2).val (key i) : ℝ) : EReal) := by
  rw [val_main_v112_apply, val_main_v111_apply, v107_eq D x0 x3 h0 h3, val_main_v110_apply, v100_eq D x0 x1 x2 h0 h1 h2,
    v88_eq D x0 x1 x2 h0 h1 h2, EReal.coe_mul, EReal.coe_mul]
  rfl

theorem real4 (f : ℕ → ℕ → ℕ → ℕ → ℝ) {n n' r r' h h' g g' : ℕ} (e0 : n = n') (e1 : h = h') (e2 : g = g') (e3 : r = r') :
    ((f n r h g : ℝ) : EReal) = (f n' r' h' g' : ℝ) := by subst e0; subst e1; subst e2; subst e3; rfl

include h0 h1 h2 h3 in
theorem v113_eq (i : S32x4x4x128.Idx) : val_main_v113 (F := Ideal) x0 x1 x2 x3 i
    = ((-cX D (i 0).val (i 3).val (i 1).val (i 2).val : ℝ) : EReal) := by
  rw [val_main_v113_apply, val_main_cst_18_apply, sum_zero _ _ zero_word _ (fun k => v112_eq D x0 x1 x2 x3 h0 h1 h2 h3 _)]
  unfold cX cR
  rw [neg_neg]
  rfl

include h0 h1 h2 h3 in
theorem v118_eq (i : S32x4x4x128.Idx) : val_main_v118 (F := Ideal) x0 x1 x2 x3 i
    = (cX D (i 0).val (i 3).val (i 1).val (i 2).val : EReal) := by
  rw [val_main_v118_apply, val_main_cst_19_apply, sum_one _ _ zero_word, val_main_v115_apply, val_main_v114_apply,
    v113_eq D x0 x1 x2 x3 h0 h1 h2 h3]
  refine (EReal.coe_neg _).symm.trans ?_
  rw [neg_neg]
  have b0 : (i 0).val < 32 := (i 0).isLt; have b1 : (i 1).val < 4 := (i 1).isLt
  have b2 : (i 2).val < 4 := (i 2).isLt; have b3 : (i 3).val < 128 := (i 3).isLt
  refine real4 (cX D) ?_ ?_ ?_ ?_ <;> dsimp only <;> first | omega | rfl | skip

include h0 h1 h2 h3 in
theorem v119_eq' (i : S32x4x4x128.Idx) : val_main_v119 (F := Ideal) x0 x1 x2 x3 i
    = ((cX D (i 0).val (i 3).val (i 1).val (i 2).val * zX D (i 0).val (i 3).val (i 1).val (i 2).val : ℝ) : EReal) := by
  rw [val_main_v119_apply, v118_eq D x0 x1 x2 x3 h0 h1 h2 h3, v93_eq D x0 x1 x2 h0 h1 h2, EReal.coe_mul]
  rfl

include h0 h1 h2 h3 in
theorem v119_eq (i : S32x4x4x128.Idx) : val_main_v119 (F := Ideal) x0 x1 x2 x3 i
    = (dzX D (i 0).val (i 3).val (i 1).val (i 2).val : EReal) :=
  (v119_eq' D x0 x1 x2 x3 h0 h1 h2 h3 i).trans (congrArg Real.toEReal (auto_dz _ _ _ _))

include h0 h1 h2 h3 in
theorem v126_eq' (i : S32x4x4x128x256.Idx) : val_main_v126 (F := Ideal) x0 x1 x2 x3 i
    = (((ctX D (i 0).val (i 3).val (i 1).val (i 2).val (key i) / denX D (i 0).val (i 3).val (i 1).val (i 2).val
        + cX D (i 0).val (i 3).val (i 1).val (i 2).val) * eX D (i 0).val (i 3).val (i 1).val (i 2).val (key i) : ℝ) : EReal) := by
  rw [val_main_v126_apply, val_main_v125_apply, val_main_v117_apply, v107_eq D x0 x3 h0 h3, val_main_v116_apply,
    v95_eq D x0 x1 x2 h0 h1 h2, val_main_v124_apply, v118_eq D x0 x1 x2 x3 h0 h1 h2 h3, v88_eq D x0 x1 x2 h0 h1 h2,
    EReal.coe_mul, EReal.coe_add, ← div_coe_pos (dR_pos _ _ _)]
  rfl

include h0 h1 h2 h3 in
theorem v126_eq (i : S32x4x4x128x256.Idx) : val_main_v126 (F := Ideal) x0 x1 x2 x3 i
    = (dsX D (i 0).val (i 3).val (i 1).val (i 2).val (key i) : EReal) :=
  (v126_eq' D x0 x1 x2 x3 h0 h1 h2 h3 i).trans (congrArg Real.toEReal (auto_ds _ _ _ _ _))

/-- The sum of the gradients of the scores, negated. -/
abbrev negX (n r h g : ℕ) : ℝ := ∑ k, -((ctX D n r h g k / denX D n r h g + cX D n r h g) * eX D n r h g k)

include h0 h1 h2 h3 in
theorem v128_eq (i : S32x4x4x128.Idx) : val_main_v128 (F := Ideal) x0 x1 x2 x3 i
    = (negX D (i 0).val (i 3).val (i 1).val (i 2).val : EReal) := by
  rw [val_main_v128_apply, val_main_cst_22_apply]
  refine sum_zero _ _ zero_word _ (fun k => ?_)
  rw [val_main_v127_apply, v126_eq' D x0 x1 x2 x3 h0 h1 h2 h3, EReal.coe_neg]
  rfl

include h0 h1 h2 h3 in
/-- The gradient that reaches the maximum is zero. -/
theorem v131_eq (i : S32x4x4x128.Idx) : val_main_v131 (F := Ideal) x0 x1 x2 x3 i = (0 : EReal) := by
  rw [val_main_v131_apply, val_main_v122_apply, v119_eq' D x0 x1 x2 x3 h0 h1 h2 h3, val_main_v130_apply, val_main_cst_23_apply,
    sum_one _ _ zero_word, val_main_v129_apply, v128_eq D x0 x1 x2 x3 h0 h1 h2 h3]
  have b0 : (i 0).val < 32 := (i 0).isLt; have b1 : (i 1).val < 4 := (i 1).isLt
  have b2 : (i 2).val < 4 := (i 2).isLt; have b3 : (i 3).val < 128 := (i 3).isLt
  rw [real4 (negX D) (n' := (i 0).val) (h' := (i 1).val) (g' := (i 2).val) (r' := (i 3).val)
    (by dsimp only; first | omega | rfl) (by dsimp only; first | omega | rfl) (by dsimp only; first | omega | rfl) (by dsimp only; first | omega | rfl)]
  have h := auto_max (scX D (i 0).val (i 3).val (i 1).val (i 2).val) (seen (i 0).val (i 3).val) (D.z (4 * (i 1).val + (i 2).val))
    (ctX D (i 0).val (i 3).val (i 1).val (i 2).val)
  have h' := congrArg Real.toEReal h
  rw [EReal.coe_add, EReal.coe_neg, EReal.coe_zero] at h'
  exact h'

theorem rowS_congr {n n' r r' h h' g g' : ℕ} (e0 : n = n') (e1 : h = h') (e2 : g = g') (e3 : r = r') :
    rowS D n r h g = rowS D n' r' h' g' := by subst e0; subst e1; subst e2; subst e3; rfl

include h0 h2 in
theorem v60_eq (i : S32x4x4x128x256.Idx) : val_main_v60 (F := Ideal) x0 x2 i
    = Finset.fold max ⊥ (rowS D (i 0).val (i 3).val (i 1).val (i 2).val) Finset.univ := by
  rw [val_main_v60_apply, val_main_v59_apply, v58_eq D x0 x2 h0 h2]
  have b0 : (i 0).val < 32 := (i 0).isLt; have b1 : (i 1).val < 4 := (i 1).isLt
  have b2 : (i 2).val < 4 := (i 2).isLt; have b3 : (i 3).val < 128 := (i 3).isLt
  refine congrArg (Finset.fold max (⊥ : EReal) · (Finset.univ : Finset (Fin 256))) (rowS_congr D ?_ ?_ ?_ ?_) <;> dsimp only <;> omega

include h0 h2 in
/-- The number of keys that attain the maximum is positive. -/
theorem v63_pos (i : S32x4x4x128.Idx) : ∃ c : ℝ, 0 < c ∧ val_main_v63 (F := Ideal) x0 x2 i = (c : EReal) := by
  rw [val_main_v63_apply, val_main_cst_9_apply]
  refine ⟨_, ?_, sum_zero _ _ zero_word (fun k => ((val_main_v61 (F := Ideal) x0 x2 (idx_main_v63 i k)).toNat : ℝ)) (fun k => rfl)⟩
  obtain ⟨j, hj⟩ := fold_max_attained (rowS D (i 0).val (i 3).val (i 1).val (i 2).val)
  refine Finset.sum_pos' (fun k _ => Nat.cast_nonneg _) ⟨j, Finset.mem_univ _, ?_⟩
  have e : val_main_v61 (F := Ideal) x0 x2 (idx_main_v63 i j) = 1#1 := by
    rw [val_main_v61_apply, v57_eq D x0 x2 h0 h2, v60_eq D x0 x2 h0 h2]
    show Ideal.cmp .oeq (rowS D (i 0).val (i 3).val (i 1).val (i 2).val j)
      (Finset.fold max ⊥ (rowS D (i 0).val (i 3).val (i 1).val (i 2).val) Finset.univ) = 1#1
    rw [hj]; simp [Ideal.cmp]
  rw [e]; norm_num

include h0 h1 h2 h3 in
theorem v142_eq (i : S32x4x4x128x256.Idx) : val_main_v142 (F := Ideal) x0 x1 x2 x3 i
    = (dsX D (i 0).val (i 3).val (i 1).val (i 2).val (key i) : EReal) := by
  rw [val_main_v142_apply]
  unfold Scalar.select
  by_cases h : seen (i 0).val (i 3).val (key i)
  · rw [if_pos (show val_main_v57_1 (F := Ideal) i = 1 from (mask_iff i).mpr h), val_main_v141_apply,
      v126_eq D x0 x1 x2 x3 h0 h1 h2 h3, val_main_v140_apply, val_main_v139_apply, val_main_v138_apply, val_main_v135_apply,
      v131_eq D x0 x1 x2 x3 h0 h1 h2 h3]
    obtain ⟨c, hc, hv⟩ := v63_pos D x0 x2 h0 h2 (idx_main_v139 i)
    rw [hv]
    have e : FloatOps.hostDivf (F := Ideal) (φ := .f32) (FloatOps.mulf (F := Ideal) (φ := .f32) (0 : EReal) (val_main_v75 (F := Ideal) x0 x1 x2 (idx_main_v139 i))) (c : EReal) = (0 : EReal) := by
      show Ideal.div ((0 : EReal) * _) (c : EReal) = 0
      rw [zero_mul, ← EReal.coe_zero, div_coe_pos hc, zero_div]
    rw [e]
    show (_ : EReal) + (0 : EReal) * _ = _
    rw [zero_mul, add_zero]
  · rw [if_neg (show ¬ val_main_v57_1 (F := Ideal) i = 1 from fun hh => h ((mask_iff i).mp hh)), val_main_call1_v0_apply]
    unfold dsX
    rw [dsR_masked _ _ _ _ h, EReal.coe_zero]
    exact zero_word

end

end Cert.Attn.Ref

end
-- ==== Proof.Ref4.lean ====
/-
  The reference's results, read at an index.
-/
module

public import proofs.«01_k».proof.Proof.Ref3
public import Idealize.ShloMosaic.Lib.Pointwise

@[expose] public section

set_option maxRecDepth 16384

noncomputable section

namespace Cert.Attn.Ref

open Idealize.ShloMosaic Cert.ReferenceIdeal Cert.ReferenceIdeal.Read
open scoped BigOperators

section

variable (D : Data) (x0 : (⟨S4096x6144, .bf16⟩ : BufTy).Contents (Elt Ideal)) (x1 : (⟨S16, .f32⟩ : BufTy).Contents (Elt Ideal))
  (x2 : (⟨S4x4x128x256, .f32⟩ : BufTy).Contents (Elt Ideal)) (x3 : (⟨S4096x1024, .bf16⟩ : BufTy).Contents (Elt Ideal))
  (h0 : ∀ i, x0 i = (D.X (i 0).val (i 1).val : EReal)) (h1 : ∀ i, x1 i = (D.z (i 0).val : EReal))
  (h2 : ∀ i, x2 i = (D.B (i 0).val (i 1).val (i 2).val (i 3).val : EReal)) (h3 : ∀ i, x3 i = (D.Y (i 0).val (i 1).val : EReal))

include h0 h1 h2 h3 in
theorem v148_eq (i : S32x4x256x128x4.Idx) : val_main_v148 (F := Ideal) x0 x1 x2 x3 i
    = ((dsX D (i 0).val (i 3).val (i 1).val (i 4).val ⟨(i 2).val, (i 2).isLt⟩ * (1 / 8) : ℝ) : EReal) := by
  rw [val_main_v148_apply, val_main_v147_apply, v142_eq D x0 x1 x2 x3 h0 h1 h2 h3, val_main_v146_apply, EReal.coe_mul, ← bits_eighth]
  rfl

include h0 h1 h2 h3 in
/-- The gradient of the queries. -/
theorem v158_eq (i : S4096x1024.Idx) : val_main_v158 (F := Ideal) x0 x1 x2 x3 i
    = (dqX D ((i 0).val / 128) ((i 0).val % 128) ((i 1).val / 256) ((i 1).val / 64 % 4) ((i 1).val % 64) : EReal) := by
  rw [val_main_v158_apply, val_main_v157_apply, val_main_v150_apply, val_main_v149_apply]
  have b0 : (i 0).val < 4096 := (i 0).isLt; have b1 : (i 1).val < 1024 := (i 1).isLt
  have e0 : ((i 0).val * 1024 + (i 1).val) / 131072 = (i 0).val / 128 := by omega
  have e1 : ((i 0).val * 1024 + (i 1).val) / 1024 % 128 = (i 0).val % 128 := by omega
  have e2 : ((i 0).val * 1024 + (i 1).val) / 256 % 4 = (i 1).val / 256 := by omega
  have e3 : ((i 0).val * 1024 + (i 1).val) / 64 % 4 = (i 1).val / 64 % 4 := by omega
  have e4 : ((i 0).val * 1024 + (i 1).val) % 64 = (i 1).val % 64 := by omega
  unfold dqX
  rw [coe_sum, ← e0, ← e1, ← e2, ← e3, ← e4]
  refine Finset.sum_congr rfl fun k _ => ?_
  rw [v148_eq D x0 x1 x2 x3 h0 h1 h2 h3, v17_eq D x0 h0, EReal.coe_mul]
  rfl

include h0 h1 h2 h3 in
theorem v108_eq (i : S32x4x64x256.Idx) : val_main_v108 (F := Ideal) x0 x1 x2 x3 i
    = (dvX D (i 0).val (i 1).val ⟨(i 3).val, (i 3).isLt⟩ (i 2).val : EReal) := by
  unfold val_main_v108
  have e1 := v106_eq D x3 h3
  have e2 := v97_eq D x0 x1 x2 h0 h1 h2
  generalize val_main_v106 (F := Ideal) x3 = y1 at e1
  generalize val_main_v97 (F := Ideal) x0 x1 x2 = y2 at e2
  pointwise
  rw [Finset.sum_comm]
  unfold dvX
  rw [coe_sum]
  refine Finset.sum_congr rfl fun r _ => ?_
  rw [coe_sum]
  refine Finset.sum_congr rfl fun g _ => ?_
  rw [e1, e2, EReal.coe_mul]
  rfl

include h0 h1 h2 h3 in
theorem v151_eq (i : S32x4x256x64.Idx) : val_main_v151 (F := Ideal) x0 x1 x2 x3 i
    = (dkX D (i 0).val (i 1).val ⟨(i 2).val, (i 2).isLt⟩ (i 3).val : EReal) := by
  unfold val_main_v151
  have e1 := v148_eq D x0 x1 x2 x3 h0 h1 h2 h3
  have e2 := v16_eq D x0 h0
  generalize val_main_v148 (F := Ideal) x0 x1 x2 x3 = y1 at e1
  generalize val_main_v16 (F := Ideal) x0 = y2 at e2
  pointwise
  unfold dkX
  rw [coe_sum]
  refine Finset.sum_congr rfl fun r _ => ?_
  rw [coe_sum]
  refine Finset.sum_congr rfl fun g _ => ?_
  rw [e1, e2, EReal.coe_mul]
  rfl

theorem key4 (f : ℕ → ℕ → Fin 256 → ℕ → ℝ) {n n' h h' d d' : ℕ} {j j' : Fin 256} (e0 : n = n') (e1 : h = h') (e2 : j.val = j'.val)
    (e3 : d = d') : ((f n h j d : ℝ) : EReal) = (f n' h' j' d' : ℝ) := by
  obtain rfl : j = j' := Fin.ext e2
  subst e0; subst e1; subst e3; rfl

include h0 h1 h2 h3 in
theorem v159_eq (i : S4096x256.Idx) : val_main_v159 (F := Ideal) x0 x1 x2 x3 i
    = (dkX D ((i 0).val / 128) ((i 1).val / 64) ⟨128 + (i 0).val % 128, by omega⟩ ((i 1).val % 64) : EReal) := by
  rw [val_main_v159_apply, val_main_v156_apply, val_main_v152_apply, v151_eq D x0 x1 x2 x3 h0 h1 h2 h3]
  have b0 : (i 0).val < 4096 := (i 0).isLt; have b1 : (i 1).val < 256 := (i 1).isLt
  refine key4 (dkX D) ?_ ?_ ?_ ?_ <;> dsimp only <;> omega

include h0 h1 h2 h3 in
theorem v160_eq (i : S4096x256.Idx) : val_main_v160 (F := Ideal) x0 x1 x2 x3 i
    = (dkX D ((i 0).val / 128) ((i 1).val / 64) ⟨(i 0).val % 128, by omega⟩ ((i 1).val % 64) : EReal) := by
  rw [val_main_v160_apply, val_main_v155_apply, val_main_v152_apply, v151_eq D x0 x1 x2 x3 h0 h1 h2 h3]
  have b0 : (i 0).val < 4096 := (i 0).isLt; have b1 : (i 1).val < 256 := (i 1).isLt
  refine key4 (dkX D) ?_ ?_ ?_ ?_ <;> dsimp only <;> omega

include h0 h1 h2 h3 in
theorem v161_eq (i : S4096x256.Idx) : val_main_v161 (F := Ideal) x0 x1 x2 x3 i
    = (dvX D ((i 0).val / 128) ((i 1).val / 64) ⟨128 + (i 0).val % 128, by omega⟩ ((i 1).val % 64) : EReal) := by
  rw [val_main_v161_apply, val_main_v154_apply, val_main_v109_apply, v108_eq D x0 x1 x2 x3 h0 h1 h2 h3]
  have b0 : (i 0).val < 4096 := (i 0).isLt; have b1 : (i 1).val < 256 := (i 1).isLt
  refine key4 (dvX D) ?_ ?_ ?_ ?_ <;> dsimp only <;> omega

include h0 h1 h2 h3 in
theorem v162_eq (i : S4096x256.Idx) : val_main_v162 (F := Ideal) x0 x1 x2 x3 i
    = (dvX D ((i 0).val / 128) ((i 1).val / 64) ⟨(i 0).val % 128, by omega⟩ ((i 1).val % 64) : EReal) := by
  rw [val_main_v162_apply, val_main_v153_apply, val_main_v109_apply, v108_eq D x0 x1 x2 x3 h0 h1 h2 h3]
  have b0 : (i 0).val < 4096 := (i 0).isLt; have b1 : (i 1).val < 256 := (i 1).isLt
  refine key4 (dvX D) ?_ ?_ ?_ ?_ <;> dsimp only <;> omega

include h0 h1 h2 h3 in
theorem v143_eq (i : S4x4x128x256.Idx) : val_main_v143 (F := Ideal) x0 x1 x2 x3 i
    = (dbX D (i 0).val (i 1).val (i 2).val ⟨(i 3).val, (i 3).isLt⟩ : EReal) := by
  rw [val_main_v143_apply, val_main_cst_26_apply]
  exact sum_zero _ _ zero_word _ (fun k => v142_eq D x0 x1 x2 x3 h0 h1 h2 h3 _)

/-- The gradient of the bias with the key second to last. -/
abbrev dbX' (h g : ℕ) (j : Fin 256) (r : ℕ) : ℝ := dbX D h g r j

include h0 h1 h2 h3 in
theorem v163_eq (i : S2048x256.Idx) : val_main_v163 (F := Ideal) x0 x1 x2 x3 i
    = (dbX D ((i 0).val / 512) ((i 0).val / 128 % 4) ((i 0).val % 128) ⟨(i 1).val, (i 1).isLt⟩ : EReal) := by
  rw [val_main_v163_apply, val_main_v145_apply, val_main_cst_27_apply, sum_one _ _ zero_word, val_main_v144_apply,
    v143_eq D x0 x1 x2 x3 h0 h1 h2 h3]
  have b0 : (i 0).val < 2048 := (i 0).isLt; have b1 : (i 1).val < 256 := (i 1).isLt
  refine key4 (dbX' D) (j' := ⟨(i 1).val, (i 1).isLt⟩) ?_ ?_ ?_ ?_ <;> dsimp only <;> omega

include h0 h1 h2 h3 in
theorem v120_eq (i : S4x4x128.Idx) : val_main_v120 (F := Ideal) x0 x1 x2 x3 i
    = (dsinkX D (i 0).val (i 1).val (i 2).val : EReal) := by
  rw [val_main_v120_apply, val_main_cst_20_apply]
  exact sum_zero _ _ zero_word _ (fun k => v119_eq D x0 x1 x2 x3 h0 h1 h2 h3 _)

include h0 h1 h2 h3 in
theorem v136_eq (i : S4x4x128.Idx) : val_main_v136 (F := Ideal) x0 x1 x2 x3 i = (0 : EReal) := by
  rw [val_main_v136_apply, val_main_cst_25_apply, sum_one _ _ zero_word, val_main_v134_apply, val_main_v133_apply, val_main_cst_24_apply,
    sum_zero _ _ zero_word (fun _ => 0) (fun k => by
      rw [val_main_v132_apply, v131_eq D x0 x1 x2 x3 h0 h1 h2 h3]
      exact (zero_mul _).trans EReal.coe_zero.symm), Finset.sum_const_zero]
  exact EReal.coe_zero

include h0 h1 h2 h3 in
theorem v164_eq (i : S2048x1.Idx) : val_main_v164 (F := Ideal) x0 x1 x2 x3 i
    = (dsinkX D ((i 0).val / 512) ((i 0).val / 128 % 4) ((i 0).val % 128) : EReal) := by
  rw [val_main_v164_apply, val_main_v137_apply, v136_eq D x0 x1 x2 x3 h0 h1 h2 h3, val_main_v123_apply, val_main_cst_21_apply,
    sum_one _ _ zero_word, val_main_v121_apply, v120_eq D x0 x1 x2 x3 h0 h1 h2 h3]
  refine (add_zero _).trans ?_
  have b0 : (i 0).val < 2048 := (i 0).isLt; have b1 : (i 1).val < 1 := (i 1).isLt
  refine real4 (fun a b c _ => dsinkX D a c b) (g := 0) (g' := 0) ?_ ?_ rfl ?_ <;> dsimp only <;> omega

end

end Cert.Attn.Ref

end
-- ==== Proof.Fin.lean ====
/-
  The precondition: every element of the four arguments is a real number.
-/
module

public import proofs.«01_k».proof.Defs
public import proofs.«01_k».proof.Proof.Data
public import proofs.«01_k».proof.Proof.Gen.Pre_finite
public import Idealize.ShloMosaic.Lib.ReduceAll
public import Idealize.ShloMosaic.Lib.Pointwise

@[expose] public section

noncomputable section

namespace Cert.Attn

open Idealize.ShloMosaic Cert.Pre_finite

theorem bits_top : Ideal.ofBits .f32 0x7F800000#32 = (⊤ : EReal) := by simp [Ideal.ofBits, Ideal.ieee]

/-- An extended real of absolute value less than infinity is a real number. -/
theorem real_of_lt (x : EReal) (h : Ideal.cmp .olt (max x (-x)) (Ideal.ofBits .f32 0x7F800000#32) = 1#1) : x = ((x.toReal : ℝ) : EReal) := by
  rw [bits_top] at h
  have hlt : max x (-x) < ⊤ := by
    by_contra hn
    simp [Ideal.cmp, hn] at h
  induction x with
  | bot => simp at hlt
  | coe r => rfl
  | top => simp at hlt

instance : Subsingleton S_.Idx := ⟨fun a b => funext fun x => x.elim0⟩

variable (x0 : FVec Ideal S4096x6144 .bf16) (x1 : FVec Ideal S16 .f32) (x2 : FVec Ideal S4x4x128x256 .f32) (x3 : FVec Ideal S4096x1024 .bf16)

/-- The precondition at the arrays' elements. -/
theorem finite_elements (i : S_.Idx) (h : Cert.Pre_finite.fn (F := Ideal) x0 x1 x2 x3 i = 1#1) :
    (∀ j, x0 j = ((x0 j).toReal : EReal)) ∧ (∀ j, x1 j = ((x1 j).toReal : EReal)) ∧
    (∀ j, x2 j = ((x2 j).toReal : EReal)) ∧ (∀ j, x3 j = ((x3 j).toReal : EReal)) := by
  obtain ⟨h, e3⟩ := IntOp.andi_eq_one.1 h
  obtain ⟨h, e2⟩ := IntOp.andi_eq_one.1 h
  obtain ⟨e0, e1⟩ := IntOp.andi_eq_one.1 h
  exact ⟨fun j => real_of_lt _ (Host.reduce_andi_all _ _ _ _ i e0 j), fun j => real_of_lt _ (Host.reduce_andi_all _ _ _ _ i e1 j),
    fun j => real_of_lt _ (Host.reduce_andi_all _ _ _ _ i e2 j), fun j => real_of_lt _ (Host.reduce_andi_all _ _ _ _ i e3 j)⟩

/-- The real arrays of the arguments. -/
def dataOf : Data where
  X a b := if h : a < 4096 ∧ b < 6144 then (x0 (ix2 ⟨a, h.1⟩ ⟨b, h.2⟩)).toReal else 0
  z a := if h : a < 16 then (x1 (ix1 ⟨a, h⟩)).toReal else 0
  B a b c d := if h : a < 4 ∧ b < 4 ∧ c < 128 ∧ d < 256 then (x2 (ix4 ⟨a, h.1⟩ ⟨b, h.2.1⟩ ⟨c, h.2.2.1⟩ ⟨d, h.2.2.2⟩)).toReal else 0
  Y a b := if h : a < 4096 ∧ b < 1024 then (x3 (ix2 ⟨a, h.1⟩ ⟨b, h.2⟩)).toReal else 0

theorem data_spec (i : S_.Idx) (h : Cert.Pre_finite.fn (F := Ideal) x0 x1 x2 x3 i = 1#1) :
    (∀ i, x0 i = ((dataOf x0 x1 x2 x3).X (i 0).val (i 1).val : EReal)) ∧ (∀ i, x1 i = ((dataOf x0 x1 x2 x3).z (i 0).val : EReal)) ∧
    (∀ i, x2 i = ((dataOf x0 x1 x2 x3).B (i 0).val (i 1).val (i 2).val (i 3).val : EReal)) ∧
    (∀ i, x3 i = ((dataOf x0 x1 x2 x3).Y (i 0).val (i 1).val : EReal)) := by
  obtain ⟨h0, h1, h2, h3⟩ := finite_elements x0 x1 x2 x3 i h
  refine ⟨fun j => ?_, fun j => ?_, fun j => ?_, fun j => ?_⟩
  · idx_vars j
    rw [h0]
    exact congrArg _ (by simp [dataOf])
  · rw [h1]
    have e : j = ix1 ⟨(j 0).val, (j 0).isLt⟩ := by funext x; fin_cases x; rfl
    conv_lhs => rw [e]
    exact congrArg _ (by have : ¬ 16 ≤ (j 0).val := Nat.not_le.2 (j 0).isLt; simp [dataOf, this])
  · have e : j = ix4 ⟨(j 0).val, (j 0).isLt⟩ ⟨(j 1).val, (j 1).isLt⟩ ⟨(j 2).val, (j 2).isLt⟩ ⟨(j 3).val, (j 3).isLt⟩ := by
      funext x; fin_cases x <;> rfl
    rw [h2]
    conv_lhs => rw [e]
    exact congrArg _ (by
      have e2 : ¬ 128 ≤ (j 2).val := Nat.not_le.2 (j 2).isLt
      have e3 : ¬ 256 ≤ (j 3).val := Nat.not_le.2 (j 3).isLt
      have e1 : ¬ 4 ≤ (j 1).val := Nat.not_le.2 (j 1).isLt
      have e0 : ¬ 4 ≤ (j 0).val := Nat.not_le.2 (j 0).isLt
      simp [dataOf, e0, e1, e2, e3])
  · idx_vars j
    rw [h3]
    exact congrArg _ (by simp [dataOf])

end Cert.Attn

end
-- ==== Proof.Alg.lean ====
/-
  The kernel's results are the reference's.
-/
module

public import proofs.«01_k».proof.Defs
public import proofs.«01_k».proof.Proof.Gen.KernelIdeal.Value
public import proofs.«01_k».proof.Proof.Gen.ReferenceIdeal.Read
public import proofs.«01_k».proof.Proof.Gen.Pre_finite
public import proofs.«01_k».proof.Proof.Entry
public import proofs.«01_k».proof.Proof.Arr
public import proofs.«01_k».proof.Proof.ArrS
public import proofs.«01_k».proof.Proof.Ref4
public import proofs.«01_k».proof.Proof.Fin

@[expose] public section

set_option maxRecDepth 16384

noncomputable section

namespace Cert.Attn

open Idealize.ShloMosaic Idealize.SL.Sem
open Cert.ReferenceIdeal.Read

theorem kvAll_zero (f : ℕ → ℕ → Fin 256 → ℕ → ℝ) (i : Cert.KernelIdeal.S4096x256.Idx) :
    kvAll 0 (by omega) f i = (f ((i 0).val / 128) ((i 1).val / 64) ⟨(i 0).val % 128, by omega⟩ ((i 1).val % 64) : EReal) := by
  unfold kvAll
  simp only [Nat.zero_add]

/-- Both programs end with the gradients of `Proof/Data.lean`. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  let D : (c : Dev Cert.KernelIdeal.nD) → Data := fun c => dataOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
  have hD := fun c => data_spec _ _ _ _ ix0 (congrFun (hpre c) _)
  have hE : ∀ c, Entry (D c) m c := fun c => entry_of m c (D c) (hD c).1 (hD c).2.1 (hD c).2.2.1 (hD c).2.2.2
  refine ⟨fun c => qAll (D c), fun c => kvAll 128 (by omega) (dkX (D c)), fun c => kvAll 0 (by omega) (dkX (D c)),
    fun c => kvAll 128 (by omega) (dvX (D c)), fun c => kvAll 0 (by omega) (dvX (D c)), fun c => dbAll (D c), fun c => dzAll (D c), ?_, ?_⟩
  · refine (θ_run _ _ _).mono (fun r h c => ?_) (Cert.KernelIdeal.Value.run_blocks (F := Ideal) m g)
    obtain ⟨r0, r1, r2, r3, r4, r5, r6, ra⟩ := h c
    exact ⟨r0.trans (arr_q (hE c)), r1.trans (arr_kc (hE c)), r2.trans (arr_kp (hE c)), r3.trans (arr_vc (hE c)), r4.trans (arr_vp (hE c)),
      r5.trans (arr_db (hE c)), r6.trans (arr_dz (hE c)), ra⟩
  · refine (θ_run _ _ _).mono (fun r h c => ?_) (Cert.ReferenceIdeal.Value.run (F := Ideal) m' g')
    obtain ⟨r0, r1, r2, r3, r4, r5, r6, ra⟩ := h c
    obtain ⟨a0, a1, a2, a3⟩ := hagree c
    have h0 : ∀ i, m' ((c.tc : Thread Cert.ReferenceIdeal.nD Cert.ReferenceIdeal.τ).loc Cert.ReferenceIdeal.main_arg0) i = _ := fun i => (congrFun a0 i).trans ((hD c).1 i)
    have h1 : ∀ i, m' ((c.tc : Thread Cert.ReferenceIdeal.nD Cert.ReferenceIdeal.τ).loc Cert.ReferenceIdeal.main_arg1) i = _ := fun i => (congrFun a1 i).trans ((hD c).2.1 i)
    have h2 : ∀ i, m' ((c.tc : Thread Cert.ReferenceIdeal.nD Cert.ReferenceIdeal.τ).loc Cert.ReferenceIdeal.main_arg2) i = _ := fun i => (congrFun a2 i).trans ((hD c).2.2.1 i)
    have h3 : ∀ i, m' ((c.tc : Thread Cert.ReferenceIdeal.nD Cert.ReferenceIdeal.τ).loc Cert.ReferenceIdeal.main_arg3) i = _ := fun i => (congrFun a3 i).trans ((hD c).2.2.2 i)
    refine ⟨r0.trans ((val_main_v158_eq _).trans (funext fun i => ?_)), r1.trans ((val_main_v159_eq _).trans (funext fun i => ?_)),
      r2.trans ((val_main_v160_eq _).trans (funext fun i => ?_)), r3.trans ((val_main_v161_eq _).trans (funext fun i => ?_)),
      r4.trans ((val_main_v162_eq _).trans (funext fun i => ?_)), r5.trans ((val_main_v163_eq _).trans (funext fun i => ?_)),
      r6.trans ((val_main_v164_eq _).trans (funext fun i => ?_)), ra⟩
    · exact Ref.v158_eq (D c) _ _ _ _ h0 h1 h2 h3 i
    · exact Ref.v159_eq (D c) _ _ _ _ h0 h1 h2 h3 i
    · exact (Ref.v160_eq (D c) _ _ _ _ h0 h1 h2 h3 i).trans (kvAll_zero _ i).symm
    · exact Ref.v161_eq (D c) _ _ _ _ h0 h1 h2 h3 i
    · exact (Ref.v162_eq (D c) _ _ _ _ h0 h1 h2 h3 i).trans (kvAll_zero _ i).symm
    · exact Ref.v163_eq (D c) _ _ _ _ h0 h1 h2 h3 i
    · exact Ref.v164_eq (D c) _ _ _ _ h0 h1 h2 h3 i

end Cert.Attn

end
-- ==== Proof.Mm2.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm2

open Idealize.ShloMosaic Idealize.ShloMosaic.TcCoe Idealize.SL.Sem Cert.Kernel2Ideal Cert.Kernel2Ideal.Gen

/-- Which block of the first operand each grid point stages. -/
theorem places0 : ∀ t : Fin grid0.N, win0_0.index t = ![t.val / 8, 0] := by decide +kernel
/-- Which block of the second operand each grid point stages. -/
theorem places1 : ∀ t : Fin grid0.N, win0_1.index t = ![t.val % 8, 0] := by decide +kernel
/-- Which block of the third operand each grid point stages. -/
theorem places2 : ∀ t : Fin grid0.N, win0_2.index t = ![t.val / 8, t.val % 8] := by decide +kernel
/-- Which block of the result each grid point writes. -/
theorem places3 : ∀ t : Fin grid0.N, win0_3.index t = ![t.val / 8, t.val % 8] := by decide +kernel

variable (m : (ℓ : Loc nD τ sig) → Buf (Elt Ideal) ℓ)

/-- The literal 2. -/
abbrev two : EReal := Ideal.ofBits .f32 0x40000000#32

/-- Where the argument is not positive, the rectifier is zero and so is the gradient. -/
theorem gate (s p : EReal) : (if 0 < p then s * (two * max p 0) else 0) = s * (two * max p 0) := by
  by_cases h : 0 < p
  · rw [if_pos h]
  · rw [if_neg h, max_eq_right (not_lt.mp h), mul_zero, mul_zero]

/-- The rectifier. -/
def rect (p : FVec Ideal S4096x8192 .f32) : FVec Ideal S4096x8192 .bf16 := fun i => max (p i) 0

/-- The gradient of the squared rectifier's argument `p`. -/
def grad (p : FVec Ideal S4096x8192 .f32) (w : FVec Ideal S8192x2048 .f32) (d : FVec Ideal S4096x2048 .bf16) : FVec Ideal S4096x8192 .bf16 := fun i =>
  (∑ k : Fin 2048, d (ix2 (i 0) k) * w (ix2 (i 1) k)) * (two * rect p i)

/-- The weight as the call reads it. -/
theorem V_w (c : Dev nD) (i : S8192x2048.Idx) : V m c main_v3 i = (m ((c : Thread nD τ).loc main_arg1) : FVec Ideal S8192x2048 .f32) i := by
  entry_read
  pointwise

/-- The rectified argument as the call reads it. -/
theorem V_relu (c : Dev nD) (i : S4096x8192.Idx) : V m c main_v2 i = rect (m ((c : Thread nD τ).loc main_arg0)) i := by
  entry_read
  pointwise [rect]

/-- What one block of the result is, entry by entry, from the staged blocks. -/
theorem pay (x0 : FVec Ideal S2048x2048 .bf16) (x1 : FVec Ideal S1024x2048 .bf16) (x2 : FVec Ideal S2048x1024 .bf16) (j : S2048x1024.Idx) :
    k0_pay1 x0 x1 x2 j = (∑ k : Fin 2048, x0 (ix2 (j 0) k) * x1 (ix2 (j 1) k)) * (two * x2 j) := by
  pointwise [k0_pay1]

/-- The array after the whole run is that function of the arguments. -/
theorem arr (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 := places0 t
  have e1 := places1 t
  have e2 := places2 t
  have e3 := places3 t
  blk_simp
  rw [after0_3]
  frame_out
  refine (pay _ _ _ y).trans ?_
  unfold grad
  refine congrArg₂ (· * ·) (Finset.sum_congr rfl fun k _ => congrArg₂ (· * ·) ?_ ?_) (congrArg (two * ·) ?_)
  · blk_ext [iblk, V_main_arg2, e0, e3]
  · refine (V_w m c _).trans ?_
    blk_ext [iblk, e1, e3]
  · refine (V_relu m c _).trans (congrArg (rect _) ?_)
    blk_ext [e2, e3]

/-- Kernel and reference compute the same results over the extended reals, for every input. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => grad (m ((c : Thread nD τ).loc main_arg0)) (m ((c : Thread nD τ).loc main_arg1)) (m ((c : Thread nD τ).loc main_arg2)), ?_, ?_⟩
  · refine (θ_run _ _ _).mono (fun r h c => ?_) (Cert.Kernel2Ideal.Value.run_blocks (F := Ideal) m g)
    obtain ⟨r0, ra⟩ := h c
    exact ⟨r0.trans (arr m c), ra⟩
  · refine (θ_run _ _ _).mono (fun r h c => ?_) (Cert.Reference2Ideal.Value.run (F := Ideal) m' g')
    obtain ⟨r0, ra⟩ := h c
    obtain ⟨a0, a1, a2⟩ := hagree c
    refine ⟨r0.trans ?_, ra⟩
    · rw [a0, a1, a2]
      funext j
      pointwise [grad, rect]
      exact gate _ _

/-- The reference runs to its end and leaves its arguments and everything else as they were. -/
theorem frame_r : Cert.quiescent_Reference2Ideal (hReference2Ideal := Cert.Reference2Ideal.Gen.facts) := fun m g _ =>
  (θ_run _ _ _).mono (fun r h => ⟨fun c => (h c).2, funext fun x => nomatch x.2⟩) (Cert.Reference2Ideal.Value.run (F := Ideal) m g)

end Cert.Mm2

end
-- ==== Proof.Mm3.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm3

open Idealize.ShloMosaic Idealize.ShloMosaic.TcCoe Idealize.SL.Sem Cert.Kernel3Ideal Cert.Kernel3Ideal.Gen

/-- Which block of the first operand each grid point stages. -/
theorem places0 : ∀ t : Fin grid0.N, win0_0.index t = ![t.val % 2, t.val / 4] := by decide +kernel
/-- Which block of the second operand each grid point stages. -/
theorem places1 : ∀ t : Fin grid0.N, win0_1.index t = ![t.val % 2, t.val / 2 % 2] := by decide +kernel
/-- Which block of the result each grid point writes. -/
theorem places2 : ∀ t : Fin grid0.N, win0_2.index t = ![t.val / 4, t.val / 2 % 2] := by decide +kernel

variable (m : (ℓ : Loc nD τ sig) → Buf (Elt Ideal) ℓ)

/-- The product the call computes, entry by entry. -/
def prod (a : FVec Ideal S4096x8192 .bf16) (b : FVec Ideal S4096x2048 .bf16) : FVec Ideal S8192x2048 .bf16 := fun i =>
  ∑ k : Fin 4096, a (ix2 k (i 0)) * b (ix2 k (i 1))

/-- What one block of the result is, entry by entry, from the staged blocks. -/
theorem pay (x0 x0' : FVec Ideal S2048x2048 .bf16) (x1 x1' : FVec Ideal S2048x1024 .bf16) (j : S2048x1024.Idx) :
    k0_pay4 (k0_pay3 x0 x1 (k0_pay2 x0' x1')) j
      = ∑ k : Fin 2048, x0' (ix2 k (j 0)) * x1' (ix2 k (j 1)) + ∑ k : Fin 2048, x0 (ix2 k (j 0)) * x1 (ix2 k (j 1)) := by
  pointwise [k0_pay4, k0_pay3, k0_pay2, k0_pay1]

/-- The scratch after the first point of a block: its part of the contraction. -/
theorem scr (c : Dev nD) (n : ℕ) (h : n < cfg0.N) (hm : n % 2 = 0) :
    (outsAt0 (F := Ideal) m c n h).2 = k0_pay2 (iblk m c 0 ⟨n, h⟩) (iblk m c 1 ⟨n, h⟩) := by
  rw [outsAt0_A m c ⟨n, h⟩ hm (by dsimp only; omega) (by dsimp only; omega)]
  dsimp only
  frame_out

/-- The block written at the last point: both parts of the contraction. -/
theorem out (c : Dev nD) (t : Fin cfg0.N) (hm : t.val % 2 = 1) :
    (outsAt0 (F := Ideal) m c t.val t.isLt).1 = k0_pay4 (k0_pay3 (iblk m c 0 t) (iblk m c 1 t) (k0_pay2 (iblk m c 0 ⟨t.val - 1, by omega⟩) (iblk m c 1 ⟨t.val - 1, by omega⟩))) := by
  rw [outsAt0_B m c t (by omega) hm hm]
  dsimp only
  rw [scr m c (t.val - 1) (by omega) (by omega)]
  frame_out
  rw [read_unread_whole]

/-- The array after the whole run is that function of the arguments. -/
theorem arr (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2, out m c t hm]
  have h' : t.val - 1 < grid0.N := Nat.lt_of_le_of_lt (Nat.sub_le _ _) t.isLt
  refine (pay _ _ _ _ y).trans ?_
  unfold prod
  rw [Fin.sum_univ_tiles 2 2048 rfl, Fin.sum_univ_two]
  refine congrArg₂ (· + ·) ?_ ?_
  · refine Finset.sum_congr rfl fun k _ => ?_
    have e0 := places0 ⟨t.val - 1, h'⟩
    have e1 := places1 ⟨t.val - 1, h'⟩
    have e2 := places2 t
    blk_point [iblk, V, e0, e1, e2]
  · refine Finset.sum_congr rfl fun k _ => ?_
    have e0 := places0 t
    have e1 := places1 t
    have e2 := places2 t
    blk_point [iblk, V, e0, e1, e2]

/-- Kernel and reference compute the same results over the extended reals, for every input. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Cert.Kernel3Ideal.Value.run_blocks (F := Ideal) m g)
    obtain ⟨r0, ra⟩ := h c
    exact ⟨r0.trans (arr m c), ra⟩
  · refine (θ_run _ _ _).mono (fun r h c => ?_) (Cert.Reference3Ideal.Value.run (F := Ideal) m' g')
    obtain ⟨r0, ra⟩ := h c
    obtain ⟨a0, a1⟩ := hagree c
    refine ⟨r0.trans ?_, ra⟩
    rw [a0, a1]
    funext j
    pointwise! [prod]

/-- The reference runs to its end and leaves its arguments and everything else as they were. -/
theorem frame_r : Cert.quiescent_Reference3Ideal (hReference3Ideal := Cert.Reference3Ideal.Gen.facts) := fun m g _ =>
  (θ_run _ _ _).mono (fun r h => ⟨fun c => (h c).2, funext fun x => nomatch x.2⟩) (Cert.Reference3Ideal.Value.run (F := Ideal) m g)

end Cert.Mm3

end
-- ==== Proof.Mm4.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm4

open Idealize.ShloMosaic Idealize.ShloMosaic.TcCoe Idealize.SL.Sem Cert.Kernel4Ideal Cert.Kernel4Ideal.Gen

/-- Which block of the first operand each grid point stages. -/
theorem places0 : ∀ t : Fin grid0.N, win0_0.index t = ![t.val / 4, t.val % 4] := by decide +kernel
/-- Which block of the second operand each grid point stages. -/
theorem places1 : ∀ t : Fin grid0.N, win0_1.index t = ![t.val % 4, 0, 0] := by decide +kernel
/-- Which block of the result each grid point writes. -/
theorem places2 : ∀ t : Fin grid0.N, win0_2.index t = ![t.val / 4, 0] := by decide +kernel

variable (m : (ℓ : Loc nD τ sig) → Buf (Elt Ideal) ℓ)

/-- One term of the contraction. -/
def term (a : FVec Ideal S4096x8192 .bf16) (b : FVec Ideal S2048x8192 .f32) (i : S4096x2048.Idx) (k : Fin 8192) : EReal :=
  a (ix2 (i 0) k) * b (ix2 (i 1) k)

/-- The product of the rows of `a` with the rows of `b`. -/
def prod (a : FVec Ideal S4096x8192 .bf16) (b : FVec Ideal S2048x8192 .f32) : FVec Ideal S4096x2048 .bf16 := fun i => ∑ k : Fin 8192, term a b i k

/-- What one grid point adds: the products of its two shards of the contraction. -/
def pt (x0 : FVec Ideal S1024x2048 .bf16) (x1 : FVec Ideal S2x2048x1024 .bf16) : FVec Ideal S1024x2048 .f32 := fun j =>
  ∑ k : Fin 1024, x0 (ix2 (j 0) ⟨k.val, by omega⟩) * x1 (ix3 0 (j 1) k)
    + ∑ k : Fin 1024, x0 (ix2 (j 0) ⟨1024 + k.val, by omega⟩) * x1 (ix3 1 (j 1) k)

/-- The scratch after the first of a block's points. -/
theorem first (c : Dev nD) (n : ℕ) (h : n < cfg0.N) (hm : n % 4 = 0) :
    (outsAt0 (F := Ideal) m c n h).2 = pt (iblk m c 0 ⟨n, h⟩) (iblk m c 1 ⟨n, h⟩) := by
  rw [outsAt0_A m c ⟨n, h⟩ hm (by dsimp only; omega) (by dsimp only; omega)]
  dsimp only
  frame_out
  funext j
  pointwise [k0_pay2, k0_pay1, pt]

/-- The scratch after a point in between: one more part added. -/
theorem next (c : Dev nD) (n : ℕ) (h : n < cfg0.N) (hm : ¬n % 4 = 0) (hm' : ¬n % 4 = 3) (j : S1024x2048.Idx) :
    (outsAt0 (F := Ideal) m c n h).2 j = (outsAt0 (F := Ideal) m c (n - 1) (Nat.lt_of_le_of_lt (Nat.sub_le _ _) h)).2 j
      + pt (iblk m c 0 ⟨n, h⟩) (iblk m c 1 ⟨n, h⟩) j := by
  rw [outsAt0_B m c ⟨n, h⟩ hm (by dsimp only; omega) hm']
  dsimp only
  frame_out
  rw [read_unread_whole]
  pointwise [k0_pay3, k0_pay1, pt]

/-- The block written at the last point: the last part added. -/
theorem last (c : Dev nD) (n : ℕ) (h : n < cfg0.N) (hm : n % 4 = 3) (j : S1024x2048.Idx) :
    (outsAt0 (F := Ideal) m c n h).1 j = (outsAt0 (F := Ideal) m c (n - 1) (Nat.lt_of_le_of_lt (Nat.sub_le _ _) h)).2 j
      + pt (iblk m c 0 ⟨n, h⟩) (iblk m c 1 ⟨n, h⟩) j := by
  rw [outsAt0_C m c ⟨n, h⟩ (by dsimp only; omega) (by dsimp only; omega) hm]
  dsimp only
  frame_out
  rw [read_unread_whole]
  pointwise [k0_pay4, k0_pay3, k0_pay1, pt]

/-- The weight as the call reads it: the eight devices' columns, one block each. -/
theorem V_w (c : Dev nD) (i : S8x2048x1024.Idx) : V m c main_v2 i
    = (m ((c : Thread nD τ).loc main_arg1) : FVec Ideal S2048x8192 .f32) (ix2 (i 1) ⟨(i 0).val * 1024 + (i 2).val, by
        have h0 : (i 0).val < 8 := (i 0).isLt; have h2 : (i 2).val < 1024 := (i 2).isLt; omega⟩) := by
  entry_read
  pointwise

/-- One point's addend, as two stretches of 1024 of the whole contraction. -/
theorem pt_eq (c : Dev nD) (n s : ℕ) (h : n < grid0.N) (t : Fin grid0.N) (hs : n % 4 = s) (hn : n / 4 = t.val / 4) (y : S1024x2048.Idx) (i : S4096x2048.Idx)
    (hi : (win0_2.blk t).view.emb y = i) :
    pt (iblk m c 0 ⟨n, h⟩) (iblk m c 1 ⟨n, h⟩) y
      = ∑ k : Fin 1024, term (m ((c : Thread nD τ).loc main_arg0)) (m ((c : Thread nD τ).loc main_arg1)) i ⟨2 * s * 1024 + k.val, by omega⟩
        + ∑ k : Fin 1024, term (m ((c : Thread nD τ).loc main_arg0)) (m ((c : Thread nD τ).loc main_arg1)) i ⟨(2 * s + 1) * 1024 + k.val, by omega⟩ := by
  have e0 := places0 ⟨n, h⟩
  have e1 := places1 ⟨n, h⟩
  have e2 := places2 t
  subst hs hi
  unfold pt
  refine congrArg₂ (· + ·) ?_ ?_
  · refine Finset.sum_congr rfl fun k _ => ?_
    unfold term
    refine congrArg₂ (· * ·) ?_ ?_
    · blk_ext [iblk, V_main_arg0, e0, e2, hn]
    · refine (V_w m c _).trans ?_
      blk_ext [iblk, e1, e2, hn]
  · refine Finset.sum_congr rfl fun k _ => ?_
    unfold term
    refine congrArg₂ (· * ·) ?_ ?_
    · blk_ext [iblk, V_main_arg0, e0, e2, hn]
    · refine (V_w m c _).trans ?_
      blk_ext [iblk, e1, e2, hn]

/-- The array after the whole run is that function of the arguments. -/
theorem arr (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  have h1 : t.val - 1 < grid0.N := Nat.lt_of_le_of_lt (Nat.sub_le _ _) t.isLt
  have h2 : t.val - 1 - 1 < grid0.N := Nat.lt_of_le_of_lt (Nat.sub_le _ _) h1
  have h3 : t.val - 1 - 1 - 1 < grid0.N := Nat.lt_of_le_of_lt (Nat.sub_le _ _) h2
  blk_simp
  rw [after0_2]
  refine (last m c t.val t.isLt hm y).trans ?_
  rw [next m c (t.val - 1) h1 (by omega) (by omega), next m c (t.val - 1 - 1) h2 (by omega) (by omega), first m c (t.val - 1 - 1 - 1) h3 (by omega)]
  unfold prod
  rw [pt_eq m c (t.val - 1 - 1 - 1) 0 h3 t (by omega) (by omega) y _ rfl, pt_eq m c (t.val - 1 - 1) 1 h2 t (by omega) (by omega) y _ rfl,
    pt_eq m c (t.val - 1) 2 h1 t (by omega) (by omega) y _ rfl, pt_eq m c t.val 3 t.isLt t (by omega) (by omega) y _ rfl,
    Fin.sum_univ_tiles 8 1024 rfl, Fin.sum_univ_eight]
  simp only [add_assoc]
  rfl

/-- Kernel and reference compute the same results over the extended reals, for every input. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Cert.Kernel4Ideal.Value.run_blocks (F := Ideal) m g)
    obtain ⟨r0, ra⟩ := h c
    exact ⟨r0.trans (arr m c), ra⟩
  · refine (θ_run _ _ _).mono (fun r h c => ?_) (Cert.Reference4Ideal.Value.run (F := Ideal) m' g')
    obtain ⟨r0, ra⟩ := h c
    obtain ⟨a0, a1⟩ := hagree c
    refine ⟨r0.trans ?_, ra⟩
    rw [a0, a1]
    funext j
    pointwise! [prod, term]

/-- The reference runs to its end and leaves its arguments and everything else as they were. -/
theorem frame_r : Cert.quiescent_Reference4Ideal (hReference4Ideal := Cert.Reference4Ideal.Gen.facts) := fun m g _ =>
  (θ_run _ _ _).mono (fun r h => ⟨fun c => (h c).2, funext fun x => nomatch x.2⟩) (Cert.Reference4Ideal.Value.run (F := Ideal) m g)

end Cert.Mm4

end
-- ==== Proof.Mm5.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm5

open Idealize.ShloMosaic Idealize.ShloMosaic.TcCoe Idealize.SL.Sem Cert.Kernel5Ideal Cert.Kernel5Ideal.Gen

/-- Which block of the first operand each grid point stages. -/
theorem places0 : ∀ t : Fin grid0.N, win0_0.index t = ![t.val % 2, 0] := by decide +kernel
/-- Which block of the second operand each grid point stages. -/
theorem places1 : ∀ t : Fin grid0.N, win0_1.index t = ![t.val % 2, t.val / 2] := by decide +kernel
/-- Which block of the result each grid point writes. -/
theorem places2 : ∀ t : Fin grid0.N, win0_2.index t = ![t.val / 2, 0, 0] := by decide +kernel

variable (m : (ℓ : Loc nD τ sig) → Buf (Elt Ideal) ℓ)

/-- The product the call computes, entry by entry. -/
def prod (a : FVec Ideal S4096x2048 .bf16) (b : FVec Ideal S4096x8192 .bf16) : FVec Ideal S8x2048x1024 .bf16 := fun i =>
  ∑ k : Fin 4096, a (ix2 k (i 1)) * b (ix2 k ⟨(i 0).val * 1024 + (i 2).val, by have h0 : (i 0).val < 8 := (i 0).isLt; have h2 : (i 2).val < 1024 := (i 2).isLt; omega⟩)

/-- What one block of the result is, entry by entry, from the staged blocks. -/
theorem pay (x0 x0' : FVec Ideal S2048x2048 .bf16) (x1 x1' : FVec Ideal S2048x1024 .bf16) (j : S1x2048x1024.Idx) :
    k0_pay4 (k0_pay3 x0 x1 (k0_pay2 x0' x1')) j
      = ∑ k : Fin 2048, x0' (ix2 k (j 1)) * x1' (ix2 k (j 2)) + ∑ k : Fin 2048, x0 (ix2 k (j 1)) * x1 (ix2 k (j 2)) := by
  pointwise [k0_pay4, k0_pay3, k0_pay2, k0_pay1]

/-- The scratch after the first point of a block: its part of the contraction. -/
theorem scr (c : Dev nD) (n : ℕ) (h : n < cfg0.N) (hm : n % 2 = 0) :
    (outsAt0 (F := Ideal) m c n h).2 = k0_pay2 (iblk m c 0 ⟨n, h⟩) (iblk m c 1 ⟨n, h⟩) := by
  rw [outsAt0_A m c ⟨n, h⟩ hm (by dsimp only; omega) (by dsimp only; omega)]
  dsimp only
  frame_out

/-- The block written at the last point: both parts of the contraction. -/
theorem out (c : Dev nD) (t : Fin cfg0.N) (hm : t.val % 2 = 1) :
    (outsAt0 (F := Ideal) m c t.val t.isLt).1 = k0_pay4 (k0_pay3 (iblk m c 0 t) (iblk m c 1 t) (k0_pay2 (iblk m c 0 ⟨t.val - 1, by omega⟩) (iblk m c 1 ⟨t.val - 1, by omega⟩))) := by
  rw [outsAt0_B m c t (by omega) hm hm]
  dsimp only
  rw [scr m c (t.val - 1) (by omega) (by omega)]
  frame_out
  rw [read_unread_whole]

/-- The array after the whole run is that function of the arguments. -/
theorem arr (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2, out m c t hm]
  have h' : t.val - 1 < grid0.N := Nat.lt_of_le_of_lt (Nat.sub_le _ _) t.isLt
  refine (pay _ _ _ _ y).trans ?_
  unfold prod
  rw [Fin.sum_univ_tiles 2 2048 rfl, Fin.sum_univ_two]
  refine congrArg₂ (· + ·) ?_ ?_
  · refine Finset.sum_congr rfl fun k _ => ?_
    have e0 := places0 ⟨t.val - 1, h'⟩
    have e1 := places1 ⟨t.val - 1, h'⟩
    have e2 := places2 t
    blk_point [iblk, V, e0, e1, e2]
  · refine Finset.sum_congr rfl fun k _ => ?_
    have e0 := places0 t
    have e1 := places1 t
    have e2 := places2 t
    blk_point [iblk, V, e0, e1, e2]

/-- Kernel and reference compute the same results over the extended reals, for every input. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Cert.Kernel5Ideal.Value.run_blocks (F := Ideal) m g)
    obtain ⟨r0, ra⟩ := h c
    exact ⟨r0.trans (arr m c), ra⟩
  · refine (θ_run _ _ _).mono (fun r h c => ?_) (Cert.Reference5Ideal.Value.run (F := Ideal) m' g')
    obtain ⟨r0, ra⟩ := h c
    obtain ⟨a0, a1⟩ := hagree c
    refine ⟨r0.trans ?_, ra⟩
    rw [a0, a1]
    funext j
    pointwise! [prod]

/-- The reference runs to its end and leaves its arguments and everything else as they were. -/
theorem frame_r : Cert.quiescent_Reference5Ideal (hReference5Ideal := Cert.Reference5Ideal.Gen.facts) := fun m g _ =>
  (θ_run _ _ _).mono (fun r h => ⟨fun c => (h c).2, funext fun x => nomatch x.2⟩) (Cert.Reference5Ideal.Value.run (F := Ideal) m g)

end Cert.Mm5

end
-- ==== Proof.Mm6.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm6

open Idealize.ShloMosaic Idealize.ShloMosaic.TcCoe Idealize.SL.Sem Cert.Kernel6Ideal Cert.Kernel6Ideal.Gen

/-- Which block of the first operand each grid point stages. -/
theorem places0 : ∀ t : Fin grid0.N, win0_0.index t = ![t.val % 2, 0] := by decide +kernel
/-- Which block of the second operand each grid point stages. -/
theorem places1 : ∀ t : Fin grid0.N, win0_1.index t = ![t.val % 2, t.val / 2] := by decide +kernel
/-- Which block of the result each grid point writes. -/
theorem places2 : ∀ t : Fin grid0.N, win0_2.index t = ![t.val / 2, 0, 0] := by decide +kernel

variable (m : (ℓ : Loc nD τ sig) → Buf (Elt Ideal) ℓ)

/-- The product the call computes, entry by entry. -/
def prod (a : FVec Ideal S4096x2048 .bf16) (b : FVec Ideal S4096x6144 .bf16) : FVec Ideal S8x2048x768 .bf16 := fun i =>
  ∑ k : Fin 4096, a (ix2 k (i 1)) * b (ix2 k ⟨(i 0).val * 768 + (i 2).val, by have h0 : (i 0).val < 8 := (i 0).isLt; have h2 : (i 2).val < 768 := (i 2).isLt; omega⟩)

/-- What one block of the result is, entry by entry, from the staged blocks. -/
theorem pay (x0 x0' : FVec Ideal S2048x2048 .bf16) (x1 x1' : FVec Ideal S2048x768 .bf16) (j : S1x2048x768.Idx) :
    k0_pay4 (k0_pay3 x0 x1 (k0_pay2 x0' x1')) j
      = ∑ k : Fin 2048, x0' (ix2 k (j 1)) * x1' (ix2 k (j 2)) + ∑ k : Fin 2048, x0 (ix2 k (j 1)) * x1 (ix2 k (j 2)) := by
  pointwise [k0_pay4, k0_pay3, k0_pay2, k0_pay1]

/-- The scratch after the first point of a block: its part of the contraction. -/
theorem scr (c : Dev nD) (n : ℕ) (h : n < cfg0.N) (hm : n % 2 = 0) :
    (outsAt0 (F := Ideal) m c n h).2 = k0_pay2 (iblk m c 0 ⟨n, h⟩) (iblk m c 1 ⟨n, h⟩) := by
  rw [outsAt0_A m c ⟨n, h⟩ hm (by dsimp only; omega) (by dsimp only; omega)]
  dsimp only
  frame_out

/-- The block written at the last point: both parts of the contraction. -/
theorem out (c : Dev nD) (t : Fin cfg0.N) (hm : t.val % 2 = 1) :
    (outsAt0 (F := Ideal) m c t.val t.isLt).1 = k0_pay4 (k0_pay3 (iblk m c 0 t) (iblk m c 1 t) (k0_pay2 (iblk m c 0 ⟨t.val - 1, by omega⟩) (iblk m c 1 ⟨t.val - 1, by omega⟩))) := by
  rw [outsAt0_B m c t (by omega) hm hm]
  dsimp only
  rw [scr m c (t.val - 1) (by omega) (by omega)]
  frame_out
  rw [read_unread_whole]

/-- The array after the whole run is that function of the arguments. -/
theorem arr (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2, out m c t hm]
  have h' : t.val - 1 < grid0.N := Nat.lt_of_le_of_lt (Nat.sub_le _ _) t.isLt
  refine (pay _ _ _ _ y).trans ?_
  unfold prod
  rw [Fin.sum_univ_tiles 2 2048 rfl, Fin.sum_univ_two]
  refine congrArg₂ (· + ·) ?_ ?_
  · refine Finset.sum_congr rfl fun k _ => ?_
    have e0 := places0 ⟨t.val - 1, h'⟩
    have e1 := places1 ⟨t.val - 1, h'⟩
    have e2 := places2 t
    blk_point [iblk, V, e0, e1, e2]
  · refine Finset.sum_congr rfl fun k _ => ?_
    have e0 := places0 t
    have e1 := places1 t
    have e2 := places2 t
    blk_point [iblk, V, e0, e1, e2]

/-- Kernel and reference compute the same results over the extended reals, for every input. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Cert.Kernel6Ideal.Value.run_blocks (F := Ideal) m g)
    obtain ⟨r0, ra⟩ := h c
    exact ⟨r0.trans (arr m c), ra⟩
  · refine (θ_run _ _ _).mono (fun r h c => ?_) (Cert.Reference6Ideal.Value.run (F := Ideal) m' g')
    obtain ⟨r0, ra⟩ := h c
    obtain ⟨a0, a1⟩ := hagree c
    refine ⟨r0.trans ?_, ra⟩
    rw [a0, a1]
    funext j
    pointwise! [prod]

/-- The reference runs to its end and leaves its arguments and everything else as they were. -/
theorem frame_r : Cert.quiescent_Reference6Ideal (hReference6Ideal := Cert.Reference6Ideal.Gen.facts) := fun m g _ =>
  (θ_run _ _ _).mono (fun r h => ⟨fun c => (h c).2, funext fun x => nomatch x.2⟩) (Cert.Reference6Ideal.Value.run (F := Ideal) m g)

end Cert.Mm6

end
-- ==== Proof.Mm7.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm7

open Idealize.ShloMosaic Idealize.ShloMosaic.TcCoe Idealize.SL.Sem Cert.Kernel7Ideal Cert.Kernel7Ideal.Gen

/-- Which block of the first operand each grid point stages. -/
theorem places0 : ∀ t : Fin grid0.N, win0_0.index t = ![t.val / 4, t.val % 4] := by decide +kernel
/-- Which block of the second operand each grid point stages. -/
theorem places1 : ∀ t : Fin grid0.N, win0_1.index t = ![t.val % 4, 0, 0] := by decide +kernel
/-- Which block of the result each grid point writes. -/
theorem places2 : ∀ t : Fin grid0.N, win0_2.index t = ![t.val / 4, 0] := by decide +kernel

variable (m : (ℓ : Loc nD τ sig) → Buf (Elt Ideal) ℓ)

/-- One term of the contraction. -/
def term (a : FVec Ideal S4096x6144 .bf16) (b : FVec Ideal S2048x6144 .f32) (i : S4096x2048.Idx) (k : Fin 6144) : EReal :=
  a (ix2 (i 0) k) * b (ix2 (i 1) k)

/-- The product of the rows of `a` with the rows of `b`. -/
def prod (a : FVec Ideal S4096x6144 .bf16) (b : FVec Ideal S2048x6144 .f32) : FVec Ideal S4096x2048 .bf16 := fun i => ∑ k : Fin 6144, term a b i k

/-- What one grid point adds: the products of its two shards of the contraction. -/
def pt (x0 : FVec Ideal S1024x1536 .bf16) (x1 : FVec Ideal S2x2048x768 .bf16) : FVec Ideal S1024x2048 .f32 := fun j =>
  ∑ k : Fin 768, x0 (ix2 (j 0) ⟨k.val, by omega⟩) * x1 (ix3 0 (j 1) k)
    + ∑ k : Fin 768, x0 (ix2 (j 0) ⟨768 + k.val, by omega⟩) * x1 (ix3 1 (j 1) k)

/-- The scratch after the first of a block's points. -/
theorem first (c : Dev nD) (n : ℕ) (h : n < cfg0.N) (hm : n % 4 = 0) :
    (outsAt0 (F := Ideal) m c n h).2 = pt (iblk m c 0 ⟨n, h⟩) (iblk m c 1 ⟨n, h⟩) := by
  rw [outsAt0_A m c ⟨n, h⟩ hm (by dsimp only; omega) (by dsimp only; omega)]
  dsimp only
  frame_out
  funext j
  pointwise [k0_pay2, k0_pay1, pt]

/-- The scratch after a point in between: one more part added. -/
theorem next (c : Dev nD) (n : ℕ) (h : n < cfg0.N) (hm : ¬n % 4 = 0) (hm' : ¬n % 4 = 3) (j : S1024x2048.Idx) :
    (outsAt0 (F := Ideal) m c n h).2 j = (outsAt0 (F := Ideal) m c (n - 1) (Nat.lt_of_le_of_lt (Nat.sub_le _ _) h)).2 j
      + pt (iblk m c 0 ⟨n, h⟩) (iblk m c 1 ⟨n, h⟩) j := by
  rw [outsAt0_B m c ⟨n, h⟩ hm (by dsimp only; omega) hm']
  dsimp only
  frame_out
  rw [read_unread_whole]
  pointwise [k0_pay3, k0_pay1, pt]

/-- The block written at the last point: the last part added. -/
theorem last (c : Dev nD) (n : ℕ) (h : n < cfg0.N) (hm : n % 4 = 3) (j : S1024x2048.Idx) :
    (outsAt0 (F := Ideal) m c n h).1 j = (outsAt0 (F := Ideal) m c (n - 1) (Nat.lt_of_le_of_lt (Nat.sub_le _ _) h)).2 j
      + pt (iblk m c 0 ⟨n, h⟩) (iblk m c 1 ⟨n, h⟩) j := by
  rw [outsAt0_C m c ⟨n, h⟩ (by dsimp only; omega) (by dsimp only; omega) hm]
  dsimp only
  frame_out
  rw [read_unread_whole]
  pointwise [k0_pay4, k0_pay3, k0_pay1, pt]

/-- The weight as the call reads it: the eight devices' columns, one block each. -/
theorem V_w (c : Dev nD) (i : S8x2048x768.Idx) : V m c main_v2 i
    = (m ((c : Thread nD τ).loc main_arg1) : FVec Ideal S2048x6144 .f32) (ix2 (i 1) ⟨(i 0).val * 768 + (i 2).val, by
        have h0 : (i 0).val < 8 := (i 0).isLt; have h2 : (i 2).val < 768 := (i 2).isLt; omega⟩) := by
  entry_read
  pointwise

/-- One point's addend, as two stretches of 768 of the whole contraction. -/
theorem pt_eq (c : Dev nD) (n s : ℕ) (h : n < grid0.N) (t : Fin grid0.N) (hs : n % 4 = s) (hn : n / 4 = t.val / 4) (y : S1024x2048.Idx) (i : S4096x2048.Idx)
    (hi : (win0_2.blk t).view.emb y = i) :
    pt (iblk m c 0 ⟨n, h⟩) (iblk m c 1 ⟨n, h⟩) y
      = ∑ k : Fin 768, term (m ((c : Thread nD τ).loc main_arg0)) (m ((c : Thread nD τ).loc main_arg1)) i ⟨2 * s * 768 + k.val, by omega⟩
        + ∑ k : Fin 768, term (m ((c : Thread nD τ).loc main_arg0)) (m ((c : Thread nD τ).loc main_arg1)) i ⟨(2 * s + 1) * 768 + k.val, by omega⟩ := by
  have e0 := places0 ⟨n, h⟩
  have e1 := places1 ⟨n, h⟩
  have e2 := places2 t
  subst hs hi
  unfold pt
  refine congrArg₂ (· + ·) ?_ ?_
  · refine Finset.sum_congr rfl fun k _ => ?_
    unfold term
    refine congrArg₂ (· * ·) ?_ ?_
    · blk_ext [iblk, V_main_arg0, e0, e2, hn]
    · refine (V_w m c _).trans ?_
      blk_ext [iblk, e1, e2, hn]
  · refine Finset.sum_congr rfl fun k _ => ?_
    unfold term
    refine congrArg₂ (· * ·) ?_ ?_
    · blk_ext [iblk, V_main_arg0, e0, e2, hn]
    · refine (V_w m c _).trans ?_
      blk_ext [iblk, e1, e2, hn]

/-- The array after the whole run is that function of the arguments. -/
theorem arr (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  have h1 : t.val - 1 < grid0.N := Nat.lt_of_le_of_lt (Nat.sub_le _ _) t.isLt
  have h2 : t.val - 1 - 1 < grid0.N := Nat.lt_of_le_of_lt (Nat.sub_le _ _) h1
  have h3 : t.val - 1 - 1 - 1 < grid0.N := Nat.lt_of_le_of_lt (Nat.sub_le _ _) h2
  blk_simp
  rw [after0_2]
  refine (last m c t.val t.isLt hm y).trans ?_
  rw [next m c (t.val - 1) h1 (by omega) (by omega), next m c (t.val - 1 - 1) h2 (by omega) (by omega), first m c (t.val - 1 - 1 - 1) h3 (by omega)]
  unfold prod
  rw [pt_eq m c (t.val - 1 - 1 - 1) 0 h3 t (by omega) (by omega) y _ rfl, pt_eq m c (t.val - 1 - 1) 1 h2 t (by omega) (by omega) y _ rfl,
    pt_eq m c (t.val - 1) 2 h1 t (by omega) (by omega) y _ rfl, pt_eq m c t.val 3 t.isLt t (by omega) (by omega) y _ rfl,
    Fin.sum_univ_tiles 8 768 rfl, Fin.sum_univ_eight]
  simp only [add_assoc]
  rfl

/-- Kernel and reference compute the same results over the extended reals, for every input. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Cert.Kernel7Ideal.Value.run_blocks (F := Ideal) m g)
    obtain ⟨r0, ra⟩ := h c
    exact ⟨r0.trans (arr m c), ra⟩
  · refine (θ_run _ _ _).mono (fun r h c => ?_) (Cert.Reference7Ideal.Value.run (F := Ideal) m' g')
    obtain ⟨r0, ra⟩ := h c
    obtain ⟨a0, a1⟩ := hagree c
    refine ⟨r0.trans ?_, ra⟩
    rw [a0, a1]
    funext j
    pointwise! [prod, term]

/-- The reference runs to its end and leaves its arguments and everything else as they were. -/
theorem frame_r : Cert.quiescent_Reference7Ideal (hReference7Ideal := Cert.Reference7Ideal.Gen.facts) := fun m g _ =>
  (θ_run _ _ _).mono (fun r h => ⟨fun c => (h c).2, funext fun x => nomatch x.2⟩) (Cert.Reference7Ideal.Value.run (F := Ideal) m g)

end Cert.Mm7

end
-- ==== Proof.Mm8.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm8

open Idealize.ShloMosaic Idealize.ShloMosaic.TcCoe Idealize.SL.Sem Cert.Kernel8Ideal Cert.Kernel8Ideal.Gen

/-- Which block of the first operand each grid point stages. -/
theorem places0 : ∀ t : Fin grid0.N, win0_0.index t = ![t.val / 8, 0] := by decide +kernel
/-- Which block of the second operand each grid point stages. -/
theorem places1 : ∀ t : Fin grid0.N, win0_1.index t = ![t.val % 8, 0, 0] := by decide +kernel
/-- Which block of the result each grid point writes. -/
theorem places2 : ∀ t : Fin grid0.N, win0_2.index t = ![t.val / 8, t.val % 8] := by decide +kernel
/-- Which block of the result each grid point writes. -/
theorem places3 : ∀ t : Fin grid0.N, win0_3.index t = ![t.val / 8, t.val % 8] := by decide +kernel

variable (m : (ℓ : Loc nD τ sig) → Buf (Elt Ideal) ℓ)

/-- The product. -/
def dot (a : FVec Ideal S4096x2048 .bf16) (b : FVec Ideal S2048x8192 .f32) : FVec Ideal S4096x8192 .bf16 := fun i =>
  ∑ k : Fin 2048, a (ix2 (i 0) k) * b (ix2 k (i 1))

/-- The rectified product. -/
def relu (a : FVec Ideal S4096x2048 .bf16) (b : FVec Ideal S2048x8192 .f32) : FVec Ideal S4096x8192 .bf16 := fun i => max (dot a b i) 0

/-- The product of two staged blocks. -/
def blk (x0 : FVec Ideal S2048x2048 .bf16) (x1 : FVec Ideal S1x2048x1024 .bf16) : FVec Ideal S2048x1024 .bf16 := fun j =>
  ∑ k : Fin 2048, x0 (ix2 (j 0) k) * x1 (ix3 0 k (j 1))

/-- Its square. -/
def act (a : FVec Ideal S4096x2048 .bf16) (b : FVec Ideal S2048x8192 .f32) : FVec Ideal S4096x8192 .bf16 := fun i =>
  relu a b i * relu a b i

/-- The weight as the call reads it: the eight devices' columns, one block each. -/
theorem V_w (c : Dev nD) (i : S8x2048x1024.Idx) : V m c main_v2 i
    = (m ((c : Thread nD τ).loc main_arg1) : FVec Ideal S2048x8192 .f32) (ix2 (i 1) ⟨(i 0).val * 1024 + (i 2).val, by
        have h0 : (i 0).val < 8 := (i 0).isLt; have h2 : (i 2).val < 1024 := (i 2).isLt; omega⟩) := by
  entry_read
  pointwise

/-- An entry of a block of the first result. -/
theorem pay_act (x0 : FVec Ideal S2048x2048 .bf16) (x1 : FVec Ideal S1x2048x1024 .bf16) (j : S2048x1024.Idx) :
    k0_pay2 x0 x1 j = max (blk x0 x1 j) 0 * max (blk x0 x1 j) 0 := by
  pointwise [k0_pay2, k0_pay1, blk]

/-- An entry of a block of the second result. -/
theorem pay_relu (x0 : FVec Ideal S2048x2048 .bf16) (x1 : FVec Ideal S1x2048x1024 .bf16) (j : S2048x1024.Idx) :
    k0_pay3 x0 x1 j = max (blk x0 x1 j) 0 := by
  pointwise [k0_pay3, k0_pay1, blk]

/-- The product of two staged blocks is the whole product at the entry they stand for. -/
theorem sum_eq (c : Dev nD) (t : Fin grid0.N) (j : S2048x1024.Idx) (i : S4096x8192.Idx) (h0 : (i 0).val = t.val / 8 * 2048 + (j 0).val)
    (h1 : (i 1).val = t.val % 8 * 1024 + (j 1).val) :
    blk (iblk m c 0 t) (iblk m c 1 t) j = dot (m ((c : Thread nD τ).loc main_arg0)) (m ((c : Thread nD τ).loc main_arg1)) i := by
  have e0 := places0 t
  have e1 := places1 t
  refine Finset.sum_congr rfl fun k _ => congrArg₂ (· * ·) ?_ ?_
  · blk_ext [iblk, V_main_arg0, e0, h0]
  · refine (V_w m c _).trans ?_
    blk_ext [iblk, e1, h1]

/-- The first array after the whole run. -/
theorem arr_act (c : Dev nD) : (dats m 0 c).arrAt 2 cfg0.N = act (m ((c : Thread nD τ).loc main_arg0)) (m ((c : Thread nD τ).loc main_arg1)) := by
  refine (dats m 0 c).arrAt_eq_of_covers 2 _ (by decide +kernel) fun t hf y => ?_
  have e2 := places2 t
  blk_simp
  rw [after0_2]
  frame_out
  refine (pay_act _ _ y).trans ?_
  rw [sum_eq m c t y ((win0_2.blk t).view.emb y) (by blk_simp [e2]) (by blk_simp [e2])]
  rfl

/-- The second array after the whole run. -/
theorem arr_relu (c : Dev nD) : (dats m 0 c).arrAt 3 cfg0.N = relu (m ((c : Thread nD τ).loc main_arg0)) (m ((c : Thread nD τ).loc main_arg1)) := by
  refine (dats m 0 c).arrAt_eq_of_covers 3 _ (by decide +kernel) fun t hf y => ?_
  have e3 := places3 t
  blk_simp
  rw [after0_3]
  frame_out
  refine (pay_relu _ _ y).trans ?_
  rw [sum_eq m c t y ((win0_3.blk t).view.emb y) (by blk_simp [e3]) (by blk_simp [e3])]
  rfl

/-- Kernel and reference compute the same results over the extended reals, for every input. -/
theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => act (m ((c : Thread nD τ).loc main_arg0)) (m ((c : Thread nD τ).loc main_arg1)), fun c => relu (m ((c : Thread nD τ).loc main_arg0)) (m ((c : Thread nD τ).loc main_arg1)), ?_, ?_⟩
  · refine (θ_run _ _ _).mono (fun r h c => ?_) (Cert.Kernel8Ideal.Value.run_blocks (F := Ideal) m g)
    obtain ⟨r0, r1, ra⟩ := h c
    exact ⟨r0.trans (arr_act m c), r1.trans (arr_relu m c), ra⟩
  · refine (θ_run _ _ _).mono (fun r h c => ?_) (Cert.Reference8Ideal.Value.run (F := Ideal) m' g')
    obtain ⟨r0, r1, ra⟩ := h c
    obtain ⟨a0, a1⟩ := hagree c
    refine ⟨r0.trans ?_, r1.trans ?_, ra⟩
    · rw [a0, a1]
      funext j
      pointwise! [act, relu, dot]
    · rw [a0, a1]
      funext j
      pointwise! [relu, dot]

/-- The reference runs to its end and leaves its arguments and everything else as they were. -/
theorem frame_r : Cert.quiescent_Reference8Ideal (hReference8Ideal := Cert.Reference8Ideal.Gen.facts) := fun m g _ =>
  (θ_run _ _ _).mono (fun r h => ⟨fun c => (h c).2.2, funext fun x => nomatch x.2⟩) (Cert.Reference8Ideal.Value.run (F := Ideal) m g)

end Cert.Mm8

end
-- ==== Proof.Mm9.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm9

open Idealize.ShloMosaic Idealize.ShloMosaic.TcCoe Idealize.SL.Sem Cert.Kernel9Ideal Cert.Kernel9Ideal.Gen

/-- Which block of the first operand each grid point stages. -/
theorem places0 : ∀ t : Fin grid0.N, win0_0.index t = ![t.val / 4, t.val % 2] := by decide +kernel
/-- Which block of the second operand each grid point stages. -/
theorem places1 : ∀ t : Fin grid0.N, win0_1.index t = ![t.val % 2, t.val / 2 % 2] := by decide +kernel
/-- Which block of the result each grid point writes. -/
theorem places2 : ∀ t : Fin grid0.N, win0_2.index t = ![t.val / 4, t.val / 2 % 2] := by decide +kernel

variable (m : (ℓ : Loc nD τ sig) → Buf (Elt Ideal) ℓ)

/-- The product the call computes, entry by entry. -/
def prod (a : FVec Ideal S4096x8192 .bf16) (b : FVec Ideal S8192x2048 .f32) : FVec Ideal S4096x2048 .bf16 := fun i =>
  ∑ k : Fin 8192, a (ix2 (i 0) k) * b (ix2 k (i 1))

/-- What one block of the result is, entry by entry, from the staged blocks. -/
theorem pay (x0 x0' : FVec Ideal S1024x4096 .bf16) (x1 x1' : FVec Ideal S4096x1024 .bf16) (j : S1024x1024.Idx) :
    k0_pay4 (k0_pay3 x0 x1 (k0_pay2 x0' x1')) j
      = ∑ k : Fin 4096, x0' (ix2 (j 0) k) * x1' (ix2 k (j 1)) + ∑ k : Fin 4096, x0 (ix2 (j 0) k) * x1 (ix2 k (j 1)) := by
  pointwise [k0_pay4, k0_pay3, k0_pay2, k0_pay1]

/-- The weight as the call reads it. -/
theorem V_w (c : Dev nD) : V m c main_v0 = (truncf .bf16 (m ((c : Thread nD τ).loc main_arg1)) bitsLt_bf16_f32 : FVec Ideal S8192x2048 .bf16) := by
  entry_read
  rfl

/-- The scratch after the first point of a block: its part of the contraction. -/
theorem scr (c : Dev nD) (n : ℕ) (h : n < cfg0.N) (hm : n % 2 = 0) :
    (outsAt0 (F := Ideal) m c n h).2 = k0_pay2 (iblk m c 0 ⟨n, h⟩) (iblk m c 1 ⟨n, h⟩) := by
  rw [outsAt0_A m c ⟨n, h⟩ hm (by dsimp only; omega) (by dsimp only; omega)]
  dsimp only
  frame_out

/-- The block written at the last point: both parts of the contraction. -/
theorem out (c : Dev nD) (t : Fin cfg0.N) (hm : t.val % 2 = 1) :
    (outsAt0 (F := Ideal) m c t.val t.isLt).1 = k0_pay4 (k0_pay3 (iblk m c 0 t) (iblk m c 1 t) (k0_pay2 (iblk m c 0 ⟨t.val - 1, by omega⟩) (iblk m c 1 ⟨t.val - 1, by omega⟩))) := by
  rw [outsAt0_B m c t (by omega) hm hm]
  dsimp only
  rw [scr m c (t.val - 1) (by omega) (by omega)]
  frame_out
  rw [read_unread_whole]

/-- The array after the whole run is that function of the arguments. -/
theorem arr (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2, out m c t hm]
  have h' : t.val - 1 < grid0.N := Nat.lt_of_le_of_lt (Nat.sub_le _ _) t.isLt
  refine (pay _ _ _ _ y).trans ?_
  unfold prod
  rw [Fin.sum_univ_tiles 2 4096 rfl, Fin.sum_univ_two]
  refine congrArg₂ (· + ·) ?_ ?_
  · refine Finset.sum_congr rfl fun k _ => ?_
    have e0 := places0 ⟨t.val - 1, h'⟩
    have e1 := places1 ⟨t.val - 1, h'⟩
    have e2 := places2 t
    blk_point [iblk, V_main_arg0, V_w, e0, e1, e2]
  · refine Finset.sum_congr rfl fun k _ => ?_
    have e0 := places0 t
    have e1 := places1 t
    have e2 := places2 t
    blk_point [iblk, V_main_arg0, V_w, e0, e1, e2]

/-- Kernel and reference compute the same results over the extended reals, for every input. -/
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => prod (m ((c : Thread nD τ).loc main_arg0)) (m ((c : Thread nD τ).loc main_arg1)), ?_, ?_⟩
  · refine (θ_run _ _ _).mono (fun r h c => ?_) (Cert.Kernel9Ideal.Value.run_blocks (F := Ideal) m g)
    obtain ⟨r0, ra⟩ := h c
    exact ⟨r0.trans (arr m c), ra⟩
  · refine (θ_run _ _ _).mono (fun r h c => ?_) (Cert.Reference9Ideal.Value.run (F := Ideal) m' g')
    obtain ⟨r0, ra⟩ := h c
    obtain ⟨a0, a1⟩ := hagree c
    refine ⟨r0.trans ?_, ra⟩
    rw [a0, a1]
    funext j
    pointwise! [prod]

/-- The reference runs to its end and leaves its arguments and everything else as they were. -/
theorem frame_r : Cert.quiescent_Reference9Ideal (hReference9Ideal := Cert.Reference9Ideal.Gen.facts) := fun m g _ =>
  (θ_run _ _ _).mono (fun r h => ⟨fun c => (h c).2, funext fun x => nomatch x.2⟩) (Cert.Reference9Ideal.Value.run (F := Ideal) m g)

end Cert.Mm9

end
-- ==== Proof.Mm10.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Mm10

open Idealize.ShloMosaic Idealize.ShloMosaic.TcCoe Idealize.SL.Sem Cert.Kernel10Ideal Cert.Kernel10Ideal.Gen

/-- Which block of the first operand each grid point stages. -/
theorem places0 : ∀ t : Fin grid0.N, win0_0.index t = ![t.val / 8, 0] := by decide +kernel
/-- Which block of the second operand each grid point stages. -/
theorem places1 : ∀ t : Fin grid0.N, win0_1.index t = ![t.val % 8, 0, 0] := by decide +kernel
/-- Which block of the third operand each grid point stages. -/
theorem places2 : ∀ t : Fin grid0.N, win0_2.index t = ![0, t.val % 8] := by decide +kernel
/-- Which block of the result each grid point writes. -/
theorem places3 : ∀ t : Fin grid0.N, win0_3.index t = ![t.val / 8, t.val % 8] := by decide +kernel

variable (m : (ℓ : Loc nD τ sig) → Buf (Elt Ideal) ℓ)

/-- The product with the bias added to every row. -/
def proj (a : FVec Ideal S4096x2048 .bf16) (b : FVec Ideal S2048x6144 .f32) (z : FVec Ideal S1x6144 .f32) : FVec Ideal S4096x6144 .bf16 := fun i =>
  ∑ k : Fin 2048, a (ix2 (i 0) k) * b (ix2 k (i 1)) + z (ix2 0 (i 1))

/-- The weight as the call reads it: the eight devices' columns, one block each. -/
theorem V_w (c : Dev nD) (i : S8x2048x768.Idx) : V m c main_v2 i
    = (m ((c : Thread nD τ).loc main_arg1) : FVec Ideal S2048x6144 .f32) (ix2 (i 1) ⟨(i 0).val * 768 + (i 2).val, by
        have h0 : (i 0).val < 8 := (i 0).isLt; have h2 : (i 2).val < 768 := (i 2).isLt; omega⟩) := by
  entry_read
  pointwise

/-- What one block of the result is, entry by entry, from the staged blocks. -/
theorem pay (x0 : FVec Ideal S2048x2048 .bf16) (x1 : FVec Ideal S1x2048x768 .bf16) (x2 : FVec Ideal S1x768 .f32) (j : S2048x768.Idx) :
    k0_pay1 x0 x1 x2 j = ∑ k : Fin 2048, x0 (ix2 (j 0) k) * x1 (ix3 0 k (j 1)) + x2 (ix2 0 (j 1)) := by
  pointwise [k0_pay1]

/-- The array after the whole run is that function of the arguments. -/
theorem arr (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 := places0 t
  have e1 := places1 t
  have e2 := places2 t
  have e3 := places3 t
  blk_simp
  rw [after0_3]
  frame_out
  refine (pay _ _ _ y).trans ?_
  unfold proj
  refine congrArg₂ (· + ·) (Finset.sum_congr rfl fun k _ => congrArg₂ (· * ·) ?_ ?_) ?_
  · blk_ext [iblk, V_main_arg0, e0, e3]
  · refine (V_w m c _).trans ?_
    blk_ext [iblk, e1, e3]
  · blk_ext [iblk, V_main_arg2, e2, e3]

/-- Kernel and reference compute the same results over the extended reals, for every input. -/
theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => proj (m ((c : Thread nD τ).loc main_arg0)) (m ((c : Thread nD τ).loc main_arg1)) (m ((c : Thread nD τ).loc main_arg2)), ?_, ?_⟩
  · refine (θ_run _ _ _).mono (fun r h c => ?_) (Cert.Kernel10Ideal.Value.run_blocks (F := Ideal) m g)
    obtain ⟨r0, ra⟩ := h c
    exact ⟨r0.trans (arr m c), ra⟩
  · refine (θ_run _ _ _).mono (fun r h c => ?_) (Cert.Reference10Ideal.Value.run (F := Ideal) m' g')
    obtain ⟨r0, ra⟩ := h c
    obtain ⟨a0, a1, a2⟩ := hagree c
    refine ⟨r0.trans ?_, ra⟩
    · rw [a0, a1, a2]
      funext j
      pointwise! [proj]

/-- The reference runs to its end and leaves its arguments and everything else as they were. -/
theorem frame_r : Cert.quiescent_Reference10Ideal (hReference10Ideal := Cert.Reference10Ideal.Gen.facts) := fun m g _ =>
  (θ_run _ _ _).mono (fun r h => ⟨fun c => (h c).2, funext fun x => nomatch x.2⟩) (Cert.Reference10Ideal.Value.run (F := Ideal) m g)

end Cert.Mm10

end
-- ==== Proof.Adam.lean ====
module

public import Idealize.ShloMosaic.Lib.Pipeline.ValueKit
public import Idealize.ShloMosaic.Lib.Pipeline.ReadBack
public import Idealize.ShloMosaic.Lib.Pointwise

@[expose] public section

noncomputable section

namespace Cert.Adam

open Idealize.ShloMosaic

/-- An entry of the new first moment, from the gradient and the old first moment. -/
def mom (g m : Ideal .f32) : Ideal .f32 := Ideal.ofBits .f32 0x3F666666#32 * m + Ideal.ofBits .f32 0x3DCCCCCD#32 * g

/-- An entry of the new second moment, from the gradient and the old second moment. -/
def var (g v : Ideal .f32) : Ideal .f32 := Ideal.ofBits .f32 0x3F7FBE77#32 * v + Ideal.ofBits .f32 0x3A83126F#32 * (g * g)

/-- An entry of the change of the weight, from the gradient, the weight and the old moments. -/
def delta (g w m v : Ideal .f32) : Ideal .f32 := Ideal.ofBits .f32 0xBA83126F#32
  * (Ideal.div (Ideal.div (mom g m) (Ideal.ofBits .f32 0x3F26BD02#32))
      (Ideal.sqrt (Ideal.div (var g v) (Ideal.ofBits .f32 0x3C231ACC#32)) + Ideal.ofBits .f32 0x322BCC77#32)
    + Ideal.ofBits .f32 0x3C23D70A#32 * w)

/-- A row of the lower half of a strip of sixteen, found again in the strip. -/
theorem low {n : ℕ} (x : (⟨2, ![16, n]⟩ : Shape).Idx) (h : ¬(x 0).val < 8) (p : 8 + ((x 0).val - 8) < 16) :
    (ix2 ⟨8 + ((x 0).val - 8), p⟩ (x 1) : (⟨2, ![16, n]⟩ : Shape).Idx) = x := by
  funext a
  fin_cases a
  · exact Fin.ext (by show 8 + ((x 0).val - 8) = (x 0).val; omega)
  · rfl

/-- A number of any float type, read as one of the wide type. -/
abbrev wide {t : FTy} (a : Ideal t) : Ideal .f32 := a

/-- The sum of eight arrays with one leading row, in their order. -/
def eight {R C : ℕ} {t : FTy} (x0 x1 x2 x3 x4 x5 x6 x7 : FVec Ideal ⟨3, ![1, R, C]⟩ t) : FVec Ideal ⟨2, ![R, C]⟩ .f32 := fun j =>
  wide (x0 (ix3 0 (j 0) (j 1))) + wide (x1 (ix3 0 (j 0) (j 1))) + wide (x2 (ix3 0 (j 0) (j 1))) + wide (x3 (ix3 0 (j 0) (j 1)))
    + wide (x4 (ix3 0 (j 0) (j 1))) + wide (x5 (ix3 0 (j 0) (j 1))) + wide (x6 (ix3 0 (j 0) (j 1))) + wide (x7 (ix3 0 (j 0) (j 1)))

/-- A strip of rows taken of an array with one leading row is the strip of the same rows without it. -/
theorem strip {R r C o : ℕ} (p1 : ∀ a, (![0, o, 0] : Fin 3 → ℕ) a + (![1, r, C] : Fin 3 → ℕ) a ≤ (⟨3, ![1, R, C]⟩ : Shape).size a)
    (p2 : ∀ a, (![o, 0] : Fin 2 → ℕ) a + (![r, C] : Fin 2 → ℕ) a ≤ (⟨2, ![R, C]⟩ : Shape).size a) (x : (⟨2, ![r, C]⟩ : Shape).Idx) :
    (Rect.unit (s := ⟨3, ![1, R, C]⟩) ![0, o, 0] ![1, r, C] p1).emb (ix3 0 (x 0) (x 1) : (⟨3, ![1, r, C]⟩ : Shape).Idx)
      = ix3 0 ((Rect.unit (s := ⟨2, ![R, C]⟩) ![o, 0] ![r, C] p2).emb x 0) ((Rect.unit (s := ⟨2, ![R, C]⟩) ![o, 0] ![r, C] p2).emb x 1) := by
  funext a
  fin_cases a
  · exact Fin.ext rfl
  · exact Fin.ext rfl
  · exact Fin.ext rfl

/-- The sum of eight strips is the strip of the sum. -/
theorem eight_strip {R r C o : ℕ} {t : FTy} (p1 : ∀ a, (![0, o, 0] : Fin 3 → ℕ) a + (![1, r, C] : Fin 3 → ℕ) a ≤ (⟨3, ![1, R, C]⟩ : Shape).size a)
    (p2 : ∀ a, (![o, 0] : Fin 2 → ℕ) a + (![r, C] : Fin 2 → ℕ) a ≤ (⟨2, ![R, C]⟩ : Shape).size a)
    (x0 x1 x2 x3 x4 x5 x6 x7 : FVec Ideal ⟨3, ![1, R, C]⟩ t) (x : (⟨2, ![r, C]⟩ : Shape).Idx) :
    eight (fun y : (⟨3, ![1, r, C]⟩ : Shape).Idx => x0 ((Rect.unit (s := ⟨3, ![1, R, C]⟩) ![0, o, 0] ![1, r, C] p1).emb y))
      (fun y => x1 ((Rect.unit (s := ⟨3, ![1, R, C]⟩) ![0, o, 0] ![1, r, C] p1).emb y))
      (fun y => x2 ((Rect.unit (s := ⟨3, ![1, R, C]⟩) ![0, o, 0] ![1, r, C] p1).emb y))
      (fun y => x3 ((Rect.unit (s := ⟨3, ![1, R, C]⟩) ![0, o, 0] ![1, r, C] p1).emb y))
      (fun y => x4 ((Rect.unit (s := ⟨3, ![1, R, C]⟩) ![0, o, 0] ![1, r, C] p1).emb y))
      (fun y => x5 ((Rect.unit (s := ⟨3, ![1, R, C]⟩) ![0, o, 0] ![1, r, C] p1).emb y))
      (fun y => x6 ((Rect.unit (s := ⟨3, ![1, R, C]⟩) ![0, o, 0] ![1, r, C] p1).emb y))
      (fun y => x7 ((Rect.unit (s := ⟨3, ![1, R, C]⟩) ![0, o, 0] ![1, r, C] p1).emb y)) x
      = eight x0 x1 x2 x3 x4 x5 x6 x7 ((Rect.unit (s := ⟨2, ![R, C]⟩) ![o, 0] ![r, C] p2).emb x) := by
  exact congrArg (fun z => wide (x0 z) + wide (x1 z) + wide (x2 z) + wide (x3 z) + wide (x4 z) + wide (x5 z) + wide (x6 z) + wide (x7 z))
    (strip p1 p2 x)

/-- The sum of the eight leading rows of an array, in their order. -/
def total {R C : ℕ} {t : FTy} (P : FVec Ideal ⟨3, ![8, R, C]⟩ t) : FVec Ideal ⟨2, ![R, C]⟩ .f32 := fun j =>
  wide (P (ix3 0 (j 0) (j 1))) + wide (P (ix3 1 (j 0) (j 1))) + wide (P (ix3 2 (j 0) (j 1))) + wide (P (ix3 3 (j 0) (j 1)))
    + wide (P (ix3 4 (j 0) (j 1))) + wide (P (ix3 5 (j 0) (j 1))) + wide (P (ix3 6 (j 0) (j 1))) + wide (P (ix3 7 (j 0) (j 1)))

/-- If the stores into a buffer cover it and each of them is a block of one function, the buffer holds that function. -/
theorem block {sig : RefSig} {κ : Kind} {sp : Space} {S : Shape} (v : View sig κ sp S .f32) (f : v.ty.Contents (Elt Ideal))
    (L : List (View.Piece (Elt Ideal) S .f32)) (G : FVec Ideal S .f32) (hc : ∀ y, ∃ p ∈ L, y ∈ p.1.set)
    (h : ∀ p ∈ L, ∀ x : p.1.shape.Idx, p.2 x = G (p.1.emb x)) : v.read (Elt Ideal) (v.writes (Elt Ideal) f L) = G :=
  (View.read_writes_eq_canon v f L hc).trans (funext fun y => View.canon_apply_of_pieces G L h y (hc y))

/-- The stores of a loop, trip after trip, into the four outputs: the last trip's before the earlier ones. -/
abbrev Stores (S : Shape) : Type := List (View.Piece (Elt Ideal) S .f32) × List (View.Piece (Elt Ideal) S .f32)
  × List (View.Piece (Elt Ideal) S .f32) × List (View.Piece (Elt Ideal) S .f32)

/-- Every store into each of the four outputs is a block of that output's function. -/
def Good {S : Shape} (G1 G2 G3 G4 : FVec Ideal S .f32) (L : Stores S) : Prop :=
  (∀ p ∈ L.1, ∀ x : p.1.shape.Idx, p.2 x = G1 (p.1.emb x)) ∧ (∀ p ∈ L.2.1, ∀ x : p.1.shape.Idx, p.2 x = G2 (p.1.emb x))
    ∧ (∀ p ∈ L.2.2.1, ∀ x : p.1.shape.Idx, p.2 x = G3 (p.1.emb x)) ∧ ∀ p ∈ L.2.2.2, ∀ x : p.1.shape.Idx, p.2 x = G4 (p.1.emb x)

/-- If the stores of every trip are blocks of the four functions, so are the stores of all trips together. -/
theorem good {S : Shape} {N : ℕ} (G1 G2 G3 G4 : FVec Ideal S .f32) (pb : ℕ → Stores S) (L : Fin N → Stores S)
    (h0 : pb 0 = ([], [], [], []))
    (hs : ∀ k : Fin N, pb (k.val + 1) = ((L k).1 ++ (pb k.val).1, (L k).2.1 ++ (pb k.val).2.1, (L k).2.2.1 ++ (pb k.val).2.2.1,
      (L k).2.2.2 ++ (pb k.val).2.2.2))
    (hL : ∀ k, View.PiecesOf G1 (L k).1 ∧ View.PiecesOf G2 (L k).2.1 ∧ View.PiecesOf G3 (L k).2.2.1 ∧ View.PiecesOf G4 (L k).2.2.2) :
    ∀ n, n ≤ N → Good G1 G2 G3 G4 (pb n)
  | 0, _ => by
    rw [h0]
    exact ⟨fun p hp => absurd hp List.not_mem_nil, fun p hp => absurd hp List.not_mem_nil, fun p hp => absurd hp List.not_mem_nil,
      fun p hp => absurd hp List.not_mem_nil⟩
  | n + 1, hn => by
    obtain ⟨i1, i2, i3, i4⟩ := good G1 G2 G3 G4 pb L h0 hs hL n (Nat.le_of_succ_le hn)
    obtain ⟨l1, l2, l3, l4⟩ := hL ⟨n, hn⟩
    rw [hs ⟨n, hn⟩]
    exact ⟨fun p hp => (List.mem_append.mp hp).elim (l1.mem p) (i1 p), fun p hp => (List.mem_append.mp hp).elim (l2.mem p) (i2 p),
      fun p hp => (List.mem_append.mp hp).elim (l3.mem p) (i3 p), fun p hp => (List.mem_append.mp hp).elim (l4.mem p) (i4 p)⟩

end Cert.Adam

end
-- ==== Proof.Ad11.lean ====
module

public import proofs.«01_k».proof.Defs
public import proofs.«01_k».proof.Proof.Gen.Kernel11Ideal.Value
public import proofs.«01_k».proof.Proof.Gen.Reference11Ideal.Run
public import proofs.«01_k».proof.Proof.Adam

@[expose] public section

set_option maxRecDepth 16384

noncomputable section

namespace Cert.Ad11

open Idealize.ShloMosaic Idealize.ShloMosaic.TcCoe Idealize.SL.Sem Cert.Kernel11Ideal Cert.Kernel11Ideal.Gen Cert.Adam

/-- Which block the one grid point stages or writes: a device's part of the gradient, or all rows of an array. -/
theorem places : ∀ t : Fin grid0.N, (win0_0.index t = ![0, t.val, 0] ∧ win0_1.index t = ![1, t.val, 0] ∧ win0_2.index t = ![2, t.val, 0]
    ∧ win0_3.index t = ![3, t.val, 0] ∧ win0_4.index t = ![4, t.val, 0] ∧ win0_5.index t = ![5, t.val, 0] ∧ win0_6.index t = ![6, t.val, 0]
    ∧ win0_7.index t = ![7, t.val, 0]) ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] := by
  decide +kernel

/-- An entry of what one trip stores as gradient. -/
theorem pay_g (x0 x1 x2 x3 x4 x5 x6 x7 : FVec Ideal S1x8x2048 .f32) (x : S8x2048.Idx) :
    k0_pay4 x0 x1 x2 x3 x4 x5 x6 x7 x = eight x0 x1 x2 x3 x4 x5 x6 x7 x := by
  pointwise [k0_pay4, eight]

/-- An entry of what one trip stores as first moment. -/
theorem pay_m (m g : FVec Ideal S8x2048 .f32) (x : S8x2048.Idx) : k0_pay1 m g x = mom (g x) (m x) := by
  pointwise [k0_pay1, mom]

/-- An entry of what one trip stores as second moment. -/
theorem pay_v (v g : FVec Ideal S8x2048 .f32) (x : S8x2048.Idx) : k0_pay2 v g x = var (g x) (v x) := by
  pointwise [k0_pay2, var]

/-- An entry of what one trip stores as change of the weight. -/
theorem pay_d (w m v g : FVec Ideal S8x2048 .f32) (x : S8x2048.Idx) : k0_pay3 w m v g x = delta (g x) (w x) (m x) (v x) := by
  pointwise [k0_pay3, k0_pay1, k0_pay2, mom, var, delta]

/-- Every store of one trip is a block of that output's function of the whole block. -/
theorem trip (c : Dev nD) (i : grid0.Coords) (a1 : Memref sig .tc .vmem S1x88x2048 .f32) (h1 : a1.IsWhole) (a2 : Memref sig .tc .vmem S1x88x2048 .f32) (h2 : a2.IsWhole) (a3 : Memref sig .tc .vmem S1x88x2048 .f32) (h3 : a3.IsWhole) (a4 : Memref sig .tc .vmem S1x88x2048 .f32) (h4 : a4.IsWhole) (a5 : Memref sig .tc .vmem S1x88x2048 .f32) (h5 : a5.IsWhole) (a6 : Memref sig .tc .vmem S1x88x2048 .f32) (h6 : a6.IsWhole) (a7 : Memref sig .tc .vmem S1x88x2048 .f32) (h7 : a7.IsWhole) (a8 : Memref sig .tc .vmem S1x88x2048 .f32) (h8 : a8.IsWhole) (a9 : Memref sig .tc .vmem S88x2048 .f32) (h9 : a9.IsWhole) (a10 : Memref sig .tc .vmem S88x2048 .f32) (h10 : a10.IsWhole) (a11 : Memref sig .tc .vmem S88x2048 .f32) (h11 : a11.IsWhole) (a12 : Memref sig .tc .vmem S88x2048 .f32) (h12 : a12.IsWhole) (a13 : Memref sig .tc .vmem S88x2048 .f32) (h13 : a13.IsWhole) (a14 : Memref sig .tc .vmem S88x2048 .f32) (h14 : a14.IsWhole) (a15 : Memref sig .tc .vmem S88x2048 .f32) (h15 : a15.IsWhole)
    (x0 x1 x2 x3 x4 x5 x6 x7 : FVec Ideal S1x88x2048 .f32) (w m v : FVec Ideal S88x2048 .f32) (k : Fin k0_t1_loop.trips) :
    let L := tripL_k0_t1 (F := Ideal) Variants.none c none i a1 h1 a2 h2 a3 h3 a4 h4 a5 h5 a6 h6 a7 h7 a8 h8 a9 h9 a10 h10 a11 h11 a12 h12 a13 h13 a14 h14 a15 h15
      (h1.unread x0) (h2.unread x1) (h3.unread x2) (h4.unread x3) (h5.unread x4) (h6.unread x5) (h7.unread x6) (h8.unread x7) (h9.unread w) (h10.unread m) (h11.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h1.read_unread, h2.read_unread, h3.read_unread, h4.read_unread, h5.read_unread, h6.read_unread, h7.read_unread, h8.read_unread, h9.read_unread, h10.read_unread, h11.read_unread]
  refine ⟨⟨fun x => ?_, trivial⟩, ⟨fun x => ?_, trivial⟩, ⟨fun x => ?_, trivial⟩, ⟨fun x => ?_, trivial⟩⟩
  · dsimp only
    refine (pay_g _ _ _ _ _ _ _ _ x).trans ?_
    exact eight_strip _ _ x0 x1 x2 x3 x4 x5 x6 x7 x
  · dsimp only
    refine (pay_d _ _ _ _ x).trans (congrArg (fun z => delta z _ _ _) ?_)
    exact (pay_g _ _ _ _ _ _ _ _ x).trans (eight_strip _ _ x0 x1 x2 x3 x4 x5 x6 x7 x)
  · dsimp only
    refine (pay_m _ _ x).trans (congrArg (fun z => mom z _) ?_)
    exact (pay_g _ _ _ _ _ _ _ _ x).trans (eight_strip _ _ x0 x1 x2 x3 x4 x5 x6 x7 x)
  · dsimp only
    refine (pay_v _ _ x).trans (congrArg (fun z => var z _) ?_)
    exact (pay_g _ _ _ _ _ _ _ _ x).trans (eight_strip _ _ x0 x1 x2 x3 x4 x5 x6 x7 x)

/-- What a grid point leaves in the four output blocks. -/
theorem outs (c : Dev nD) (i : grid0.Coords) (a1 : Memref sig .tc .vmem S1x88x2048 .f32) (h1 : a1.IsWhole) (a2 : Memref sig .tc .vmem S1x88x2048 .f32) (h2 : a2.IsWhole) (a3 : Memref sig .tc .vmem S1x88x2048 .f32) (h3 : a3.IsWhole) (a4 : Memref sig .tc .vmem S1x88x2048 .f32) (h4 : a4.IsWhole) (a5 : Memref sig .tc .vmem S1x88x2048 .f32) (h5 : a5.IsWhole) (a6 : Memref sig .tc .vmem S1x88x2048 .f32) (h6 : a6.IsWhole) (a7 : Memref sig .tc .vmem S1x88x2048 .f32) (h7 : a7.IsWhole) (a8 : Memref sig .tc .vmem S1x88x2048 .f32) (h8 : a8.IsWhole) (a9 : Memref sig .tc .vmem S88x2048 .f32) (h9 : a9.IsWhole) (a10 : Memref sig .tc .vmem S88x2048 .f32) (h10 : a10.IsWhole) (a11 : Memref sig .tc .vmem S88x2048 .f32) (h11 : a11.IsWhole) (a12 : Memref sig .tc .vmem S88x2048 .f32) (h12 : a12.IsWhole) (a13 : Memref sig .tc .vmem S88x2048 .f32) (h13 : a13.IsWhole) (a14 : Memref sig .tc .vmem S88x2048 .f32) (h14 : a14.IsWhole) (a15 : Memref sig .tc .vmem S88x2048 .f32) (h15 : a15.IsWhole)
    (x0 x1 x2 x3 x4 x5 x6 x7 : FVec Ideal S1x88x2048 .f32) (w m v : FVec Ideal S88x2048 .f32) :
    out0_A_11 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v = (fun j => eight x0 x1 x2 x3 x4 x5 x6 x7 j)
    ∧ out0_A_12 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v = (fun j => delta (eight x0 x1 x2 x3 x4 x5 x6 x7 j) (w j) (m j) (v j))
    ∧ out0_A_13 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v = (fun j => mom (eight x0 x1 x2 x3 x4 x5 x6 x7 j) (m j))
    ∧ out0_A_14 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v = (fun j => var (eight x0 x1 x2 x3 x4 x5 x6 x7 j) (v j)) := by
  have hp := good _ _ _ _ _ _ rfl (pb_k0_t1_succ (F := Ideal) Variants.none c none i a1 h1 a2 h2 a3 h3 a4 h4 a5 h5 a6 h6 a7 h7 a8 h8 a9 h9 a10 h10 a11 h11 a12 h12 a13 h13 a14 h14 a15 h15
      (h1.unread x0) (h2.unread x1) (h3.unread x2) (h4.unread x3) (h5.unread x4) (h6.unread x5) (h7.unread x6) (h8.unread x7) (h9.unread w) (h10.unread m) (h11.unread v))
    (trip c i a1 h1 a2 h2 a3 h3 a4 h4 a5 h5 a6 h6 a7 h7 a8 h8 a9 h9 a10 h10 a11 h11 a12 h12 a13 h13 a14 h14 a15 h15 x0 x1 x2 x3 x4 x5 x6 x7 w m v) _ (le_refl _)
  refine ⟨?_, ?_, ?_, ?_⟩
  · exact block _ _ _ _ (cover0_A_11 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v) hp.1
  · exact block _ _ _ _ (cover0_A_12 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v) hp.2.1
  · exact block _ _ _ _ (cover0_A_13 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v) hp.2.2.1
  · exact block _ _ _ _ (cover0_A_14 (F := Ideal) c i a1 h1 a2 h2 a3 h3 a4 h4 a5 h5 a6 h6 a7 h7 a8 h8 a9 h9 a10 h10 a11 h11 a12 h12 a13 h13 a14 h14 a15 h15 x0 x1 x2 x3 x4 x5 x6 x7 w m v) hp.2.2.2

variable (m : (ℓ : Loc nD τ sig) → Buf (Elt Ideal) ℓ)

/-- The array of the gradient after the whole run. -/
theorem arr_g (c : Dev nD) : (dats m 0 c).arrAt 11 cfg0.N = (fun i => total (t := .f32) (m ((c : Thread nD τ).loc main_arg0) : FVec Ideal S8x88x2048 .f32) i : FVec Ideal S88x2048 .f32) := by
  refine (dats m 0 c).arrAt_eq_of_covers 11 _ (by decide +kernel) fun t hf y => ?_
  obtain ⟨⟨e0, e1, e2, e3, e4, e5, e6, e7⟩, e8, e9, e10, e11, e12, e13, e14⟩ := places t
  blk_simp
  rw [after0_11]
  unfold outsAt0
  dsimp only
  rw [(outs c (grid0.coords t) _ _ _ _ _ _ _ _ _ _ _ _ _ _ _ _ _ _ _ _ _ _ _ _ _ _ _ _ _ _ _ _ _ _ _ _ _ _ _ _ _).1]
  blk_point [iblk, eight, total, V_main_arg0, V_main_arg1, V_main_arg2, V_main_arg3, e0, e1, e2, e3, e4, e5, e6, e7, e8, e9, e10, e11]

/-- The array of the change of the weight after the whole run. -/
theorem arr_d (c : Dev nD) : (dats m 0 c).arrAt 12 cfg0.N = (fun i => delta (total (t := .f32) (m ((c : Thread nD τ).loc main_arg0) : FVec Ideal S8x88x2048 .f32) i) ((m ((c : Thread nD τ).loc main_arg1) : FVec Ideal S88x2048 .f32) i) ((m ((c : Thread nD τ).loc main_arg2) : FVec Ideal S88x2048 .f32) i) ((m ((c : Thread nD τ).loc main_arg3) : FVec Ideal S88x2048 .f32) i) : FVec Ideal S88x2048 .f32) := by
  refine (dats m 0 c).arrAt_eq_of_covers 12 _ (by decide +kernel) fun t hf y => ?_
  obtain ⟨⟨e0, e1, e2, e3, e4, e5, e6, e7⟩, e8, e9, e10, e11, e12, e13, e14⟩ := places t
  blk_simp
  rw [after0_12]
  unfold outsAt0
  dsimp only
  rw [(outs c (grid0.coords t) _ _ _ _ _ _ _ _ _ _ _ _ _ _ _ _ _ _ _ _ _ _ _ _ _ _ _ _ _ _ _ _ _ _ _ _ _ _ _ _ _).2.1]
  blk_point [iblk, eight, total, V_main_arg0, V_main_arg1, V_main_arg2, V_main_arg3, e0, e1, e2, e3, e4, e5, e6, e7, e8, e9, e10, e12]

/-- The array of the first moment after the whole run. -/
theorem arr_m (c : Dev nD) : (dats m 0 c).arrAt 13 cfg0.N = (fun i => mom (total (t := .f32) (m ((c : Thread nD τ).loc main_arg0) : FVec Ideal S8x88x2048 .f32) i) ((m ((c : Thread nD τ).loc main_arg2) : FVec Ideal S88x2048 .f32) i) : FVec Ideal S88x2048 .f32) := by
  refine (dats m 0 c).arrAt_eq_of_covers 13 _ (by decide +kernel) fun t hf y => ?_
  obtain ⟨⟨e0, e1, e2, e3, e4, e5, e6, e7⟩, e8, e9, e10, e11, e12, e13, e14⟩ := places t
  blk_simp
  rw [after0_13]
  unfold outsAt0
  dsimp only
  rw [(outs c (grid0.coords t) _ _ _ _ _ _ _ _ _ _ _ _ _ _ _ _ _ _ _ _ _ _ _ _ _ _ _ _ _ _ _ _ _ _ _ _ _ _ _ _ _).2.2.1]
  blk_point [iblk, eight, total, V_main_arg0, V_main_arg1, V_main_arg2, V_main_arg3, e0, e1, e2, e3, e4, e5, e6, e7, e8, e9, e10, e13]

/-- The array of the second moment after the whole run. -/
theorem arr_v (c : Dev nD) : (dats m 0 c).arrAt 14 cfg0.N = (fun i => var (total (t := .f32) (m ((c : Thread nD τ).loc main_arg0) : FVec Ideal S8x88x2048 .f32) i) ((m ((c : Thread nD τ).loc main_arg3) : FVec Ideal S88x2048 .f32) i) : FVec Ideal S88x2048 .f32) := by
  refine (dats m 0 c).arrAt_eq_of_covers 14 _ (by decide +kernel) fun t hf y => ?_
  obtain ⟨⟨e0, e1, e2, e3, e4, e5, e6, e7⟩, e8, e9, e10, e11, e12, e13, e14⟩ := places t
  blk_simp
  rw [after0_14]
  unfold outsAt0
  dsimp only
  rw [(outs c (grid0.coords t) _ _ _ _ _ _ _ _ _ _ _ _ _ _ _ _ _ _ _ _ _ _ _ _ _ _ _ _ _ _ _ _ _ _ _ _ _ _ _ _ _).2.2.2]
  blk_point [iblk, eight, total, V_main_arg0, V_main_arg1, V_main_arg2, V_main_arg3, e0, e1, e2, e3, e4, e5, e6, e7, e8, e9, e10, e14]

/-- The reference's gradient is the sum of the devices' parts. -/
theorem grad_r (P : FVec Ideal S8x88x2048 .f32) :
    Host.reduceAdd P (constant Cert.Reference11Ideal.S_ .f32 0x00000000#32)
      Cert.Reference11Ideal.Gen.reducesTo_S8x88x2048_S88x2048_d0 Cert.Reference11Ideal.Gen.h_S_ = fun j => total P j := by
  funext j
  pointwise [total]
  exact Fin.sum_univ_eight _

/-- Kernel and reference compute the same results over the extended reals, for every input. -/
theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => (dats m 0 c).arrAt 11 cfg0.N, fun c => (dats m 0 c).arrAt 12 cfg0.N, fun c => (dats m 0 c).arrAt 13 cfg0.N,
    fun c => (dats m 0 c).arrAt 14 cfg0.N, (θ_run _ _ _).mono (fun r h c => ?_) (Cert.Kernel11Ideal.Value.run_blocks (F := Ideal) m g),
    (θ_run _ _ _).mono (fun r h c => ?_) (Cert.Reference11Ideal.Value.run (F := Ideal) m' g')⟩
  · exact h c
  · obtain ⟨r0, r1, r2, r3, ra⟩ := h c
    obtain ⟨a0, a1, a2, a3⟩ := hagree c
    rw [a0, grad_r] at r0
    rw [a0, grad_r, a1, a2, a3] at r1
    rw [a0, grad_r, a2] at r2
    rw [a0, grad_r, a3] at r3
    refine ⟨r0.trans (arr_g m c).symm, r1.trans (.trans ?_ (arr_d m c).symm), r2.trans (.trans ?_ (arr_m m c).symm),
      r3.trans (.trans ?_ (arr_v m c).symm), ra⟩
    · funext j
      pointwise [delta, mom, var]
    · funext j
      pointwise [mom]
    · funext j
      pointwise [var]

/-- The reference runs to its end and leaves its arguments and everything else as they were. -/
theorem frame_r : Cert.quiescent_Reference11Ideal (hReference11Ideal := Cert.Reference11Ideal.Gen.facts) := fun m g _ =>
  (θ_run _ _ _).mono (fun r h => ⟨fun c => (h c).2.2.2.2, funext fun x => nomatch x.2⟩) (Cert.Reference11Ideal.Value.run (F := Ideal) m g)

end Cert.Ad11

end
-- ==== Proof.Ad12.lean ====
module

public import proofs.«01_k».proof.Defs
public import proofs.«01_k».proof.Proof.Gen.Kernel12Ideal.Value
public import proofs.«01_k».proof.Proof.Gen.Reference12Ideal.Run
public import proofs.«01_k».proof.Proof.Adam

@[expose] public section

set_option maxRecDepth 16384

noncomputable section

namespace Cert.Ad12

open Idealize.ShloMosaic Idealize.ShloMosaic.TcCoe Idealize.SL.Sem Cert.Kernel12Ideal Cert.Kernel12Ideal.Gen Cert.Adam

/-- Which block each grid point stages or writes, the same rows in every array. -/
theorem places : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

variable (m : (ℓ : Loc nD τ sig) → Buf (Elt Ideal) ℓ)

/-- An entry of what one trip stores as gradient. -/
theorem pay_g (v4 : FVec Ideal S16x1536 .f32) (x : S16x1536.Idx) : k0_pay3 (k0_pay7 v4) (k0_pay11 v4) x = v4 x := by
  pointwise [k0_pay3, k0_pay7, k0_pay11]
  split
  · rfl
  · rw [low x (by assumption)]

/-- An entry of what one trip stores as first moment. -/
theorem pay_m (v4 v8 : FVec Ideal S16x1536 .f32) (x : S16x1536.Idx) :
    k0_pay5 (k0_pay8 v4 v8) (k0_pay11 v4) (k0_pay14 v8) x = mom (v4 x) (v8 x) := by
  pointwise [k0_pay5, k0_pay8, k0_pay11, k0_pay14, k0_pay1, k0_pay7, mom]
  split
  · rfl
  · rw [low x (by assumption)]

/-- An entry of what one trip stores as second moment. -/
theorem pay_v (v4 v10 : FVec Ideal S16x1536 .f32) (x : S16x1536.Idx) :
    k0_pay6 (k0_pay9 v4 v10) (k0_pay11 v4) (k0_pay13 v10) x = var (v4 x) (v10 x) := by
  pointwise [k0_pay6, k0_pay9, k0_pay11, k0_pay13, k0_pay2, k0_pay7, var]
  split
  · rfl
  · rw [low x (by assumption)]

/-- An entry of what one trip stores as change of the weight. -/
theorem pay_d (v4 v6 v8 v10 : FVec Ideal S16x1536 .f32) (x : S16x1536.Idx) :
    k0_pay4 (k0_pay10 v4 v6 v8 v10) (k0_pay11 v4) (k0_pay12 v6) (k0_pay13 v10) (k0_pay14 v8) x
      = delta (v4 x) (v6 x) (v8 x) (v10 x) := by
  pointwise [k0_pay4, k0_pay10, k0_pay11, k0_pay12, k0_pay13, k0_pay14, k0_pay8, k0_pay9, k0_pay1, k0_pay2, k0_pay7, mom, var, delta]
  split
  · rfl
  · rw [low x (by assumption)]

/-- Every store of one trip into the gradient is a block of one function. -/
theorem trip_g (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) (k : Fin k0_t1_loop.trips) :
    View.PiecesOf (fun j => x0 j) (tripL_k0_t1 (F := Ideal) Variants.none c none i a1 h1 a2 h2 a3 h3 a4 h4 a5 h5 a6 h6 a7 h7 a8 h8
      (h1.unread x0) (h2.unread x1) (h3.unread x2) (h4.unread x3) k).1 := by
  unfold tripL_k0_t1 trip_k0_t1
  dsimp only
  sl_unfold_words
  refine ⟨fun x => ?_, trivial⟩
  dsimp only
  simp only [View.readAt_eq_ld, h1.read_unread, h2.read_unread, h3.read_unread, h4.read_unread]
  exact pay_g _ x

/-- So are all stores of the first trips. -/
theorem pb_g (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) : ∀ n : ℕ, ∀ p ∈ (pb_k0_t1 (F := Ideal) Variants.none c none i a1 h1 a2 h2 a3 h3 a4 h4 a5 h5 a6 h6 a7 h7 a8 h8
      (h1.unread x0) (h2.unread x1) (h3.unread x2) (h4.unread x3) n).1, ∀ x : p.1.shape.Idx, p.2 x = (fun j => x0 j : FVec Ideal S128x1536 .f32) (p.1.emb x)
  | 0, p, hp, _ => absurd hp List.not_mem_nil
  | n + 1, p, hp, x => by
    rw [pb_k0_t1.eq_2] at hp
    unfold pb_k0_t1Step at hp
    split at hp
    · rcases List.mem_append.mp hp with hp | hp
      · exact (trip_g c i a1 h1 a2 h2 a3 h3 a4 h4 a5 h5 a6 h6 a7 h7 a8 h8 x0 x1 x2 x3 _).mem p hp x
      · exact pb_g c i a1 h1 a2 h2 a3 h3 a4 h4 a5 h5 a6 h6 a7 h7 a8 h8 x0 x1 x2 x3 n p hp x
    · exact pb_g c i a1 h1 a2 h2 a3 h3 a4 h4 a5 h5 a6 h6 a7 h7 a8 h8 x0 x1 x2 x3 n p hp x

/-- What a grid point leaves in the block of the gradient. -/
theorem out_g (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) :
    out0_A_4 (F := Ideal) c i a1 h1 a2 h2 a3 h3 a4 h4 a5 h5 a6 h6 a7 h7 a8 h8 x0 x1 x2 x3 = fun j => x0 j := by
  unfold out0_A_4
  rw [View.read_writes_eq_canon _ _ _ (cover0_A_4 (F := Ideal) c i a1 h1 a2 h2 a3 h3 a4 h4 a5 h5 a6 h6 a7 h7 a8 h8 x0 x1 x2 x3)]
  funext y
  refine View.canon_apply_of_pieces (fun j => x0 j) _ ?_ y (cover0_A_4 (F := Ideal) c i a1 h1 a2 h2 a3 h3 a4 h4 a5 h5 a6 h6 a7 h7 a8 h8 x0 x1 x2 x3 y)
  unfold kernelRun0_A
  dsimp only
  intro p hp x
  exact pb_g c i a1 h1 a2 h2 a3 h3 a4 h4 a5 h5 a6 h6 a7 h7 a8 h8 x0 x1 x2 x3 _ p hp x

/-- Every store of one trip into the change of the weight is a block of one function. -/
theorem trip_d (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) (k : Fin k0_t1_loop.trips) :
    View.PiecesOf (fun j => delta (x0 j) (x1 j) (x2 j) (x3 j)) (tripL_k0_t1 (F := Ideal) Variants.none c none i a1 h1 a2 h2 a3 h3 a4 h4 a5 h5 a6 h6 a7 h7 a8 h8
      (h1.unread x0) (h2.unread x1) (h3.unread x2) (h4.unread x3) k).2.1 := by
  unfold tripL_k0_t1 trip_k0_t1
  dsimp only
  sl_unfold_words
  refine ⟨fun x => ?_, trivial⟩
  dsimp only
  simp only [View.readAt_eq_ld, h1.read_unread, h2.read_unread, h3.read_unread, h4.read_unread]
  exact pay_d _ _ _ _ x

/-- So are all stores of the first trips. -/
theorem pb_d (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) : ∀ n : ℕ, ∀ p ∈ (pb_k0_t1 (F := Ideal) Variants.none c none i a1 h1 a2 h2 a3 h3 a4 h4 a5 h5 a6 h6 a7 h7 a8 h8
      (h1.unread x0) (h2.unread x1) (h3.unread x2) (h4.unread x3) n).2.1, ∀ x : p.1.shape.Idx, p.2 x = (fun j => delta (x0 j) (x1 j) (x2 j) (x3 j) : FVec Ideal S128x1536 .f32) (p.1.emb x)
  | 0, p, hp, _ => absurd hp List.not_mem_nil
  | n + 1, p, hp, x => by
    rw [pb_k0_t1.eq_2] at hp
    unfold pb_k0_t1Step at hp
    split at hp
    · rcases List.mem_append.mp hp with hp | hp
      · exact (trip_d c i a1 h1 a2 h2 a3 h3 a4 h4 a5 h5 a6 h6 a7 h7 a8 h8 x0 x1 x2 x3 _).mem p hp x
      · exact pb_d c i a1 h1 a2 h2 a3 h3 a4 h4 a5 h5 a6 h6 a7 h7 a8 h8 x0 x1 x2 x3 n p hp x
    · exact pb_d c i a1 h1 a2 h2 a3 h3 a4 h4 a5 h5 a6 h6 a7 h7 a8 h8 x0 x1 x2 x3 n p hp x

/-- What a grid point leaves in the block of the change of the weight. -/
theorem out_d (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) :
    out0_A_5 (F := Ideal) c i a1 h1 a2 h2 a3 h3 a4 h4 a5 h5 a6 h6 a7 h7 a8 h8 x0 x1 x2 x3 = fun j => delta (x0 j) (x1 j) (x2 j) (x3 j) := by
  unfold out0_A_5
  rw [View.read_writes_eq_canon _ _ _ (cover0_A_5 (F := Ideal) c i a1 h1 a2 h2 a3 h3 a4 h4 a5 h5 a6 h6 a7 h7 a8 h8 x0 x1 x2 x3)]
  funext y
  refine View.canon_apply_of_pieces (fun j => delta (x0 j) (x1 j) (x2 j) (x3 j)) _ ?_ y (cover0_A_5 (F := Ideal) c i a1 h1 a2 h2 a3 h3 a4 h4 a5 h5 a6 h6 a7 h7 a8 h8 x0 x1 x2 x3 y)
  unfold kernelRun0_A
  dsimp only
  intro p hp x
  exact pb_d c i a1 h1 a2 h2 a3 h3 a4 h4 a5 h5 a6 h6 a7 h7 a8 h8 x0 x1 x2 x3 _ p hp x

/-- Every store of one trip into the first moment is a block of one function. -/
theorem trip_m (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) (k : Fin k0_t1_loop.trips) :
    View.PiecesOf (fun j => mom (x0 j) (x2 j)) (tripL_k0_t1 (F := Ideal) Variants.none c none i a1 h1 a2 h2 a3 h3 a4 h4 a5 h5 a6 h6 a7 h7 a8 h8
      (h1.unread x0) (h2.unread x1) (h3.unread x2) (h4.unread x3) k).2.2.1 := by
  unfold tripL_k0_t1 trip_k0_t1
  dsimp only
  sl_unfold_words
  refine ⟨fun x => ?_, trivial⟩
  dsimp only
  simp only [View.readAt_eq_ld, h1.read_unread, h2.read_unread, h3.read_unread, h4.read_unread]
  exact pay_m _ _ x

/-- So are all stores of the first trips. -/
theorem pb_m (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) : ∀ n : ℕ, ∀ p ∈ (pb_k0_t1 (F := Ideal) Variants.none c none i a1 h1 a2 h2 a3 h3 a4 h4 a5 h5 a6 h6 a7 h7 a8 h8
      (h1.unread x0) (h2.unread x1) (h3.unread x2) (h4.unread x3) n).2.2.1, ∀ x : p.1.shape.Idx, p.2 x = (fun j => mom (x0 j) (x2 j) : FVec Ideal S128x1536 .f32) (p.1.emb x)
  | 0, p, hp, _ => absurd hp List.not_mem_nil
  | n + 1, p, hp, x => by
    rw [pb_k0_t1.eq_2] at hp
    unfold pb_k0_t1Step at hp
    split at hp
    · rcases List.mem_append.mp hp with hp | hp
      · exact (trip_m c i a1 h1 a2 h2 a3 h3 a4 h4 a5 h5 a6 h6 a7 h7 a8 h8 x0 x1 x2 x3 _).mem p hp x
      · exact pb_m c i a1 h1 a2 h2 a3 h3 a4 h4 a5 h5 a6 h6 a7 h7 a8 h8 x0 x1 x2 x3 n p hp x
    · exact pb_m c i a1 h1 a2 h2 a3 h3 a4 h4 a5 h5 a6 h6 a7 h7 a8 h8 x0 x1 x2 x3 n p hp x

/-- What a grid point leaves in the block of the first moment. -/
theorem out_m (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) :
    out0_A_6 (F := Ideal) c i a1 h1 a2 h2 a3 h3 a4 h4 a5 h5 a6 h6 a7 h7 a8 h8 x0 x1 x2 x3 = fun j => mom (x0 j) (x2 j) := by
  unfold out0_A_6
  rw [View.read_writes_eq_canon _ _ _ (cover0_A_6 (F := Ideal) c i a1 h1 a2 h2 a3 h3 a4 h4 a5 h5 a6 h6 a7 h7 a8 h8 x0 x1 x2 x3)]
  funext y
  refine View.canon_apply_of_pieces (fun j => mom (x0 j) (x2 j)) _ ?_ y (cover0_A_6 (F := Ideal) c i a1 h1 a2 h2 a3 h3 a4 h4 a5 h5 a6 h6 a7 h7 a8 h8 x0 x1 x2 x3 y)
  unfold kernelRun0_A
  dsimp only
  intro p hp x
  exact pb_m c i a1 h1 a2 h2 a3 h3 a4 h4 a5 h5 a6 h6 a7 h7 a8 h8 x0 x1 x2 x3 _ p hp x

/-- Every store of one trip into the second moment is a block of one function. -/
theorem trip_v (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) (k : Fin k0_t1_loop.trips) :
    View.PiecesOf (fun j => var (x0 j) (x3 j)) (tripL_k0_t1 (F := Ideal) Variants.none c none i a1 h1 a2 h2 a3 h3 a4 h4 a5 h5 a6 h6 a7 h7 a8 h8
      (h1.unread x0) (h2.unread x1) (h3.unread x2) (h4.unread x3) k).2.2.2 := by
  unfold tripL_k0_t1 trip_k0_t1
  dsimp only
  sl_unfold_words
  refine ⟨fun x => ?_, trivial⟩
  dsimp only
  simp only [View.readAt_eq_ld, h1.read_unread, h2.read_unread, h3.read_unread, h4.read_unread]
  exact pay_v _ _ x

/-- So are all stores of the first trips. -/
theorem pb_v (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) : ∀ n : ℕ, ∀ p ∈ (pb_k0_t1 (F := Ideal) Variants.none c none i a1 h1 a2 h2 a3 h3 a4 h4 a5 h5 a6 h6 a7 h7 a8 h8
      (h1.unread x0) (h2.unread x1) (h3.unread x2) (h4.unread x3) n).2.2.2, ∀ x : p.1.shape.Idx, p.2 x = (fun j => var (x0 j) (x3 j) : FVec Ideal S128x1536 .f32) (p.1.emb x)
  | 0, p, hp, _ => absurd hp List.not_mem_nil
  | n + 1, p, hp, x => by
    rw [pb_k0_t1.eq_2] at hp
    unfold pb_k0_t1Step at hp
    split at hp
    · rcases List.mem_append.mp hp with hp | hp
      · exact (trip_v c i a1 h1 a2 h2 a3 h3 a4 h4 a5 h5 a6 h6 a7 h7 a8 h8 x0 x1 x2 x3 _).mem p hp x
      · exact pb_v c i a1 h1 a2 h2 a3 h3 a4 h4 a5 h5 a6 h6 a7 h7 a8 h8 x0 x1 x2 x3 n p hp x
    · exact pb_v c i a1 h1 a2 h2 a3 h3 a4 h4 a5 h5 a6 h6 a7 h7 a8 h8 x0 x1 x2 x3 n p hp x

/-- What a grid point leaves in the block of the second moment. -/
theorem out_v (c : Dev nD) (i : grid0.Coords) (a1 : Memref sig .tc .vmem S128x1536 .f32) (h1 : a1.IsWhole) (a2 : Memref sig .tc .vmem S128x1536 .f32) (h2 : a2.IsWhole) (a3 : Memref sig .tc .vmem S128x1536 .f32) (h3 : a3.IsWhole) (a4 : Memref sig .tc .vmem S128x1536 .f32) (h4 : a4.IsWhole) (a5 : Memref sig .tc .vmem S128x1536 .f32) (h5 : a5.IsWhole) (a6 : Memref sig .tc .vmem S128x1536 .f32) (h6 : a6.IsWhole) (a7 : Memref sig .tc .vmem S128x1536 .f32) (h7 : a7.IsWhole) (a8 : Memref sig .tc .vmem S128x1536 .f32) (h8 : a8.IsWhole)
    (x0 x1 x2 x3 : FVec Ideal S128x1536 .f32) :
    out0_A_7 (F := Ideal) c i a1 h1 a2 h2 a3 h3 a4 h4 a5 h5 a6 h6 a7 h7 a8 h8 x0 x1 x2 x3 = fun j => var (x0 j) (x3 j) := by
  unfold out0_A_7
  rw [View.read_writes_eq_canon _ _ _ (cover0_A_7 (F := Ideal) c i a1 h1 a2 h2 a3 h3 a4 h4 a5 h5 a6 h6 a7 h7 a8 h8 x0 x1 x2 x3)]
  funext y
  refine View.canon_apply_of_pieces (fun j => var (x0 j) (x3 j)) _ ?_ y (cover0_A_7 (F := Ideal) c i a1 h1 a2 h2 a3 h3 a4 h4 a5 h5 a6 h6 a7 h7 a8 h8 x0 x1 x2 x3 y)
  unfold kernelRun0_A
  dsimp only
  intro p hp x
  exact pb_v c i a1 h1 a2 h2 a3 h3 a4 h4 a5 h5 a6 h6 a7 h7 a8 h8 x0 x1 x2 x3 _ p hp x

/-- The array of the gradient after the whole run. -/
theorem arr_g (c : Dev nD) : (dats m 0 c).arrAt 4 cfg0.N = (fun i => (m ((c : Thread nD τ).loc main_arg0) : FVec Ideal S2048x1536 .f32) i : FVec Ideal S2048x1536 .f32) := by
  refine (dats m 0 c).arrAt_eq_of_covers 4 _ (by decide +kernel) fun t hf y => ?_
  obtain ⟨e0, e1, e2, e3, e4, e5, e6, e7⟩ := places t
  blk_simp
  rw [after0_4]
  unfold outsAt0
  dsimp only
  rw [out_g]
  blk_point [iblk, V_main_arg0, V_main_arg1, V_main_arg2, V_main_arg3, e0, e1, e2, e3, e4]

/-- The array of the change of the weight after the whole run. -/
theorem arr_d (c : Dev nD) : (dats m 0 c).arrAt 5 cfg0.N = (fun i => delta ((m ((c : Thread nD τ).loc main_arg0) : FVec Ideal S2048x1536 .f32) i) ((m ((c : Thread nD τ).loc main_arg1) : FVec Ideal S2048x1536 .f32) i) ((m ((c : Thread nD τ).loc main_arg2) : FVec Ideal S2048x1536 .f32) i) ((m ((c : Thread nD τ).loc main_arg3) : FVec Ideal S2048x1536 .f32) i) : FVec Ideal S2048x1536 .f32) := by
  refine (dats m 0 c).arrAt_eq_of_covers 5 _ (by decide +kernel) fun t hf y => ?_
  obtain ⟨e0, e1, e2, e3, e4, e5, e6, e7⟩ := places t
  blk_simp
  rw [after0_5]
  unfold outsAt0
  dsimp only
  rw [out_d]
  blk_point [iblk, V_main_arg0, V_main_arg1, V_main_arg2, V_main_arg3, e0, e1, e2, e3, e5]

/-- The array of the first moment after the whole run. -/
theorem arr_m (c : Dev nD) : (dats m 0 c).arrAt 6 cfg0.N = (fun i => mom ((m ((c : Thread nD τ).loc main_arg0) : FVec Ideal S2048x1536 .f32) i) ((m ((c : Thread nD τ).loc main_arg2) : FVec Ideal S2048x1536 .f32) i) : FVec Ideal S2048x1536 .f32) := by
  refine (dats m 0 c).arrAt_eq_of_covers 6 _ (by decide +kernel) fun t hf y => ?_
  obtain ⟨e0, e1, e2, e3, e4, e5, e6, e7⟩ := places t
  blk_simp
  rw [after0_6]
  unfold outsAt0
  dsimp only
  rw [out_m]
  blk_point [iblk, V_main_arg0, V_main_arg1, V_main_arg2, V_main_arg3, e0, e1, e2, e3, e6]

/-- The array of the second moment after the whole run. -/
theorem arr_v (c : Dev nD) : (dats m 0 c).arrAt 7 cfg0.N = (fun i => var ((m ((c : Thread nD τ).loc main_arg0) : FVec Ideal S2048x1536 .f32) i) ((m ((c : Thread nD τ).loc main_arg3) : FVec Ideal S2048x1536 .f32) i) : FVec Ideal S2048x1536 .f32) := by
  refine (dats m 0 c).arrAt_eq_of_covers 7 _ (by decide +kernel) fun t hf y => ?_
  obtain ⟨e0, e1, e2, e3, e4, e5, e6, e7⟩ := places t
  blk_simp
  rw [after0_7]
  unfold outsAt0
  dsimp only
  rw [out_v]
  blk_point [iblk, V_main_arg0, V_main_arg1, V_main_arg2, V_main_arg3, e0, e1, e2, e3, e7]

/-- Kernel and reference compute the same results over the extended reals, for every input. -/
theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, (θ_run _ _ _).mono (fun r h c => ?_) (Cert.Kernel12Ideal.Value.run_blocks (F := Ideal) m g),
    (θ_run _ _ _).mono (fun r h c => ?_) (Cert.Reference12Ideal.Value.run (F := Ideal) m' g')⟩
  · exact h c
  · obtain ⟨r0, r1, r2, r3, ra⟩ := h c
    obtain ⟨a0, a1, a2, a3⟩ := hagree c
    refine ⟨r0.trans (a0.trans (arr_g m c).symm), r1.trans (.trans ?_ (arr_d m c).symm), r2.trans (.trans ?_ (arr_m m c).symm),
      r3.trans (.trans ?_ (arr_v m c).symm), ra⟩
    · rw [a0, a1, a2, a3]
      funext j
      pointwise [delta, mom, var]
    · rw [a0, a2]
      funext j
      pointwise [mom]
    · rw [a0, a3]
      funext j
      pointwise [var]

/-- The reference runs to its end and leaves its arguments and everything else as they were. -/
theorem frame_r : Cert.quiescent_Reference12Ideal (hReference12Ideal := Cert.Reference12Ideal.Gen.facts) := fun m g _ =>
  (θ_run _ _ _).mono (fun r h => ⟨fun c => (h c).2.2.2.2, funext fun x => nomatch x.2⟩) (Cert.Reference12Ideal.Value.run (F := Ideal) m g)

end Cert.Ad12

end
-- ==== Proof.Strip.lean ====
module

public import Idealize.ShloMosaic.Lib.ValueLayout
public import proofs.«01_k».proof.Proof.Adam

@[expose] public section

noncomputable section

namespace Cert.Adam

open Idealize.ShloMosaic

variable {n : ℕ}

/-- The shape of a strip of sixteen rows. -/
abbrev Strip (n : ℕ) : Shape := ⟨2, ![16, n]⟩

/-- The shape of half of it. -/
abbrev Half (n : ℕ) : Shape := ⟨2, ![8, n]⟩

/-- One device's strip, without its leading row and in the wide type. -/
abbrev flat (c : (⟨3, ![1, 16, n]⟩ : Shape).ShapeCasts (Strip n)) (b : FTy.bits .bf16 < FTy.bits .f32) (x : FVec Ideal ⟨3, ![1, 16, n]⟩ .bf16) :
    FVec Ideal (Strip n) .f32 := extf .f32 (shapeCast (Strip n) x c) b

/-- The kernel's sum of eight halves. -/
abbrev sum8 {o : ℕ} (s : (Strip n).Slices ![o, 0] (Half n)) (c : (⟨3, ![1, 16, n]⟩ : Shape).ShapeCasts (Strip n)) (b : FTy.bits .bf16 < FTy.bits .f32)
    (x0 x1 x2 x3 x4 x5 x6 x7 : FVec Ideal ⟨3, ![1, 16, n]⟩ .bf16) : FVec Ideal (Half n) .f32 :=
  addf (addf (addf (addf (addf (addf (addf (extractStridedSlice (Half n) ![o, 0] (flat c b x0) s) (extractStridedSlice (Half n) ![o, 0] (flat c b x1) s))
    (extractStridedSlice (Half n) ![o, 0] (flat c b x2) s)) (extractStridedSlice (Half n) ![o, 0] (flat c b x3) s))
    (extractStridedSlice (Half n) ![o, 0] (flat c b x4) s)) (extractStridedSlice (Half n) ![o, 0] (flat c b x5) s))
    (extractStridedSlice (Half n) ![o, 0] (flat c b x6) s)) (extractStridedSlice (Half n) ![o, 0] (flat c b x7) s)

/-- The kernel's new first moment. -/
abbrev mom8 {s : Shape} (g m : FVec Ideal s .f32) : FVec Ideal s .f32 :=
  addf (mulf (broadcast s (Scalar.ofBits .f32 0x3F666666#32)) m) (mulf (broadcast s (Scalar.ofBits .f32 0x3DCCCCCD#32)) g)

/-- The kernel's new second moment. -/
abbrev var8 {s : Shape} (g v : FVec Ideal s .f32) : FVec Ideal s .f32 :=
  addf (mulf (broadcast s (Scalar.ofBits .f32 0x3F7FBE77#32)) v) (mulf (broadcast s (Scalar.ofBits .f32 0x3A83126F#32)) (mulf g g))

/-- The kernel's change of the weight, from the new moments. -/
abbrev delta8 {s : Shape} (w m v : FVec Ideal s .f32) : FVec Ideal s .f32 :=
  mulf (broadcast s (Scalar.ofBits .f32 0xBA83126F#32))
    (addf (divf (divf m (broadcast s (Scalar.ofBits .f32 0x3F26BD02#32)))
        (addf (sqrt (divf v (broadcast s (Scalar.ofBits .f32 0x3C231ACC#32)))) (broadcast s (Scalar.ofBits .f32 0x322BCC77#32))))
      (mulf (broadcast s (Scalar.ofBits .f32 0x3C23D70A#32)) w))

/-- An entry of one device's half. -/
theorem half_eq {o : ℕ} (s : (Strip n).Slices ![o, 0] (Half n)) (c : (⟨3, ![1, 16, n]⟩ : Shape).ShapeCasts (Strip n)) (b : FTy.bits .bf16 < FTy.bits .f32)
    (x : FVec Ideal ⟨3, ![1, 16, n]⟩ .bf16) (y : (Half n).Idx) (p : o + (y 0).val < 16) :
    extractStridedSlice (Half n) ![o, 0] (flat c b x) s y = wide (x (ix3 0 ⟨o + (y 0).val, p⟩ (y 1))) := by
  pointwise []
  refine congrArg x ((congrArg _ ?_).trans (ValueIdx.reshapeEquiv_ix2_1ab _ _ _))
  funext a
  fin_cases a
  · exact Fin.ext rfl
  · exact Fin.ext (Nat.zero_add _)

/-- An entry of half of an array in the wide type. -/
theorem half_wide {o : ℕ} (s : (Strip n).Slices ![o, 0] (Half n)) (x : FVec Ideal (Strip n) .f32) (y : (Half n).Idx) (p : o + (y 0).val < 16) :
    extractStridedSlice (Half n) ![o, 0] x s y = x (ix2 ⟨o + (y 0).val, p⟩ (y 1)) := by
  pointwise []
  refine congrArg x ?_
  funext a
  fin_cases a
  · exact Fin.ext rfl
  · exact Fin.ext (Nat.zero_add _)

/-- A sum of eight halves, entry by entry. -/
theorem sum8_eq {o : ℕ} (s : (Strip n).Slices ![o, 0] (Half n)) (c : (⟨3, ![1, 16, n]⟩ : Shape).ShapeCasts (Strip n)) (b : FTy.bits .bf16 < FTy.bits .f32)
    (x0 x1 x2 x3 x4 x5 x6 x7 : FVec Ideal ⟨3, ![1, 16, n]⟩ .bf16) (y : (Half n).Idx) (p : o + (y 0).val < 16) :
    sum8 s c b x0 x1 x2 x3 x4 x5 x6 x7 y = eight x0 x1 x2 x3 x4 x5 x6 x7 (ix2 ⟨o + (y 0).val, p⟩ (y 1)) := by
  have e := fun x => half_eq s c b x y p
  exact congrArg₂ (fun a b : Ideal .f32 => a + b) (congrArg₂ (fun a b : Ideal .f32 => a + b) (congrArg₂ (fun a b : Ideal .f32 => a + b) (congrArg₂ (fun a b : Ideal .f32 => a + b)
    (congrArg₂ (fun a b : Ideal .f32 => a + b) (congrArg₂ (fun a b : Ideal .f32 => a + b) (congrArg₂ (fun a b : Ideal .f32 => a + b) (e x0) (e x1)) (e x2)) (e x3)) (e x4)) (e x5)) (e x6)) (e x7)

/-- A strip laid together of its halves is `G` if each half is. -/
theorem both (k : Shape.Concatenates [Half n, Half n] (Strip n) 0) (f0 f8 : FVec Ideal (Half n) .f32) (G : FVec Ideal (Strip n) .f32)
    (h0 : ∀ y p, f0 y = G (ix2 ⟨0 + (y 0).val, p⟩ (y 1)))
    (h8 : ∀ y p, f8 y = G (ix2 ⟨8 + (y 0).val, p⟩ (y 1))) (x : (Strip n).Idx) :
    concatenate (Strip n) 0 [⟨Half n, f0⟩, ⟨Half n, f8⟩] k x = G x := by
  have hx : (x 0).val < 16 := (x 0).isLt
  pointwise []
  split
  · rename_i h
    refine (h0 _ (by show 0 + (x 0).val < 16; omega)).trans (congrArg G ?_)
    funext a
    fin_cases a
    · exact Fin.ext (Nat.zero_add _)
    · rfl
  · rename_i h
    refine (h8 _ (by show 8 + ((x 0).val - 8) < 16; omega)).trans (congrArg G ?_)
    funext a
    fin_cases a
    · exact Fin.ext (by show 8 + ((x 0).val - 8) = (x 0).val; omega)
    · rfl

/-- An entry of the gradient's strip. -/
theorem strip_g (s0 : (Strip n).Slices ![0, 0] (Half n)) (s8 : (Strip n).Slices ![8, 0] (Half n)) (c : (⟨3, ![1, 16, n]⟩ : Shape).ShapeCasts (Strip n)) (b : FTy.bits .bf16 < FTy.bits .f32) (k : Shape.Concatenates [Half n, Half n] (Strip n) 0)
    (x0 x1 x2 x3 x4 x5 x6 x7 : FVec Ideal ⟨3, ![1, 16, n]⟩ .bf16) (x : (Strip n).Idx) :
    concatenate (Strip n) 0 [⟨Half n, sum8 s0 c b x0 x1 x2 x3 x4 x5 x6 x7⟩, ⟨Half n, sum8 s8 c b x0 x1 x2 x3 x4 x5 x6 x7⟩] k x = eight x0 x1 x2 x3 x4 x5 x6 x7 x :=
  both k _ _ _ (fun y p => sum8_eq s0 c b x0 x1 x2 x3 x4 x5 x6 x7 y p) (fun y p => sum8_eq s8 c b x0 x1 x2 x3 x4 x5 x6 x7 y p) x

/-- An entry of the first moment's strip. -/
theorem strip_m (s0 : (Strip n).Slices ![0, 0] (Half n)) (s8 : (Strip n).Slices ![8, 0] (Half n)) (c : (⟨3, ![1, 16, n]⟩ : Shape).ShapeCasts (Strip n)) (b : FTy.bits .bf16 < FTy.bits .f32) (k : Shape.Concatenates [Half n, Half n] (Strip n) 0)
    (x0 x1 x2 x3 x4 x5 x6 x7 : FVec Ideal ⟨3, ![1, 16, n]⟩ .bf16) (m : FVec Ideal (Strip n) .f32) (x : (Strip n).Idx) :
    concatenate (Strip n) 0 [⟨Half n, mom8 (sum8 s0 c b x0 x1 x2 x3 x4 x5 x6 x7) (extractStridedSlice (Half n) ![0, 0] m s0)⟩, ⟨Half n, mom8 (sum8 s8 c b x0 x1 x2 x3 x4 x5 x6 x7) (extractStridedSlice (Half n) ![8, 0] m s8)⟩] k x = mom (eight x0 x1 x2 x3 x4 x5 x6 x7 x) (m x) :=
  both k _ _ (fun x => mom (eight x0 x1 x2 x3 x4 x5 x6 x7 x) (m x)) (fun y p => congrArg₂ mom (sum8_eq s0 c b x0 x1 x2 x3 x4 x5 x6 x7 y p) (half_wide s0 m y p))
    (fun y p => congrArg₂ mom (sum8_eq s8 c b x0 x1 x2 x3 x4 x5 x6 x7 y p) (half_wide s8 m y p)) x

/-- An entry of the second moment's strip. -/
theorem strip_v (s0 : (Strip n).Slices ![0, 0] (Half n)) (s8 : (Strip n).Slices ![8, 0] (Half n)) (c : (⟨3, ![1, 16, n]⟩ : Shape).ShapeCasts (Strip n)) (b : FTy.bits .bf16 < FTy.bits .f32) (k : Shape.Concatenates [Half n, Half n] (Strip n) 0)
    (x0 x1 x2 x3 x4 x5 x6 x7 : FVec Ideal ⟨3, ![1, 16, n]⟩ .bf16) (v : FVec Ideal (Strip n) .f32) (x : (Strip n).Idx) :
    concatenate (Strip n) 0 [⟨Half n, var8 (sum8 s0 c b x0 x1 x2 x3 x4 x5 x6 x7) (extractStridedSlice (Half n) ![0, 0] v s0)⟩, ⟨Half n, var8 (sum8 s8 c b x0 x1 x2 x3 x4 x5 x6 x7) (extractStridedSlice (Half n) ![8, 0] v s8)⟩] k x = var (eight x0 x1 x2 x3 x4 x5 x6 x7 x) (v x) :=
  both k _ _ (fun x => var (eight x0 x1 x2 x3 x4 x5 x6 x7 x) (v x)) (fun y p => congrArg₂ var (sum8_eq s0 c b x0 x1 x2 x3 x4 x5 x6 x7 y p) (half_wide s0 v y p))
    (fun y p => congrArg₂ var (sum8_eq s8 c b x0 x1 x2 x3 x4 x5 x6 x7 y p) (half_wide s8 v y p)) x

/-- Four equal arguments make equal changes of the weight. -/
theorem delta_congr {g g' w w' m m' v v' : Ideal .f32} (hg : g = g') (hw : w = w') (hm : m = m') (hv : v = v') : delta g w m v = delta g' w' m' v' := by
  rw [hg, hw, hm, hv]

/-- An entry of the strip of the change of the weight. -/
theorem strip_d (s0 : (Strip n).Slices ![0, 0] (Half n)) (s8 : (Strip n).Slices ![8, 0] (Half n)) (c : (⟨3, ![1, 16, n]⟩ : Shape).ShapeCasts (Strip n)) (b : FTy.bits .bf16 < FTy.bits .f32) (k : Shape.Concatenates [Half n, Half n] (Strip n) 0)
    (x0 x1 x2 x3 x4 x5 x6 x7 : FVec Ideal ⟨3, ![1, 16, n]⟩ .bf16) (w m v : FVec Ideal (Strip n) .f32) (x : (Strip n).Idx) :
    concatenate (Strip n) 0 [⟨Half n, delta8 (extractStridedSlice (Half n) ![0, 0] w s0) (mom8 (sum8 s0 c b x0 x1 x2 x3 x4 x5 x6 x7) (extractStridedSlice (Half n) ![0, 0] m s0)) (var8 (sum8 s0 c b x0 x1 x2 x3 x4 x5 x6 x7) (extractStridedSlice (Half n) ![0, 0] v s0))⟩, ⟨Half n, delta8 (extractStridedSlice (Half n) ![8, 0] w s8) (mom8 (sum8 s8 c b x0 x1 x2 x3 x4 x5 x6 x7) (extractStridedSlice (Half n) ![8, 0] m s8)) (var8 (sum8 s8 c b x0 x1 x2 x3 x4 x5 x6 x7) (extractStridedSlice (Half n) ![8, 0] v s8))⟩] k x
      = delta (eight x0 x1 x2 x3 x4 x5 x6 x7 x) (w x) (m x) (v x) :=
  both k _ _ (fun x => delta (eight x0 x1 x2 x3 x4 x5 x6 x7 x) (w x) (m x) (v x))
    (fun y p => delta_congr (sum8_eq s0 c b x0 x1 x2 x3 x4 x5 x6 x7 y p) (half_wide s0 w y p) (half_wide s0 m y p) (half_wide s0 v y p))
    (fun y p => delta_congr (sum8_eq s8 c b x0 x1 x2 x3 x4 x5 x6 x7 y p) (half_wide s8 w y p) (half_wide s8 m y p) (half_wide s8 v y p)) x

end Cert.Adam

end
-- ==== Proof.Parts.lean ====
module

public import proofs.«01_k».proof.Proof.Strip

@[expose] public section

noncomputable section

namespace Cert.Adam

open Idealize.ShloMosaic

/-- A device's gradient in the kernel's order: its own part, then the parts it received, device by device. -/
def parts {R C : ℕ} {t : FTy} (me : Fin 8) (own recv : FVec Ideal ⟨3, ![8, R, C]⟩ t) : FVec Ideal ⟨2, ![R, C]⟩ .f32 := fun j =>
  wide (own (ix3 me (j 0) (j 1))) + wide (recv (ix3 (me.succAbove 0) (j 0) (j 1))) + wide (recv (ix3 (me.succAbove 1) (j 0) (j 1)))
    + wide (recv (ix3 (me.succAbove 2) (j 0) (j 1))) + wide (recv (ix3 (me.succAbove 3) (j 0) (j 1))) + wide (recv (ix3 (me.succAbove 4) (j 0) (j 1)))
    + wide (recv (ix3 (me.succAbove 5) (j 0) (j 1))) + wide (recv (ix3 (me.succAbove 6) (j 0) (j 1)))

/-- The sum over the devices of what is chosen, the own part for the device itself and the received one for every other, is that gradient. -/
theorem parts_sum {R C : ℕ} {t : FTy} (me : Fin 8) (own recv : FVec Ideal ⟨3, ![8, R, C]⟩ t) (j : (⟨2, ![R, C]⟩ : Shape).Idx) (f : Fin 8 → Ideal .f32)
    (hm : f me = wide (own (ix3 me (j 0) (j 1)))) (ho : ∀ d, d ≠ me → f d = wide (recv (ix3 d (j 0) (j 1)))) :
    ∑ d, f d = parts me own recv j := by
  rw [Fin.sum_univ_succAbove f me, Fin.sum_univ_seven, hm, ho _ (Fin.succAbove_ne me 0), ho _ (Fin.succAbove_ne me 1), ho _ (Fin.succAbove_ne me 2),
    ho _ (Fin.succAbove_ne me 3), ho _ (Fin.succAbove_ne me 4), ho _ (Fin.succAbove_ne me 5), ho _ (Fin.succAbove_ne me 6)]
  unfold parts
  simp only [add_assoc]

/-- A word between zero and seven, as signed numbers are compared, is the word of a device's number. -/
theorem device_word (v : BitVec 32) (h : IntOp.andi (IntOp.cmpi .sge v 0#32) (IntOp.cmpi .slt v 8#32) = 1#1) :
    ∃ me : Fin 8, v = BitVec.ofNat 32 me.val := by
  have both : ∀ a b : Bool, BitVec.ofBool a &&& BitVec.ofBool b = 1#1 → a = true ∧ b = true := by decide
  obtain ⟨h0, h8⟩ := both ((0#32).sle v) (v.slt 8#32) h
  have e := BitVec.toInt_eq_toNat_cond v
  rw [BitVec.sle_eq_decide] at h0
  rw [BitVec.slt_eq_decide] at h8
  have h0 := of_decide_eq_true h0
  have h8 := of_decide_eq_true h8
  simp only [show (0#32).toInt = 0 from rfl, show (8#32).toInt = 8 from rfl] at h0 h8
  have hv : v.toNat < 8 := by
    have := v.isLt
    split at e <;> omega
  exact ⟨⟨v.toNat, hv⟩, (BitVec.ofNat_toNat 32 v).symm.trans rfl |>.symm ▸ by simp⟩

/-- The comparison of two devices' numbers as words. -/
theorem cmpi_device : ∀ d me : Fin 8, IntOp.cmpi .eq (BitVec.ofNat 32 d.val) (BitVec.ofNat 32 me.val) = BitVec.ofBool (decide (d = me)) := by decide

/-- The shape of a number, of one word, and of one number per device. -/
abbrev Sc : Shape := ⟨0, ![]⟩
abbrev One : Shape := ⟨1, ![1]⟩
abbrev Each : Shape := ⟨1, ![8]⟩
abbrev Lead : Shape := ⟨3, ![8, 1, 1]⟩

section

variable {R C : ℕ}

/-- The reference's gradient, its own part for the device itself and the received one for every other added up, is the kernel's. -/
theorem ref_g (me : Fin 8) (a0 : IVec One 32) (own recv : FVec Ideal ⟨3, ![8, R, C]⟩ .bf16) (h : a0 = fun _ => BitVec.ofNat 32 me.val)
    (b3 : Lead.BroadcastsInDim ⟨3, ![8, R, C]⟩ (![0, 1, 2] : Fin 3 → Fin 3)) (b2 : Each.BroadcastsInDim Lead (![0] : Fin 1 → Fin 3))
    (b1 : Sc.BroadcastsInDim Each (![] : Fin 0 → Fin 1)) (s : One.ShapeCasts Sc) (l : FTy.bits .bf16 < FTy.bits .f32)
    (rd : (⟨3, ![8, R, C]⟩ : Shape).ReducesTo [0] ⟨2, ![R, C]⟩) (hn : 0 < Sc.numel) :
    Host.reduceAdd (select (broadcastInDim ⟨3, ![8, R, C]⟩ ![0, 1, 2] b3 (broadcastInDim Lead ![0] b2 (cmpi .eq (iotaInDim Each 32 0)
        (broadcastInDim Each ![] b1 (shapeCast Sc a0 s))))) (extf .f32 own l) (extf .f32 recv l)) (constant Sc .f32 0x00000000#32) rd hn
      = fun j => parts (t := .bf16) me own recv j := by
  subst h
  funext j
  pointwise []
  refine parts_sum me own recv j _ ?_ fun d hd => ?_
  · simp [wide, cmpi_device, Scalar.select]
  · simp [wide, cmpi_device, Scalar.select, hd]

/-- The reference's new first moment, entry by entry. -/
theorem ref_m (b : Sc.BroadcastsInDim ⟨2, ![R, C]⟩ (![] : Fin 0 → Fin 2)) (g m : FVec Ideal ⟨2, ![R, C]⟩ .f32) :
    addf (mulf (broadcastInDim ⟨2, ![R, C]⟩ ![] b (constant Sc .f32 0x3F666666#32)) m) (mulf (broadcastInDim ⟨2, ![R, C]⟩ ![] b (constant Sc .f32 0x3DCCCCCD#32)) g)
      = fun j => mom (g j) (m j) := by
  funext j
  pointwise [mom]

/-- The reference's new second moment, entry by entry. -/
theorem ref_v (b : Sc.BroadcastsInDim ⟨2, ![R, C]⟩ (![] : Fin 0 → Fin 2)) (g v : FVec Ideal ⟨2, ![R, C]⟩ .f32) :
    addf (mulf (broadcastInDim ⟨2, ![R, C]⟩ ![] b (constant Sc .f32 0x3F7FBE77#32)) v)
        (mulf (broadcastInDim ⟨2, ![R, C]⟩ ![] b (constant Sc .f32 0x3A83126F#32)) (mulf g g))
      = fun j => var (g j) (v j) := by
  funext j
  pointwise [var]

/-- The reference's change of the weight, entry by entry. -/
theorem ref_d (b : Sc.BroadcastsInDim ⟨2, ![R, C]⟩ (![] : Fin 0 → Fin 2)) (g w m v : FVec Ideal ⟨2, ![R, C]⟩ .f32) :
    mulf (broadcastInDim ⟨2, ![R, C]⟩ ![] b (constant Sc .f32 0xBA83126F#32))
        (addf (Host.divf (Host.divf (addf (mulf (broadcastInDim ⟨2, ![R, C]⟩ ![] b (constant Sc .f32 0x3F666666#32)) m)
              (mulf (broadcastInDim ⟨2, ![R, C]⟩ ![] b (constant Sc .f32 0x3DCCCCCD#32)) g)) (broadcastInDim ⟨2, ![R, C]⟩ ![] b (constant Sc .f32 0x3F26BD02#32)))
            (addf (Host.sqrt (Host.divf (addf (mulf (broadcastInDim ⟨2, ![R, C]⟩ ![] b (constant Sc .f32 0x3F7FBE77#32)) v)
                (mulf (broadcastInDim ⟨2, ![R, C]⟩ ![] b (constant Sc .f32 0x3A83126F#32)) (mulf g g))) (broadcastInDim ⟨2, ![R, C]⟩ ![] b (constant Sc .f32 0x3C231ACC#32))))
              (broadcastInDim ⟨2, ![R, C]⟩ ![] b (constant Sc .f32 0x322BCC77#32))))
          (mulf (broadcastInDim ⟨2, ![R, C]⟩ ![] b (constant Sc .f32 0x3C23D70A#32)) w))
      = fun j => delta (g j) (w j) (m j) (v j) := by
  funext j
  pointwise [delta, mom, var]

end

end Cert.Adam

end
-- ==== Proof.Ad13.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Pre_device13
public import proofs.«01_k».proof.Proof.Parts

@[expose] public section

set_option maxRecDepth 16384

noncomputable section

namespace Cert.Ad13

open Idealize.ShloMosaic Idealize.ShloMosaic.TcCoe Idealize.SL.Sem Cert.Kernel13Ideal Cert.Kernel13Ideal.Gen Cert.Adam

/-- The table that holds one device's number. -/
def word {F : FTy → Type} (me : Fin 8) : pre0.Contents (Elt F) := fun
  | 0 => fun _ => BitVec.ofNat 32 me.val
  | ⟨_ + 1, h⟩ => absurd h (Nat.not_lt.2 (Nat.le_add_left _ _))

/-- With such a table every block lies inside its array. -/
theorem ok {F : FTy → Type} [FloatOps F] : ∀ me : Fin 8, ok0 (F := F) (word me) := of_decide_eq_true (by sl_kernel_rfl)

/-- Which block each grid point stages or writes: of the device's own part, of the seven other devices' parts, and of the other arrays. -/
theorem maps : ∀ me : Fin 8, ∀ t : Fin grid0.N, ix0 (F := Ideal) (word me) 0 (grid0.coords t) = ![me.val, t.val, 0]
    ∧ ix0 (F := Ideal) (word me) 1 (grid0.coords t) = ![(me.succAbove 0).val, t.val, 0]
    ∧ ix0 (F := Ideal) (word me) 2 (grid0.coords t) = ![(me.succAbove 1).val, t.val, 0]
    ∧ ix0 (F := Ideal) (word me) 3 (grid0.coords t) = ![(me.succAbove 2).val, t.val, 0]
    ∧ ix0 (F := Ideal) (word me) 4 (grid0.coords t) = ![(me.succAbove 3).val, t.val, 0]
    ∧ ix0 (F := Ideal) (word me) 5 (grid0.coords t) = ![(me.succAbove 4).val, t.val, 0]
    ∧ ix0 (F := Ideal) (word me) 6 (grid0.coords t) = ![(me.succAbove 5).val, t.val, 0]
    ∧ ix0 (F := Ideal) (word me) 7 (grid0.coords t) = ![(me.succAbove 6).val, t.val, 0]
    ∧ ix0 (F := Ideal) (word me) 8 (grid0.coords t) = ![t.val, 0]
    ∧ ix0 (F := Ideal) (word me) 9 (grid0.coords t) = ![t.val, 0]
    ∧ ix0 (F := Ideal) (word me) 10 (grid0.coords t) = ![t.val, 0]
    ∧ ix0 (F := Ideal) (word me) 11 (grid0.coords t) = ![t.val, 0]
    ∧ ix0 (F := Ideal) (word me) 12 (grid0.coords t) = ![t.val, 0]
    ∧ ix0 (F := Ideal) (word me) 13 (grid0.coords t) = ![t.val, 0]
    ∧ ix0 (F := Ideal) (word me) 14 (grid0.coords t) = ![t.val, 0] := by
  decide +kernel

section

variable (c : Dev nD) (i : grid0.Coords) (a0 : Memref sig .tc .vmem S1x256x768 .bf16) (h0 : a0.IsWhole) (a1 : Memref sig .tc .vmem S1x256x768 .bf16) (h1 : a1.IsWhole) (a2 : Memref sig .tc .vmem S1x256x768 .bf16) (h2 : a2.IsWhole) (a3 : Memref sig .tc .vmem S1x256x768 .bf16) (h3 : a3.IsWhole) (a4 : Memref sig .tc .vmem S1x256x768 .bf16) (h4 : a4.IsWhole) (a5 : Memref sig .tc .vmem S1x256x768 .bf16) (h5 : a5.IsWhole) (a6 : Memref sig .tc .vmem S1x256x768 .bf16) (h6 : a6.IsWhole) (a7 : Memref sig .tc .vmem S1x256x768 .bf16) (h7 : a7.IsWhole) (a8 : Memref sig .tc .vmem S256x768 .f32) (h8 : a8.IsWhole) (a9 : Memref sig .tc .vmem S256x768 .f32) (h9 : a9.IsWhole) (a10 : Memref sig .tc .vmem S256x768 .f32) (h10 : a10.IsWhole) (a11 : Memref sig .tc .vmem S256x768 .f32) (h11 : a11.IsWhole) (a12 : Memref sig .tc .vmem S256x768 .f32) (h12 : a12.IsWhole) (a13 : Memref sig .tc .vmem S256x768 .f32) (h13 : a13.IsWhole) (a14 : Memref sig .tc .vmem S256x768 .f32) (h14 : a14.IsWhole)
  (x0 x1 x2 x3 x4 x5 x6 x7 : FVec Ideal S1x256x768 .bf16) (w m v : FVec Ideal S256x768 .f32)

/-- Every store of one trip is a block of that output's function of the whole block. -/
theorem trip (a : Memref sig .tc .smem S1 .i32) (h : a.IsWhole) (k : Fin k0_t1_loop.trips) :
    let L := tripL_k0_t1 (F := Ideal) Variants.none c none i a h a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h0.read_unread, h1.read_unread, h2.read_unread, h3.read_unread, h4.read_unread, h5.read_unread, h6.read_unread, h7.read_unread, h8.read_unread, h9.read_unread, h10.read_unread]
  refine ⟨⟨fun x => ?_, trivial⟩, ⟨fun x => ?_, trivial⟩, ⟨fun x => ?_, trivial⟩, ⟨fun x => ?_, trivial⟩⟩
  · dsimp only
    refine (strip_g slices_S16x768_o0_0_S8x768 slices_S16x768_o8_0_S8x768 shapeCasts_S1x16x768_S16x768 bitsLt_bf16_f32 concatenates_S8x768_S8x768_S16x768_d0 _ _ _ _ _ _ _ _ x).trans ?_
    exact eight_strip _ _ x0 x1 x2 x3 x4 x5 x6 x7 x
  · dsimp only
    refine (strip_d slices_S16x768_o0_0_S8x768 slices_S16x768_o8_0_S8x768 shapeCasts_S1x16x768_S16x768 bitsLt_bf16_f32 concatenates_S8x768_S8x768_S16x768_d0 _ _ _ _ _ _ _ _ _ _ _ x).trans (congrArg (fun z => delta z _ _ _) ?_)
    exact eight_strip _ _ x0 x1 x2 x3 x4 x5 x6 x7 x
  · dsimp only
    refine (strip_m slices_S16x768_o0_0_S8x768 slices_S16x768_o8_0_S8x768 shapeCasts_S1x16x768_S16x768 bitsLt_bf16_f32 concatenates_S8x768_S8x768_S16x768_d0 _ _ _ _ _ _ _ _ _ x).trans (congrArg (fun z => mom z _) ?_)
    exact eight_strip _ _ x0 x1 x2 x3 x4 x5 x6 x7 x
  · dsimp only
    refine (strip_v slices_S16x768_o0_0_S8x768 slices_S16x768_o8_0_S8x768 shapeCasts_S1x16x768_S16x768 bitsLt_bf16_f32 concatenates_S8x768_S8x768_S16x768_d0 _ _ _ _ _ _ _ _ _ x).trans (congrArg (fun z => var z _) ?_)
    exact eight_strip _ _ x0 x1 x2 x3 x4 x5 x6 x7 x

/-- What a grid point leaves in the four output blocks. -/
theorem outs (xt : TbBuf0 (F := Ideal) c tbM0_0) :
    out0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => eight x0 x1 x2 x3 x4 x5 x6 x7 j)
    ∧ out0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => delta (eight x0 x1 x2 x3 x4 x5 x6 x7 j) (w j) (m j) (v j))
    ∧ out0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => mom (eight x0 x1 x2 x3 x4 x5 x6 x7 j) (m j))
    ∧ out0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => var (eight x0 x1 x2 x3 x4 x5 x6 x7 j) (v j)) := by
  have hp := good _ _ _ _ _ _ rfl (pb_k0_t1_succ (F := Ideal) Variants.none c none i tbM0_0 htbM0_0 a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v))
    (trip c i a0 h0 a1 h1 a2 h2 a3 h3 a4 h4 a5 h5 a6 h6 a7 h7 a8 h8 a9 h9 a10 h10 a11 h11 a12 h12 a13 h13 a14 h14 x0 x1 x2 x3 x4 x5 x6 x7 w m v tbM0_0 htbM0_0) _ (le_refl _)
  refine ⟨?_, ?_, ?_, ?_⟩
  · exact block _ _ _ _ (cover0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.1
  · exact block _ _ _ _ (cover0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.1
  · exact block _ _ _ _ (cover0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.1
  · exact block _ _ _ _ (cover0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.2

end

section

variable (m : (ℓ : Loc nD τ sig) → Buf (Elt Ideal) ℓ)

/-- Which block each grid point stages or writes once the table in memory is known. -/
theorem places (hO : Ok m) (me : Fin 8) (hme : tbl m = word me) (t : Fin grid0.N) : ((cfgM m hO).win 0).index t = ![me.val, t.val, 0]
    ∧ ((cfgM m hO).win 1).index t = ![(me.succAbove 0).val, t.val, 0]
    ∧ ((cfgM m hO).win 2).index t = ![(me.succAbove 1).val, t.val, 0]
    ∧ ((cfgM m hO).win 3).index t = ![(me.succAbove 2).val, t.val, 0]
    ∧ ((cfgM m hO).win 4).index t = ![(me.succAbove 3).val, t.val, 0]
    ∧ ((cfgM m hO).win 5).index t = ![(me.succAbove 4).val, t.val, 0]
    ∧ ((cfgM m hO).win 6).index t = ![(me.succAbove 5).val, t.val, 0]
    ∧ ((cfgM m hO).win 7).index t = ![(me.succAbove 6).val, t.val, 0]
    ∧ ((cfgM m hO).win 8).index t = ![t.val, 0]
    ∧ ((cfgM m hO).win 9).index t = ![t.val, 0]
    ∧ ((cfgM m hO).win 10).index t = ![t.val, 0]
    ∧ ((cfgM m hO).win 11).index t = ![t.val, 0]
    ∧ ((cfgM m hO).win 12).index t = ![t.val, 0]
    ∧ ((cfgM m hO).win 13).index t = ![t.val, 0]
    ∧ ((cfgM m hO).win 14).index t = ![t.val, 0] := by
  have e := maps me t
  rw [← hme] at e
  exact e

/-- What a grid point leaves in the four output blocks, from the blocks it staged. -/
theorem point (hO : Ok m) (c : Dev nD) (t : Fin (cfgM m hO).N) :
    (outsAt0 m hO c t).1 = (fun j => eight (t := .bf16) (iblk m hO c 0 t : FVec Ideal S1x256x768 .bf16) (iblk m hO c 1 t : FVec Ideal S1x256x768 .bf16) (iblk m hO c 2 t : FVec Ideal S1x256x768 .bf16) (iblk m hO c 3 t : FVec Ideal S1x256x768 .bf16) (iblk m hO c 4 t : FVec Ideal S1x256x768 .bf16) (iblk m hO c 5 t : FVec Ideal S1x256x768 .bf16) (iblk m hO c 6 t : FVec Ideal S1x256x768 .bf16) (iblk m hO c 7 t : FVec Ideal S1x256x768 .bf16) j : FVec Ideal S256x768 .f32)
    ∧ (outsAt0 m hO c t).2.1 = (fun j => delta (eight (t := .bf16) (iblk m hO c 0 t : FVec Ideal S1x256x768 .bf16) (iblk m hO c 1 t : FVec Ideal S1x256x768 .bf16) (iblk m hO c 2 t : FVec Ideal S1x256x768 .bf16) (iblk m hO c 3 t : FVec Ideal S1x256x768 .bf16) (iblk m hO c 4 t : FVec Ideal S1x256x768 .bf16) (iblk m hO c 5 t : FVec Ideal S1x256x768 .bf16) (iblk m hO c 6 t : FVec Ideal S1x256x768 .bf16) (iblk m hO c 7 t : FVec Ideal S1x256x768 .bf16) j) ((iblk m hO c 8 t : FVec Ideal S256x768 .f32) j) ((iblk m hO c 9 t : FVec Ideal S256x768 .f32) j) ((iblk m hO c 10 t : FVec Ideal S256x768 .f32) j) : FVec Ideal S256x768 .f32)
    ∧ (outsAt0 m hO c t).2.2.1 = (fun j => mom (eight (t := .bf16) (iblk m hO c 0 t : FVec Ideal S1x256x768 .bf16) (iblk m hO c 1 t : FVec Ideal S1x256x768 .bf16) (iblk m hO c 2 t : FVec Ideal S1x256x768 .bf16) (iblk m hO c 3 t : FVec Ideal S1x256x768 .bf16) (iblk m hO c 4 t : FVec Ideal S1x256x768 .bf16) (iblk m hO c 5 t : FVec Ideal S1x256x768 .bf16) (iblk m hO c 6 t : FVec Ideal S1x256x768 .bf16) (iblk m hO c 7 t : FVec Ideal S1x256x768 .bf16) j) ((iblk m hO c 9 t : FVec Ideal S256x768 .f32) j) : FVec Ideal S256x768 .f32)
    ∧ (outsAt0 m hO c t).2.2.2 = (fun j => var (eight (t := .bf16) (iblk m hO c 0 t : FVec Ideal S1x256x768 .bf16) (iblk m hO c 1 t : FVec Ideal S1x256x768 .bf16) (iblk m hO c 2 t : FVec Ideal S1x256x768 .bf16) (iblk m hO c 3 t : FVec Ideal S1x256x768 .bf16) (iblk m hO c 4 t : FVec Ideal S1x256x768 .bf16) (iblk m hO c 5 t : FVec Ideal S1x256x768 .bf16) (iblk m hO c 6 t : FVec Ideal S1x256x768 .bf16) (iblk m hO c 7 t : FVec Ideal S1x256x768 .bf16) j) ((iblk m hO c 10 t : FVec Ideal S256x768 .f32) j) : FVec Ideal S256x768 .f32) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- The array of the gradient after the whole run. -/
theorem arr_g (hO : Ok m) (me : Fin 8) (hme : tbl m = word me) (c : Dev nD) :
    (dats m hO 0 c).arrAt 11 (cfgM m hO).N = (fun i => parts (t := .bf16) me (m ((c : Thread nD τ).loc main_arg1) : FVec Ideal S8x2048x768 .bf16) (m ((c : Thread nD τ).loc main_arg2) : FVec Ideal S8x2048x768 .bf16) i : FVec Ideal S2048x768 .f32) := by
  refine (dats m hO 0 c).arrAt_eq_of_covers 11 _ (of_decide_eq_true (by sl_kernel_rfl)) fun t hf y => ?_
  obtain ⟨e0, e1, e2, e3, e4, e5, e6, e7, e8, e9, e10, e11, e12, e13, e14⟩ := places m hO me hme t
  blk_simp
  rw [after0_11]
  refine (congrFun (point m hO c t).1 y).trans ?_
  blk_point [iblk, eight, parts, V_main_arg1, V_main_arg2, V_main_arg3, V_main_arg4, V_main_arg5, e0, e1, e2, e3, e4, e5, e6, e7, e8, e9, e10, e11]

/-- The array of the change of the weight after the whole run. -/
theorem arr_d (hO : Ok m) (me : Fin 8) (hme : tbl m = word me) (c : Dev nD) :
    (dats m hO 0 c).arrAt 12 (cfgM m hO).N = (fun i => delta (parts (t := .bf16) me (m ((c : Thread nD τ).loc main_arg1) : FVec Ideal S8x2048x768 .bf16) (m ((c : Thread nD τ).loc main_arg2) : FVec Ideal S8x2048x768 .bf16) i) ((m ((c : Thread nD τ).loc main_arg3) : FVec Ideal S2048x768 .f32) i) ((m ((c : Thread nD τ).loc main_arg4) : FVec Ideal S2048x768 .f32) i) ((m ((c : Thread nD τ).loc main_arg5) : FVec Ideal S2048x768 .f32) i) : FVec Ideal S2048x768 .f32) := by
  refine (dats m hO 0 c).arrAt_eq_of_covers 12 _ (of_decide_eq_true (by sl_kernel_rfl)) fun t hf y => ?_
  obtain ⟨e0, e1, e2, e3, e4, e5, e6, e7, e8, e9, e10, e11, e12, e13, e14⟩ := places m hO me hme t
  blk_simp
  rw [after0_12]
  refine (congrFun (point m hO c t).2.1 y).trans ?_
  blk_point [iblk, eight, parts, V_main_arg1, V_main_arg2, V_main_arg3, V_main_arg4, V_main_arg5, e0, e1, e2, e3, e4, e5, e6, e7, e8, e9, e10, e12]

/-- The array of the first moment after the whole run. -/
theorem arr_m (hO : Ok m) (me : Fin 8) (hme : tbl m = word me) (c : Dev nD) :
    (dats m hO 0 c).arrAt 13 (cfgM m hO).N = (fun i => mom (parts (t := .bf16) me (m ((c : Thread nD τ).loc main_arg1) : FVec Ideal S8x2048x768 .bf16) (m ((c : Thread nD τ).loc main_arg2) : FVec Ideal S8x2048x768 .bf16) i) ((m ((c : Thread nD τ).loc main_arg4) : FVec Ideal S2048x768 .f32) i) : FVec Ideal S2048x768 .f32) := by
  refine (dats m hO 0 c).arrAt_eq_of_covers 13 _ (of_decide_eq_true (by sl_kernel_rfl)) fun t hf y => ?_
  obtain ⟨e0, e1, e2, e3, e4, e5, e6, e7, e8, e9, e10, e11, e12, e13, e14⟩ := places m hO me hme t
  blk_simp
  rw [after0_13]
  refine (congrFun (point m hO c t).2.2.1 y).trans ?_
  blk_point [iblk, eight, parts, V_main_arg1, V_main_arg2, V_main_arg3, V_main_arg4, V_main_arg5, e0, e1, e2, e3, e4, e5, e6, e7, e8, e9, e10, e13]

/-- The array of the second moment after the whole run. -/
theorem arr_v (hO : Ok m) (me : Fin 8) (hme : tbl m = word me) (c : Dev nD) :
    (dats m hO 0 c).arrAt 14 (cfgM m hO).N = (fun i => var (parts (t := .bf16) me (m ((c : Thread nD τ).loc main_arg1) : FVec Ideal S8x2048x768 .bf16) (m ((c : Thread nD τ).loc main_arg2) : FVec Ideal S8x2048x768 .bf16) i) ((m ((c : Thread nD τ).loc main_arg5) : FVec Ideal S2048x768 .f32) i) : FVec Ideal S2048x768 .f32) := by
  refine (dats m hO 0 c).arrAt_eq_of_covers 14 _ (of_decide_eq_true (by sl_kernel_rfl)) fun t hf y => ?_
  obtain ⟨e0, e1, e2, e3, e4, e5, e6, e7, e8, e9, e10, e11, e12, e13, e14⟩ := places m hO me hme t
  blk_simp
  rw [after0_14]
  refine (congrFun (point m hO c t).2.2.2 y).trans ?_
  blk_point [iblk, eight, parts, V_main_arg1, V_main_arg2, V_main_arg3, V_main_arg4, V_main_arg5, e0, e1, e2, e3, e4, e5, e6, e7, e8, e9, e10, e14]

end

/-- The precondition makes the table hold a device's number. -/
theorem word_of {F : FTy → Type} [FloatOps F] (m : (ℓ : Loc nD τ sig) → Buf (Elt F) ℓ) (c : Dev nD)
    (h : (Cert.Pre_device13.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)) : ∃ me : Fin 8, tbl m = word me := by
  have h := congrFun h ix0
  unfold Cert.Pre_device13.fn at h
  obtain ⟨me, hme⟩ := device_word _ h
  refine ⟨me, funext fun j => ?_⟩
  obtain rfl : c = 0 := Subsingleton.elim _ _
  fin_cases j
  exact funext fun y => (congrArg (m (((0 : Dev nD).tc : Thread nD τ).loc main_arg0))
    (funext fun a => by fin_cases a; exact Subsingleton.elim (α := Fin 1) _ _)).trans hme

/-- So every block lies inside its array. -/
theorem ok_of {F : FTy → Type} [FloatOps F] (m : (ℓ : Loc nD τ sig) → Buf (Elt F) ℓ) (me : Fin 8) (hme : tbl m = word me) : Ok m := by
  show ok0 (F := F) (tbl m)
  rw [hme]
  exact ok me

/-- The kernel's program runs to its end and leaves its arguments and everything else as they were. -/
theorem frame_ki : Cert.quiescent_Kernel13Ideal (hKernel13Ideal := Cert.Kernel13Ideal.Gen.facts) (hPre_device13 := Cert.Pre_device13.Gen.facts) := fun m g hp =>
  let ⟨me, hme⟩ := word_of m 0 (hp 0)
  Cert.Kernel13Ideal.Gen.frame m g (ok_of m me hme)

/-- The same of the kernel's own program. -/
theorem frame_k : Cert.quiescent_Kernel13 (hKernel13 := Cert.Kernel13.Gen.facts) (hPre_device13 := Cert.Pre_device13.Gen.facts) := fun m g hp =>
  let ⟨me, hme⟩ := word_of (F := Bits) m 0 (hp 0)
  Cert.Kernel13.Gen.frame m g (ok_of (F := Bits) m me hme)

/-- The reference runs to its end and leaves its arguments and everything else as they were. -/
theorem frame_r : Cert.quiescent_Reference13Ideal (hReference13Ideal := Cert.Reference13Ideal.Gen.facts) := fun m g _ =>
  (θ_run _ _ _).mono (fun r h => ⟨fun c => (h c).2.2.2.2, funext fun x => nomatch x.2⟩) (Cert.Reference13Ideal.Value.run (F := Ideal) m g)

/-- The same where the device's number is known to be one. -/
theorem frame_rp : Cert.quiescent_Reference13Ideal_pre_device13 (hReference13Ideal := Cert.Reference13Ideal.Gen.facts) (hPre_device13 := Cert.Pre_device13.Gen.facts) :=
  fun m g _ => frame_r m g trivial

/-- Kernel and reference compute the same results over the extended reals, for every input in which the device's number is one. -/
theorem algebraic : Cert.algebraic_Kernel13Ideal_Reference13Ideal (hKernel13Ideal := Cert.Kernel13Ideal.Gen.facts)
    (hReference13Ideal := Cert.Reference13Ideal.Gen.facts) (hPre_device13 := Cert.Pre_device13.Gen.facts) := by
  intro m g m' g' hp hagree
  obtain ⟨me, hme⟩ := word_of m 0 (hp 0)
  have hO : Ok m := ok_of m me hme
  refine ⟨fun c => (dats m hO 0 c).arrAt 11 (cfgM m hO).N, fun c => (dats m hO 0 c).arrAt 12 (cfgM m hO).N,
    fun c => (dats m hO 0 c).arrAt 13 (cfgM m hO).N, fun c => (dats m hO 0 c).arrAt 14 (cfgM m hO).N,
    (θ_run _ _ _).mono (fun r h c => ?_) (run_main m g hO), (θ_run _ _ _).mono (fun r h c => ?_) (Cert.Reference13Ideal.Value.run (F := Ideal) m' g')⟩
  · exact ⟨(h c).1 11, (h c).1 12, (h c).1 13, (h c).1 14,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 7).trans (((dats m hO 0 c).arrAt_in 7 rfl _).trans ((A_eq m hO c 7).trans (V_main_arg2 m c))),
      ((h c).1 8).trans (((dats m hO 0 c).arrAt_in 8 rfl _).trans ((A_eq m hO c 8).trans (V_main_arg3 m c))),
      ((h c).1 9).trans (((dats m hO 0 c).arrAt_in 9 rfl _).trans ((A_eq m hO c 9).trans (V_main_arg4 m c))),
      ((h c).1 10).trans (((dats m hO 0 c).arrAt_in 10 rfl _).trans ((A_eq m hO c 10).trans (V_main_arg5 m c)))⟩
  · obtain ⟨r0, r1, r2, r3, ra⟩ := h c
    obtain ⟨a0, a1, a2, a3, a4, a5⟩ := hagree c
    have hw : (m ((c : Thread nD τ).loc main_arg0) : IVec S1 32) = fun _ => BitVec.ofNat 32 me.val := by
      obtain rfl : c = 0 := Subsingleton.elim _ _
      exact congrFun hme 0
    rw [a0, a1, a2, ref_g me _ _ _ hw] at r0
    rw [a0, a1, a2, ref_g me _ _ _ hw, a3, a4, a5, ref_d] at r1
    rw [a0, a1, a2, ref_g me _ _ _ hw, a4, ref_m] at r2
    rw [a0, a1, a2, ref_g me _ _ _ hw, a5, ref_v] at r3
    exact ⟨r0.trans (arr_g m hO me hme c).symm, r1.trans (arr_d m hO me hme c).symm, r2.trans (arr_m m hO me hme c).symm,
      r3.trans (arr_v m hO me hme c).symm, ra⟩

end Cert.Ad13

end
-- ==== Proof.Ad14.lean ====
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Pre_device14
public import proofs.«01_k».proof.Proof.Parts

@[expose] public section

set_option maxRecDepth 16384

noncomputable section

namespace Cert.Ad14

open Idealize.ShloMosaic Idealize.ShloMosaic.TcCoe Idealize.SL.Sem Cert.Kernel14Ideal Cert.Kernel14Ideal.Gen Cert.Adam

/-- The table that holds one device's number. -/
def word {F : FTy → Type} (me : Fin 8) : pre0.Contents (Elt F) := fun
  | 0 => fun _ => BitVec.ofNat 32 me.val
  | ⟨_ + 1, h⟩ => absurd h (Nat.not_lt.2 (Nat.le_add_left _ _))

/-- With such a table every block lies inside its array. -/
theorem ok {F : FTy → Type} [FloatOps F] : ∀ me : Fin 8, ok0 (F := F) (word me) := of_decide_eq_true (by sl_kernel_rfl)

/-- Which block each grid point stages or writes: of the device's own part, of the seven other devices' parts, and of the other arrays. -/
theorem maps : ∀ me : Fin 8, ∀ t : Fin grid0.N, ix0 (F := Ideal) (word me) 0 (grid0.coords t) = ![me.val, t.val, 0]
    ∧ ix0 (F := Ideal) (word me) 1 (grid0.coords t) = ![(me.succAbove 0).val, t.val, 0]
    ∧ ix0 (F := Ideal) (word me) 2 (grid0.coords t) = ![(me.succAbove 1).val, t.val, 0]
    ∧ ix0 (F := Ideal) (word me) 3 (grid0.coords t) = ![(me.succAbove 2).val, t.val, 0]
    ∧ ix0 (F := Ideal) (word me) 4 (grid0.coords t) = ![(me.succAbove 3).val, t.val, 0]
    ∧ ix0 (F := Ideal) (word me) 5 (grid0.coords t) = ![(me.succAbove 4).val, t.val, 0]
    ∧ ix0 (F := Ideal) (word me) 6 (grid0.coords t) = ![(me.succAbove 5).val, t.val, 0]
    ∧ ix0 (F := Ideal) (word me) 7 (grid0.coords t) = ![(me.succAbove 6).val, t.val, 0]
    ∧ ix0 (F := Ideal) (word me) 8 (grid0.coords t) = ![t.val, 0]
    ∧ ix0 (F := Ideal) (word me) 9 (grid0.coords t) = ![t.val, 0]
    ∧ ix0 (F := Ideal) (word me) 10 (grid0.coords t) = ![t.val, 0]
    ∧ ix0 (F := Ideal) (word me) 11 (grid0.coords t) = ![t.val, 0]
    ∧ ix0 (F := Ideal) (word me) 12 (grid0.coords t) = ![t.val, 0]
    ∧ ix0 (F := Ideal) (word me) 13 (grid0.coords t) = ![t.val, 0]
    ∧ ix0 (F := Ideal) (word me) 14 (grid0.coords t) = ![t.val, 0] := by
  decide +kernel

section

variable (c : Dev nD) (i : grid0.Coords) (a0 : Memref sig .tc .vmem S1x256x1024 .bf16) (h0 : a0.IsWhole) (a1 : Memref sig .tc .vmem S1x256x1024 .bf16) (h1 : a1.IsWhole) (a2 : Memref sig .tc .vmem S1x256x1024 .bf16) (h2 : a2.IsWhole) (a3 : Memref sig .tc .vmem S1x256x1024 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x1024 .bf16) (h6 : a6.IsWhole) (a7 : Memref sig .tc .vmem S1x256x1024 .bf16) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole) (a12 : Memref sig .tc .vmem S256x1024 .f32) (h12 : a12.IsWhole) (a13 : Memref sig .tc .vmem S256x1024 .f32) (h13 : a13.IsWhole) (a14 : Memref sig .tc .vmem S256x1024 .f32) (h14 : a14.IsWhole)
  (x0 x1 x2 x3 x4 x5 x6 x7 : FVec Ideal S1x256x1024 .bf16) (w m v : FVec Ideal S256x1024 .f32)

/-- Every store of one trip is a block of that output's function of the whole block. -/
theorem trip (a : Memref sig .tc .smem S1 .i32) (h : a.IsWhole) (k : Fin k0_t1_loop.trips) :
    let L := tripL_k0_t1 (F := Ideal) Variants.none c none i a h a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h0.read_unread, h1.read_unread, h2.read_unread, h3.read_unread, h4.read_unread, h5.read_unread, h6.read_unread, h7.read_unread, h8.read_unread, h9.read_unread, h10.read_unread]
  refine ⟨⟨fun x => ?_, trivial⟩, ⟨fun x => ?_, trivial⟩, ⟨fun x => ?_, trivial⟩, ⟨fun x => ?_, trivial⟩⟩
  · dsimp only
    refine (strip_g slices_S16x1024_o0_0_S8x1024 slices_S16x1024_o8_0_S8x1024 shapeCasts_S1x16x1024_S16x1024 bitsLt_bf16_f32 concatenates_S8x1024_S8x1024_S16x1024_d0 _ _ _ _ _ _ _ _ x).trans ?_
    exact eight_strip _ _ x0 x1 x2 x3 x4 x5 x6 x7 x
  · dsimp only
    refine (strip_d slices_S16x1024_o0_0_S8x1024 slices_S16x1024_o8_0_S8x1024 shapeCasts_S1x16x1024_S16x1024 bitsLt_bf16_f32 concatenates_S8x1024_S8x1024_S16x1024_d0 _ _ _ _ _ _ _ _ _ _ _ x).trans (congrArg (fun z => delta z _ _ _) ?_)
    exact eight_strip _ _ x0 x1 x2 x3 x4 x5 x6 x7 x
  · dsimp only
    refine (strip_m slices_S16x1024_o0_0_S8x1024 slices_S16x1024_o8_0_S8x1024 shapeCasts_S1x16x1024_S16x1024 bitsLt_bf16_f32 concatenates_S8x1024_S8x1024_S16x1024_d0 _ _ _ _ _ _ _ _ _ x).trans (congrArg (fun z => mom z _) ?_)
    exact eight_strip _ _ x0 x1 x2 x3 x4 x5 x6 x7 x
  · dsimp only
    refine (strip_v slices_S16x1024_o0_0_S8x1024 slices_S16x1024_o8_0_S8x1024 shapeCasts_S1x16x1024_S16x1024 bitsLt_bf16_f32 concatenates_S8x1024_S8x1024_S16x1024_d0 _ _ _ _ _ _ _ _ _ x).trans (congrArg (fun z => var z _) ?_)
    exact eight_strip _ _ x0 x1 x2 x3 x4 x5 x6 x7 x

/-- What a grid point leaves in the four output blocks. -/
theorem outs (xt : TbBuf0 (F := Ideal) c tbM0_0) :
    out0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => eight x0 x1 x2 x3 x4 x5 x6 x7 j)
    ∧ out0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => delta (eight x0 x1 x2 x3 x4 x5 x6 x7 j) (w j) (m j) (v j))
    ∧ out0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => mom (eight x0 x1 x2 x3 x4 x5 x6 x7 j) (m j))
    ∧ out0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => var (eight x0 x1 x2 x3 x4 x5 x6 x7 j) (v j)) := by
  have hp := good _ _ _ _ _ _ rfl (pb_k0_t1_succ (F := Ideal) Variants.none c none i tbM0_0 htbM0_0 a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v))
    (trip c i a0 h0 a1 h1 a2 h2 a3 h3 a4 h4 a5 h5 a6 h6 a7 h7 a8 h8 a9 h9 a10 h10 a11 h11 a12 h12 a13 h13 a14 h14 x0 x1 x2 x3 x4 x5 x6 x7 w m v tbM0_0 htbM0_0) _ (le_refl _)
  refine ⟨?_, ?_, ?_, ?_⟩
  · exact block _ _ _ _ (cover0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.1
  · exact block _ _ _ _ (cover0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.1
  · exact block _ _ _ _ (cover0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.1
  · exact block _ _ _ _ (cover0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.2

end

section

variable (m : (ℓ : Loc nD τ sig) → Buf (Elt Ideal) ℓ)

/-- Which block each grid point stages or writes once the table in memory is known. -/
theorem places (hO : Ok m) (me : Fin 8) (hme : tbl m = word me) (t : Fin grid0.N) : ((cfgM m hO).win 0).index t = ![me.val, t.val, 0]
    ∧ ((cfgM m hO).win 1).index t = ![(me.succAbove 0).val, t.val, 0]
    ∧ ((cfgM m hO).win 2).index t = ![(me.succAbove 1).val, t.val, 0]
    ∧ ((cfgM m hO).win 3).index t = ![(me.succAbove 2).val, t.val, 0]
    ∧ ((cfgM m hO).win 4).index t = ![(me.succAbove 3).val, t.val, 0]
    ∧ ((cfgM m hO).win 5).index t = ![(me.succAbove 4).val, t.val, 0]
    ∧ ((cfgM m hO).win 6).index t = ![(me.succAbove 5).val, t.val, 0]
    ∧ ((cfgM m hO).win 7).index t = ![(me.succAbove 6).val, t.val, 0]
    ∧ ((cfgM m hO).win 8).index t = ![t.val, 0]
    ∧ ((cfgM m hO).win 9).index t = ![t.val, 0]
    ∧ ((cfgM m hO).win 10).index t = ![t.val, 0]
    ∧ ((cfgM m hO).win 11).index t = ![t.val, 0]
    ∧ ((cfgM m hO).win 12).index t = ![t.val, 0]
    ∧ ((cfgM m hO).win 13).index t = ![t.val, 0]
    ∧ ((cfgM m hO).win 14).index t = ![t.val, 0] := by
  have e := maps me t
  rw [← hme] at e
  exact e

/-- What a grid point leaves in the four output blocks, from the blocks it staged. -/
theorem point (hO : Ok m) (c : Dev nD) (t : Fin (cfgM m hO).N) :
    (outsAt0 m hO c t).1 = (fun j => eight (t := .bf16) (iblk m hO c 0 t : FVec Ideal S1x256x1024 .bf16) (iblk m hO c 1 t : FVec Ideal S1x256x1024 .bf16) (iblk m hO c 2 t : FVec Ideal S1x256x1024 .bf16) (iblk m hO c 3 t : FVec Ideal S1x256x1024 .bf16) (iblk m hO c 4 t : FVec Ideal S1x256x1024 .bf16) (iblk m hO c 5 t : FVec Ideal S1x256x1024 .bf16) (iblk m hO c 6 t : FVec Ideal S1x256x1024 .bf16) (iblk m hO c 7 t : FVec Ideal S1x256x1024 .bf16) j : FVec Ideal S256x1024 .f32)
    ∧ (outsAt0 m hO c t).2.1 = (fun j => delta (eight (t := .bf16) (iblk m hO c 0 t : FVec Ideal S1x256x1024 .bf16) (iblk m hO c 1 t : FVec Ideal S1x256x1024 .bf16) (iblk m hO c 2 t : FVec Ideal S1x256x1024 .bf16) (iblk m hO c 3 t : FVec Ideal S1x256x1024 .bf16) (iblk m hO c 4 t : FVec Ideal S1x256x1024 .bf16) (iblk m hO c 5 t : FVec Ideal S1x256x1024 .bf16) (iblk m hO c 6 t : FVec Ideal S1x256x1024 .bf16) (iblk m hO c 7 t : FVec Ideal S1x256x1024 .bf16) j) ((iblk m hO c 8 t : FVec Ideal S256x1024 .f32) j) ((iblk m hO c 9 t : FVec Ideal S256x1024 .f32) j) ((iblk m hO c 10 t : FVec Ideal S256x1024 .f32) j) : FVec Ideal S256x1024 .f32)
    ∧ (outsAt0 m hO c t).2.2.1 = (fun j => mom (eight (t := .bf16) (iblk m hO c 0 t : FVec Ideal S1x256x1024 .bf16) (iblk m hO c 1 t : FVec Ideal S1x256x1024 .bf16) (iblk m hO c 2 t : FVec Ideal S1x256x1024 .bf16) (iblk m hO c 3 t : FVec Ideal S1x256x1024 .bf16) (iblk m hO c 4 t : FVec Ideal S1x256x1024 .bf16) (iblk m hO c 5 t : FVec Ideal S1x256x1024 .bf16) (iblk m hO c 6 t : FVec Ideal S1x256x1024 .bf16) (iblk m hO c 7 t : FVec Ideal S1x256x1024 .bf16) j) ((iblk m hO c 9 t : FVec Ideal S256x1024 .f32) j) : FVec Ideal S256x1024 .f32)
    ∧ (outsAt0 m hO c t).2.2.2 = (fun j => var (eight (t := .bf16) (iblk m hO c 0 t : FVec Ideal S1x256x1024 .bf16) (iblk m hO c 1 t : FVec Ideal S1x256x1024 .bf16) (iblk m hO c 2 t : FVec Ideal S1x256x1024 .bf16) (iblk m hO c 3 t : FVec Ideal S1x256x1024 .bf16) (iblk m hO c 4 t : FVec Ideal S1x256x1024 .bf16) (iblk m hO c 5 t : FVec Ideal S1x256x1024 .bf16) (iblk m hO c 6 t : FVec Ideal S1x256x1024 .bf16) (iblk m hO c 7 t : FVec Ideal S1x256x1024 .bf16) j) ((iblk m hO c 10 t : FVec Ideal S256x1024 .f32) j) : FVec Ideal S256x1024 .f32) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- The array of the gradient after the whole run. -/
theorem arr_g (hO : Ok m) (me : Fin 8) (hme : tbl m = word me) (c : Dev nD) :
    (dats m hO 0 c).arrAt 11 (cfgM m hO).N = (fun i => parts (t := .bf16) me (m ((c : Thread nD τ).loc main_arg1) : FVec Ideal S8x2048x1024 .bf16) (m ((c : Thread nD τ).loc main_arg2) : FVec Ideal S8x2048x1024 .bf16) i : FVec Ideal S2048x1024 .f32) := by
  refine (dats m hO 0 c).arrAt_eq_of_covers 11 _ (of_decide_eq_true (by sl_kernel_rfl)) fun t hf y => ?_
  obtain ⟨e0, e1, e2, e3, e4, e5, e6, e7, e8, e9, e10, e11, e12, e13, e14⟩ := places m hO me hme t
  blk_simp
  rw [after0_11]
  refine (congrFun (point m hO c t).1 y).trans ?_
  blk_point [iblk, eight, parts, V_main_arg1, V_main_arg2, V_main_arg3, V_main_arg4, V_main_arg5, e0, e1, e2, e3, e4, e5, e6, e7, e8, e9, e10, e11]

/-- The array of the change of the weight after the whole run. -/
theorem arr_d (hO : Ok m) (me : Fin 8) (hme : tbl m = word me) (c : Dev nD) :
    (dats m hO 0 c).arrAt 12 (cfgM m hO).N = (fun i => delta (parts (t := .bf16) me (m ((c : Thread nD τ).loc main_arg1) : FVec Ideal S8x2048x1024 .bf16) (m ((c : Thread nD τ).loc main_arg2) : FVec Ideal S8x2048x1024 .bf16) i) ((m ((c : Thread nD τ).loc main_arg3) : FVec Ideal S2048x1024 .f32) i) ((m ((c : Thread nD τ).loc main_arg4) : FVec Ideal S2048x1024 .f32) i) ((m ((c : Thread nD τ).loc main_arg5) : FVec Ideal S2048x1024 .f32) i) : FVec Ideal S2048x1024 .f32) := by
  refine (dats m hO 0 c).arrAt_eq_of_covers 12 _ (of_decide_eq_true (by sl_kernel_rfl)) fun t hf y => ?_
  obtain ⟨e0, e1, e2, e3, e4, e5, e6, e7, e8, e9, e10, e11, e12, e13, e14⟩ := places m hO me hme t
  blk_simp
  rw [after0_12]
  refine (congrFun (point m hO c t).2.1 y).trans ?_
  blk_point [iblk, eight, parts, V_main_arg1, V_main_arg2, V_main_arg3, V_main_arg4, V_main_arg5, e0, e1, e2, e3, e4, e5, e6, e7, e8, e9, e10, e12]

/-- The array of the first moment after the whole run. -/
theorem arr_m (hO : Ok m) (me : Fin 8) (hme : tbl m = word me) (c : Dev nD) :
    (dats m hO 0 c).arrAt 13 (cfgM m hO).N = (fun i => mom (parts (t := .bf16) me (m ((c : Thread nD τ).loc main_arg1) : FVec Ideal S8x2048x1024 .bf16) (m ((c : Thread nD τ).loc main_arg2) : FVec Ideal S8x2048x1024 .bf16) i) ((m ((c : Thread nD τ).loc main_arg4) : FVec Ideal S2048x1024 .f32) i) : FVec Ideal S2048x1024 .f32) := by
  refine (dats m hO 0 c).arrAt_eq_of_covers 13 _ (of_decide_eq_true (by sl_kernel_rfl)) fun t hf y => ?_
  obtain ⟨e0, e1, e2, e3, e4, e5, e6, e7, e8, e9, e10, e11, e12, e13, e14⟩ := places m hO me hme t
  blk_simp
  rw [after0_13]
  refine (congrFun (point m hO c t).2.2.1 y).trans ?_
  blk_point [iblk, eight, parts, V_main_arg1, V_main_arg2, V_main_arg3, V_main_arg4, V_main_arg5, e0, e1, e2, e3, e4, e5, e6, e7, e8, e9, e10, e13]

/-- The array of the second moment after the whole run. -/
theorem arr_v (hO : Ok m) (me : Fin 8) (hme : tbl m = word me) (c : Dev nD) :
    (dats m hO 0 c).arrAt 14 (cfgM m hO).N = (fun i => var (parts (t := .bf16) me (m ((c : Thread nD τ).loc main_arg1) : FVec Ideal S8x2048x1024 .bf16) (m ((c : Thread nD τ).loc main_arg2) : FVec Ideal S8x2048x1024 .bf16) i) ((m ((c : Thread nD τ).loc main_arg5) : FVec Ideal S2048x1024 .f32) i) : FVec Ideal S2048x1024 .f32) := by
  refine (dats m hO 0 c).arrAt_eq_of_covers 14 _ (of_decide_eq_true (by sl_kernel_rfl)) fun t hf y => ?_
  obtain ⟨e0, e1, e2, e3, e4, e5, e6, e7, e8, e9, e10, e11, e12, e13, e14⟩ := places m hO me hme t
  blk_simp
  rw [after0_14]
  refine (congrFun (point m hO c t).2.2.2 y).trans ?_
  blk_point [iblk, eight, parts, V_main_arg1, V_main_arg2, V_main_arg3, V_main_arg4, V_main_arg5, e0, e1, e2, e3, e4, e5, e6, e7, e8, e9, e10, e14]

end

/-- The precondition makes the table hold a device's number. -/
theorem word_of {F : FTy → Type} [FloatOps F] (m : (ℓ : Loc nD τ sig) → Buf (Elt F) ℓ) (c : Dev nD)
    (h : (Cert.Pre_device14.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)) : ∃ me : Fin 8, tbl m = word me := by
  have h := congrFun h ix0
  unfold Cert.Pre_device14.fn at h
  obtain ⟨me, hme⟩ := device_word _ h
  refine ⟨me, funext fun j => ?_⟩
  obtain rfl : c = 0 := Subsingleton.elim _ _
  fin_cases j
  exact funext fun y => (congrArg (m (((0 : Dev nD).tc : Thread nD τ).loc main_arg0))
    (funext fun a => by fin_cases a; exact Subsingleton.elim (α := Fin 1) _ _)).trans hme

/-- So every block lies inside its array. -/
theorem ok_of {F : FTy → Type} [FloatOps F] (m : (ℓ : Loc nD τ sig) → Buf (Elt F) ℓ) (me : Fin 8) (hme : tbl m = word me) : Ok m := by
  show ok0 (F := F) (tbl m)
  rw [hme]
  exact ok me

/-- The kernel's program runs to its end and leaves its arguments and everything else as they were. -/
theorem frame_ki : Cert.quiescent_Kernel14Ideal (hKernel14Ideal := Cert.Kernel14Ideal.Gen.facts) (hPre_device14 := Cert.Pre_device14.Gen.facts) := fun m g hp =>
  let ⟨me, hme⟩ := word_of m 0 (hp 0)
  Cert.Kernel14Ideal.Gen.frame m g (ok_of m me hme)

/-- The same of the kernel's own program. -/
theorem frame_k : Cert.quiescent_Kernel14 (hKernel14 := Cert.Kernel14.Gen.facts) (hPre_device14 := Cert.Pre_device14.Gen.facts) := fun m g hp =>
  let ⟨me, hme⟩ := word_of (F := Bits) m 0 (hp 0)
  Cert.Kernel14.Gen.frame m g (ok_of (F := Bits) m me hme)

/-- The reference runs to its end and leaves its arguments and everything else as they were. -/
theorem frame_r : Cert.quiescent_Reference14Ideal (hReference14Ideal := Cert.Reference14Ideal.Gen.facts) := fun m g _ =>
  (θ_run _ _ _).mono (fun r h => ⟨fun c => (h c).2.2.2.2, funext fun x => nomatch x.2⟩) (Cert.Reference14Ideal.Value.run (F := Ideal) m g)

/-- The same where the device's number is known to be one. -/
theorem frame_rp : Cert.quiescent_Reference14Ideal_pre_device14 (hReference14Ideal := Cert.Reference14Ideal.Gen.facts) (hPre_device14 := Cert.Pre_device14.Gen.facts) :=
  fun m g _ => frame_r m g trivial

/-- Kernel and reference compute the same results over the extended reals, for every input in which the device's number is one. -/
theorem algebraic : Cert.algebraic_Kernel14Ideal_Reference14Ideal (hKernel14Ideal := Cert.Kernel14Ideal.Gen.facts)
    (hReference14Ideal := Cert.Reference14Ideal.Gen.facts) (hPre_device14 := Cert.Pre_device14.Gen.facts) := by
  intro m g m' g' hp hagree
  obtain ⟨me, hme⟩ := word_of m 0 (hp 0)
  have hO : Ok m := ok_of m me hme
  refine ⟨fun c => (dats m hO 0 c).arrAt 11 (cfgM m hO).N, fun c => (dats m hO 0 c).arrAt 12 (cfgM m hO).N,
    fun c => (dats m hO 0 c).arrAt 13 (cfgM m hO).N, fun c => (dats m hO 0 c).arrAt 14 (cfgM m hO).N,
    (θ_run _ _ _).mono (fun r h c => ?_) (run_main m g hO), (θ_run _ _ _).mono (fun r h c => ?_) (Cert.Reference14Ideal.Value.run (F := Ideal) m' g')⟩
  · exact ⟨(h c).1 11, (h c).1 12, (h c).1 13, (h c).1 14,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 7).trans (((dats m hO 0 c).arrAt_in 7 rfl _).trans ((A_eq m hO c 7).trans (V_main_arg2 m c))),
      ((h c).1 8).trans (((dats m hO 0 c).arrAt_in 8 rfl _).trans ((A_eq m hO c 8).trans (V_main_arg3 m c))),
      ((h c).1 9).trans (((dats m hO 0 c).arrAt_in 9 rfl _).trans ((A_eq m hO c 9).trans (V_main_arg4 m c))),
      ((h c).1 10).trans (((dats m hO 0 c).arrAt_in 10 rfl _).trans ((A_eq m hO c 10).trans (V_main_arg5 m c)))⟩
  · obtain ⟨r0, r1, r2, r3, ra⟩ := h c
    obtain ⟨a0, a1, a2, a3, a4, a5⟩ := hagree c
    have hw : (m ((c : Thread nD τ).loc main_arg0) : IVec S1 32) = fun _ => BitVec.ofNat 32 me.val := by
      obtain rfl : c = 0 := Subsingleton.elim _ _
      exact congrFun hme 0
    rw [a0, a1, a2, ref_g me _ _ _ hw] at r0
    rw [a0, a1, a2, ref_g me _ _ _ hw, a3, a4, a5, ref_d] at r1
    rw [a0, a1, a2, ref_g me _ _ _ hw, a4, ref_m] at r2
    rw [a0, a1, a2, ref_g me _ _ _ hw, a5, ref_v] at r3
    exact ⟨r0.trans (arr_g m hO me hme c).symm, r1.trans (arr_d m hO me hme c).symm, r2.trans (arr_m m hO me hme c).symm,
      r3.trans (arr_v m hO me hme c).symm, ra⟩

end Cert.Ad14

end
-- ==== Proof.Ad15.lean ====
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Pre_device15
public import proofs.«01_k».proof.Proof.Parts

@[expose] public section

set_option maxRecDepth 16384

noncomputable section

namespace Cert.Ad15

open Idealize.ShloMosaic Idealize.ShloMosaic.TcCoe Idealize.SL.Sem Cert.Kernel15Ideal Cert.Kernel15Ideal.Gen Cert.Adam

/-- The table that holds one device's number. -/
def word {F : FTy → Type} (me : Fin 8) : pre0.Contents (Elt F) := fun
  | 0 => fun _ => BitVec.ofNat 32 me.val
  | ⟨_ + 1, h⟩ => absurd h (Nat.not_lt.2 (Nat.le_add_left _ _))

/-- With such a table every block lies inside its array. -/
theorem ok {F : FTy → Type} [FloatOps F] : ∀ me : Fin 8, ok0 (F := F) (word me) := of_decide_eq_true (by sl_kernel_rfl)

/-- Which block each grid point stages or writes: of the device's own part, of the seven other devices' parts, and of the other arrays. -/
theorem maps : ∀ me : Fin 8, ∀ t : Fin grid0.N, ix0 (F := Ideal) (word me) 0 (grid0.coords t) = ![me.val, t.val, 0]
    ∧ ix0 (F := Ideal) (word me) 1 (grid0.coords t) = ![(me.succAbove 0).val, t.val, 0]
    ∧ ix0 (F := Ideal) (word me) 2 (grid0.coords t) = ![(me.succAbove 1).val, t.val, 0]
    ∧ ix0 (F := Ideal) (word me) 3 (grid0.coords t) = ![(me.succAbove 2).val, t.val, 0]
    ∧ ix0 (F := Ideal) (word me) 4 (grid0.coords t) = ![(me.succAbove 3).val, t.val, 0]
    ∧ ix0 (F := Ideal) (word me) 5 (grid0.coords t) = ![(me.succAbove 4).val, t.val, 0]
    ∧ ix0 (F := Ideal) (word me) 6 (grid0.coords t) = ![(me.succAbove 5).val, t.val, 0]
    ∧ ix0 (F := Ideal) (word me) 7 (grid0.coords t) = ![(me.succAbove 6).val, t.val, 0]
    ∧ ix0 (F := Ideal) (word me) 8 (grid0.coords t) = ![t.val, 0]
    ∧ ix0 (F := Ideal) (word me) 9 (grid0.coords t) = ![t.val, 0]
    ∧ ix0 (F := Ideal) (word me) 10 (grid0.coords t) = ![t.val, 0]
    ∧ ix0 (F := Ideal) (word me) 11 (grid0.coords t) = ![t.val, 0]
    ∧ ix0 (F := Ideal) (word me) 12 (grid0.coords t) = ![t.val, 0]
    ∧ ix0 (F := Ideal) (word me) 13 (grid0.coords t) = ![t.val, 0]
    ∧ ix0 (F := Ideal) (word me) 14 (grid0.coords t) = ![t.val, 0] := by
  decide +kernel

section

variable (c : Dev nD) (i : grid0.Coords) (a0 : Memref sig .tc .vmem S1x128x2048 .bf16) (h0 : a0.IsWhole) (a1 : Memref sig .tc .vmem S1x128x2048 .bf16) (h1 : a1.IsWhole) (a2 : Memref sig .tc .vmem S1x128x2048 .bf16) (h2 : a2.IsWhole) (a3 : Memref sig .tc .vmem S1x128x2048 .bf16) (h3 : a3.IsWhole) (a4 : Memref sig .tc .vmem S1x128x2048 .bf16) (h4 : a4.IsWhole) (a5 : Memref sig .tc .vmem S1x128x2048 .bf16) (h5 : a5.IsWhole) (a6 : Memref sig .tc .vmem S1x128x2048 .bf16) (h6 : a6.IsWhole) (a7 : Memref sig .tc .vmem S1x128x2048 .bf16) (h7 : a7.IsWhole) (a8 : Memref sig .tc .vmem S128x2048 .f32) (h8 : a8.IsWhole) (a9 : Memref sig .tc .vmem S128x2048 .f32) (h9 : a9.IsWhole) (a10 : Memref sig .tc .vmem S128x2048 .f32) (h10 : a10.IsWhole) (a11 : Memref sig .tc .vmem S128x2048 .f32) (h11 : a11.IsWhole) (a12 : Memref sig .tc .vmem S128x2048 .f32) (h12 : a12.IsWhole) (a13 : Memref sig .tc .vmem S128x2048 .f32) (h13 : a13.IsWhole) (a14 : Memref sig .tc .vmem S128x2048 .f32) (h14 : a14.IsWhole)
  (x0 x1 x2 x3 x4 x5 x6 x7 : FVec Ideal S1x128x2048 .bf16) (w m v : FVec Ideal S128x2048 .f32)

/-- Every store of one trip is a block of that output's function of the whole block. -/
theorem trip (a : Memref sig .tc .smem S1 .i32) (h : a.IsWhole) (k : Fin k0_t1_loop.trips) :
    let L := tripL_k0_t1 (F := Ideal) Variants.none c none i a h a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h0.read_unread, h1.read_unread, h2.read_unread, h3.read_unread, h4.read_unread, h5.read_unread, h6.read_unread, h7.read_unread, h8.read_unread, h9.read_unread, h10.read_unread]
  refine ⟨⟨fun x => ?_, trivial⟩, ⟨fun x => ?_, trivial⟩, ⟨fun x => ?_, trivial⟩, ⟨fun x => ?_, trivial⟩⟩
  · dsimp only
    refine (strip_g slices_S16x2048_o0_0_S8x2048 slices_S16x2048_o8_0_S8x2048 shapeCasts_S1x16x2048_S16x2048 bitsLt_bf16_f32 concatenates_S8x2048_S8x2048_S16x2048_d0 _ _ _ _ _ _ _ _ x).trans ?_
    exact eight_strip _ _ x0 x1 x2 x3 x4 x5 x6 x7 x
  · dsimp only
    refine (strip_d slices_S16x2048_o0_0_S8x2048 slices_S16x2048_o8_0_S8x2048 shapeCasts_S1x16x2048_S16x2048 bitsLt_bf16_f32 concatenates_S8x2048_S8x2048_S16x2048_d0 _ _ _ _ _ _ _ _ _ _ _ x).trans (congrArg (fun z => delta z _ _ _) ?_)
    exact eight_strip _ _ x0 x1 x2 x3 x4 x5 x6 x7 x
  · dsimp only
    refine (strip_m slices_S16x2048_o0_0_S8x2048 slices_S16x2048_o8_0_S8x2048 shapeCasts_S1x16x2048_S16x2048 bitsLt_bf16_f32 concatenates_S8x2048_S8x2048_S16x2048_d0 _ _ _ _ _ _ _ _ _ x).trans (congrArg (fun z => mom z _) ?_)
    exact eight_strip _ _ x0 x1 x2 x3 x4 x5 x6 x7 x
  · dsimp only
    refine (strip_v slices_S16x2048_o0_0_S8x2048 slices_S16x2048_o8_0_S8x2048 shapeCasts_S1x16x2048_S16x2048 bitsLt_bf16_f32 concatenates_S8x2048_S8x2048_S16x2048_d0 _ _ _ _ _ _ _ _ _ x).trans (congrArg (fun z => var z _) ?_)
    exact eight_strip _ _ x0 x1 x2 x3 x4 x5 x6 x7 x

/-- What a grid point leaves in the four output blocks. -/
theorem outs (xt : TbBuf0 (F := Ideal) c tbM0_0) :
    out0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => eight x0 x1 x2 x3 x4 x5 x6 x7 j)
    ∧ out0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => delta (eight x0 x1 x2 x3 x4 x5 x6 x7 j) (w j) (m j) (v j))
    ∧ out0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => mom (eight x0 x1 x2 x3 x4 x5 x6 x7 j) (m j))
    ∧ out0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => var (eight x0 x1 x2 x3 x4 x5 x6 x7 j) (v j)) := by
  have hp := good _ _ _ _ _ _ rfl (pb_k0_t1_succ (F := Ideal) Variants.none c none i tbM0_0 htbM0_0 a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v))
    (trip c i a0 h0 a1 h1 a2 h2 a3 h3 a4 h4 a5 h5 a6 h6 a7 h7 a8 h8 a9 h9 a10 h10 a11 h11 a12 h12 a13 h13 a14 h14 x0 x1 x2 x3 x4 x5 x6 x7 w m v tbM0_0 htbM0_0) _ (le_refl _)
  refine ⟨?_, ?_, ?_, ?_⟩
  · exact block _ _ _ _ (cover0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.1
  · exact block _ _ _ _ (cover0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.1
  · exact block _ _ _ _ (cover0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.1
  · exact block _ _ _ _ (cover0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.2

end

section

variable (m : (ℓ : Loc nD τ sig) → Buf (Elt Ideal) ℓ)

/-- Which block each grid point stages or writes once the table in memory is known. -/
theorem places (hO : Ok m) (me : Fin 8) (hme : tbl m = word me) (t : Fin grid0.N) : ((cfgM m hO).win 0).index t = ![me.val, t.val, 0]
    ∧ ((cfgM m hO).win 1).index t = ![(me.succAbove 0).val, t.val, 0]
    ∧ ((cfgM m hO).win 2).index t = ![(me.succAbove 1).val, t.val, 0]
    ∧ ((cfgM m hO).win 3).index t = ![(me.succAbove 2).val, t.val, 0]
    ∧ ((cfgM m hO).win 4).index t = ![(me.succAbove 3).val, t.val, 0]
    ∧ ((cfgM m hO).win 5).index t = ![(me.succAbove 4).val, t.val, 0]
    ∧ ((cfgM m hO).win 6).index t = ![(me.succAbove 5).val, t.val, 0]
    ∧ ((cfgM m hO).win 7).index t = ![(me.succAbove 6).val, t.val, 0]
    ∧ ((cfgM m hO).win 8).index t = ![t.val, 0]
    ∧ ((cfgM m hO).win 9).index t = ![t.val, 0]
    ∧ ((cfgM m hO).win 10).index t = ![t.val, 0]
    ∧ ((cfgM m hO).win 11).index t = ![t.val, 0]
    ∧ ((cfgM m hO).win 12).index t = ![t.val, 0]
    ∧ ((cfgM m hO).win 13).index t = ![t.val, 0]
    ∧ ((cfgM m hO).win 14).index t = ![t.val, 0] := by
  have e := maps me t
  rw [← hme] at e
  exact e

/-- What a grid point leaves in the four output blocks, from the blocks it staged. -/
theorem point (hO : Ok m) (c : Dev nD) (t : Fin (cfgM m hO).N) :
    (outsAt0 m hO c t).1 = (fun j => eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j : FVec Ideal S128x2048 .f32)
    ∧ (outsAt0 m hO c t).2.1 = (fun j => delta (eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j) ((iblk m hO c 8 t : FVec Ideal S128x2048 .f32) j) ((iblk m hO c 9 t : FVec Ideal S128x2048 .f32) j) ((iblk m hO c 10 t : FVec Ideal S128x2048 .f32) j) : FVec Ideal S128x2048 .f32)
    ∧ (outsAt0 m hO c t).2.2.1 = (fun j => mom (eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j) ((iblk m hO c 9 t : FVec Ideal S128x2048 .f32) j) : FVec Ideal S128x2048 .f32)
    ∧ (outsAt0 m hO c t).2.2.2 = (fun j => var (eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j) ((iblk m hO c 10 t : FVec Ideal S128x2048 .f32) j) : FVec Ideal S128x2048 .f32) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- The array of the gradient after the whole run. -/
theorem arr_g (hO : Ok m) (me : Fin 8) (hme : tbl m = word me) (c : Dev nD) :
    (dats m hO 0 c).arrAt 11 (cfgM m hO).N = (fun i => parts (t := .bf16) me (m ((c : Thread nD τ).loc main_arg1) : FVec Ideal S8x1024x2048 .bf16) (m ((c : Thread nD τ).loc main_arg2) : FVec Ideal S8x1024x2048 .bf16) i : FVec Ideal S1024x2048 .f32) := by
  refine (dats m hO 0 c).arrAt_eq_of_covers 11 _ (of_decide_eq_true (by sl_kernel_rfl)) fun t hf y => ?_
  obtain ⟨e0, e1, e2, e3, e4, e5, e6, e7, e8, e9, e10, e11, e12, e13, e14⟩ := places m hO me hme t
  blk_simp
  rw [after0_11]
  refine (congrFun (point m hO c t).1 y).trans ?_
  blk_point [iblk, eight, parts, V_main_arg1, V_main_arg2, V_main_arg3, V_main_arg4, V_main_arg5, e0, e1, e2, e3, e4, e5, e6, e7, e8, e9, e10, e11]

/-- The array of the change of the weight after the whole run. -/
theorem arr_d (hO : Ok m) (me : Fin 8) (hme : tbl m = word me) (c : Dev nD) :
    (dats m hO 0 c).arrAt 12 (cfgM m hO).N = (fun i => delta (parts (t := .bf16) me (m ((c : Thread nD τ).loc main_arg1) : FVec Ideal S8x1024x2048 .bf16) (m ((c : Thread nD τ).loc main_arg2) : FVec Ideal S8x1024x2048 .bf16) i) ((m ((c : Thread nD τ).loc main_arg3) : FVec Ideal S1024x2048 .f32) i) ((m ((c : Thread nD τ).loc main_arg4) : FVec Ideal S1024x2048 .f32) i) ((m ((c : Thread nD τ).loc main_arg5) : FVec Ideal S1024x2048 .f32) i) : FVec Ideal S1024x2048 .f32) := by
  refine (dats m hO 0 c).arrAt_eq_of_covers 12 _ (of_decide_eq_true (by sl_kernel_rfl)) fun t hf y => ?_
  obtain ⟨e0, e1, e2, e3, e4, e5, e6, e7, e8, e9, e10, e11, e12, e13, e14⟩ := places m hO me hme t
  blk_simp
  rw [after0_12]
  refine (congrFun (point m hO c t).2.1 y).trans ?_
  blk_point [iblk, eight, parts, V_main_arg1, V_main_arg2, V_main_arg3, V_main_arg4, V_main_arg5, e0, e1, e2, e3, e4, e5, e6, e7, e8, e9, e10, e12]

/-- The array of the first moment after the whole run. -/
theorem arr_m (hO : Ok m) (me : Fin 8) (hme : tbl m = word me) (c : Dev nD) :
    (dats m hO 0 c).arrAt 13 (cfgM m hO).N = (fun i => mom (parts (t := .bf16) me (m ((c : Thread nD τ).loc main_arg1) : FVec Ideal S8x1024x2048 .bf16) (m ((c : Thread nD τ).loc main_arg2) : FVec Ideal S8x1024x2048 .bf16) i) ((m ((c : Thread nD τ).loc main_arg4) : FVec Ideal S1024x2048 .f32) i) : FVec Ideal S1024x2048 .f32) := by
  refine (dats m hO 0 c).arrAt_eq_of_covers 13 _ (of_decide_eq_true (by sl_kernel_rfl)) fun t hf y => ?_
  obtain ⟨e0, e1, e2, e3, e4, e5, e6, e7, e8, e9, e10, e11, e12, e13, e14⟩ := places m hO me hme t
  blk_simp
  rw [after0_13]
  refine (congrFun (point m hO c t).2.2.1 y).trans ?_
  blk_point [iblk, eight, parts, V_main_arg1, V_main_arg2, V_main_arg3, V_main_arg4, V_main_arg5, e0, e1, e2, e3, e4, e5, e6, e7, e8, e9, e10, e13]

/-- The array of the second moment after the whole run. -/
theorem arr_v (hO : Ok m) (me : Fin 8) (hme : tbl m = word me) (c : Dev nD) :
    (dats m hO 0 c).arrAt 14 (cfgM m hO).N = (fun i => var (parts (t := .bf16) me (m ((c : Thread nD τ).loc main_arg1) : FVec Ideal S8x1024x2048 .bf16) (m ((c : Thread nD τ).loc main_arg2) : FVec Ideal S8x1024x2048 .bf16) i) ((m ((c : Thread nD τ).loc main_arg5) : FVec Ideal S1024x2048 .f32) i) : FVec Ideal S1024x2048 .f32) := by
  refine (dats m hO 0 c).arrAt_eq_of_covers 14 _ (of_decide_eq_true (by sl_kernel_rfl)) fun t hf y => ?_
  obtain ⟨e0, e1, e2, e3, e4, e5, e6, e7, e8, e9, e10, e11, e12, e13, e14⟩ := places m hO me hme t
  blk_simp
  rw [after0_14]
  refine (congrFun (point m hO c t).2.2.2 y).trans ?_
  blk_point [iblk, eight, parts, V_main_arg1, V_main_arg2, V_main_arg3, V_main_arg4, V_main_arg5, e0, e1, e2, e3, e4, e5, e6, e7, e8, e9, e10, e14]

end

/-- The precondition makes the table hold a device's number. -/
theorem word_of {F : FTy → Type} [FloatOps F] (m : (ℓ : Loc nD τ sig) → Buf (Elt F) ℓ) (c : Dev nD)
    (h : (Cert.Pre_device15.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)) : ∃ me : Fin 8, tbl m = word me := by
  have h := congrFun h ix0
  unfold Cert.Pre_device15.fn at h
  obtain ⟨me, hme⟩ := device_word _ h
  refine ⟨me, funext fun j => ?_⟩
  obtain rfl : c = 0 := Subsingleton.elim _ _
  fin_cases j
  exact funext fun y => (congrArg (m (((0 : Dev nD).tc : Thread nD τ).loc main_arg0))
    (funext fun a => by fin_cases a; exact Subsingleton.elim (α := Fin 1) _ _)).trans hme

/-- So every block lies inside its array. -/
theorem ok_of {F : FTy → Type} [FloatOps F] (m : (ℓ : Loc nD τ sig) → Buf (Elt F) ℓ) (me : Fin 8) (hme : tbl m = word me) : Ok m := by
  show ok0 (F := F) (tbl m)
  rw [hme]
  exact ok me

/-- The kernel's program runs to its end and leaves its arguments and everything else as they were. -/
theorem frame_ki : Cert.quiescent_Kernel15Ideal (hKernel15Ideal := Cert.Kernel15Ideal.Gen.facts) (hPre_device15 := Cert.Pre_device15.Gen.facts) := fun m g hp =>
  let ⟨me, hme⟩ := word_of m 0 (hp 0)
  Cert.Kernel15Ideal.Gen.frame m g (ok_of m me hme)

/-- The same of the kernel's own program. -/
theorem frame_k : Cert.quiescent_Kernel15 (hKernel15 := Cert.Kernel15.Gen.facts) (hPre_device15 := Cert.Pre_device15.Gen.facts) := fun m g hp =>
  let ⟨me, hme⟩ := word_of (F := Bits) m 0 (hp 0)
  Cert.Kernel15.Gen.frame m g (ok_of (F := Bits) m me hme)

/-- The reference runs to its end and leaves its arguments and everything else as they were. -/
theorem frame_r : Cert.quiescent_Reference15Ideal (hReference15Ideal := Cert.Reference15Ideal.Gen.facts) := fun m g _ =>
  (θ_run _ _ _).mono (fun r h => ⟨fun c => (h c).2.2.2.2, funext fun x => nomatch x.2⟩) (Cert.Reference15Ideal.Value.run (F := Ideal) m g)

/-- The same where the device's number is known to be one. -/
theorem frame_rp : Cert.quiescent_Reference15Ideal_pre_device15 (hReference15Ideal := Cert.Reference15Ideal.Gen.facts) (hPre_device15 := Cert.Pre_device15.Gen.facts) :=
  fun m g _ => frame_r m g trivial

/-- Kernel and reference compute the same results over the extended reals, for every input in which the device's number is one. -/
theorem algebraic : Cert.algebraic_Kernel15Ideal_Reference15Ideal (hKernel15Ideal := Cert.Kernel15Ideal.Gen.facts)
    (hReference15Ideal := Cert.Reference15Ideal.Gen.facts) (hPre_device15 := Cert.Pre_device15.Gen.facts) := by
  intro m g m' g' hp hagree
  obtain ⟨me, hme⟩ := word_of m 0 (hp 0)
  have hO : Ok m := ok_of m me hme
  refine ⟨fun c => (dats m hO 0 c).arrAt 11 (cfgM m hO).N, fun c => (dats m hO 0 c).arrAt 12 (cfgM m hO).N,
    fun c => (dats m hO 0 c).arrAt 13 (cfgM m hO).N, fun c => (dats m hO 0 c).arrAt 14 (cfgM m hO).N,
    (θ_run _ _ _).mono (fun r h c => ?_) (run_main m g hO), (θ_run _ _ _).mono (fun r h c => ?_) (Cert.Reference15Ideal.Value.run (F := Ideal) m' g')⟩
  · exact ⟨(h c).1 11, (h c).1 12, (h c).1 13, (h c).1 14,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 7).trans (((dats m hO 0 c).arrAt_in 7 rfl _).trans ((A_eq m hO c 7).trans (V_main_arg2 m c))),
      ((h c).1 8).trans (((dats m hO 0 c).arrAt_in 8 rfl _).trans ((A_eq m hO c 8).trans (V_main_arg3 m c))),
      ((h c).1 9).trans (((dats m hO 0 c).arrAt_in 9 rfl _).trans ((A_eq m hO c 9).trans (V_main_arg4 m c))),
      ((h c).1 10).trans (((dats m hO 0 c).arrAt_in 10 rfl _).trans ((A_eq m hO c 10).trans (V_main_arg5 m c)))⟩
  · obtain ⟨r0, r1, r2, r3, ra⟩ := h c
    obtain ⟨a0, a1, a2, a3, a4, a5⟩ := hagree c
    have hw : (m ((c : Thread nD τ).loc main_arg0) : IVec S1 32) = fun _ => BitVec.ofNat 32 me.val := by
      obtain rfl : c = 0 := Subsingleton.elim _ _
      exact congrFun hme 0
    rw [a0, a1, a2, ref_g me _ _ _ hw] at r0
    rw [a0, a1, a2, ref_g me _ _ _ hw, a3, a4, a5, ref_d] at r1
    rw [a0, a1, a2, ref_g me _ _ _ hw, a4, ref_m] at r2
    rw [a0, a1, a2, ref_g me _ _ _ hw, a5, ref_v] at r3
    exact ⟨r0.trans (arr_g m hO me hme c).symm, r1.trans (arr_d m hO me hme c).symm, r2.trans (arr_m m hO me hme c).symm,
      r3.trans (arr_v m hO me hme c).symm, ra⟩

end Cert.Ad15

end
-- ==== Proof.Ad16.lean ====
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Pre_device16
public import proofs.«01_k».proof.Proof.Parts

@[expose] public section

set_option maxRecDepth 16384

noncomputable section

namespace Cert.Ad16

open Idealize.ShloMosaic Idealize.ShloMosaic.TcCoe Idealize.SL.Sem Cert.Kernel16Ideal Cert.Kernel16Ideal.Gen Cert.Adam

/-- The table that holds one device's number. -/
def word {F : FTy → Type} (me : Fin 8) : pre0.Contents (Elt F) := fun
  | 0 => fun _ => BitVec.ofNat 32 me.val
  | ⟨_ + 1, h⟩ => absurd h (Nat.not_lt.2 (Nat.le_add_left _ _))

/-- With such a table every block lies inside its array. -/
theorem ok {F : FTy → Type} [FloatOps F] : ∀ me : Fin 8, ok0 (F := F) (word me) := of_decide_eq_true (by sl_kernel_rfl)

/-- Which block each grid point stages or writes: of the device's own part, of the seven other devices' parts, and of the other arrays. -/
theorem maps : ∀ me : Fin 8, ∀ t : Fin grid0.N, ix0 (F := Ideal) (word me) 0 (grid0.coords t) = ![me.val, t.val, 0]
    ∧ ix0 (F := Ideal) (word me) 1 (grid0.coords t) = ![(me.succAbove 0).val, t.val, 0]
    ∧ ix0 (F := Ideal) (word me) 2 (grid0.coords t) = ![(me.succAbove 1).val, t.val, 0]
    ∧ ix0 (F := Ideal) (word me) 3 (grid0.coords t) = ![(me.succAbove 2).val, t.val, 0]
    ∧ ix0 (F := Ideal) (word me) 4 (grid0.coords t) = ![(me.succAbove 3).val, t.val, 0]
    ∧ ix0 (F := Ideal) (word me) 5 (grid0.coords t) = ![(me.succAbove 4).val, t.val, 0]
    ∧ ix0 (F := Ideal) (word me) 6 (grid0.coords t) = ![(me.succAbove 5).val, t.val, 0]
    ∧ ix0 (F := Ideal) (word me) 7 (grid0.coords t) = ![(me.succAbove 6).val, t.val, 0]
    ∧ ix0 (F := Ideal) (word me) 8 (grid0.coords t) = ![t.val, 0]
    ∧ ix0 (F := Ideal) (word me) 9 (grid0.coords t) = ![t.val, 0]
    ∧ ix0 (F := Ideal) (word me) 10 (grid0.coords t) = ![t.val, 0]
    ∧ ix0 (F := Ideal) (word me) 11 (grid0.coords t) = ![t.val, 0]
    ∧ ix0 (F := Ideal) (word me) 12 (grid0.coords t) = ![t.val, 0]
    ∧ ix0 (F := Ideal) (word me) 13 (grid0.coords t) = ![t.val, 0]
    ∧ ix0 (F := Ideal) (word me) 14 (grid0.coords t) = ![t.val, 0] := by
  decide +kernel

section

variable (c : Dev nD) (i : grid0.Coords) (a0 : Memref sig .tc .vmem S1x128x2048 .bf16) (h0 : a0.IsWhole) (a1 : Memref sig .tc .vmem S1x128x2048 .bf16) (h1 : a1.IsWhole) (a2 : Memref sig .tc .vmem S1x128x2048 .bf16) (h2 : a2.IsWhole) (a3 : Memref sig .tc .vmem S1x128x2048 .bf16) (h3 : a3.IsWhole) (a4 : Memref sig .tc .vmem S1x128x2048 .bf16) (h4 : a4.IsWhole) (a5 : Memref sig .tc .vmem S1x128x2048 .bf16) (h5 : a5.IsWhole) (a6 : Memref sig .tc .vmem S1x128x2048 .bf16) (h6 : a6.IsWhole) (a7 : Memref sig .tc .vmem S1x128x2048 .bf16) (h7 : a7.IsWhole) (a8 : Memref sig .tc .vmem S128x2048 .f32) (h8 : a8.IsWhole) (a9 : Memref sig .tc .vmem S128x2048 .f32) (h9 : a9.IsWhole) (a10 : Memref sig .tc .vmem S128x2048 .f32) (h10 : a10.IsWhole) (a11 : Memref sig .tc .vmem S128x2048 .f32) (h11 : a11.IsWhole) (a12 : Memref sig .tc .vmem S128x2048 .f32) (h12 : a12.IsWhole) (a13 : Memref sig .tc .vmem S128x2048 .f32) (h13 : a13.IsWhole) (a14 : Memref sig .tc .vmem S128x2048 .f32) (h14 : a14.IsWhole)
  (x0 x1 x2 x3 x4 x5 x6 x7 : FVec Ideal S1x128x2048 .bf16) (w m v : FVec Ideal S128x2048 .f32)

/-- Every store of one trip is a block of that output's function of the whole block. -/
theorem trip (a : Memref sig .tc .smem S1 .i32) (h : a.IsWhole) (k : Fin k0_t1_loop.trips) :
    let L := tripL_k0_t1 (F := Ideal) Variants.none c none i a h a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h0.read_unread, h1.read_unread, h2.read_unread, h3.read_unread, h4.read_unread, h5.read_unread, h6.read_unread, h7.read_unread, h8.read_unread, h9.read_unread, h10.read_unread]
  refine ⟨⟨fun x => ?_, trivial⟩, ⟨fun x => ?_, trivial⟩, ⟨fun x => ?_, trivial⟩, ⟨fun x => ?_, trivial⟩⟩
  · dsimp only
    refine (strip_g slices_S16x2048_o0_0_S8x2048 slices_S16x2048_o8_0_S8x2048 shapeCasts_S1x16x2048_S16x2048 bitsLt_bf16_f32 concatenates_S8x2048_S8x2048_S16x2048_d0 _ _ _ _ _ _ _ _ x).trans ?_
    exact eight_strip _ _ x0 x1 x2 x3 x4 x5 x6 x7 x
  · dsimp only
    refine (strip_d slices_S16x2048_o0_0_S8x2048 slices_S16x2048_o8_0_S8x2048 shapeCasts_S1x16x2048_S16x2048 bitsLt_bf16_f32 concatenates_S8x2048_S8x2048_S16x2048_d0 _ _ _ _ _ _ _ _ _ _ _ x).trans (congrArg (fun z => delta z _ _ _) ?_)
    exact eight_strip _ _ x0 x1 x2 x3 x4 x5 x6 x7 x
  · dsimp only
    refine (strip_m slices_S16x2048_o0_0_S8x2048 slices_S16x2048_o8_0_S8x2048 shapeCasts_S1x16x2048_S16x2048 bitsLt_bf16_f32 concatenates_S8x2048_S8x2048_S16x2048_d0 _ _ _ _ _ _ _ _ _ x).trans (congrArg (fun z => mom z _) ?_)
    exact eight_strip _ _ x0 x1 x2 x3 x4 x5 x6 x7 x
  · dsimp only
    refine (strip_v slices_S16x2048_o0_0_S8x2048 slices_S16x2048_o8_0_S8x2048 shapeCasts_S1x16x2048_S16x2048 bitsLt_bf16_f32 concatenates_S8x2048_S8x2048_S16x2048_d0 _ _ _ _ _ _ _ _ _ x).trans (congrArg (fun z => var z _) ?_)
    exact eight_strip _ _ x0 x1 x2 x3 x4 x5 x6 x7 x

/-- What a grid point leaves in the four output blocks. -/
theorem outs (xt : TbBuf0 (F := Ideal) c tbM0_0) :
    out0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => eight x0 x1 x2 x3 x4 x5 x6 x7 j)
    ∧ out0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => delta (eight x0 x1 x2 x3 x4 x5 x6 x7 j) (w j) (m j) (v j))
    ∧ out0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => mom (eight x0 x1 x2 x3 x4 x5 x6 x7 j) (m j))
    ∧ out0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => var (eight x0 x1 x2 x3 x4 x5 x6 x7 j) (v j)) := by
  have hp := good _ _ _ _ _ _ rfl (pb_k0_t1_succ (F := Ideal) Variants.none c none i tbM0_0 htbM0_0 a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v))
    (trip c i a0 h0 a1 h1 a2 h2 a3 h3 a4 h4 a5 h5 a6 h6 a7 h7 a8 h8 a9 h9 a10 h10 a11 h11 a12 h12 a13 h13 a14 h14 x0 x1 x2 x3 x4 x5 x6 x7 w m v tbM0_0 htbM0_0) _ (le_refl _)
  refine ⟨?_, ?_, ?_, ?_⟩
  · exact block _ _ _ _ (cover0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.1
  · exact block _ _ _ _ (cover0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.1
  · exact block _ _ _ _ (cover0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.1
  · exact block _ _ _ _ (cover0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.2

end

section

variable (m : (ℓ : Loc nD τ sig) → Buf (Elt Ideal) ℓ)

/-- Which block each grid point stages or writes once the table in memory is known. -/
theorem places (hO : Ok m) (me : Fin 8) (hme : tbl m = word me) (t : Fin grid0.N) : ((cfgM m hO).win 0).index t = ![me.val, t.val, 0]
    ∧ ((cfgM m hO).win 1).index t = ![(me.succAbove 0).val, t.val, 0]
    ∧ ((cfgM m hO).win 2).index t = ![(me.succAbove 1).val, t.val, 0]
    ∧ ((cfgM m hO).win 3).index t = ![(me.succAbove 2).val, t.val, 0]
    ∧ ((cfgM m hO).win 4).index t = ![(me.succAbove 3).val, t.val, 0]
    ∧ ((cfgM m hO).win 5).index t = ![(me.succAbove 4).val, t.val, 0]
    ∧ ((cfgM m hO).win 6).index t = ![(me.succAbove 5).val, t.val, 0]
    ∧ ((cfgM m hO).win 7).index t = ![(me.succAbove 6).val, t.val, 0]
    ∧ ((cfgM m hO).win 8).index t = ![t.val, 0]
    ∧ ((cfgM m hO).win 9).index t = ![t.val, 0]
    ∧ ((cfgM m hO).win 10).index t = ![t.val, 0]
    ∧ ((cfgM m hO).win 11).index t = ![t.val, 0]
    ∧ ((cfgM m hO).win 12).index t = ![t.val, 0]
    ∧ ((cfgM m hO).win 13).index t = ![t.val, 0]
    ∧ ((cfgM m hO).win 14).index t = ![t.val, 0] := by
  have e := maps me t
  rw [← hme] at e
  exact e

/-- What a grid point leaves in the four output blocks, from the blocks it staged. -/
theorem point (hO : Ok m) (c : Dev nD) (t : Fin (cfgM m hO).N) :
    (outsAt0 m hO c t).1 = (fun j => eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j : FVec Ideal S128x2048 .f32)
    ∧ (outsAt0 m hO c t).2.1 = (fun j => delta (eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j) ((iblk m hO c 8 t : FVec Ideal S128x2048 .f32) j) ((iblk m hO c 9 t : FVec Ideal S128x2048 .f32) j) ((iblk m hO c 10 t : FVec Ideal S128x2048 .f32) j) : FVec Ideal S128x2048 .f32)
    ∧ (outsAt0 m hO c t).2.2.1 = (fun j => mom (eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j) ((iblk m hO c 9 t : FVec Ideal S128x2048 .f32) j) : FVec Ideal S128x2048 .f32)
    ∧ (outsAt0 m hO c t).2.2.2 = (fun j => var (eight (t := .bf16) (iblk m hO c 0 t : FVec Ideal S1x128x2048 .bf16) (iblk m hO c 1 t : FVec Ideal S1x128x2048 .bf16) (iblk m hO c 2 t : FVec Ideal S1x128x2048 .bf16) (iblk m hO c 3 t : FVec Ideal S1x128x2048 .bf16) (iblk m hO c 4 t : FVec Ideal S1x128x2048 .bf16) (iblk m hO c 5 t : FVec Ideal S1x128x2048 .bf16) (iblk m hO c 6 t : FVec Ideal S1x128x2048 .bf16) (iblk m hO c 7 t : FVec Ideal S1x128x2048 .bf16) j) ((iblk m hO c 10 t : FVec Ideal S128x2048 .f32) j) : FVec Ideal S128x2048 .f32) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- The array of the gradient after the whole run. -/
theorem arr_g (hO : Ok m) (me : Fin 8) (hme : tbl m = word me) (c : Dev nD) :
    (dats m hO 0 c).arrAt 11 (cfgM m hO).N = (fun i => parts (t := .bf16) me (m ((c : Thread nD τ).loc main_arg1) : FVec Ideal S8x256x2048 .bf16) (m ((c : Thread nD τ).loc main_arg2) : FVec Ideal S8x256x2048 .bf16) i : FVec Ideal S256x2048 .f32) := by
  refine (dats m hO 0 c).arrAt_eq_of_covers 11 _ (of_decide_eq_true (by sl_kernel_rfl)) fun t hf y => ?_
  obtain ⟨e0, e1, e2, e3, e4, e5, e6, e7, e8, e9, e10, e11, e12, e13, e14⟩ := places m hO me hme t
  blk_simp
  rw [after0_11]
  refine (congrFun (point m hO c t).1 y).trans ?_
  blk_point [iblk, eight, parts, V_main_arg1, V_main_arg2, V_main_arg3, V_main_arg4, V_main_arg5, e0, e1, e2, e3, e4, e5, e6, e7, e8, e9, e10, e11]

/-- The array of the change of the weight after the whole run. -/
theorem arr_d (hO : Ok m) (me : Fin 8) (hme : tbl m = word me) (c : Dev nD) :
    (dats m hO 0 c).arrAt 12 (cfgM m hO).N = (fun i => delta (parts (t := .bf16) me (m ((c : Thread nD τ).loc main_arg1) : FVec Ideal S8x256x2048 .bf16) (m ((c : Thread nD τ).loc main_arg2) : FVec Ideal S8x256x2048 .bf16) i) ((m ((c : Thread nD τ).loc main_arg3) : FVec Ideal S256x2048 .f32) i) ((m ((c : Thread nD τ).loc main_arg4) : FVec Ideal S256x2048 .f32) i) ((m ((c : Thread nD τ).loc main_arg5) : FVec Ideal S256x2048 .f32) i) : FVec Ideal S256x2048 .f32) := by
  refine (dats m hO 0 c).arrAt_eq_of_covers 12 _ (of_decide_eq_true (by sl_kernel_rfl)) fun t hf y => ?_
  obtain ⟨e0, e1, e2, e3, e4, e5, e6, e7, e8, e9, e10, e11, e12, e13, e14⟩ := places m hO me hme t
  blk_simp
  rw [after0_12]
  refine (congrFun (point m hO c t).2.1 y).trans ?_
  blk_point [iblk, eight, parts, V_main_arg1, V_main_arg2, V_main_arg3, V_main_arg4, V_main_arg5, e0, e1, e2, e3, e4, e5, e6, e7, e8, e9, e10, e12]

/-- The array of the first moment after the whole run. -/
theorem arr_m (hO : Ok m) (me : Fin 8) (hme : tbl m = word me) (c : Dev nD) :
    (dats m hO 0 c).arrAt 13 (cfgM m hO).N = (fun i => mom (parts (t := .bf16) me (m ((c : Thread nD τ).loc main_arg1) : FVec Ideal S8x256x2048 .bf16) (m ((c : Thread nD τ).loc main_arg2) : FVec Ideal S8x256x2048 .bf16) i) ((m ((c : Thread nD τ).loc main_arg4) : FVec Ideal S256x2048 .f32) i) : FVec Ideal S256x2048 .f32) := by
  refine (dats m hO 0 c).arrAt_eq_of_covers 13 _ (of_decide_eq_true (by sl_kernel_rfl)) fun t hf y => ?_
  obtain ⟨e0, e1, e2, e3, e4, e5, e6, e7, e8, e9, e10, e11, e12, e13, e14⟩ := places m hO me hme t
  blk_simp
  rw [after0_13]
  refine (congrFun (point m hO c t).2.2.1 y).trans ?_
  blk_point [iblk, eight, parts, V_main_arg1, V_main_arg2, V_main_arg3, V_main_arg4, V_main_arg5, e0, e1, e2, e3, e4, e5, e6, e7, e8, e9, e10, e13]

/-- The array of the second moment after the whole run. -/
theorem arr_v (hO : Ok m) (me : Fin 8) (hme : tbl m = word me) (c : Dev nD) :
    (dats m hO 0 c).arrAt 14 (cfgM m hO).N = (fun i => var (parts (t := .bf16) me (m ((c : Thread nD τ).loc main_arg1) : FVec Ideal S8x256x2048 .bf16) (m ((c : Thread nD τ).loc main_arg2) : FVec Ideal S8x256x2048 .bf16) i) ((m ((c : Thread nD τ).loc main_arg5) : FVec Ideal S256x2048 .f32) i) : FVec Ideal S256x2048 .f32) := by
  refine (dats m hO 0 c).arrAt_eq_of_covers 14 _ (of_decide_eq_true (by sl_kernel_rfl)) fun t hf y => ?_
  obtain ⟨e0, e1, e2, e3, e4, e5, e6, e7, e8, e9, e10, e11, e12, e13, e14⟩ := places m hO me hme t
  blk_simp
  rw [after0_14]
  refine (congrFun (point m hO c t).2.2.2 y).trans ?_
  blk_point [iblk, eight, parts, V_main_arg1, V_main_arg2, V_main_arg3, V_main_arg4, V_main_arg5, e0, e1, e2, e3, e4, e5, e6, e7, e8, e9, e10, e14]

end

/-- The precondition makes the table hold a device's number. -/
theorem word_of {F : FTy → Type} [FloatOps F] (m : (ℓ : Loc nD τ sig) → Buf (Elt F) ℓ) (c : Dev nD)
    (h : (Cert.Pre_device16.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)) : ∃ me : Fin 8, tbl m = word me := by
  have h := congrFun h ix0
  unfold Cert.Pre_device16.fn at h
  obtain ⟨me, hme⟩ := device_word _ h
  refine ⟨me, funext fun j => ?_⟩
  obtain rfl : c = 0 := Subsingleton.elim _ _
  fin_cases j
  exact funext fun y => (congrArg (m (((0 : Dev nD).tc : Thread nD τ).loc main_arg0))
    (funext fun a => by fin_cases a; exact Subsingleton.elim (α := Fin 1) _ _)).trans hme

/-- So every block lies inside its array. -/
theorem ok_of {F : FTy → Type} [FloatOps F] (m : (ℓ : Loc nD τ sig) → Buf (Elt F) ℓ) (me : Fin 8) (hme : tbl m = word me) : Ok m := by
  show ok0 (F := F) (tbl m)
  rw [hme]
  exact ok me

/-- The kernel's program runs to its end and leaves its arguments and everything else as they were. -/
theorem frame_ki : Cert.quiescent_Kernel16Ideal (hKernel16Ideal := Cert.Kernel16Ideal.Gen.facts) (hPre_device16 := Cert.Pre_device16.Gen.facts) := fun m g hp =>
  let ⟨me, hme⟩ := word_of m 0 (hp 0)
  Cert.Kernel16Ideal.Gen.frame m g (ok_of m me hme)

/-- The same of the kernel's own program. -/
theorem frame_k : Cert.quiescent_Kernel16 (hKernel16 := Cert.Kernel16.Gen.facts) (hPre_device16 := Cert.Pre_device16.Gen.facts) := fun m g hp =>
  let ⟨me, hme⟩ := word_of (F := Bits) m 0 (hp 0)
  Cert.Kernel16.Gen.frame m g (ok_of (F := Bits) m me hme)

/-- The reference runs to its end and leaves its arguments and everything else as they were. -/
theorem frame_r : Cert.quiescent_Reference16Ideal (hReference16Ideal := Cert.Reference16Ideal.Gen.facts) := fun m g _ =>
  (θ_run _ _ _).mono (fun r h => ⟨fun c => (h c).2.2.2.2, funext fun x => nomatch x.2⟩) (Cert.Reference16Ideal.Value.run (F := Ideal) m g)

/-- The same where the device's number is known to be one. -/
theorem frame_rp : Cert.quiescent_Reference16Ideal_pre_device16 (hReference16Ideal := Cert.Reference16Ideal.Gen.facts) (hPre_device16 := Cert.Pre_device16.Gen.facts) :=
  fun m g _ => frame_r m g trivial

/-- Kernel and reference compute the same results over the extended reals, for every input in which the device's number is one. -/
theorem algebraic : Cert.algebraic_Kernel16Ideal_Reference16Ideal (hKernel16Ideal := Cert.Kernel16Ideal.Gen.facts)
    (hReference16Ideal := Cert.Reference16Ideal.Gen.facts) (hPre_device16 := Cert.Pre_device16.Gen.facts) := by
  intro m g m' g' hp hagree
  obtain ⟨me, hme⟩ := word_of m 0 (hp 0)
  have hO : Ok m := ok_of m me hme
  refine ⟨fun c => (dats m hO 0 c).arrAt 11 (cfgM m hO).N, fun c => (dats m hO 0 c).arrAt 12 (cfgM m hO).N,
    fun c => (dats m hO 0 c).arrAt 13 (cfgM m hO).N, fun c => (dats m hO 0 c).arrAt 14 (cfgM m hO).N,
    (θ_run _ _ _).mono (fun r h c => ?_) (run_main m g hO), (θ_run _ _ _).mono (fun r h c => ?_) (Cert.Reference16Ideal.Value.run (F := Ideal) m' g')⟩
  · exact ⟨(h c).1 11, (h c).1 12, (h c).1 13, (h c).1 14,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 7).trans (((dats m hO 0 c).arrAt_in 7 rfl _).trans ((A_eq m hO c 7).trans (V_main_arg2 m c))),
      ((h c).1 8).trans (((dats m hO 0 c).arrAt_in 8 rfl _).trans ((A_eq m hO c 8).trans (V_main_arg3 m c))),
      ((h c).1 9).trans (((dats m hO 0 c).arrAt_in 9 rfl _).trans ((A_eq m hO c 9).trans (V_main_arg4 m c))),
      ((h c).1 10).trans (((dats m hO 0 c).arrAt_in 10 rfl _).trans ((A_eq m hO c 10).trans (V_main_arg5 m c)))⟩
  · obtain ⟨r0, r1, r2, r3, ra⟩ := h c
    obtain ⟨a0, a1, a2, a3, a4, a5⟩ := hagree c
    have hw : (m ((c : Thread nD τ).loc main_arg0) : IVec S1 32) = fun _ => BitVec.ofNat 32 me.val := by
      obtain rfl : c = 0 := Subsingleton.elim _ _
      exact congrFun hme 0
    rw [a0, a1, a2, ref_g me _ _ _ hw] at r0
    rw [a0, a1, a2, ref_g me _ _ _ hw, a3, a4, a5, ref_d] at r1
    rw [a0, a1, a2, ref_g me _ _ _ hw, a4, ref_m] at r2
    rw [a0, a1, a2, ref_g me _ _ _ hw, a5, ref_v] at r3
    exact ⟨r0.trans (arr_g m hO me hme c).symm, r1.trans (arr_d m hO me hme c).symm, r2.trans (arr_m m hO me hme c).symm,
      r3.trans (arr_v m hO me hme c).symm, ra⟩

end Cert.Ad16

end
-- ==== Proof.Ad17.lean ====
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Pre_device17
public import proofs.«01_k».proof.Proof.Parts

@[expose] public section

set_option maxRecDepth 16384

noncomputable section

namespace Cert.Ad17

open Idealize.ShloMosaic Idealize.ShloMosaic.TcCoe Idealize.SL.Sem Cert.Kernel17Ideal Cert.Kernel17Ideal.Gen Cert.Adam

/-- The table that holds one device's number. -/
def word {F : FTy → Type} (me : Fin 8) : pre0.Contents (Elt F) := fun
  | 0 => fun _ => BitVec.ofNat 32 me.val
  | ⟨_ + 1, h⟩ => absurd h (Nat.not_lt.2 (Nat.le_add_left _ _))

/-- With such a table every block lies inside its array. -/
theorem ok {F : FTy → Type} [FloatOps F] : ∀ me : Fin 8, ok0 (F := F) (word me) := of_decide_eq_true (by sl_kernel_rfl)

/-- Which block each grid point stages or writes: of the device's own part, of the seven other devices' parts, and of the other arrays. -/
theorem maps : ∀ me : Fin 8, ∀ t : Fin grid0.N, ix0 (F := Ideal) (word me) 0 (grid0.coords t) = ![me.val, t.val, 0]
    ∧ ix0 (F := Ideal) (word me) 1 (grid0.coords t) = ![(me.succAbove 0).val, t.val, 0]
    ∧ ix0 (F := Ideal) (word me) 2 (grid0.coords t) = ![(me.succAbove 1).val, t.val, 0]
    ∧ ix0 (F := Ideal) (word me) 3 (grid0.coords t) = ![(me.succAbove 2).val, t.val, 0]
    ∧ ix0 (F := Ideal) (word me) 4 (grid0.coords t) = ![(me.succAbove 3).val, t.val, 0]
    ∧ ix0 (F := Ideal) (word me) 5 (grid0.coords t) = ![(me.succAbove 4).val, t.val, 0]
    ∧ ix0 (F := Ideal) (word me) 6 (grid0.coords t) = ![(me.succAbove 5).val, t.val, 0]
    ∧ ix0 (F := Ideal) (word me) 7 (grid0.coords t) = ![(me.succAbove 6).val, t.val, 0]
    ∧ ix0 (F := Ideal) (word me) 8 (grid0.coords t) = ![t.val, 0]
    ∧ ix0 (F := Ideal) (word me) 9 (grid0.coords t) = ![t.val, 0]
    ∧ ix0 (F := Ideal) (word me) 10 (grid0.coords t) = ![t.val, 0]
    ∧ ix0 (F := Ideal) (word me) 11 (grid0.coords t) = ![t.val, 0]
    ∧ ix0 (F := Ideal) (word me) 12 (grid0.coords t) = ![t.val, 0]
    ∧ ix0 (F := Ideal) (word me) 13 (grid0.coords t) = ![t.val, 0]
    ∧ ix0 (F := Ideal) (word me) 14 (grid0.coords t) = ![t.val, 0] := by
  decide +kernel

section

variable (c : Dev nD) (i : grid0.Coords) (a0 : Memref sig .tc .vmem S1x1024x256 .bf16) (h0 : a0.IsWhole) (a1 : Memref sig .tc .vmem S1x1024x256 .bf16) (h1 : a1.IsWhole) (a2 : Memref sig .tc .vmem S1x1024x256 .bf16) (h2 : a2.IsWhole) (a3 : Memref sig .tc .vmem S1x1024x256 .bf16) (h3 : a3.IsWhole) (a4 : Memref sig .tc .vmem S1x1024x256 .bf16) (h4 : a4.IsWhole) (a5 : Memref sig .tc .vmem S1x1024x256 .bf16) (h5 : a5.IsWhole) (a6 : Memref sig .tc .vmem S1x1024x256 .bf16) (h6 : a6.IsWhole) (a7 : Memref sig .tc .vmem S1x1024x256 .bf16) (h7 : a7.IsWhole) (a8 : Memref sig .tc .vmem S1024x256 .f32) (h8 : a8.IsWhole) (a9 : Memref sig .tc .vmem S1024x256 .f32) (h9 : a9.IsWhole) (a10 : Memref sig .tc .vmem S1024x256 .f32) (h10 : a10.IsWhole) (a11 : Memref sig .tc .vmem S1024x256 .f32) (h11 : a11.IsWhole) (a12 : Memref sig .tc .vmem S1024x256 .f32) (h12 : a12.IsWhole) (a13 : Memref sig .tc .vmem S1024x256 .f32) (h13 : a13.IsWhole) (a14 : Memref sig .tc .vmem S1024x256 .f32) (h14 : a14.IsWhole)
  (x0 x1 x2 x3 x4 x5 x6 x7 : FVec Ideal S1x1024x256 .bf16) (w m v : FVec Ideal S1024x256 .f32)

/-- Every store of one trip is a block of that output's function of the whole block. -/
theorem trip (a : Memref sig .tc .smem S1 .i32) (h : a.IsWhole) (k : Fin k0_t1_loop.trips) :
    let L := tripL_k0_t1 (F := Ideal) Variants.none c none i a h a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h0.read_unread, h1.read_unread, h2.read_unread, h3.read_unread, h4.read_unread, h5.read_unread, h6.read_unread, h7.read_unread, h8.read_unread, h9.read_unread, h10.read_unread]
  refine ⟨⟨fun x => ?_, trivial⟩, ⟨fun x => ?_, trivial⟩, ⟨fun x => ?_, trivial⟩, ⟨fun x => ?_, trivial⟩⟩
  · dsimp only
    refine (strip_g slices_S16x256_o0_0_S8x256 slices_S16x256_o8_0_S8x256 shapeCasts_S1x16x256_S16x256 bitsLt_bf16_f32 concatenates_S8x256_S8x256_S16x256_d0 _ _ _ _ _ _ _ _ x).trans ?_
    exact eight_strip _ _ x0 x1 x2 x3 x4 x5 x6 x7 x
  · dsimp only
    refine (strip_d slices_S16x256_o0_0_S8x256 slices_S16x256_o8_0_S8x256 shapeCasts_S1x16x256_S16x256 bitsLt_bf16_f32 concatenates_S8x256_S8x256_S16x256_d0 _ _ _ _ _ _ _ _ _ _ _ x).trans (congrArg (fun z => delta z _ _ _) ?_)
    exact eight_strip _ _ x0 x1 x2 x3 x4 x5 x6 x7 x
  · dsimp only
    refine (strip_m slices_S16x256_o0_0_S8x256 slices_S16x256_o8_0_S8x256 shapeCasts_S1x16x256_S16x256 bitsLt_bf16_f32 concatenates_S8x256_S8x256_S16x256_d0 _ _ _ _ _ _ _ _ _ x).trans (congrArg (fun z => mom z _) ?_)
    exact eight_strip _ _ x0 x1 x2 x3 x4 x5 x6 x7 x
  · dsimp only
    refine (strip_v slices_S16x256_o0_0_S8x256 slices_S16x256_o8_0_S8x256 shapeCasts_S1x16x256_S16x256 bitsLt_bf16_f32 concatenates_S8x256_S8x256_S16x256_d0 _ _ _ _ _ _ _ _ _ x).trans (congrArg (fun z => var z _) ?_)
    exact eight_strip _ _ x0 x1 x2 x3 x4 x5 x6 x7 x

/-- What a grid point leaves in the four output blocks. -/
theorem outs (xt : TbBuf0 (F := Ideal) c tbM0_0) :
    out0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => eight x0 x1 x2 x3 x4 x5 x6 x7 j)
    ∧ out0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => delta (eight x0 x1 x2 x3 x4 x5 x6 x7 j) (w j) (m j) (v j))
    ∧ out0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => mom (eight x0 x1 x2 x3 x4 x5 x6 x7 j) (m j))
    ∧ out0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => var (eight x0 x1 x2 x3 x4 x5 x6 x7 j) (v j)) := by
  have hp := good _ _ _ _ _ _ rfl (pb_k0_t1_succ (F := Ideal) Variants.none c none i tbM0_0 htbM0_0 a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v))
    (trip c i a0 h0 a1 h1 a2 h2 a3 h3 a4 h4 a5 h5 a6 h6 a7 h7 a8 h8 a9 h9 a10 h10 a11 h11 a12 h12 a13 h13 a14 h14 x0 x1 x2 x3 x4 x5 x6 x7 w m v tbM0_0 htbM0_0) _ (le_refl _)
  refine ⟨?_, ?_, ?_, ?_⟩
  · exact block _ _ _ _ (cover0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.1
  · exact block _ _ _ _ (cover0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.1
  · exact block _ _ _ _ (cover0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.1
  · exact block _ _ _ _ (cover0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.2

end

section

variable (m : (ℓ : Loc nD τ sig) → Buf (Elt Ideal) ℓ)

/-- Which block each grid point stages or writes once the table in memory is known. -/
theorem places (hO : Ok m) (me : Fin 8) (hme : tbl m = word me) (t : Fin grid0.N) : ((cfgM m hO).win 0).index t = ![me.val, t.val, 0]
    ∧ ((cfgM m hO).win 1).index t = ![(me.succAbove 0).val, t.val, 0]
    ∧ ((cfgM m hO).win 2).index t = ![(me.succAbove 1).val, t.val, 0]
    ∧ ((cfgM m hO).win 3).index t = ![(me.succAbove 2).val, t.val, 0]
    ∧ ((cfgM m hO).win 4).index t = ![(me.succAbove 3).val, t.val, 0]
    ∧ ((cfgM m hO).win 5).index t = ![(me.succAbove 4).val, t.val, 0]
    ∧ ((cfgM m hO).win 6).index t = ![(me.succAbove 5).val, t.val, 0]
    ∧ ((cfgM m hO).win 7).index t = ![(me.succAbove 6).val, t.val, 0]
    ∧ ((cfgM m hO).win 8).index t = ![t.val, 0]
    ∧ ((cfgM m hO).win 9).index t = ![t.val, 0]
    ∧ ((cfgM m hO).win 10).index t = ![t.val, 0]
    ∧ ((cfgM m hO).win 11).index t = ![t.val, 0]
    ∧ ((cfgM m hO).win 12).index t = ![t.val, 0]
    ∧ ((cfgM m hO).win 13).index t = ![t.val, 0]
    ∧ ((cfgM m hO).win 14).index t = ![t.val, 0] := by
  have e := maps me t
  rw [← hme] at e
  exact e

/-- What a grid point leaves in the four output blocks, from the blocks it staged. -/
theorem point (hO : Ok m) (c : Dev nD) (t : Fin (cfgM m hO).N) :
    (outsAt0 m hO c t).1 = (fun j => eight (t := .bf16) (iblk m hO c 0 t : FVec Ideal S1x1024x256 .bf16) (iblk m hO c 1 t : FVec Ideal S1x1024x256 .bf16) (iblk m hO c 2 t : FVec Ideal S1x1024x256 .bf16) (iblk m hO c 3 t : FVec Ideal S1x1024x256 .bf16) (iblk m hO c 4 t : FVec Ideal S1x1024x256 .bf16) (iblk m hO c 5 t : FVec Ideal S1x1024x256 .bf16) (iblk m hO c 6 t : FVec Ideal S1x1024x256 .bf16) (iblk m hO c 7 t : FVec Ideal S1x1024x256 .bf16) j : FVec Ideal S1024x256 .f32)
    ∧ (outsAt0 m hO c t).2.1 = (fun j => delta (eight (t := .bf16) (iblk m hO c 0 t : FVec Ideal S1x1024x256 .bf16) (iblk m hO c 1 t : FVec Ideal S1x1024x256 .bf16) (iblk m hO c 2 t : FVec Ideal S1x1024x256 .bf16) (iblk m hO c 3 t : FVec Ideal S1x1024x256 .bf16) (iblk m hO c 4 t : FVec Ideal S1x1024x256 .bf16) (iblk m hO c 5 t : FVec Ideal S1x1024x256 .bf16) (iblk m hO c 6 t : FVec Ideal S1x1024x256 .bf16) (iblk m hO c 7 t : FVec Ideal S1x1024x256 .bf16) j) ((iblk m hO c 8 t : FVec Ideal S1024x256 .f32) j) ((iblk m hO c 9 t : FVec Ideal S1024x256 .f32) j) ((iblk m hO c 10 t : FVec Ideal S1024x256 .f32) j) : FVec Ideal S1024x256 .f32)
    ∧ (outsAt0 m hO c t).2.2.1 = (fun j => mom (eight (t := .bf16) (iblk m hO c 0 t : FVec Ideal S1x1024x256 .bf16) (iblk m hO c 1 t : FVec Ideal S1x1024x256 .bf16) (iblk m hO c 2 t : FVec Ideal S1x1024x256 .bf16) (iblk m hO c 3 t : FVec Ideal S1x1024x256 .bf16) (iblk m hO c 4 t : FVec Ideal S1x1024x256 .bf16) (iblk m hO c 5 t : FVec Ideal S1x1024x256 .bf16) (iblk m hO c 6 t : FVec Ideal S1x1024x256 .bf16) (iblk m hO c 7 t : FVec Ideal S1x1024x256 .bf16) j) ((iblk m hO c 9 t : FVec Ideal S1024x256 .f32) j) : FVec Ideal S1024x256 .f32)
    ∧ (outsAt0 m hO c t).2.2.2 = (fun j => var (eight (t := .bf16) (iblk m hO c 0 t : FVec Ideal S1x1024x256 .bf16) (iblk m hO c 1 t : FVec Ideal S1x1024x256 .bf16) (iblk m hO c 2 t : FVec Ideal S1x1024x256 .bf16) (iblk m hO c 3 t : FVec Ideal S1x1024x256 .bf16) (iblk m hO c 4 t : FVec Ideal S1x1024x256 .bf16) (iblk m hO c 5 t : FVec Ideal S1x1024x256 .bf16) (iblk m hO c 6 t : FVec Ideal S1x1024x256 .bf16) (iblk m hO c 7 t : FVec Ideal S1x1024x256 .bf16) j) ((iblk m hO c 10 t : FVec Ideal S1024x256 .f32) j) : FVec Ideal S1024x256 .f32) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- The array of the gradient after the whole run. -/
theorem arr_g (hO : Ok m) (me : Fin 8) (hme : tbl m = word me) (c : Dev nD) :
    (dats m hO 0 c).arrAt 11 (cfgM m hO).N = (fun i => parts (t := .bf16) me (m ((c : Thread nD τ).loc main_arg1) : FVec Ideal S8x1024x256 .bf16) (m ((c : Thread nD τ).loc main_arg2) : FVec Ideal S8x1024x256 .bf16) i : FVec Ideal S1024x256 .f32) := by
  refine (dats m hO 0 c).arrAt_eq_of_covers 11 _ (of_decide_eq_true (by sl_kernel_rfl)) fun t hf y => ?_
  obtain ⟨e0, e1, e2, e3, e4, e5, e6, e7, e8, e9, e10, e11, e12, e13, e14⟩ := places m hO me hme t
  blk_simp
  rw [after0_11]
  refine (congrFun (point m hO c t).1 y).trans ?_
  blk_point [iblk, eight, parts, V_main_arg1, V_main_arg2, V_main_arg3, V_main_arg4, V_main_arg5, e0, e1, e2, e3, e4, e5, e6, e7, e8, e9, e10, e11]

/-- The array of the change of the weight after the whole run. -/
theorem arr_d (hO : Ok m) (me : Fin 8) (hme : tbl m = word me) (c : Dev nD) :
    (dats m hO 0 c).arrAt 12 (cfgM m hO).N = (fun i => delta (parts (t := .bf16) me (m ((c : Thread nD τ).loc main_arg1) : FVec Ideal S8x1024x256 .bf16) (m ((c : Thread nD τ).loc main_arg2) : FVec Ideal S8x1024x256 .bf16) i) ((m ((c : Thread nD τ).loc main_arg3) : FVec Ideal S1024x256 .f32) i) ((m ((c : Thread nD τ).loc main_arg4) : FVec Ideal S1024x256 .f32) i) ((m ((c : Thread nD τ).loc main_arg5) : FVec Ideal S1024x256 .f32) i) : FVec Ideal S1024x256 .f32) := by
  refine (dats m hO 0 c).arrAt_eq_of_covers 12 _ (of_decide_eq_true (by sl_kernel_rfl)) fun t hf y => ?_
  obtain ⟨e0, e1, e2, e3, e4, e5, e6, e7, e8, e9, e10, e11, e12, e13, e14⟩ := places m hO me hme t
  blk_simp
  rw [after0_12]
  refine (congrFun (point m hO c t).2.1 y).trans ?_
  blk_point [iblk, eight, parts, V_main_arg1, V_main_arg2, V_main_arg3, V_main_arg4, V_main_arg5, e0, e1, e2, e3, e4, e5, e6, e7, e8, e9, e10, e12]

/-- The array of the first moment after the whole run. -/
theorem arr_m (hO : Ok m) (me : Fin 8) (hme : tbl m = word me) (c : Dev nD) :
    (dats m hO 0 c).arrAt 13 (cfgM m hO).N = (fun i => mom (parts (t := .bf16) me (m ((c : Thread nD τ).loc main_arg1) : FVec Ideal S8x1024x256 .bf16) (m ((c : Thread nD τ).loc main_arg2) : FVec Ideal S8x1024x256 .bf16) i) ((m ((c : Thread nD τ).loc main_arg4) : FVec Ideal S1024x256 .f32) i) : FVec Ideal S1024x256 .f32) := by
  refine (dats m hO 0 c).arrAt_eq_of_covers 13 _ (of_decide_eq_true (by sl_kernel_rfl)) fun t hf y => ?_
  obtain ⟨e0, e1, e2, e3, e4, e5, e6, e7, e8, e9, e10, e11, e12, e13, e14⟩ := places m hO me hme t
  blk_simp
  rw [after0_13]
  refine (congrFun (point m hO c t).2.2.1 y).trans ?_
  blk_point [iblk, eight, parts, V_main_arg1, V_main_arg2, V_main_arg3, V_main_arg4, V_main_arg5, e0, e1, e2, e3, e4, e5, e6, e7, e8, e9, e10, e13]

/-- The array of the second moment after the whole run. -/
theorem arr_v (hO : Ok m) (me : Fin 8) (hme : tbl m = word me) (c : Dev nD) :
    (dats m hO 0 c).arrAt 14 (cfgM m hO).N = (fun i => var (parts (t := .bf16) me (m ((c : Thread nD τ).loc main_arg1) : FVec Ideal S8x1024x256 .bf16) (m ((c : Thread nD τ).loc main_arg2) : FVec Ideal S8x1024x256 .bf16) i) ((m ((c : Thread nD τ).loc main_arg5) : FVec Ideal S1024x256 .f32) i) : FVec Ideal S1024x256 .f32) := by
  refine (dats m hO 0 c).arrAt_eq_of_covers 14 _ (of_decide_eq_true (by sl_kernel_rfl)) fun t hf y => ?_
  obtain ⟨e0, e1, e2, e3, e4, e5, e6, e7, e8, e9, e10, e11, e12, e13, e14⟩ := places m hO me hme t
  blk_simp
  rw [after0_14]
  refine (congrFun (point m hO c t).2.2.2 y).trans ?_
  blk_point [iblk, eight, parts, V_main_arg1, V_main_arg2, V_main_arg3, V_main_arg4, V_main_arg5, e0, e1, e2, e3, e4, e5, e6, e7, e8, e9, e10, e14]

end

/-- The precondition makes the table hold a device's number. -/
theorem word_of {F : FTy → Type} [FloatOps F] (m : (ℓ : Loc nD τ sig) → Buf (Elt F) ℓ) (c : Dev nD)
    (h : (Cert.Pre_device17.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)) : ∃ me : Fin 8, tbl m = word me := by
  have h := congrFun h ix0
  unfold Cert.Pre_device17.fn at h
  obtain ⟨me, hme⟩ := device_word _ h
  refine ⟨me, funext fun j => ?_⟩
  obtain rfl : c = 0 := Subsingleton.elim _ _
  fin_cases j
  exact funext fun y => (congrArg (m (((0 : Dev nD).tc : Thread nD τ).loc main_arg0))
    (funext fun a => by fin_cases a; exact Subsingleton.elim (α := Fin 1) _ _)).trans hme

/-- So every block lies inside its array. -/
theorem ok_of {F : FTy → Type} [FloatOps F] (m : (ℓ : Loc nD τ sig) → Buf (Elt F) ℓ) (me : Fin 8) (hme : tbl m = word me) : Ok m := by
  show ok0 (F := F) (tbl m)
  rw [hme]
  exact ok me

/-- The kernel's program runs to its end and leaves its arguments and everything else as they were. -/
theorem frame_ki : Cert.quiescent_Kernel17Ideal (hKernel17Ideal := Cert.Kernel17Ideal.Gen.facts) (hPre_device17 := Cert.Pre_device17.Gen.facts) := fun m g hp =>
  let ⟨me, hme⟩ := word_of m 0 (hp 0)
  Cert.Kernel17Ideal.Gen.frame m g (ok_of m me hme)

/-- The same of the kernel's own program. -/
theorem frame_k : Cert.quiescent_Kernel17 (hKernel17 := Cert.Kernel17.Gen.facts) (hPre_device17 := Cert.Pre_device17.Gen.facts) := fun m g hp =>
  let ⟨me, hme⟩ := word_of (F := Bits) m 0 (hp 0)
  Cert.Kernel17.Gen.frame m g (ok_of (F := Bits) m me hme)

/-- The reference runs to its end and leaves its arguments and everything else as they were. -/
theorem frame_r : Cert.quiescent_Reference17Ideal (hReference17Ideal := Cert.Reference17Ideal.Gen.facts) := fun m g _ =>
  (θ_run _ _ _).mono (fun r h => ⟨fun c => (h c).2.2.2.2, funext fun x => nomatch x.2⟩) (Cert.Reference17Ideal.Value.run (F := Ideal) m g)

/-- The same where the device's number is known to be one. -/
theorem frame_rp : Cert.quiescent_Reference17Ideal_pre_device17 (hReference17Ideal := Cert.Reference17Ideal.Gen.facts) (hPre_device17 := Cert.Pre_device17.Gen.facts) :=
  fun m g _ => frame_r m g trivial

/-- Kernel and reference compute the same results over the extended reals, for every input in which the device's number is one. -/
theorem algebraic : Cert.algebraic_Kernel17Ideal_Reference17Ideal (hKernel17Ideal := Cert.Kernel17Ideal.Gen.facts)
    (hReference17Ideal := Cert.Reference17Ideal.Gen.facts) (hPre_device17 := Cert.Pre_device17.Gen.facts) := by
  intro m g m' g' hp hagree
  obtain ⟨me, hme⟩ := word_of m 0 (hp 0)
  have hO : Ok m := ok_of m me hme
  refine ⟨fun c => (dats m hO 0 c).arrAt 11 (cfgM m hO).N, fun c => (dats m hO 0 c).arrAt 12 (cfgM m hO).N,
    fun c => (dats m hO 0 c).arrAt 13 (cfgM m hO).N, fun c => (dats m hO 0 c).arrAt 14 (cfgM m hO).N,
    (θ_run _ _ _).mono (fun r h c => ?_) (run_main m g hO), (θ_run _ _ _).mono (fun r h c => ?_) (Cert.Reference17Ideal.Value.run (F := Ideal) m' g')⟩
  · exact ⟨(h c).1 11, (h c).1 12, (h c).1 13, (h c).1 14,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 7).trans (((dats m hO 0 c).arrAt_in 7 rfl _).trans ((A_eq m hO c 7).trans (V_main_arg2 m c))),
      ((h c).1 8).trans (((dats m hO 0 c).arrAt_in 8 rfl _).trans ((A_eq m hO c 8).trans (V_main_arg3 m c))),
      ((h c).1 9).trans (((dats m hO 0 c).arrAt_in 9 rfl _).trans ((A_eq m hO c 9).trans (V_main_arg4 m c))),
      ((h c).1 10).trans (((dats m hO 0 c).arrAt_in 10 rfl _).trans ((A_eq m hO c 10).trans (V_main_arg5 m c)))⟩
  · obtain ⟨r0, r1, r2, r3, ra⟩ := h c
    obtain ⟨a0, a1, a2, a3, a4, a5⟩ := hagree c
    have hw : (m ((c : Thread nD τ).loc main_arg0) : IVec S1 32) = fun _ => BitVec.ofNat 32 me.val := by
      obtain rfl : c = 0 := Subsingleton.elim _ _
      exact congrFun hme 0
    rw [a0, a1, a2, ref_g me _ _ _ hw] at r0
    rw [a0, a1, a2, ref_g me _ _ _ hw, a3, a4, a5, ref_d] at r1
    rw [a0, a1, a2, ref_g me _ _ _ hw, a4, ref_m] at r2
    rw [a0, a1, a2, ref_g me _ _ _ hw, a5, ref_v] at r3
    exact ⟨r0.trans (arr_g m hO me hme c).symm, r1.trans (arr_d m hO me hme c).symm, r2.trans (arr_m m hO me hme c).symm,
      r3.trans (arr_v m hO me hme c).symm, ra⟩

end Cert.Ad17

end
-- ==== Proof.Ad18.lean ====
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Pre_device18
public import proofs.«01_k».proof.Proof.Parts

@[expose] public section

set_option maxRecDepth 16384

noncomputable section

namespace Cert.Ad18

open Idealize.ShloMosaic Idealize.ShloMosaic.TcCoe Idealize.SL.Sem Cert.Kernel18Ideal Cert.Kernel18Ideal.Gen Cert.Adam

/-- The table that holds one device's number. -/
def word {F : FTy → Type} (me : Fin 8) : pre0.Contents (Elt F) := fun
  | 0 => fun _ => BitVec.ofNat 32 me.val
  | ⟨_ + 1, h⟩ => absurd h (Nat.not_lt.2 (Nat.le_add_left _ _))

/-- With such a table every block lies inside its array. -/
theorem ok {F : FTy → Type} [FloatOps F] : ∀ me : Fin 8, ok0 (F := F) (word me) := of_decide_eq_true (by sl_kernel_rfl)

/-- Which block each grid point stages or writes: of the device's own part, of the seven other devices' parts, and of the other arrays. -/
theorem maps : ∀ me : Fin 8, ∀ t : Fin grid0.N, ix0 (F := Ideal) (word me) 0 (grid0.coords t) = ![me.val, t.val, 0]
    ∧ ix0 (F := Ideal) (word me) 1 (grid0.coords t) = ![(me.succAbove 0).val, t.val, 0]
    ∧ ix0 (F := Ideal) (word me) 2 (grid0.coords t) = ![(me.succAbove 1).val, t.val, 0]
    ∧ ix0 (F := Ideal) (word me) 3 (grid0.coords t) = ![(me.succAbove 2).val, t.val, 0]
    ∧ ix0 (F := Ideal) (word me) 4 (grid0.coords t) = ![(me.succAbove 3).val, t.val, 0]
    ∧ ix0 (F := Ideal) (word me) 5 (grid0.coords t) = ![(me.succAbove 4).val, t.val, 0]
    ∧ ix0 (F := Ideal) (word me) 6 (grid0.coords t) = ![(me.succAbove 5).val, t.val, 0]
    ∧ ix0 (F := Ideal) (word me) 7 (grid0.coords t) = ![(me.succAbove 6).val, t.val, 0]
    ∧ ix0 (F := Ideal) (word me) 8 (grid0.coords t) = ![t.val, 0]
    ∧ ix0 (F := Ideal) (word me) 9 (grid0.coords t) = ![t.val, 0]
    ∧ ix0 (F := Ideal) (word me) 10 (grid0.coords t) = ![t.val, 0]
    ∧ ix0 (F := Ideal) (word me) 11 (grid0.coords t) = ![t.val, 0]
    ∧ ix0 (F := Ideal) (word me) 12 (grid0.coords t) = ![t.val, 0]
    ∧ ix0 (F := Ideal) (word me) 13 (grid0.coords t) = ![t.val, 0]
    ∧ ix0 (F := Ideal) (word me) 14 (grid0.coords t) = ![t.val, 0] := by
  decide +kernel

section

variable (c : Dev nD) (i : grid0.Coords) (a0 : Memref sig .tc .vmem S1x512x256 .bf16) (h0 : a0.IsWhole) (a1 : Memref sig .tc .vmem S1x512x256 .bf16) (h1 : a1.IsWhole) (a2 : Memref sig .tc .vmem S1x512x256 .bf16) (h2 : a2.IsWhole) (a3 : Memref sig .tc .vmem S1x512x256 .bf16) (h3 : a3.IsWhole) (a4 : Memref sig .tc .vmem S1x512x256 .bf16) (h4 : a4.IsWhole) (a5 : Memref sig .tc .vmem S1x512x256 .bf16) (h5 : a5.IsWhole) (a6 : Memref sig .tc .vmem S1x512x256 .bf16) (h6 : a6.IsWhole) (a7 : Memref sig .tc .vmem S1x512x256 .bf16) (h7 : a7.IsWhole) (a8 : Memref sig .tc .vmem S512x256 .f32) (h8 : a8.IsWhole) (a9 : Memref sig .tc .vmem S512x256 .f32) (h9 : a9.IsWhole) (a10 : Memref sig .tc .vmem S512x256 .f32) (h10 : a10.IsWhole) (a11 : Memref sig .tc .vmem S512x256 .f32) (h11 : a11.IsWhole) (a12 : Memref sig .tc .vmem S512x256 .f32) (h12 : a12.IsWhole) (a13 : Memref sig .tc .vmem S512x256 .f32) (h13 : a13.IsWhole) (a14 : Memref sig .tc .vmem S512x256 .f32) (h14 : a14.IsWhole)
  (x0 x1 x2 x3 x4 x5 x6 x7 : FVec Ideal S1x512x256 .bf16) (w m v : FVec Ideal S512x256 .f32)

/-- Every store of one trip is a block of that output's function of the whole block. -/
theorem trip (a : Memref sig .tc .smem S1 .i32) (h : a.IsWhole) (k : Fin k0_t1_loop.trips) :
    let L := tripL_k0_t1 (F := Ideal) Variants.none c none i a h a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h0.read_unread, h1.read_unread, h2.read_unread, h3.read_unread, h4.read_unread, h5.read_unread, h6.read_unread, h7.read_unread, h8.read_unread, h9.read_unread, h10.read_unread]
  refine ⟨⟨fun x => ?_, trivial⟩, ⟨fun x => ?_, trivial⟩, ⟨fun x => ?_, trivial⟩, ⟨fun x => ?_, trivial⟩⟩
  · dsimp only
    refine (strip_g slices_S16x256_o0_0_S8x256 slices_S16x256_o8_0_S8x256 shapeCasts_S1x16x256_S16x256 bitsLt_bf16_f32 concatenates_S8x256_S8x256_S16x256_d0 _ _ _ _ _ _ _ _ x).trans ?_
    exact eight_strip _ _ x0 x1 x2 x3 x4 x5 x6 x7 x
  · dsimp only
    refine (strip_d slices_S16x256_o0_0_S8x256 slices_S16x256_o8_0_S8x256 shapeCasts_S1x16x256_S16x256 bitsLt_bf16_f32 concatenates_S8x256_S8x256_S16x256_d0 _ _ _ _ _ _ _ _ _ _ _ x).trans (congrArg (fun z => delta z _ _ _) ?_)
    exact eight_strip _ _ x0 x1 x2 x3 x4 x5 x6 x7 x
  · dsimp only
    refine (strip_m slices_S16x256_o0_0_S8x256 slices_S16x256_o8_0_S8x256 shapeCasts_S1x16x256_S16x256 bitsLt_bf16_f32 concatenates_S8x256_S8x256_S16x256_d0 _ _ _ _ _ _ _ _ _ x).trans (congrArg (fun z => mom z _) ?_)
    exact eight_strip _ _ x0 x1 x2 x3 x4 x5 x6 x7 x
  · dsimp only
    refine (strip_v slices_S16x256_o0_0_S8x256 slices_S16x256_o8_0_S8x256 shapeCasts_S1x16x256_S16x256 bitsLt_bf16_f32 concatenates_S8x256_S8x256_S16x256_d0 _ _ _ _ _ _ _ _ _ x).trans (congrArg (fun z => var z _) ?_)
    exact eight_strip _ _ x0 x1 x2 x3 x4 x5 x6 x7 x

/-- What a grid point leaves in the four output blocks. -/
theorem outs (xt : TbBuf0 (F := Ideal) c tbM0_0) :
    out0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => eight x0 x1 x2 x3 x4 x5 x6 x7 j)
    ∧ out0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => delta (eight x0 x1 x2 x3 x4 x5 x6 x7 j) (w j) (m j) (v j))
    ∧ out0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => mom (eight x0 x1 x2 x3 x4 x5 x6 x7 j) (m j))
    ∧ out0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => var (eight x0 x1 x2 x3 x4 x5 x6 x7 j) (v j)) := by
  have hp := good _ _ _ _ _ _ rfl (pb_k0_t1_succ (F := Ideal) Variants.none c none i tbM0_0 htbM0_0 a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v))
    (trip c i a0 h0 a1 h1 a2 h2 a3 h3 a4 h4 a5 h5 a6 h6 a7 h7 a8 h8 a9 h9 a10 h10 a11 h11 a12 h12 a13 h13 a14 h14 x0 x1 x2 x3 x4 x5 x6 x7 w m v tbM0_0 htbM0_0) _ (le_refl _)
  refine ⟨?_, ?_, ?_, ?_⟩
  · exact block _ _ _ _ (cover0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.1
  · exact block _ _ _ _ (cover0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.1
  · exact block _ _ _ _ (cover0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.1
  · exact block _ _ _ _ (cover0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.2

end

section

variable (m : (ℓ : Loc nD τ sig) → Buf (Elt Ideal) ℓ)

/-- Which block each grid point stages or writes once the table in memory is known. -/
theorem places (hO : Ok m) (me : Fin 8) (hme : tbl m = word me) (t : Fin grid0.N) : ((cfgM m hO).win 0).index t = ![me.val, t.val, 0]
    ∧ ((cfgM m hO).win 1).index t = ![(me.succAbove 0).val, t.val, 0]
    ∧ ((cfgM m hO).win 2).index t = ![(me.succAbove 1).val, t.val, 0]
    ∧ ((cfgM m hO).win 3).index t = ![(me.succAbove 2).val, t.val, 0]
    ∧ ((cfgM m hO).win 4).index t = ![(me.succAbove 3).val, t.val, 0]
    ∧ ((cfgM m hO).win 5).index t = ![(me.succAbove 4).val, t.val, 0]
    ∧ ((cfgM m hO).win 6).index t = ![(me.succAbove 5).val, t.val, 0]
    ∧ ((cfgM m hO).win 7).index t = ![(me.succAbove 6).val, t.val, 0]
    ∧ ((cfgM m hO).win 8).index t = ![t.val, 0]
    ∧ ((cfgM m hO).win 9).index t = ![t.val, 0]
    ∧ ((cfgM m hO).win 10).index t = ![t.val, 0]
    ∧ ((cfgM m hO).win 11).index t = ![t.val, 0]
    ∧ ((cfgM m hO).win 12).index t = ![t.val, 0]
    ∧ ((cfgM m hO).win 13).index t = ![t.val, 0]
    ∧ ((cfgM m hO).win 14).index t = ![t.val, 0] := by
  have e := maps me t
  rw [← hme] at e
  exact e

/-- What a grid point leaves in the four output blocks, from the blocks it staged. -/
theorem point (hO : Ok m) (c : Dev nD) (t : Fin (cfgM m hO).N) :
    (outsAt0 m hO c t).1 = (fun j => eight (t := .bf16) (iblk m hO c 0 t : FVec Ideal S1x512x256 .bf16) (iblk m hO c 1 t : FVec Ideal S1x512x256 .bf16) (iblk m hO c 2 t : FVec Ideal S1x512x256 .bf16) (iblk m hO c 3 t : FVec Ideal S1x512x256 .bf16) (iblk m hO c 4 t : FVec Ideal S1x512x256 .bf16) (iblk m hO c 5 t : FVec Ideal S1x512x256 .bf16) (iblk m hO c 6 t : FVec Ideal S1x512x256 .bf16) (iblk m hO c 7 t : FVec Ideal S1x512x256 .bf16) j : FVec Ideal S512x256 .f32)
    ∧ (outsAt0 m hO c t).2.1 = (fun j => delta (eight (t := .bf16) (iblk m hO c 0 t : FVec Ideal S1x512x256 .bf16) (iblk m hO c 1 t : FVec Ideal S1x512x256 .bf16) (iblk m hO c 2 t : FVec Ideal S1x512x256 .bf16) (iblk m hO c 3 t : FVec Ideal S1x512x256 .bf16) (iblk m hO c 4 t : FVec Ideal S1x512x256 .bf16) (iblk m hO c 5 t : FVec Ideal S1x512x256 .bf16) (iblk m hO c 6 t : FVec Ideal S1x512x256 .bf16) (iblk m hO c 7 t : FVec Ideal S1x512x256 .bf16) j) ((iblk m hO c 8 t : FVec Ideal S512x256 .f32) j) ((iblk m hO c 9 t : FVec Ideal S512x256 .f32) j) ((iblk m hO c 10 t : FVec Ideal S512x256 .f32) j) : FVec Ideal S512x256 .f32)
    ∧ (outsAt0 m hO c t).2.2.1 = (fun j => mom (eight (t := .bf16) (iblk m hO c 0 t : FVec Ideal S1x512x256 .bf16) (iblk m hO c 1 t : FVec Ideal S1x512x256 .bf16) (iblk m hO c 2 t : FVec Ideal S1x512x256 .bf16) (iblk m hO c 3 t : FVec Ideal S1x512x256 .bf16) (iblk m hO c 4 t : FVec Ideal S1x512x256 .bf16) (iblk m hO c 5 t : FVec Ideal S1x512x256 .bf16) (iblk m hO c 6 t : FVec Ideal S1x512x256 .bf16) (iblk m hO c 7 t : FVec Ideal S1x512x256 .bf16) j) ((iblk m hO c 9 t : FVec Ideal S512x256 .f32) j) : FVec Ideal S512x256 .f32)
    ∧ (outsAt0 m hO c t).2.2.2 = (fun j => var (eight (t := .bf16) (iblk m hO c 0 t : FVec Ideal S1x512x256 .bf16) (iblk m hO c 1 t : FVec Ideal S1x512x256 .bf16) (iblk m hO c 2 t : FVec Ideal S1x512x256 .bf16) (iblk m hO c 3 t : FVec Ideal S1x512x256 .bf16) (iblk m hO c 4 t : FVec Ideal S1x512x256 .bf16) (iblk m hO c 5 t : FVec Ideal S1x512x256 .bf16) (iblk m hO c 6 t : FVec Ideal S1x512x256 .bf16) (iblk m hO c 7 t : FVec Ideal S1x512x256 .bf16) j) ((iblk m hO c 10 t : FVec Ideal S512x256 .f32) j) : FVec Ideal S512x256 .f32) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- The array of the gradient after the whole run. -/
theorem arr_g (hO : Ok m) (me : Fin 8) (hme : tbl m = word me) (c : Dev nD) :
    (dats m hO 0 c).arrAt 11 (cfgM m hO).N = (fun i => parts (t := .bf16) me (m ((c : Thread nD τ).loc main_arg1) : FVec Ideal S8x512x256 .bf16) (m ((c : Thread nD τ).loc main_arg2) : FVec Ideal S8x512x256 .bf16) i : FVec Ideal S512x256 .f32) := by
  refine (dats m hO 0 c).arrAt_eq_of_covers 11 _ (of_decide_eq_true (by sl_kernel_rfl)) fun t hf y => ?_
  obtain ⟨e0, e1, e2, e3, e4, e5, e6, e7, e8, e9, e10, e11, e12, e13, e14⟩ := places m hO me hme t
  blk_simp
  rw [after0_11]
  refine (congrFun (point m hO c t).1 y).trans ?_
  blk_point [iblk, eight, parts, V_main_arg1, V_main_arg2, V_main_arg3, V_main_arg4, V_main_arg5, e0, e1, e2, e3, e4, e5, e6, e7, e8, e9, e10, e11]

/-- The array of the change of the weight after the whole run. -/
theorem arr_d (hO : Ok m) (me : Fin 8) (hme : tbl m = word me) (c : Dev nD) :
    (dats m hO 0 c).arrAt 12 (cfgM m hO).N = (fun i => delta (parts (t := .bf16) me (m ((c : Thread nD τ).loc main_arg1) : FVec Ideal S8x512x256 .bf16) (m ((c : Thread nD τ).loc main_arg2) : FVec Ideal S8x512x256 .bf16) i) ((m ((c : Thread nD τ).loc main_arg3) : FVec Ideal S512x256 .f32) i) ((m ((c : Thread nD τ).loc main_arg4) : FVec Ideal S512x256 .f32) i) ((m ((c : Thread nD τ).loc main_arg5) : FVec Ideal S512x256 .f32) i) : FVec Ideal S512x256 .f32) := by
  refine (dats m hO 0 c).arrAt_eq_of_covers 12 _ (of_decide_eq_true (by sl_kernel_rfl)) fun t hf y => ?_
  obtain ⟨e0, e1, e2, e3, e4, e5, e6, e7, e8, e9, e10, e11, e12, e13, e14⟩ := places m hO me hme t
  blk_simp
  rw [after0_12]
  refine (congrFun (point m hO c t).2.1 y).trans ?_
  blk_point [iblk, eight, parts, V_main_arg1, V_main_arg2, V_main_arg3, V_main_arg4, V_main_arg5, e0, e1, e2, e3, e4, e5, e6, e7, e8, e9, e10, e12]

/-- The array of the first moment after the whole run. -/
theorem arr_m (hO : Ok m) (me : Fin 8) (hme : tbl m = word me) (c : Dev nD) :
    (dats m hO 0 c).arrAt 13 (cfgM m hO).N = (fun i => mom (parts (t := .bf16) me (m ((c : Thread nD τ).loc main_arg1) : FVec Ideal S8x512x256 .bf16) (m ((c : Thread nD τ).loc main_arg2) : FVec Ideal S8x512x256 .bf16) i) ((m ((c : Thread nD τ).loc main_arg4) : FVec Ideal S512x256 .f32) i) : FVec Ideal S512x256 .f32) := by
  refine (dats m hO 0 c).arrAt_eq_of_covers 13 _ (of_decide_eq_true (by sl_kernel_rfl)) fun t hf y => ?_
  obtain ⟨e0, e1, e2, e3, e4, e5, e6, e7, e8, e9, e10, e11, e12, e13, e14⟩ := places m hO me hme t
  blk_simp
  rw [after0_13]
  refine (congrFun (point m hO c t).2.2.1 y).trans ?_
  blk_point [iblk, eight, parts, V_main_arg1, V_main_arg2, V_main_arg3, V_main_arg4, V_main_arg5, e0, e1, e2, e3, e4, e5, e6, e7, e8, e9, e10, e13]

/-- The array of the second moment after the whole run. -/
theorem arr_v (hO : Ok m) (me : Fin 8) (hme : tbl m = word me) (c : Dev nD) :
    (dats m hO 0 c).arrAt 14 (cfgM m hO).N = (fun i => var (parts (t := .bf16) me (m ((c : Thread nD τ).loc main_arg1) : FVec Ideal S8x512x256 .bf16) (m ((c : Thread nD τ).loc main_arg2) : FVec Ideal S8x512x256 .bf16) i) ((m ((c : Thread nD τ).loc main_arg5) : FVec Ideal S512x256 .f32) i) : FVec Ideal S512x256 .f32) := by
  refine (dats m hO 0 c).arrAt_eq_of_covers 14 _ (of_decide_eq_true (by sl_kernel_rfl)) fun t hf y => ?_
  obtain ⟨e0, e1, e2, e3, e4, e5, e6, e7, e8, e9, e10, e11, e12, e13, e14⟩ := places m hO me hme t
  blk_simp
  rw [after0_14]
  refine (congrFun (point m hO c t).2.2.2 y).trans ?_
  blk_point [iblk, eight, parts, V_main_arg1, V_main_arg2, V_main_arg3, V_main_arg4, V_main_arg5, e0, e1, e2, e3, e4, e5, e6, e7, e8, e9, e10, e14]

end

/-- The precondition makes the table hold a device's number. -/
theorem word_of {F : FTy → Type} [FloatOps F] (m : (ℓ : Loc nD τ sig) → Buf (Elt F) ℓ) (c : Dev nD)
    (h : (Cert.Pre_device18.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)) : ∃ me : Fin 8, tbl m = word me := by
  have h := congrFun h ix0
  unfold Cert.Pre_device18.fn at h
  obtain ⟨me, hme⟩ := device_word _ h
  refine ⟨me, funext fun j => ?_⟩
  obtain rfl : c = 0 := Subsingleton.elim _ _
  fin_cases j
  exact funext fun y => (congrArg (m (((0 : Dev nD).tc : Thread nD τ).loc main_arg0))
    (funext fun a => by fin_cases a; exact Subsingleton.elim (α := Fin 1) _ _)).trans hme

/-- So every block lies inside its array. -/
theorem ok_of {F : FTy → Type} [FloatOps F] (m : (ℓ : Loc nD τ sig) → Buf (Elt F) ℓ) (me : Fin 8) (hme : tbl m = word me) : Ok m := by
  show ok0 (F := F) (tbl m)
  rw [hme]
  exact ok me

/-- The kernel's program runs to its end and leaves its arguments and everything else as they were. -/
theorem frame_ki : Cert.quiescent_Kernel18Ideal (hKernel18Ideal := Cert.Kernel18Ideal.Gen.facts) (hPre_device18 := Cert.Pre_device18.Gen.facts) := fun m g hp =>
  let ⟨me, hme⟩ := word_of m 0 (hp 0)
  Cert.Kernel18Ideal.Gen.frame m g (ok_of m me hme)

/-- The same of the kernel's own program. -/
theorem frame_k : Cert.quiescent_Kernel18 (hKernel18 := Cert.Kernel18.Gen.facts) (hPre_device18 := Cert.Pre_device18.Gen.facts) := fun m g hp =>
  let ⟨me, hme⟩ := word_of (F := Bits) m 0 (hp 0)
  Cert.Kernel18.Gen.frame m g (ok_of (F := Bits) m me hme)

/-- The reference runs to its end and leaves its arguments and everything else as they were. -/
theorem frame_r : Cert.quiescent_Reference18Ideal (hReference18Ideal := Cert.Reference18Ideal.Gen.facts) := fun m g _ =>
  (θ_run _ _ _).mono (fun r h => ⟨fun c => (h c).2.2.2.2, funext fun x => nomatch x.2⟩) (Cert.Reference18Ideal.Value.run (F := Ideal) m g)

/-- The same where the device's number is known to be one. -/
theorem frame_rp : Cert.quiescent_Reference18Ideal_pre_device18 (hReference18Ideal := Cert.Reference18Ideal.Gen.facts) (hPre_device18 := Cert.Pre_device18.Gen.facts) :=
  fun m g _ => frame_r m g trivial

/-- Kernel and reference compute the same results over the extended reals, for every input in which the device's number is one. -/
theorem algebraic : Cert.algebraic_Kernel18Ideal_Reference18Ideal (hKernel18Ideal := Cert.Kernel18Ideal.Gen.facts)
    (hReference18Ideal := Cert.Reference18Ideal.Gen.facts) (hPre_device18 := Cert.Pre_device18.Gen.facts) := by
  intro m g m' g' hp hagree
  obtain ⟨me, hme⟩ := word_of m 0 (hp 0)
  have hO : Ok m := ok_of m me hme
  refine ⟨fun c => (dats m hO 0 c).arrAt 11 (cfgM m hO).N, fun c => (dats m hO 0 c).arrAt 12 (cfgM m hO).N,
    fun c => (dats m hO 0 c).arrAt 13 (cfgM m hO).N, fun c => (dats m hO 0 c).arrAt 14 (cfgM m hO).N,
    (θ_run _ _ _).mono (fun r h c => ?_) (run_main m g hO), (θ_run _ _ _).mono (fun r h c => ?_) (Cert.Reference18Ideal.Value.run (F := Ideal) m' g')⟩
  · exact ⟨(h c).1 11, (h c).1 12, (h c).1 13, (h c).1 14,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 7).trans (((dats m hO 0 c).arrAt_in 7 rfl _).trans ((A_eq m hO c 7).trans (V_main_arg2 m c))),
      ((h c).1 8).trans (((dats m hO 0 c).arrAt_in 8 rfl _).trans ((A_eq m hO c 8).trans (V_main_arg3 m c))),
      ((h c).1 9).trans (((dats m hO 0 c).arrAt_in 9 rfl _).trans ((A_eq m hO c 9).trans (V_main_arg4 m c))),
      ((h c).1 10).trans (((dats m hO 0 c).arrAt_in 10 rfl _).trans ((A_eq m hO c 10).trans (V_main_arg5 m c)))⟩
  · obtain ⟨r0, r1, r2, r3, ra⟩ := h c
    obtain ⟨a0, a1, a2, a3, a4, a5⟩ := hagree c
    have hw : (m ((c : Thread nD τ).loc main_arg0) : IVec S1 32) = fun _ => BitVec.ofNat 32 me.val := by
      obtain rfl : c = 0 := Subsingleton.elim _ _
      exact congrFun hme 0
    rw [a0, a1, a2, ref_g me _ _ _ hw] at r0
    rw [a0, a1, a2, ref_g me _ _ _ hw, a3, a4, a5, ref_d] at r1
    rw [a0, a1, a2, ref_g me _ _ _ hw, a4, ref_m] at r2
    rw [a0, a1, a2, ref_g me _ _ _ hw, a5, ref_v] at r3
    exact ⟨r0.trans (arr_g m hO me hme c).symm, r1.trans (arr_d m hO me hme c).symm, r2.trans (arr_m m hO me hme c).symm,
      r3.trans (arr_v m hO me hme c).symm, ra⟩

end Cert.Ad18

end
-- ==== Proof.Ad19.lean ====
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Pre_device19
public import proofs.«01_k».proof.Proof.Parts

@[expose] public section

set_option maxRecDepth 16384

noncomputable section

namespace Cert.Ad19

open Idealize.ShloMosaic Idealize.ShloMosaic.TcCoe Idealize.SL.Sem Cert.Kernel19Ideal Cert.Kernel19Ideal.Gen Cert.Adam

/-- The table that holds one device's number. -/
def word {F : FTy → Type} (me : Fin 8) : pre0.Contents (Elt F) := fun
  | 0 => fun _ => BitVec.ofNat 32 me.val
  | ⟨_ + 1, h⟩ => absurd h (Nat.not_lt.2 (Nat.le_add_left _ _))

/-- With such a table every block lies inside its array. -/
theorem ok {F : FTy → Type} [FloatOps F] : ∀ me : Fin 8, ok0 (F := F) (word me) := of_decide_eq_true (by sl_kernel_rfl)

/-- Which block each grid point stages or writes: of the device's own part, of the seven other devices' parts, and of the other arrays. -/
theorem maps : ∀ me : Fin 8, ∀ t : Fin grid0.N, ix0 (F := Ideal) (word me) 0 (grid0.coords t) = ![me.val, t.val, 0]
    ∧ ix0 (F := Ideal) (word me) 1 (grid0.coords t) = ![(me.succAbove 0).val, t.val, 0]
    ∧ ix0 (F := Ideal) (word me) 2 (grid0.coords t) = ![(me.succAbove 1).val, t.val, 0]
    ∧ ix0 (F := Ideal) (word me) 3 (grid0.coords t) = ![(me.succAbove 2).val, t.val, 0]
    ∧ ix0 (F := Ideal) (word me) 4 (grid0.coords t) = ![(me.succAbove 3).val, t.val, 0]
    ∧ ix0 (F := Ideal) (word me) 5 (grid0.coords t) = ![(me.succAbove 4).val, t.val, 0]
    ∧ ix0 (F := Ideal) (word me) 6 (grid0.coords t) = ![(me.succAbove 5).val, t.val, 0]
    ∧ ix0 (F := Ideal) (word me) 7 (grid0.coords t) = ![(me.succAbove 6).val, t.val, 0]
    ∧ ix0 (F := Ideal) (word me) 8 (grid0.coords t) = ![t.val, 0]
    ∧ ix0 (F := Ideal) (word me) 9 (grid0.coords t) = ![t.val, 0]
    ∧ ix0 (F := Ideal) (word me) 10 (grid0.coords t) = ![t.val, 0]
    ∧ ix0 (F := Ideal) (word me) 11 (grid0.coords t) = ![t.val, 0]
    ∧ ix0 (F := Ideal) (word me) 12 (grid0.coords t) = ![t.val, 0]
    ∧ ix0 (F := Ideal) (word me) 13 (grid0.coords t) = ![t.val, 0]
    ∧ ix0 (F := Ideal) (word me) 14 (grid0.coords t) = ![t.val, 0] := by
  decide +kernel

section

variable (c : Dev nD) (i : grid0.Coords) (a0 : Memref sig .tc .vmem S1x64x512 .bf16) (h0 : a0.IsWhole) (a1 : Memref sig .tc .vmem S1x64x512 .bf16) (h1 : a1.IsWhole) (a2 : Memref sig .tc .vmem S1x64x512 .bf16) (h2 : a2.IsWhole) (a3 : Memref sig .tc .vmem S1x64x512 .bf16) (h3 : a3.IsWhole) (a4 : Memref sig .tc .vmem S1x64x512 .bf16) (h4 : a4.IsWhole) (a5 : Memref sig .tc .vmem S1x64x512 .bf16) (h5 : a5.IsWhole) (a6 : Memref sig .tc .vmem S1x64x512 .bf16) (h6 : a6.IsWhole) (a7 : Memref sig .tc .vmem S1x64x512 .bf16) (h7 : a7.IsWhole) (a8 : Memref sig .tc .vmem S64x512 .f32) (h8 : a8.IsWhole) (a9 : Memref sig .tc .vmem S64x512 .f32) (h9 : a9.IsWhole) (a10 : Memref sig .tc .vmem S64x512 .f32) (h10 : a10.IsWhole) (a11 : Memref sig .tc .vmem S64x512 .f32) (h11 : a11.IsWhole) (a12 : Memref sig .tc .vmem S64x512 .f32) (h12 : a12.IsWhole) (a13 : Memref sig .tc .vmem S64x512 .f32) (h13 : a13.IsWhole) (a14 : Memref sig .tc .vmem S64x512 .f32) (h14 : a14.IsWhole)
  (x0 x1 x2 x3 x4 x5 x6 x7 : FVec Ideal S1x64x512 .bf16) (w m v : FVec Ideal S64x512 .f32)

/-- Every store of one trip is a block of that output's function of the whole block. -/
theorem trip (a : Memref sig .tc .smem S1 .i32) (h : a.IsWhole) (k : Fin k0_t1_loop.trips) :
    let L := tripL_k0_t1 (F := Ideal) Variants.none c none i a h a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v)
    View.PiecesOf (fun j => eight x0 x1 x2 x3 x4 x5 x6 x7 j) (L k).1
    ∧ View.PiecesOf (fun j => delta (eight x0 x1 x2 x3 x4 x5 x6 x7 j) (w j) (m j) (v j)) (L k).2.1
    ∧ View.PiecesOf (fun j => mom (eight x0 x1 x2 x3 x4 x5 x6 x7 j) (m j)) (L k).2.2.1
    ∧ View.PiecesOf (fun j => var (eight x0 x1 x2 x3 x4 x5 x6 x7 j) (v j)) (L k).2.2.2 := by
  dsimp only
  unfold trip_k0_t1
  dsimp only
  sl_unfold_words
  simp only [View.readAt_eq_ld, h0.read_unread, h1.read_unread, h2.read_unread, h3.read_unread, h4.read_unread, h5.read_unread, h6.read_unread, h7.read_unread, h8.read_unread, h9.read_unread, h10.read_unread]
  refine ⟨⟨fun x => ?_, trivial⟩, ⟨fun x => ?_, trivial⟩, ⟨fun x => ?_, trivial⟩, ⟨fun x => ?_, trivial⟩⟩
  · dsimp only
    refine (strip_g slices_S16x512_o0_0_S8x512 slices_S16x512_o8_0_S8x512 shapeCasts_S1x16x512_S16x512 bitsLt_bf16_f32 concatenates_S8x512_S8x512_S16x512_d0 _ _ _ _ _ _ _ _ x).trans ?_
    exact eight_strip _ _ x0 x1 x2 x3 x4 x5 x6 x7 x
  · dsimp only
    refine (strip_d slices_S16x512_o0_0_S8x512 slices_S16x512_o8_0_S8x512 shapeCasts_S1x16x512_S16x512 bitsLt_bf16_f32 concatenates_S8x512_S8x512_S16x512_d0 _ _ _ _ _ _ _ _ _ _ _ x).trans (congrArg (fun z => delta z _ _ _) ?_)
    exact eight_strip _ _ x0 x1 x2 x3 x4 x5 x6 x7 x
  · dsimp only
    refine (strip_m slices_S16x512_o0_0_S8x512 slices_S16x512_o8_0_S8x512 shapeCasts_S1x16x512_S16x512 bitsLt_bf16_f32 concatenates_S8x512_S8x512_S16x512_d0 _ _ _ _ _ _ _ _ _ x).trans (congrArg (fun z => mom z _) ?_)
    exact eight_strip _ _ x0 x1 x2 x3 x4 x5 x6 x7 x
  · dsimp only
    refine (strip_v slices_S16x512_o0_0_S8x512 slices_S16x512_o8_0_S8x512 shapeCasts_S1x16x512_S16x512 bitsLt_bf16_f32 concatenates_S8x512_S8x512_S16x512_d0 _ _ _ _ _ _ _ _ _ x).trans (congrArg (fun z => var z _) ?_)
    exact eight_strip _ _ x0 x1 x2 x3 x4 x5 x6 x7 x

/-- What a grid point leaves in the four output blocks. -/
theorem outs (xt : TbBuf0 (F := Ideal) c tbM0_0) :
    out0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => eight x0 x1 x2 x3 x4 x5 x6 x7 j)
    ∧ out0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => delta (eight x0 x1 x2 x3 x4 x5 x6 x7 j) (w j) (m j) (v j))
    ∧ out0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => mom (eight x0 x1 x2 x3 x4 x5 x6 x7 j) (m j))
    ∧ out0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt = (fun j => var (eight x0 x1 x2 x3 x4 x5 x6 x7 j) (v j)) := by
  have hp := good _ _ _ _ _ _ rfl (pb_k0_t1_succ (F := Ideal) Variants.none c none i tbM0_0 htbM0_0 a0 h0 a1 h1 a2 h2 a3 h3 a4 h4 a5 h5 a6 h6 a7 h7 a8 h8 a9 h9 a10 h10 a11 h11 a12 h12 a13 h13 a14 h14
      (h0.unread x0) (h1.unread x1) (h2.unread x2) (h3.unread x3) (h4.unread x4) (h5.unread x5) (h6.unread x6) (h7.unread x7) (h8.unread w) (h9.unread m) (h10.unread v))
    (trip c i a0 h0 a1 h1 a2 h2 a3 h3 a4 h4 a5 h5 a6 h6 a7 h7 a8 h8 a9 h9 a10 h10 a11 h11 a12 h12 a13 h13 a14 h14 x0 x1 x2 x3 x4 x5 x6 x7 w m v tbM0_0 htbM0_0) _ (le_refl _)
  refine ⟨?_, ?_, ?_, ?_⟩
  · exact block _ _ _ _ (cover0_A_11 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.1
  · exact block _ _ _ _ (cover0_A_12 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.1
  · exact block _ _ _ _ (cover0_A_13 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.1
  · exact block _ _ _ _ (cover0_A_14 (F := Ideal) c i a0 h0 a1 h1 a2 h2 a3 h3 a4 h4 a5 h5 a6 h6 a7 h7 a8 h8 a9 h9 a10 h10 a11 h11 a12 h12 a13 h13 a14 h14 x0 x1 x2 x3 x4 x5 x6 x7 w m v xt) hp.2.2.2

end

section

variable (m : (ℓ : Loc nD τ sig) → Buf (Elt Ideal) ℓ)

/-- Which block each grid point stages or writes once the table in memory is known. -/
theorem places (hO : Ok m) (me : Fin 8) (hme : tbl m = word me) (t : Fin grid0.N) : ((cfgM m hO).win 0).index t = ![me.val, t.val, 0]
    ∧ ((cfgM m hO).win 1).index t = ![(me.succAbove 0).val, t.val, 0]
    ∧ ((cfgM m hO).win 2).index t = ![(me.succAbove 1).val, t.val, 0]
    ∧ ((cfgM m hO).win 3).index t = ![(me.succAbove 2).val, t.val, 0]
    ∧ ((cfgM m hO).win 4).index t = ![(me.succAbove 3).val, t.val, 0]
    ∧ ((cfgM m hO).win 5).index t = ![(me.succAbove 4).val, t.val, 0]
    ∧ ((cfgM m hO).win 6).index t = ![(me.succAbove 5).val, t.val, 0]
    ∧ ((cfgM m hO).win 7).index t = ![(me.succAbove 6).val, t.val, 0]
    ∧ ((cfgM m hO).win 8).index t = ![t.val, 0]
    ∧ ((cfgM m hO).win 9).index t = ![t.val, 0]
    ∧ ((cfgM m hO).win 10).index t = ![t.val, 0]
    ∧ ((cfgM m hO).win 11).index t = ![t.val, 0]
    ∧ ((cfgM m hO).win 12).index t = ![t.val, 0]
    ∧ ((cfgM m hO).win 13).index t = ![t.val, 0]
    ∧ ((cfgM m hO).win 14).index t = ![t.val, 0] := by
  have e := maps me t
  rw [← hme] at e
  exact e

/-- What a grid point leaves in the four output blocks, from the blocks it staged. -/
theorem point (hO : Ok m) (c : Dev nD) (t : Fin (cfgM m hO).N) :
    (outsAt0 m hO c t).1 = (fun j => eight (t := .bf16) (iblk m hO c 0 t : FVec Ideal S1x64x512 .bf16) (iblk m hO c 1 t : FVec Ideal S1x64x512 .bf16) (iblk m hO c 2 t : FVec Ideal S1x64x512 .bf16) (iblk m hO c 3 t : FVec Ideal S1x64x512 .bf16) (iblk m hO c 4 t : FVec Ideal S1x64x512 .bf16) (iblk m hO c 5 t : FVec Ideal S1x64x512 .bf16) (iblk m hO c 6 t : FVec Ideal S1x64x512 .bf16) (iblk m hO c 7 t : FVec Ideal S1x64x512 .bf16) j : FVec Ideal S64x512 .f32)
    ∧ (outsAt0 m hO c t).2.1 = (fun j => delta (eight (t := .bf16) (iblk m hO c 0 t : FVec Ideal S1x64x512 .bf16) (iblk m hO c 1 t : FVec Ideal S1x64x512 .bf16) (iblk m hO c 2 t : FVec Ideal S1x64x512 .bf16) (iblk m hO c 3 t : FVec Ideal S1x64x512 .bf16) (iblk m hO c 4 t : FVec Ideal S1x64x512 .bf16) (iblk m hO c 5 t : FVec Ideal S1x64x512 .bf16) (iblk m hO c 6 t : FVec Ideal S1x64x512 .bf16) (iblk m hO c 7 t : FVec Ideal S1x64x512 .bf16) j) ((iblk m hO c 8 t : FVec Ideal S64x512 .f32) j) ((iblk m hO c 9 t : FVec Ideal S64x512 .f32) j) ((iblk m hO c 10 t : FVec Ideal S64x512 .f32) j) : FVec Ideal S64x512 .f32)
    ∧ (outsAt0 m hO c t).2.2.1 = (fun j => mom (eight (t := .bf16) (iblk m hO c 0 t : FVec Ideal S1x64x512 .bf16) (iblk m hO c 1 t : FVec Ideal S1x64x512 .bf16) (iblk m hO c 2 t : FVec Ideal S1x64x512 .bf16) (iblk m hO c 3 t : FVec Ideal S1x64x512 .bf16) (iblk m hO c 4 t : FVec Ideal S1x64x512 .bf16) (iblk m hO c 5 t : FVec Ideal S1x64x512 .bf16) (iblk m hO c 6 t : FVec Ideal S1x64x512 .bf16) (iblk m hO c 7 t : FVec Ideal S1x64x512 .bf16) j) ((iblk m hO c 9 t : FVec Ideal S64x512 .f32) j) : FVec Ideal S64x512 .f32)
    ∧ (outsAt0 m hO c t).2.2.2 = (fun j => var (eight (t := .bf16) (iblk m hO c 0 t : FVec Ideal S1x64x512 .bf16) (iblk m hO c 1 t : FVec Ideal S1x64x512 .bf16) (iblk m hO c 2 t : FVec Ideal S1x64x512 .bf16) (iblk m hO c 3 t : FVec Ideal S1x64x512 .bf16) (iblk m hO c 4 t : FVec Ideal S1x64x512 .bf16) (iblk m hO c 5 t : FVec Ideal S1x64x512 .bf16) (iblk m hO c 6 t : FVec Ideal S1x64x512 .bf16) (iblk m hO c 7 t : FVec Ideal S1x64x512 .bf16) j) ((iblk m hO c 10 t : FVec Ideal S64x512 .f32) j) : FVec Ideal S64x512 .f32) :=
  outs c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- The array of the gradient after the whole run. -/
theorem arr_g (hO : Ok m) (me : Fin 8) (hme : tbl m = word me) (c : Dev nD) :
    (dats m hO 0 c).arrAt 11 (cfgM m hO).N = (fun i => parts (t := .bf16) me (m ((c : Thread nD τ).loc main_arg1) : FVec Ideal S8x64x512 .bf16) (m ((c : Thread nD τ).loc main_arg2) : FVec Ideal S8x64x512 .bf16) i : FVec Ideal S64x512 .f32) := by
  refine (dats m hO 0 c).arrAt_eq_of_covers 11 _ (of_decide_eq_true (by sl_kernel_rfl)) fun t hf y => ?_
  obtain ⟨e0, e1, e2, e3, e4, e5, e6, e7, e8, e9, e10, e11, e12, e13, e14⟩ := places m hO me hme t
  blk_simp
  rw [after0_11]
  refine (congrFun (point m hO c t).1 y).trans ?_
  blk_point [iblk, eight, parts, V_main_arg1, V_main_arg2, V_main_arg3, V_main_arg4, V_main_arg5, e0, e1, e2, e3, e4, e5, e6, e7, e8, e9, e10, e11]

/-- The array of the change of the weight after the whole run. -/
theorem arr_d (hO : Ok m) (me : Fin 8) (hme : tbl m = word me) (c : Dev nD) :
    (dats m hO 0 c).arrAt 12 (cfgM m hO).N = (fun i => delta (parts (t := .bf16) me (m ((c : Thread nD τ).loc main_arg1) : FVec Ideal S8x64x512 .bf16) (m ((c : Thread nD τ).loc main_arg2) : FVec Ideal S8x64x512 .bf16) i) ((m ((c : Thread nD τ).loc main_arg3) : FVec Ideal S64x512 .f32) i) ((m ((c : Thread nD τ).loc main_arg4) : FVec Ideal S64x512 .f32) i) ((m ((c : Thread nD τ).loc main_arg5) : FVec Ideal S64x512 .f32) i) : FVec Ideal S64x512 .f32) := by
  refine (dats m hO 0 c).arrAt_eq_of_covers 12 _ (of_decide_eq_true (by sl_kernel_rfl)) fun t hf y => ?_
  obtain ⟨e0, e1, e2, e3, e4, e5, e6, e7, e8, e9, e10, e11, e12, e13, e14⟩ := places m hO me hme t
  blk_simp
  rw [after0_12]
  refine (congrFun (point m hO c t).2.1 y).trans ?_
  blk_point [iblk, eight, parts, V_main_arg1, V_main_arg2, V_main_arg3, V_main_arg4, V_main_arg5, e0, e1, e2, e3, e4, e5, e6, e7, e8, e9, e10, e12]

/-- The array of the first moment after the whole run. -/
theorem arr_m (hO : Ok m) (me : Fin 8) (hme : tbl m = word me) (c : Dev nD) :
    (dats m hO 0 c).arrAt 13 (cfgM m hO).N = (fun i => mom (parts (t := .bf16) me (m ((c : Thread nD τ).loc main_arg1) : FVec Ideal S8x64x512 .bf16) (m ((c : Thread nD τ).loc main_arg2) : FVec Ideal S8x64x512 .bf16) i) ((m ((c : Thread nD τ).loc main_arg4) : FVec Ideal S64x512 .f32) i) : FVec Ideal S64x512 .f32) := by
  refine (dats m hO 0 c).arrAt_eq_of_covers 13 _ (of_decide_eq_true (by sl_kernel_rfl)) fun t hf y => ?_
  obtain ⟨e0, e1, e2, e3, e4, e5, e6, e7, e8, e9, e10, e11, e12, e13, e14⟩ := places m hO me hme t
  blk_simp
  rw [after0_13]
  refine (congrFun (point m hO c t).2.2.1 y).trans ?_
  blk_point [iblk, eight, parts, V_main_arg1, V_main_arg2, V_main_arg3, V_main_arg4, V_main_arg5, e0, e1, e2, e3, e4, e5, e6, e7, e8, e9, e10, e13]

/-- The array of the second moment after the whole run. -/
theorem arr_v (hO : Ok m) (me : Fin 8) (hme : tbl m = word me) (c : Dev nD) :
    (dats m hO 0 c).arrAt 14 (cfgM m hO).N = (fun i => var (parts (t := .bf16) me (m ((c : Thread nD τ).loc main_arg1) : FVec Ideal S8x64x512 .bf16) (m ((c : Thread nD τ).loc main_arg2) : FVec Ideal S8x64x512 .bf16) i) ((m ((c : Thread nD τ).loc main_arg5) : FVec Ideal S64x512 .f32) i) : FVec Ideal S64x512 .f32) := by
  refine (dats m hO 0 c).arrAt_eq_of_covers 14 _ (of_decide_eq_true (by sl_kernel_rfl)) fun t hf y => ?_
  obtain ⟨e0, e1, e2, e3, e4, e5, e6, e7, e8, e9, e10, e11, e12, e13, e14⟩ := places m hO me hme t
  blk_simp
  rw [after0_14]
  refine (congrFun (point m hO c t).2.2.2 y).trans ?_
  blk_point [iblk, eight, parts, V_main_arg1, V_main_arg2, V_main_arg3, V_main_arg4, V_main_arg5, e0, e1, e2, e3, e4, e5, e6, e7, e8, e9, e10, e14]

end

/-- The precondition makes the table hold a device's number. -/
theorem word_of {F : FTy → Type} [FloatOps F] (m : (ℓ : Loc nD τ sig) → Buf (Elt F) ℓ) (c : Dev nD)
    (h : (Cert.Pre_device19.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)) : ∃ me : Fin 8, tbl m = word me := by
  have h := congrFun h ix0
  unfold Cert.Pre_device19.fn at h
  obtain ⟨me, hme⟩ := device_word _ h
  refine ⟨me, funext fun j => ?_⟩
  obtain rfl : c = 0 := Subsingleton.elim _ _
  fin_cases j
  exact funext fun y => (congrArg (m (((0 : Dev nD).tc : Thread nD τ).loc main_arg0))
    (funext fun a => by fin_cases a; exact Subsingleton.elim (α := Fin 1) _ _)).trans hme

/-- So every block lies inside its array. -/
theorem ok_of {F : FTy → Type} [FloatOps F] (m : (ℓ : Loc nD τ sig) → Buf (Elt F) ℓ) (me : Fin 8) (hme : tbl m = word me) : Ok m := by
  show ok0 (F := F) (tbl m)
  rw [hme]
  exact ok me

/-- The kernel's program runs to its end and leaves its arguments and everything else as they were. -/
theorem frame_ki : Cert.quiescent_Kernel19Ideal (hKernel19Ideal := Cert.Kernel19Ideal.Gen.facts) (hPre_device19 := Cert.Pre_device19.Gen.facts) := fun m g hp =>
  let ⟨me, hme⟩ := word_of m 0 (hp 0)
  Cert.Kernel19Ideal.Gen.frame m g (ok_of m me hme)

/-- The same of the kernel's own program. -/
theorem frame_k : Cert.quiescent_Kernel19 (hKernel19 := Cert.Kernel19.Gen.facts) (hPre_device19 := Cert.Pre_device19.Gen.facts) := fun m g hp =>
  let ⟨me, hme⟩ := word_of (F := Bits) m 0 (hp 0)
  Cert.Kernel19.Gen.frame m g (ok_of (F := Bits) m me hme)

/-- The reference runs to its end and leaves its arguments and everything else as they were. -/
theorem frame_r : Cert.quiescent_Reference19Ideal (hReference19Ideal := Cert.Reference19Ideal.Gen.facts) := fun m g _ =>
  (θ_run _ _ _).mono (fun r h => ⟨fun c => (h c).2.2.2.2, funext fun x => nomatch x.2⟩) (Cert.Reference19Ideal.Value.run (F := Ideal) m g)

/-- The same where the device's number is known to be one. -/
theorem frame_rp : Cert.quiescent_Reference19Ideal_pre_device19 (hReference19Ideal := Cert.Reference19Ideal.Gen.facts) (hPre_device19 := Cert.Pre_device19.Gen.facts) :=
  fun m g _ => frame_r m g trivial

/-- Kernel and reference compute the same results over the extended reals, for every input in which the device's number is one. -/
theorem algebraic : Cert.algebraic_Kernel19Ideal_Reference19Ideal (hKernel19Ideal := Cert.Kernel19Ideal.Gen.facts)
    (hReference19Ideal := Cert.Reference19Ideal.Gen.facts) (hPre_device19 := Cert.Pre_device19.Gen.facts) := by
  intro m g m' g' hp hagree
  obtain ⟨me, hme⟩ := word_of m 0 (hp 0)
  have hO : Ok m := ok_of m me hme
  refine ⟨fun c => (dats m hO 0 c).arrAt 11 (cfgM m hO).N, fun c => (dats m hO 0 c).arrAt 12 (cfgM m hO).N,
    fun c => (dats m hO 0 c).arrAt 13 (cfgM m hO).N, fun c => (dats m hO 0 c).arrAt 14 (cfgM m hO).N,
    (θ_run _ _ _).mono (fun r h c => ?_) (run_main m g hO), (θ_run _ _ _).mono (fun r h c => ?_) (Cert.Reference19Ideal.Value.run (F := Ideal) m' g')⟩
  · exact ⟨(h c).1 11, (h c).1 12, (h c).1 13, (h c).1 14,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 7).trans (((dats m hO 0 c).arrAt_in 7 rfl _).trans ((A_eq m hO c 7).trans (V_main_arg2 m c))),
      ((h c).1 8).trans (((dats m hO 0 c).arrAt_in 8 rfl _).trans ((A_eq m hO c 8).trans (V_main_arg3 m c))),
      ((h c).1 9).trans (((dats m hO 0 c).arrAt_in 9 rfl _).trans ((A_eq m hO c 9).trans (V_main_arg4 m c))),
      ((h c).1 10).trans (((dats m hO 0 c).arrAt_in 10 rfl _).trans ((A_eq m hO c 10).trans (V_main_arg5 m c)))⟩
  · obtain ⟨r0, r1, r2, r3, ra⟩ := h c
    obtain ⟨a0, a1, a2, a3, a4, a5⟩ := hagree c
    have hw : (m ((c : Thread nD τ).loc main_arg0) : IVec S1 32) = fun _ => BitVec.ofNat 32 me.val := by
      obtain rfl : c = 0 := Subsingleton.elim _ _
      exact congrFun hme 0
    rw [a0, a1, a2, ref_g me _ _ _ hw] at r0
    rw [a0, a1, a2, ref_g me _ _ _ hw, a3, a4, a5, ref_d] at r1
    rw [a0, a1, a2, ref_g me _ _ _ hw, a4, ref_m] at r2
    rw [a0, a1, a2, ref_g me _ _ _ hw, a5, ref_v] at r3
    exact ⟨r0.trans (arr_g m hO me hme c).symm, r1.trans (arr_d m hO me hme c).symm, r2.trans (arr_m m hO me hme c).symm,
      r3.trans (arr_v m hO me hme c).symm, ra⟩

end Cert.Ad19

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_finite
public import proofs.«01_k».proof.Proof.Gen.ReferenceIdeal.Run
public import proofs.«01_k».proof.Proof.Alg
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Mm2
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Mm3
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Mm4
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Mm5
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Mm6
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Mm7
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Mm8
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Mm9
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Mm10
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Ad11
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Ad12
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Pre_device13
public import proofs.«01_k».proof.Proof.Ad13
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Pre_device14
public import proofs.«01_k».proof.Proof.Ad14
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Pre_device15
public import proofs.«01_k».proof.Proof.Ad15
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Pre_device16
public import proofs.«01_k».proof.Proof.Ad16
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Pre_device17
public import proofs.«01_k».proof.Proof.Ad17
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Pre_device18
public import proofs.«01_k».proof.Proof.Ad18
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Pre_device19
public import proofs.«01_k».proof.Proof.Ad19
public import Idealize.ShloMosaic.Adequacy
public import Idealize.ShloMosaic.Init

@[expose] public section

noncomputable section

namespace Cert.Proof

open Idealize.ShloMosaic Idealize.SL.Sem Cert.Kernel

/-- The reference's run read at its arguments; it declares no semaphore. -/
theorem frame_r (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2.2.2.2, funext fun x => nomatch x.2⟩) (Cert.ReferenceIdeal.Value.run (F := Ideal) m g)

/-- Every program runs to its end and keeps its arguments, each ideal program is its kernel, and each kernel computes what its reference does: the attention's gradient, the nine products and the nine calls of the optimiser. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_finite.Gen.facts,
  Cert.Pre_device13.Gen.facts, Cert.Pre_device14.Gen.facts, Cert.Pre_device15.Gen.facts, Cert.Pre_device16.Gen.facts,
  Cert.Pre_device17.Gen.facts, Cert.Pre_device18.Gen.facts, Cert.Pre_device19.Gen.facts,
  fun m g _ => Cert.Kernel.Gen.frame m g, fun m g _ => Cert.KernelIdeal.Gen.frame m g, fun m g _ => Cert.KernelIdeal.Gen.frame m g,
  fun m g _ => frame_r m g, fun m g _ => frame_r m g,
  fun m g _ => Cert.Kernel2.Gen.frame m g, fun m g _ => Cert.Kernel2Ideal.Gen.frame m g, Cert.Mm2.frame_r,
  fun m g _ => Cert.Kernel3.Gen.frame m g, fun m g _ => Cert.Kernel3Ideal.Gen.frame m g, Cert.Mm3.frame_r,
  fun m g _ => Cert.Kernel4.Gen.frame m g, fun m g _ => Cert.Kernel4Ideal.Gen.frame m g, Cert.Mm4.frame_r,
  fun m g _ => Cert.Kernel5.Gen.frame m g, fun m g _ => Cert.Kernel5Ideal.Gen.frame m g, Cert.Mm5.frame_r,
  fun m g _ => Cert.Kernel6.Gen.frame m g, fun m g _ => Cert.Kernel6Ideal.Gen.frame m g, Cert.Mm6.frame_r,
  fun m g _ => Cert.Kernel7.Gen.frame m g, fun m g _ => Cert.Kernel7Ideal.Gen.frame m g, Cert.Mm7.frame_r,
  fun m g _ => Cert.Kernel8.Gen.frame m g, fun m g _ => Cert.Kernel8Ideal.Gen.frame m g, Cert.Mm8.frame_r,
  fun m g _ => Cert.Kernel9.Gen.frame m g, fun m g _ => Cert.Kernel9Ideal.Gen.frame m g, Cert.Mm9.frame_r,
  fun m g _ => Cert.Kernel10.Gen.frame m g, fun m g _ => Cert.Kernel10Ideal.Gen.frame m g, Cert.Mm10.frame_r,
  fun m g _ => Cert.Kernel11.Gen.frame m g, fun m g _ => Cert.Kernel11Ideal.Gen.frame m g, Cert.Ad11.frame_r,
  fun m g _ => Cert.Kernel12.Gen.frame m g, fun m g _ => Cert.Kernel12Ideal.Gen.frame m g, Cert.Ad12.frame_r,
  Cert.Ad13.frame_k, Cert.Ad13.frame_ki, Cert.Ad13.frame_r, Cert.Ad13.frame_rp,
  Cert.Ad14.frame_k, Cert.Ad14.frame_ki, Cert.Ad14.frame_r, Cert.Ad14.frame_rp,
  Cert.Ad15.frame_k, Cert.Ad15.frame_ki, Cert.Ad15.frame_r, Cert.Ad15.frame_rp,
  Cert.Ad16.frame_k, Cert.Ad16.frame_ki, Cert.Ad16.frame_r, Cert.Ad16.frame_rp,
  Cert.Ad17.frame_k, Cert.Ad17.frame_ki, Cert.Ad17.frame_r, Cert.Ad17.frame_rp,
  Cert.Ad18.frame_k, Cert.Ad18.frame_ki, Cert.Ad18.frame_r, Cert.Ad18.frame_rp,
  Cert.Ad19.frame_k, Cert.Ad19.frame_ki, Cert.Ad19.frame_r, Cert.Ad19.frame_rp,
  trivial, Cert.Attn.algebraic,
  trivial, Cert.Mm2.algebraic,
  trivial, Cert.Mm3.algebraic,
  trivial, Cert.Mm4.algebraic,
  trivial, Cert.Mm5.algebraic,
  trivial, Cert.Mm6.algebraic,
  trivial, Cert.Mm7.algebraic,
  trivial, Cert.Mm8.algebraic,
  trivial, Cert.Mm9.algebraic,
  trivial, Cert.Mm10.algebraic,
  trivial, Cert.Ad11.algebraic,
  trivial, Cert.Ad12.algebraic,
  trivial, Cert.Ad13.algebraic,
  trivial, Cert.Ad14.algebraic,
  trivial, Cert.Ad15.algebraic,
  trivial, Cert.Ad16.algebraic,
  trivial, Cert.Ad17.algebraic,
  trivial, Cert.Ad18.algebraic,
  trivial, Cert.Ad19.algebraic⟩

end Cert.Proof

end
